-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v142)) (v1 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_v144) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v344) = v0 c
          ∧ r.2.mem ((c.tc : Thread Cert.ReferenceIdeal.nD Cert.ReferenceIdeal.τ).loc Cert.ReferenceIdeal.main_values_48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x512x512 : Shape := ⟨4, ![2, 3, 512, 512]⟩
abbrev S2x256x64x64 : Shape := ⟨4, ![2, 256, 64, 64]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S3 : Shape := ⟨1, ![3]⟩
abbrev S2x64x64x256 : Shape := ⟨4, ![2, 64, 64, 256]⟩
abbrev S_ : Shape := ⟨0, ![]⟩
abbrev S2x66x66x256 : Shape := ⟨4, ![2, 66, 66, 256]⟩
abbrev S3x3x256x256 : Shape := ⟨4, ![3, 3, 256, 256]⟩
abbrev S9x256x256 : Shape := ⟨3, ![9, 256, 256]⟩
abbrev S9x256 : Shape := ⟨2, ![9, 256]⟩
abbrev S36x256 : Shape := ⟨2, ![36, 256]⟩
abbrev S45x256 : Shape := ⟨2, ![45, 256]⟩
abbrev S256x45 : Shape := ⟨2, ![256, 45]⟩
abbrev S256x128 : Shape := ⟨2, ![256, 128]⟩
abbrev S45 : Shape := ⟨1, ![45]⟩
abbrev S128 : Shape := ⟨1, ![128]⟩
abbrev S1x256 : Shape := ⟨2, ![1, 256]⟩
abbrev S1x128 : Shape := ⟨2, ![1, 128]⟩
abbrev S2x4096x128 : Shape := ⟨3, ![2, 4096, 128]⟩
abbrev S1x66x66x256 : Shape := ⟨4, ![1, 66, 66, 256]⟩
abbrev S1x4096x128 : Shape := ⟨3, ![1, 4096, 128]⟩
abbrev S4096x256 : Shape := ⟨2, ![4096, 256]⟩
abbrev S1x64x64x256 : Shape := ⟨4, ![1, 64, 64, 256]⟩
abbrev S64x64x256 : Shape := ⟨3, ![64, 64, 256]⟩
abbrev S1x256x256 : Shape := ⟨3, ![1, 256, 256]⟩
abbrev S256x256 : Shape := ⟨2, ![256, 256]⟩
abbrev S4096x128 : Shape := ⟨2, ![4096, 128]⟩
abbrev S2x4096x9 : Shape := ⟨3, ![2, 4096, 9]⟩
abbrev S2x36864 : Shape := ⟨2, ![2, 36864]⟩
abbrev S2x4096x36 : Shape := ⟨3, ![2, 4096, 36]⟩
abbrev S2x36864x4 : Shape := ⟨3, ![2, 36864, 4]⟩
abbrev S3x1 : Shape := ⟨2, ![3, 1]⟩
abbrev S1x3 : Shape := ⟨2, ![1, 3]⟩
abbrev S3x3 : Shape := ⟨2, ![3, 3]⟩
abbrev S9x1 : Shape := ⟨2, ![9, 1]⟩
abbrev S9x4 : Shape := ⟨2, ![9, 4]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x4 : Shape := ⟨2, ![4096, 4]⟩
abbrev S4096x1x4 : Shape := ⟨3, ![4096, 1, 4]⟩
abbrev S1x9x4 : Shape := ⟨3, ![1, 9, 4]⟩
abbrev S4096x9x4 : Shape := ⟨3, ![4096, 9, 4]⟩
abbrev S36864x4 : Shape := ⟨2, ![36864, 4]⟩
abbrev S36864x1 : Shape := ⟨2, ![36864, 1]⟩
abbrev S36864 : Shape := ⟨1, ![36864]⟩
abbrev S2x36864x1 : Shape := ⟨3, ![2, 36864, 1]⟩
abbrev S1x36864 : Shape := ⟨2, ![1, 36864]⟩
abbrev S2x2000 : Shape := ⟨2, ![2, 2000]⟩
abbrev S2x2000x1 : Shape := ⟨3, ![2, 2000, 1]⟩
abbrev S1 : Shape := ⟨1, ![1]⟩
abbrev S1x1x1 : Shape := ⟨3, ![1, 1, 1]⟩
abbrev S2x2000x4 : Shape := ⟨3, ![2, 2000, 4]⟩
abbrev S2x2048x4 : Shape := ⟨3, ![2, 2048, 4]⟩
abbrev S2x4x2048 : Shape := ⟨3, ![2, 4, 2048]⟩
abbrev S2x2048 : Shape := ⟨2, ![2, 2048]⟩
abbrev S2x1x2048 : Shape := ⟨3, ![2, 1, 2048]⟩
abbrev S2x1024x128 : Shape := ⟨3, ![2, 1024, 128]⟩
abbrev S1x4x2048 : Shape := ⟨3, ![1, 4, 2048]⟩
abbrev S1x1x2048 : Shape := ⟨3, ![1, 1, 2048]⟩
abbrev S1x1024x128 : Shape := ⟨3, ![1, 1024, 128]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩
abbrev S1x1 : Shape := ⟨2, ![1, 1]⟩
abbrev S2048x125 : Shape := ⟨2, ![2048, 125]⟩
abbrev S2048x128 : Shape := ⟨2, ![2048, 128]⟩
abbrev S2048x123 : Shape := ⟨2, ![2048, 123]⟩
abbrev S1x1024 : Shape := ⟨2, ![1, 1024]⟩
abbrev S1024 : Shape := ⟨1, ![1024]⟩
abbrev S1024x1 : Shape := ⟨2, ![1024, 1]⟩
abbrev S1024x2048 : Shape := ⟨2, ![1024, 2048]⟩
abbrev S1024x128 : Shape := ⟨2, ![1024, 128]⟩
abbrev S2x1000x4 : Shape := ⟨3, ![2, 1000, 4]⟩
abbrev S2x1000x1 : Shape := ⟨3, ![2, 1000, 1]⟩
abbrev S2x1000 : Shape := ⟨2, ![2, 1000]⟩

abbrev nBuf : Space → Nat
  | .hbm => 200
  | .vmem => 15
  | .smem => 0
  | _ => 0

abbrev hbmTy0_0 (i : Nat) : BufTy := match i % 128 with
  | 0 => ⟨S2x3x512x512, .f32⟩
  | 1 => ⟨S2x256x64x64, .f32⟩
  | 2 => ⟨S256x256x3x3, .f32⟩
  | 3 => ⟨S256, .f32⟩
  | 4 => ⟨S9x256x1x1, .f32⟩
  | 5 => ⟨S9, .f32⟩
  | 6 => ⟨S36x256x1x1, .f32⟩
  | 7 => ⟨S36, .f32⟩
  | 8 => ⟨S3, .f32⟩
  | 9 => ⟨S3, .f32⟩
  | 10 => ⟨S2x64x64x256, .f32⟩
  | 11 => ⟨S_, .i32⟩
  | 12 => ⟨S_, .f32⟩
  | 13 => ⟨S2x66x66x256, .f32⟩
  | 14 => ⟨S3x3x256x256, .f32⟩
  | 15 => ⟨S9x256x256, .f32⟩
  | 16 => ⟨S9x256, .f32⟩
  | 17 => ⟨S36x256, .f32⟩
  | 18 => ⟨S45x256, .f32⟩
  | 19 => ⟨S256x45, .f32⟩
  | 20 => ⟨S_, .i32⟩
  | 21 => ⟨S_, .f32⟩
  | 22 => ⟨S256x128, .f32⟩
  | 23 => ⟨S45, .f32⟩
  | 24 => ⟨S_, .i32⟩
  | 25 => ⟨S_, .f32⟩
  | 26 => ⟨S128, .f32⟩
  | 27 => ⟨S1x256, .f32⟩
  | 28 => ⟨S1x128, .f32⟩
  | 29 => ⟨S2x4096x128, .f32⟩
  | 30 => ⟨S2x4096x9, .f32⟩
  | 31 => ⟨S2x36864, .f32⟩
  | 32 => ⟨S2x4096x36, .f32⟩
  | 33 => ⟨S2x36864x4, .f32⟩
  | 34 => ⟨S3, .f32⟩
  | 35 => ⟨S_, .f32⟩
  | 36 => ⟨S3, .f32⟩
  | 37 => ⟨S3, .f32⟩
  | 38 => ⟨S3x1, .f32⟩
  | 39 => ⟨S1x3, .f32⟩
  | 40 => ⟨S3x3, .f32⟩
  | 41 => ⟨S3x3, .f32⟩
  | 42 => ⟨S3x3, .f32⟩
  | 43 => ⟨S9, .f32⟩
  | 44 => ⟨S3x1, .f32⟩
  | 45 => ⟨S1x3, .f32⟩
  | 46 => ⟨S3x3, .f32⟩
  | 47 => ⟨S3x3, .f32⟩
  | 48 => ⟨S3x3, .f32⟩
  | 49 => ⟨S9, .f32⟩
  | 50 => ⟨S9, .f32⟩
  | 51 => ⟨S9, .f32⟩
  | 52 => ⟨S9x1, .f32⟩
  | 53 => ⟨S9x1, .f32⟩
  | 54 => ⟨S9x1, .f32⟩
  | 55 => ⟨S9x1, .f32⟩
  | 56 => ⟨S9x4, .f32⟩
  | 57 => ⟨S_, .f32⟩
  | 58 => ⟨S9x4, .f32⟩
  | 59 => ⟨S9x4, .f32⟩
  | 60 => ⟨S9x4, .f32⟩
  | 61 => ⟨S64, .f32⟩
  | 62 => ⟨S_, .f32⟩
  | 63 => ⟨S64, .f32⟩
  | 64 => ⟨S64, .f32⟩
  | 65 => ⟨S64, .f32⟩
  | 66 => ⟨S_, .f32⟩
  | 67 => ⟨S64, .f32⟩
  | 68 => ⟨S64, .f32⟩
  | 69 => ⟨S64x64, .f32⟩
  | 70 => ⟨S64x64, .f32⟩
  | 71 => ⟨S4096, .f32⟩
  | 72 => ⟨S4096, .f32⟩
  | 73 => ⟨S4096, .f32⟩
  | 74 => ⟨S4096, .f32⟩
  | 75 => ⟨S4096x1, .f32⟩
  | 76 => ⟨S4096x1, .f32⟩
  | 77 => ⟨S4096x1, .f32⟩
  | 78 => ⟨S4096x1, .f32⟩
  | 79 => ⟨S4096x4, .f32⟩
  | 80 => ⟨S4096x1x4, .f32⟩
  | 81 => ⟨S1x9x4, .f32⟩
  | 82 => ⟨S4096x9x4, .f32⟩
  | 83 => ⟨S4096x9x4, .f32⟩
  | 84 => ⟨S4096x9x4, .f32⟩
  | 85 => ⟨S36864x4, .f32⟩
  | 86 => ⟨S36864x1, .f32⟩
  | 87 => ⟨S36864, .f32⟩
  | 88 => ⟨S36864x1, .f32⟩
  | 89 => ⟨S36864, .f32⟩
  | 90 => ⟨S36864, .f32⟩
  | 91 => ⟨S36864x1, .f32⟩
  | 92 => ⟨S36864, .f32⟩
  | 93 => ⟨S36864x1, .f32⟩
  | 94 => ⟨S36864, .f32⟩
  | 95 => ⟨S36864, .f32⟩
  | 96 => ⟨S36864x1, .f32⟩
  | 97 => ⟨S36864, .f32⟩
  | 98 => ⟨S_, .f32⟩
  | 99 => ⟨S36864, .f32⟩
  | 100 => ⟨S36864, .f32⟩
  | 101 => ⟨S36864, .f32⟩
  | 102 => ⟨S36864x1, .f32⟩
  | 103 => ⟨S36864, .f32⟩
  | 104 => ⟨S_, .f32⟩
  | 105 => ⟨S36864, .f32⟩
  | 106 => ⟨S36864, .f32⟩
  | 107 => ⟨S36864, .f32⟩
  | 108 => ⟨S2x36864x1, .f32⟩
  | 109 => ⟨S2x36864, .f32⟩
  | 110 => ⟨S2x36864x1, .f32⟩
  | 111 => ⟨S2x36864, .f32⟩
  | 112 => ⟨S2x36864x1, .f32⟩
  | 113 => ⟨S2x36864, .f32⟩
  | 114 => ⟨S_, .f32⟩
  | 115 => ⟨S2x36864, .f32⟩
  | 116 => ⟨S2x36864, .f32⟩
  | 117 => ⟨S2x36864x1, .f32⟩
  | 118 => ⟨S2x36864, .f32⟩
  | 119 => ⟨S_, .f32⟩
  | 120 => ⟨S2x36864, .f32⟩
  | 121 => ⟨S2x36864, .f32⟩
  | 122 => ⟨S1x36864, .f32⟩
  | 123 => ⟨S2x36864, .f32⟩
  | 124 => ⟨S2x36864, .f32⟩
  | 125 => ⟨S1x36864, .f32⟩
  | 126 => ⟨S2x36864, .f32⟩
  | 127 => ⟨S2x36864, .f32⟩
  | _ => ⟨S2x3x512x512, .f32⟩

abbrev hbmTy0_1 (i : Nat) : BufTy := match i % 128 with
  | 0 => ⟨S1x36864, .f32⟩
  | 1 => ⟨S2x36864, .f32⟩
  | 2 => ⟨S2x36864, .f32⟩
  | 3 => ⟨S1x36864, .f32⟩
  | 4 => ⟨S2x36864, .f32⟩
  | 5 => ⟨S2x36864, .f32⟩
  | 6 => ⟨S2x36864, .f32⟩
  | 7 => ⟨S1x36864, .f32⟩
  | 8 => ⟨S2x36864, .f32⟩
  | 9 => ⟨S2x36864, .f32⟩
  | 10 => ⟨S2x36864, .f32⟩
  | 11 => ⟨S1x36864, .f32⟩
  | 12 => ⟨S2x36864, .f32⟩
  | 13 => ⟨S2x36864, .f32⟩
  | 14 => ⟨S_, .f32⟩
  | 15 => ⟨S2x36864, .f32⟩
  | 16 => ⟨S2x36864, .f32⟩
  | 17 => ⟨S2x36864, .f32⟩
  | 18 => ⟨S_, .f32⟩
  | 19 => ⟨S2x36864, .f32⟩
  | 20 => ⟨S2x36864, .f32⟩
  | 21 => ⟨S2x36864, .f32⟩
  | 22 => ⟨S_, .f32⟩
  | 23 => ⟨S2x36864, .f32⟩
  | 24 => ⟨S2x36864, .f32⟩
  | 25 => ⟨S2x36864, .f32⟩
  | 26 => ⟨S_, .f32⟩
  | 27 => ⟨S2x36864, .f32⟩
  | 28 => ⟨S2x36864, .f32⟩
  | 29 => ⟨S2x36864, .f32⟩
  | 30 => ⟨S2x36864x1, .f32⟩
  | 31 => ⟨S2x36864x1, .f32⟩
  | 32 => ⟨S2x36864x1, .f32⟩
  | 33 => ⟨S2x36864x1, .f32⟩
  | 34 => ⟨S2x36864x4, .f32⟩
  | 35 => ⟨S2x2000, .f32⟩
  | 36 => ⟨S2x2000, .i32⟩
  | 37 => ⟨S2x2000x1, .i32⟩
  | 38 => ⟨S_, .i32⟩
  | 39 => ⟨S2x2000x1, .i32⟩
  | 40 => ⟨S2x2000x1, .i1⟩
  | 41 => ⟨S_, .i32⟩
  | 42 => ⟨S2x2000x1, .i32⟩
  | 43 => ⟨S2x2000x1, .i32⟩
  | 44 => ⟨S2x2000x1, .i32⟩
  | 45 => ⟨S1, .i32⟩
  | 46 => ⟨S_, .i32⟩
  | 47 => ⟨S2x2000x1, .i32⟩
  | 48 => ⟨S2x2000x1, .i1⟩
  | 49 => ⟨S1x1x1, .i32⟩
  | 50 => ⟨S2x2000x1, .i32⟩
  | 51 => ⟨S2x2000x1, .i1⟩
  | 52 => ⟨S2x2000x1, .i1⟩
  | 53 => ⟨S_, .i1⟩
  | 54 => ⟨S2x2000, .i1⟩
  | 55 => ⟨S2x2000x4, .f32⟩
  | 56 => ⟨S2x2000x4, .i1⟩
  | 57 => ⟨S_, .f32⟩
  | 58 => ⟨S2x2000x4, .f32⟩
  | 59 => ⟨S2x2000x4, .f32⟩
  | 60 => ⟨S_, .i32⟩
  | 61 => ⟨S_, .f32⟩
  | 62 => ⟨S2x2048x4, .f32⟩
  | 63 => ⟨S2x4x2048, .f32⟩
  | 64 => ⟨S_, .f32⟩
  | 65 => ⟨S_, .f32⟩
  | 66 => ⟨S2x2048, .f32⟩
  | 67 => ⟨S2x1x2048, .f32⟩
  | 68 => ⟨S2x1024x128, .f32⟩
  | 69 => ⟨S2x1000x4, .f32⟩
  | 70 => ⟨S2x1000x1, .f32⟩
  | 71 => ⟨S2x1000, .f32⟩
  | _ => ⟨S2x3x512x512, .f32⟩

abbrev hbmTy (i : Nat) : BufTy := match i / 128 with
  | 0 => hbmTy0_0 i
  | 1 => hbmTy0_1 i
  | _ => ⟨S2x3x512x512, .f32⟩

abbrev bufTy : (tb : Table) → Fin (tcTables nBuf tb) → BufTy
  | .hbm, ⟨i, _⟩ => hbmTy i
  | .local _ .vmem, ⟨0, _⟩ => ⟨S1x66x66x256, .f32⟩
  | .local _ .vmem, ⟨1, _⟩ => ⟨S1x66x66x256, .f32⟩
  | .local _ .vmem, ⟨2, _⟩ => ⟨S9x256x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4x2048, .f32⟩
  | .local _ .vmem, ⟨9, _⟩ => ⟨S1x4x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1024x128, .f32⟩
  | .local _ .vmem, ⟨13, _⟩ => ⟨S1x1024x128, .f32⟩
  | .local _ .vmem, ⟨14, _⟩ => ⟨S2048x2048, .f32⟩
  | _, _ => ⟨S2x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call2_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_7 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_8 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_9 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_10 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_11 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_12 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_13 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_14 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_values : Ref sig .tc := ⟨.hbm, 163, rfl⟩
abbrev main_indices : Ref sig .tc := ⟨.hbm, 164, rfl⟩
abbrev main_v135 : Ref sig .tc := ⟨.hbm, 165, rfl⟩
abbrev main_call4_c : Ref sig .tc := ⟨.hbm, 166, rfl⟩
abbrev main_call4_v0 : Ref sig .tc := ⟨.hbm, 167, rfl⟩
abbrev main_call4_v1 : Ref sig .tc := ⟨.hbm, 168, rfl⟩
abbrev main_call4_c_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_c_1 : Ref sig .tc := ⟨.hbm, 173, rfl⟩
abbrev main_call4_c_2 : Ref sig .tc := ⟨.hbm, 174, rfl⟩
abbrev main_call4_v5 : Ref sig .tc := ⟨.hbm, 175, rfl⟩
abbrev main_call4_v6 : Ref sig .tc := ⟨.hbm, 176, rfl⟩
abbrev main_call4_v7 : Ref sig .tc := ⟨.hbm, 177, rfl⟩
abbrev main_call4_v8 : Ref sig .tc := ⟨.hbm, 178, rfl⟩
abbrev main_call4_v9 : Ref sig .tc := ⟨.hbm, 179, rfl⟩
abbrev main_call4_v10 : Ref sig .tc := ⟨.hbm, 180, rfl⟩
abbrev main_call4_c_3 : Ref sig .tc := ⟨.hbm, 181, rfl⟩
abbrev main_call4_v11 : Ref sig .tc := ⟨.hbm, 182, rfl⟩
abbrev main_call4_v12 : Ref sig .tc := ⟨.hbm, 183, rfl⟩
abbrev main_call4_v13 : Ref sig .tc := ⟨.hbm, 184, rfl⟩
abbrev main_call4_cst : Ref sig .tc := ⟨.hbm, 185, rfl⟩
abbrev main_call4_v14 : Ref sig .tc := ⟨.hbm, 186, rfl⟩
abbrev main_v136 : Ref sig .tc := ⟨.hbm, 187, rfl⟩
abbrev main_c_15 : Ref sig .tc := ⟨.hbm, 188, rfl⟩
abbrev main_call5_v0 : Ref sig .tc := ⟨.hbm, 189, rfl⟩
abbrev main_v137 : Ref sig .tc := ⟨.hbm, 190, rfl⟩
abbrev main_v138 : Ref sig .tc := ⟨.hbm, 191, rfl⟩
abbrev main_cst_16 : Ref sig .tc := ⟨.hbm, 192, rfl⟩
abbrev main_call6_v0 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x66x66x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

@[reducible] def k1_t1_loop : Scf.Loop 32 :=
  let c0_i32 : BitVec 32 := 0#32
  let c2000_i32 : BitVec 32 := 2000#32
  let v88 : BitVec 32 := Scalar.addi c0_i32 c2000_i32
  let c1_i32 : BitVec 32 := 1#32
  ⟨c0_i32, v88, c1_i32⟩
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let v167 : Index := Scalar.indexCast arg5
  let c0_54 : Index := 0#32
  ![v167.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2x3x512x512 : Shape := ⟨4, ![2, 3, 512, 512]⟩
abbrev S2x256x64x64 : Shape := ⟨4, ![2, 256, 64, 64]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S3 : Shape := ⟨1, ![3]⟩
abbrev S_ : Shape := ⟨0, ![]⟩
abbrev S2x256x66x66 : Shape := ⟨4, ![2, 256, 66, 66]⟩
abbrev S256x256x1x1 : Shape := ⟨4, ![256, 256, 1, 1]⟩
abbrev S256x256 : Shape := ⟨2, ![256, 256]⟩
abbrev S256x2x64x64 : Shape := ⟨4, ![256, 2, 64, 64]⟩
abbrev S1x256x1x1 : Shape := ⟨4, ![1, 256, 1, 1]⟩
abbrev S9x256 : Shape := ⟨2, ![9, 256]⟩
abbrev S9x2x64x64 : Shape := ⟨4, ![9, 2, 64, 64]⟩
abbrev S2x9x64x64 : Shape := ⟨4, ![2, 9, 64, 64]⟩
abbrev S1x9x1x1 : Shape := ⟨4, ![1, 9, 1, 1]⟩
abbrev S36x256 : Shape := ⟨2, ![36, 256]⟩
abbrev S36x2x64x64 : Shape := ⟨4, ![36, 2, 64, 64]⟩
abbrev S2x36x64x64 : Shape := ⟨4, ![2, 36, 64, 64]⟩
abbrev S1x36x1x1 : Shape := ⟨4, ![1, 36, 1, 1]⟩
abbrev S2x9x1x64x64 : Shape := ⟨5, ![2, 9, 1, 64, 64]⟩
abbrev S2x64x64x9x1 : Shape := ⟨5, ![2, 64, 64, 9, 1]⟩
abbrev S2x36864 : Shape := ⟨2, ![2, 36864]⟩
abbrev S2x9x4x64x64 : Shape := ⟨5, ![2, 9, 4, 64, 64]⟩
abbrev S2x64x64x9x4 : Shape := ⟨5, ![2, 64, 64, 9, 4]⟩
abbrev S2x36864x4 : Shape := ⟨3, ![2, 36864, 4]⟩
abbrev S3x1 : Shape := ⟨2, ![3, 1]⟩
abbrev S1x3 : Shape := ⟨2, ![1, 3]⟩
abbrev S3x3 : Shape := ⟨2, ![3, 3]⟩
abbrev S9x1 : Shape := ⟨2, ![9, 1]⟩
abbrev S9x4 : Shape := ⟨2, ![9, 4]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x4 : Shape := ⟨2, ![4096, 4]⟩
abbrev S4096x1x4 : Shape := ⟨3, ![4096, 1, 4]⟩
abbrev S1x9x4 : Shape := ⟨3, ![1, 9, 4]⟩
abbrev S4096x9x4 : Shape := ⟨3, ![4096, 9, 4]⟩
abbrev S36864x4 : Shape := ⟨2, ![36864, 4]⟩
abbrev S36864x1 : Shape := ⟨2, ![36864, 1]⟩
abbrev S36864 : Shape := ⟨1, ![36864]⟩
abbrev S2x36864x1 : Shape := ⟨3, ![2, 36864, 1]⟩
abbrev S1x36864 : Shape := ⟨2, ![1, 36864]⟩
abbrev S2x2000 : Shape := ⟨2, ![2, 2000]⟩
abbrev S2x2000x1 : Shape := ⟨3, ![2, 2000, 1]⟩
abbrev S2x2000x4 : Shape := ⟨3, ![2, 2000, 4]⟩
abbrev S2000 : Shape := ⟨1, ![2000]⟩
abbrev S2x2000x2 : Shape := ⟨3, ![2, 2000, 2]⟩
abbrev S2x2000x1x2 : Shape := ⟨4, ![2, 2000, 1, 2]⟩
abbrev S2x1x2000x2 : Shape := ⟨4, ![2, 1, 2000, 2]⟩
abbrev S2x2000x2000x2 : Shape := ⟨4, ![2, 2000, 2000, 2]⟩
abbrev S2x2000x2000x1 : Shape := ⟨4, ![2, 2000, 2000, 1]⟩
abbrev S2x2000x2000 : Shape := ⟨3, ![2, 2000, 2000]⟩
abbrev S2x1x2000 : Shape := ⟨3, ![2, 1, 2000]⟩
abbrev S1 : Shape := ⟨1, ![1]⟩
abbrev S2x1 : Shape := ⟨2, ![2, 1]⟩
abbrev S1x2000 : Shape := ⟨2, ![1, 2000]⟩
abbrev S2x1000 : Shape := ⟨2, ![2, 1000]⟩
abbrev S2x1000x1 : Shape := ⟨3, ![2, 1000, 1]⟩
abbrev S2x1000x4 : Shape := ⟨3, ![2, 1000, 4]⟩

abbrev nBuf : Space → Nat
  | .hbm => 481
  | .vmem => 0
  | .smem => 0
  | _ => 0

abbrev hbmTy0_0 (i : Nat) : BufTy := match i % 128 with
  | 0 => ⟨S2x3x512x512, .f32⟩
  | 1 => ⟨S2x256x64x64, .f32⟩
  | 2 => ⟨S256x256x3x3, .f32⟩
  | 3 => ⟨S256, .f32⟩
  | 4 => ⟨S9x256x1x1, .f32⟩
  | 5 => ⟨S9, .f32⟩
  | 6 => ⟨S36x256x1x1, .f32⟩
  | 7 => ⟨S36, .f32⟩
  | 8 => ⟨S3, .f32⟩
  | 9 => ⟨S3, .f32⟩
  | 10 => ⟨S_, .i32⟩
  | 11 => ⟨S_, .f32⟩
  | 12 => ⟨S2x256x66x66, .f32⟩
  | 13 => ⟨S2x256x64x64, .f32⟩
  | 14 => ⟨S256x256x1x1, .f32⟩
  | 15 => ⟨S256x256, .f32⟩
  | 16 => ⟨S256x2x64x64, .f32⟩
  | 17 => ⟨S2x256x64x64, .f32⟩
  | 18 => ⟨S_, .f32⟩
  | 19 => ⟨S2x256x64x64, .f32⟩
  | 20 => ⟨S2x256x64x64, .f32⟩
  | 21 => ⟨S2x256x64x64, .f32⟩
  | 22 => ⟨S256x256x1x1, .f32⟩
  | 23 => ⟨S256x256, .f32⟩
  | 24 => ⟨S256x2x64x64, .f32⟩
  | 25 => ⟨S2x256x64x64, .f32⟩
  | 26 => ⟨S2x256x64x64, .f32⟩
  | 27 => ⟨S2x256x64x64, .f32⟩
  | 28 => ⟨S256x256x1x1, .f32⟩
  | 29 => ⟨S256x256, .f32⟩
  | 30 => ⟨S256x2x64x64, .f32⟩
  | 31 => ⟨S2x256x64x64, .f32⟩
  | 32 => ⟨S2x256x64x64, .f32⟩
  | 33 => ⟨S2x256x64x64, .f32⟩
  | 34 => ⟨S256x256x1x1, .f32⟩
  | 35 => ⟨S256x256, .f32⟩
  | 36 => ⟨S256x2x64x64, .f32⟩
  | 37 => ⟨S2x256x64x64, .f32⟩
  | 38 => ⟨S2x256x64x64, .f32⟩
  | 39 => ⟨S2x256x64x64, .f32⟩
  | 40 => ⟨S256x256x1x1, .f32⟩
  | 41 => ⟨S256x256, .f32⟩
  | 42 => ⟨S256x2x64x64, .f32⟩
  | 43 => ⟨S2x256x64x64, .f32⟩
  | 44 => ⟨S2x256x64x64, .f32⟩
  | 45 => ⟨S2x256x64x64, .f32⟩
  | 46 => ⟨S256x256x1x1, .f32⟩
  | 47 => ⟨S256x256, .f32⟩
  | 48 => ⟨S256x2x64x64, .f32⟩
  | 49 => ⟨S2x256x64x64, .f32⟩
  | 50 => ⟨S2x256x64x64, .f32⟩
  | 51 => ⟨S2x256x64x64, .f32⟩
  | 52 => ⟨S256x256x1x1, .f32⟩
  | 53 => ⟨S256x256, .f32⟩
  | 54 => ⟨S256x2x64x64, .f32⟩
  | 55 => ⟨S2x256x64x64, .f32⟩
  | 56 => ⟨S2x256x64x64, .f32⟩
  | 57 => ⟨S2x256x64x64, .f32⟩
  | 58 => ⟨S256x256x1x1, .f32⟩
  | 59 => ⟨S256x256, .f32⟩
  | 60 => ⟨S256x2x64x64, .f32⟩
  | 61 => ⟨S2x256x64x64, .f32⟩
  | 62 => ⟨S2x256x64x64, .f32⟩
  | 63 => ⟨S2x256x64x64, .f32⟩
  | 64 => ⟨S256x256x1x1, .f32⟩
  | 65 => ⟨S256x256, .f32⟩
  | 66 => ⟨S256x2x64x64, .f32⟩
  | 67 => ⟨S2x256x64x64, .f32⟩
  | 68 => ⟨S2x256x64x64, .f32⟩
  | 69 => ⟨S1x256x1x1, .f32⟩
  | 70 => ⟨S2x256x64x64, .f32⟩
  | 71 => ⟨S2x256x64x64, .f32⟩
  | 72 => ⟨S_, .f32⟩
  | 73 => ⟨S2x256x64x64, .f32⟩
  | 74 => ⟨S2x256x64x64, .f32⟩
  | 75 => ⟨S_, .i32⟩
  | 76 => ⟨S_, .f32⟩
  | 77 => ⟨S2x256x64x64, .f32⟩
  | 78 => ⟨S9x256, .f32⟩
  | 79 => ⟨S9x2x64x64, .f32⟩
  | 80 => ⟨S2x9x64x64, .f32⟩
  | 81 => ⟨S_, .f32⟩
  | 82 => ⟨S2x9x64x64, .f32⟩
  | 83 => ⟨S2x9x64x64, .f32⟩
  | 84 => ⟨S1x9x1x1, .f32⟩
  | 85 => ⟨S2x9x64x64, .f32⟩
  | 86 => ⟨S2x9x64x64, .f32⟩
  | 87 => ⟨S_, .i32⟩
  | 88 => ⟨S_, .f32⟩
  | 89 => ⟨S2x256x64x64, .f32⟩
  | 90 => ⟨S36x256, .f32⟩
  | 91 => ⟨S36x2x64x64, .f32⟩
  | 92 => ⟨S2x36x64x64, .f32⟩
  | 93 => ⟨S_, .f32⟩
  | 94 => ⟨S2x36x64x64, .f32⟩
  | 95 => ⟨S2x36x64x64, .f32⟩
  | 96 => ⟨S1x36x1x1, .f32⟩
  | 97 => ⟨S2x36x64x64, .f32⟩
  | 98 => ⟨S2x36x64x64, .f32⟩
  | 99 => ⟨S2x9x1x64x64, .f32⟩
  | 100 => ⟨S2x64x64x9x1, .f32⟩
  | 101 => ⟨S2x36864, .f32⟩
  | 102 => ⟨S2x9x4x64x64, .f32⟩
  | 103 => ⟨S2x64x64x9x4, .f32⟩
  | 104 => ⟨S2x36864x4, .f32⟩
  | 105 => ⟨S3, .f32⟩
  | 106 => ⟨S_, .f32⟩
  | 107 => ⟨S3, .f32⟩
  | 108 => ⟨S3, .f32⟩
  | 109 => ⟨S3x1, .f32⟩
  | 110 => ⟨S1x3, .f32⟩
  | 111 => ⟨S3x3, .f32⟩
  | 112 => ⟨S3x3, .f32⟩
  | 113 => ⟨S3x3, .f32⟩
  | 114 => ⟨S9, .f32⟩
  | 115 => ⟨S3x1, .f32⟩
  | 116 => ⟨S1x3, .f32⟩
  | 117 => ⟨S3x3, .f32⟩
  | 118 => ⟨S3x3, .f32⟩
  | 119 => ⟨S3x3, .f32⟩
  | 120 => ⟨S9, .f32⟩
  | 121 => ⟨S9, .f32⟩
  | 122 => ⟨S9, .f32⟩
  | 123 => ⟨S9x1, .f32⟩
  | 124 => ⟨S9x1, .f32⟩
  | 125 => ⟨S9x1, .f32⟩
  | 126 => ⟨S9x1, .f32⟩
  | 127 => ⟨S9x4, .f32⟩
  | _ => ⟨S2x3x512x512, .f32⟩

abbrev hbmTy0_1 (i : Nat) : BufTy := match i % 128 with
  | 0 => ⟨S_, .f32⟩
  | 1 => ⟨S9x4, .f32⟩
  | 2 => ⟨S9x4, .f32⟩
  | 3 => ⟨S9x4, .f32⟩
  | 4 => ⟨S64, .f32⟩
  | 5 => ⟨S_, .f32⟩
  | 6 => ⟨S64, .f32⟩
  | 7 => ⟨S64, .f32⟩
  | 8 => ⟨S64, .f32⟩
  | 9 => ⟨S_, .f32⟩
  | 10 => ⟨S64, .f32⟩
  | 11 => ⟨S64, .f32⟩
  | 12 => ⟨S64x64, .f32⟩
  | 13 => ⟨S64x64, .f32⟩
  | 14 => ⟨S4096, .f32⟩
  | 15 => ⟨S4096, .f32⟩
  | 16 => ⟨S4096, .f32⟩
  | 17 => ⟨S4096, .f32⟩
  | 18 => ⟨S4096x1, .f32⟩
  | 19 => ⟨S4096x1, .f32⟩
  | 20 => ⟨S4096x1, .f32⟩
  | 21 => ⟨S4096x1, .f32⟩
  | 22 => ⟨S4096x4, .f32⟩
  | 23 => ⟨S4096x1x4, .f32⟩
  | 24 => ⟨S1x9x4, .f32⟩
  | 25 => ⟨S4096x9x4, .f32⟩
  | 26 => ⟨S4096x9x4, .f32⟩
  | 27 => ⟨S4096x9x4, .f32⟩
  | 28 => ⟨S36864x4, .f32⟩
  | 29 => ⟨S36864x1, .f32⟩
  | 30 => ⟨S36864, .f32⟩
  | 31 => ⟨S36864x1, .f32⟩
  | 32 => ⟨S36864, .f32⟩
  | 33 => ⟨S36864, .f32⟩
  | 34 => ⟨S36864x1, .f32⟩
  | 35 => ⟨S36864, .f32⟩
  | 36 => ⟨S36864x1, .f32⟩
  | 37 => ⟨S36864, .f32⟩
  | 38 => ⟨S36864, .f32⟩
  | 39 => ⟨S36864x1, .f32⟩
  | 40 => ⟨S36864, .f32⟩
  | 41 => ⟨S_, .f32⟩
  | 42 => ⟨S36864, .f32⟩
  | 43 => ⟨S36864, .f32⟩
  | 44 => ⟨S36864, .f32⟩
  | 45 => ⟨S36864x1, .f32⟩
  | 46 => ⟨S36864, .f32⟩
  | 47 => ⟨S_, .f32⟩
  | 48 => ⟨S36864, .f32⟩
  | 49 => ⟨S36864, .f32⟩
  | 50 => ⟨S36864, .f32⟩
  | 51 => ⟨S2x36864x1, .f32⟩
  | 52 => ⟨S2x36864, .f32⟩
  | 53 => ⟨S2x36864x1, .f32⟩
  | 54 => ⟨S2x36864, .f32⟩
  | 55 => ⟨S2x36864x1, .f32⟩
  | 56 => ⟨S2x36864, .f32⟩
  | 57 => ⟨S_, .f32⟩
  | 58 => ⟨S2x36864, .f32⟩
  | 59 => ⟨S2x36864, .f32⟩
  | 60 => ⟨S2x36864x1, .f32⟩
  | 61 => ⟨S2x36864, .f32⟩
  | 62 => ⟨S_, .f32⟩
  | 63 => ⟨S2x36864, .f32⟩
  | 64 => ⟨S2x36864, .f32⟩
  | 65 => ⟨S1x36864, .f32⟩
  | 66 => ⟨S2x36864, .f32⟩
  | 67 => ⟨S2x36864, .f32⟩
  | 68 => ⟨S1x36864, .f32⟩
  | 69 => ⟨S2x36864, .f32⟩
  | 70 => ⟨S2x36864, .f32⟩
  | 71 => ⟨S1x36864, .f32⟩
  | 72 => ⟨S2x36864, .f32⟩
  | 73 => ⟨S2x36864, .f32⟩
  | 74 => ⟨S1x36864, .f32⟩
  | 75 => ⟨S2x36864, .f32⟩
  | 76 => ⟨S2x36864, .f32⟩
  | 77 => ⟨S2x36864, .f32⟩
  | 78 => ⟨S1x36864, .f32⟩
  | 79 => ⟨S2x36864, .f32⟩
  | 80 => ⟨S2x36864, .f32⟩
  | 81 => ⟨S2x36864, .f32⟩
  | 82 => ⟨S1x36864, .f32⟩
  | 83 => ⟨S2x36864, .f32⟩
  | 84 => ⟨S2x36864, .f32⟩
  | 85 => ⟨S_, .f32⟩
  | 86 => ⟨S2x36864, .f32⟩
  | 87 => ⟨S2x36864, .f32⟩
  | 88 => ⟨S2x36864, .f32⟩
  | 89 => ⟨S_, .f32⟩
  | 90 => ⟨S2x36864, .f32⟩
  | 91 => ⟨S2x36864, .f32⟩
  | 92 => ⟨S2x36864, .f32⟩
  | 93 => ⟨S_, .f32⟩
  | 94 => ⟨S2x36864, .f32⟩
  | 95 => ⟨S2x36864, .f32⟩
  | 96 => ⟨S2x36864, .f32⟩
  | 97 => ⟨S_, .f32⟩
  | 98 => ⟨S2x36864, .f32⟩
  | 99 => ⟨S2x36864, .f32⟩
  | 100 => ⟨S2x36864, .f32⟩
  | 101 => ⟨S2x36864x1, .f32⟩
  | 102 => ⟨S2x36864x1, .f32⟩
  | 103 => ⟨S2x36864x1, .f32⟩
  | 104 => ⟨S2x36864x1, .f32⟩
  | 105 => ⟨S2x36864x4, .f32⟩
  | 106 => ⟨S2x2000, .f32⟩
  | 107 => ⟨S2x2000, .i32⟩
  | 108 => ⟨S_, .i32⟩
  | 109 => ⟨S2x2000, .i32⟩
  | 110 => ⟨S2x2000, .i1⟩
  | 111 => ⟨S_, .i32⟩
  | 112 => ⟨S2x2000, .i32⟩
  | 113 => ⟨S2x2000, .i32⟩
  | 114 => ⟨S2x2000, .i32⟩
  | 115 => ⟨S2x2000x1, .i32⟩
  | 116 => ⟨S2x2000x4, .f32⟩
  | 117 => ⟨S2x2000x1, .f32⟩
  | 118 => ⟨S2x2000, .f32⟩
  | 119 => ⟨S_, .f32⟩
  | 120 => ⟨S_, .f32⟩
  | 121 => ⟨S_, .f32⟩
  | 122 => ⟨S2x2000, .f32⟩
  | 123 => ⟨S2x2000, .f32⟩
  | 124 => ⟨S_, .f32⟩
  | 125 => ⟨S2x2000, .f32⟩
  | 126 => ⟨S2x2000, .f32⟩
  | 127 => ⟨S2x2000x1, .f32⟩
  | _ => ⟨S2x3x512x512, .f32⟩

abbrev hbmTy0_2 (i : Nat) : BufTy := match i % 128 with
  | 0 => ⟨S2x2000, .f32⟩
  | 1 => ⟨S_, .f32⟩
  | 2 => ⟨S_, .f32⟩
  | 3 => ⟨S_, .f32⟩
  | 4 => ⟨S2x2000, .f32⟩
  | 5 => ⟨S2x2000, .f32⟩
  | 6 => ⟨S_, .f32⟩
  | 7 => ⟨S2x2000, .f32⟩
  | 8 => ⟨S2x2000, .f32⟩
  | 9 => ⟨S2x2000x1, .f32⟩
  | 10 => ⟨S2x2000, .f32⟩
  | 11 => ⟨S_, .f32⟩
  | 12 => ⟨S_, .f32⟩
  | 13 => ⟨S_, .f32⟩
  | 14 => ⟨S2x2000, .f32⟩
  | 15 => ⟨S2x2000, .f32⟩
  | 16 => ⟨S_, .f32⟩
  | 17 => ⟨S2x2000, .f32⟩
  | 18 => ⟨S2x2000, .f32⟩
  | 19 => ⟨S2x2000x1, .f32⟩
  | 20 => ⟨S2x2000, .f32⟩
  | 21 => ⟨S_, .f32⟩
  | 22 => ⟨S_, .f32⟩
  | 23 => ⟨S_, .f32⟩
  | 24 => ⟨S2x2000, .f32⟩
  | 25 => ⟨S2x2000, .f32⟩
  | 26 => ⟨S_, .f32⟩
  | 27 => ⟨S2x2000, .f32⟩
  | 28 => ⟨S2x2000, .f32⟩
  | 29 => ⟨S2x2000x1, .f32⟩
  | 30 => ⟨S2x2000x1, .f32⟩
  | 31 => ⟨S2x2000x1, .f32⟩
  | 32 => ⟨S2x2000x1, .f32⟩
  | 33 => ⟨S2x2000x4, .f32⟩
  | 34 => ⟨S2x2000, .f32⟩
  | 35 => ⟨S2x2000, .f32⟩
  | 36 => ⟨S_, .f32⟩
  | 37 => ⟨S2x2000, .f32⟩
  | 38 => ⟨S2x2000, .f32⟩
  | 39 => ⟨S_, .f32⟩
  | 40 => ⟨S2x2000, .f32⟩
  | 41 => ⟨S2x2000, .f32⟩
  | 42 => ⟨S2x2000x1, .f32⟩
  | 43 => ⟨S2x2000, .f32⟩
  | 44 => ⟨S2x2000x1, .f32⟩
  | 45 => ⟨S2x2000, .f32⟩
  | 46 => ⟨S2x2000, .f32⟩
  | 47 => ⟨S2x2000x1, .f32⟩
  | 48 => ⟨S2x2000, .f32⟩
  | 49 => ⟨S2x2000x1, .f32⟩
  | 50 => ⟨S2x2000, .f32⟩
  | 51 => ⟨S2x2000, .f32⟩
  | 52 => ⟨S_, .f32⟩
  | 53 => ⟨S2x2000, .f32⟩
  | 54 => ⟨S2x2000, .i1⟩
  | 55 => ⟨S_, .f32⟩
  | 56 => ⟨S2x2000, .f32⟩
  | 57 => ⟨S2x2000, .i1⟩
  | 58 => ⟨S2x2000, .i1⟩
  | 59 => ⟨S_, .f32⟩
  | 60 => ⟨S2x2000, .f32⟩
  | 61 => ⟨S2x2000, .i1⟩
  | 62 => ⟨S2x2000, .i1⟩
  | 63 => ⟨S_, .f32⟩
  | 64 => ⟨S_, .f32⟩
  | 65 => ⟨S2000, .f32⟩
  | 66 => ⟨S2x2000, .f32⟩
  | 67 => ⟨S2x2000, .f32⟩
  | 68 => ⟨S2x2000, .f32⟩
  | 69 => ⟨S2000, .i32⟩
  | 70 => ⟨S2x2000, .i32⟩
  | 71 => ⟨S2x2000, .f32⟩
  | 72 => ⟨S2x2000, .i32⟩
  | 73 => ⟨S_, .i32⟩
  | 74 => ⟨S2x2000, .i32⟩
  | 75 => ⟨S2x2000, .i1⟩
  | 76 => ⟨S_, .i32⟩
  | 77 => ⟨S2x2000, .i32⟩
  | 78 => ⟨S2x2000, .i32⟩
  | 79 => ⟨S2x2000, .i32⟩
  | 80 => ⟨S2x2000x1, .i32⟩
  | 81 => ⟨S2x2000x4, .f32⟩
  | 82 => ⟨S_, .i32⟩
  | 83 => ⟨S2x2000, .i32⟩
  | 84 => ⟨S2x2000, .i1⟩
  | 85 => ⟨S_, .i32⟩
  | 86 => ⟨S2x2000, .i32⟩
  | 87 => ⟨S2x2000, .i32⟩
  | 88 => ⟨S2x2000, .i32⟩
  | 89 => ⟨S2x2000x1, .i32⟩
  | 90 => ⟨S2x2000, .f32⟩
  | 91 => ⟨S_, .i32⟩
  | 92 => ⟨S2x2000, .i32⟩
  | 93 => ⟨S2x2000, .i1⟩
  | 94 => ⟨S_, .i32⟩
  | 95 => ⟨S2x2000, .i32⟩
  | 96 => ⟨S2x2000, .i32⟩
  | 97 => ⟨S2x2000, .i32⟩
  | 98 => ⟨S2x2000x1, .i32⟩
  | 99 => ⟨S2x2000, .i1⟩
  | 100 => ⟨S2x2000x1, .f32⟩
  | 101 => ⟨S2x2000, .f32⟩
  | 102 => ⟨S2x2000x1, .f32⟩
  | 103 => ⟨S2x2000, .f32⟩
  | 104 => ⟨S2x2000, .f32⟩
  | 105 => ⟨S_, .f32⟩
  | 106 => ⟨S2x2000, .f32⟩
  | 107 => ⟨S2x2000, .f32⟩
  | 108 => ⟨S2x2000x1, .f32⟩
  | 109 => ⟨S2x2000, .f32⟩
  | 110 => ⟨S2x2000x1, .f32⟩
  | 111 => ⟨S2x2000, .f32⟩
  | 112 => ⟨S2x2000, .f32⟩
  | 113 => ⟨S_, .f32⟩
  | 114 => ⟨S2x2000, .f32⟩
  | 115 => ⟨S2x2000, .f32⟩
  | 116 => ⟨S2x2000, .f32⟩
  | 117 => ⟨S2x2000x1, .f32⟩
  | 118 => ⟨S2x2000, .f32⟩
  | 119 => ⟨S2x2000x1, .f32⟩
  | 120 => ⟨S2x2000, .f32⟩
  | 121 => ⟨S2x2000, .f32⟩
  | 122 => ⟨S_, .f32⟩
  | 123 => ⟨S2x2000, .f32⟩
  | 124 => ⟨S2x2000, .f32⟩
  | 125 => ⟨S2x2000x1, .f32⟩
  | 126 => ⟨S2x2000, .f32⟩
  | 127 => ⟨S2x2000x1, .f32⟩
  | _ => ⟨S2x3x512x512, .f32⟩

abbrev hbmTy0_3 (i : Nat) : BufTy := match i % 128 with
  | 0 => ⟨S2x2000, .f32⟩
  | 1 => ⟨S2x2000, .f32⟩
  | 2 => ⟨S_, .f32⟩
  | 3 => ⟨S2x2000, .f32⟩
  | 4 => ⟨S2x2000, .f32⟩
  | 5 => ⟨S2x2000, .f32⟩
  | 6 => ⟨S2x2000x2, .f32⟩
  | 7 => ⟨S2x2000x1x2, .f32⟩
  | 8 => ⟨S2x2000x2, .f32⟩
  | 9 => ⟨S2x1x2000x2, .f32⟩
  | 10 => ⟨S2x2000x2000x2, .f32⟩
  | 11 => ⟨S2x2000x2000x2, .f32⟩
  | 12 => ⟨S2x2000x2000x2, .f32⟩
  | 13 => ⟨S2x2000x2, .f32⟩
  | 14 => ⟨S2x2000x1x2, .f32⟩
  | 15 => ⟨S2x2000x2, .f32⟩
  | 16 => ⟨S2x1x2000x2, .f32⟩
  | 17 => ⟨S2x2000x2000x2, .f32⟩
  | 18 => ⟨S2x2000x2000x2, .f32⟩
  | 19 => ⟨S2x2000x2000x2, .f32⟩
  | 20 => ⟨S2x2000x2000x2, .f32⟩
  | 21 => ⟨S_, .f32⟩
  | 22 => ⟨S2x2000x2000x2, .f32⟩
  | 23 => ⟨S2x2000x2000x2, .f32⟩
  | 24 => ⟨S2x2000x2000x1, .f32⟩
  | 25 => ⟨S2x2000x2000, .f32⟩
  | 26 => ⟨S2x2000x2000x1, .f32⟩
  | 27 => ⟨S2x2000x2000, .f32⟩
  | 28 => ⟨S2x2000x2000, .f32⟩
  | 29 => ⟨S2x2000x1, .f32⟩
  | 30 => ⟨S2x1x2000, .f32⟩
  | 31 => ⟨S2x2000x2000, .f32⟩
  | 32 => ⟨S2x2000x2000, .f32⟩
  | 33 => ⟨S2x2000x2000, .f32⟩
  | 34 => ⟨S2x2000x2000, .f32⟩
  | 35 => ⟨S_, .f32⟩
  | 36 => ⟨S2x2000x2000, .f32⟩
  | 37 => ⟨S2x2000x2000, .f32⟩
  | 38 => ⟨S2x2000x2000, .f32⟩
  | 39 => ⟨S2000, .i32⟩
  | 40 => ⟨S2000, .i32⟩
  | 41 => ⟨S_, .i32⟩
  | 42 => ⟨S2000, .i32⟩
  | 43 => ⟨S2x2000x2000, .f32⟩
  | 44 => ⟨S2000, .i32⟩
  | 45 => ⟨S_, .i32⟩
  | 46 => ⟨S2x2000, .i1⟩
  | 47 => ⟨S_, .i32⟩
  | 48 => ⟨S_, .i1⟩
  | 49 => ⟨S1, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S2x1x2000, .f32⟩
  | 59 => ⟨S2x2000, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S2x1, .i1⟩
  | 67 => ⟨S_, .f32⟩
  | 68 => ⟨S2x2000, .f32⟩
  | 69 => ⟨S2x2000, .i1⟩
  | 70 => ⟨S2000, .i32⟩
  | 71 => ⟨S2000, .i1⟩
  | 72 => ⟨S1x2000, .i1⟩
  | 73 => ⟨S2x2000, .i1⟩
  | 74 => ⟨S2x2000, .i1⟩
  | 75 => ⟨S2x2000, .i1⟩
  | 76 => ⟨S2x2000, .i1⟩
  | 77 => ⟨S2x2000, .i1⟩
  | 78 => ⟨S2x2000, .i1⟩
  | 79 => ⟨S_, .i32⟩
  | 80 => ⟨S_, .i32⟩
  | 81 => ⟨S_, .f32⟩
  | 82 => ⟨S_, .f32⟩
  | 83 => ⟨S2000, .f32⟩
  | 84 => ⟨S2x2000, .f32⟩
  | 85 => ⟨S2x2000, .f32⟩
  | 86 => ⟨S2x1000, .f32⟩
  | 87 => ⟨S2x1000, .i32⟩
  | 88 => ⟨S_, .i32⟩
  | 89 => ⟨S2x1000, .i32⟩
  | 90 => ⟨S2x1000, .i1⟩
  | 91 => ⟨S_, .i32⟩
  | 92 => ⟨S2x1000, .i32⟩
  | 93 => ⟨S2x1000, .i32⟩
  | 94 => ⟨S2x1000, .i32⟩
  | 95 => ⟨S2x1000x1, .i32⟩
  | 96 => ⟨S2x1000x4, .f32⟩
  | _ => ⟨S2x3x512x512, .f32⟩

abbrev hbmTy (i : Nat) : BufTy := match i / 128 with
  | 0 => hbmTy0_0 i
  | 1 => hbmTy0_1 i
  | 2 => hbmTy0_2 i
  | 3 => hbmTy0_3 i
  | _ => ⟨S2x3x512x512, .f32⟩

abbrev bufTy : (tb : Table) → Fin (tcTables nBuf tb) → BufTy
  | .hbm, ⟨i, _⟩ => hbmTy i
  | _, _ => ⟨S2x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call1_cst : Ref sig .tc := ⟨.hbm, 72, rfl⟩
abbrev main_call1_v0 : Ref sig .tc := ⟨.hbm, 73, rfl⟩
abbrev main_v59 : Ref sig .tc := ⟨.hbm, 74, rfl⟩
abbrev main_c_2 : Ref sig .tc := ⟨.hbm, 75, rfl⟩
abbrev main_call2_v0 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_3 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_4 : Ref sig .tc := ⟨.hbm, 87, rfl⟩
abbrev main_call3_v0 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_5 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_6 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_7 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_8 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_9 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_cst_10 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_cst_11 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_cst_12 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_cst_13 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_cst_14 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_cst_15 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_cst_16 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_cst_17 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_values : Ref sig .tc := ⟨.hbm, 234, rfl⟩
abbrev main_indices : Ref sig .tc := ⟨.hbm, 235, rfl⟩
abbrev main_c_18 : Ref sig .tc := ⟨.hbm, 236, rfl⟩
abbrev main_v201 : Ref sig .tc := ⟨.hbm, 237, rfl⟩
abbrev main_v202 : Ref sig .tc := ⟨.hbm, 238, rfl⟩
abbrev main_c_19 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_cst_20 : Ref sig .tc := ⟨.hbm, 247, rfl⟩
abbrev main_cst_21 : Ref sig .tc := ⟨.hbm, 248, rfl⟩
abbrev main_call5_v0 : Ref sig .tc := ⟨.hbm, 249, rfl⟩
abbrev main_call5_v1 : Ref sig .tc := ⟨.hbm, 250, rfl⟩
abbrev main_call5_v2 : Ref sig .tc := ⟨.hbm, 251, rfl⟩
abbrev main_call5_v3 : Ref sig .tc := ⟨.hbm, 252, rfl⟩
abbrev main_call5_v4 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_cst_22 : Ref sig .tc := ⟨.hbm, 257, rfl⟩
abbrev main_cst_23 : Ref sig .tc := ⟨.hbm, 258, rfl⟩
abbrev main_call6_v0 : Ref sig .tc := ⟨.hbm, 259, rfl⟩
abbrev main_call6_v1 : Ref sig .tc := ⟨.hbm, 260, rfl⟩
abbrev main_call6_v2 : Ref sig .tc := ⟨.hbm, 261, rfl⟩
abbrev main_call6_v3 : Ref sig .tc := ⟨.hbm, 262, rfl⟩
abbrev main_call6_v4 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_cst_24 : Ref sig .tc := ⟨.hbm, 267, rfl⟩
abbrev main_cst_25 : Ref sig .tc := ⟨.hbm, 268, rfl⟩
abbrev main_call7_v0 : Ref sig .tc := ⟨.hbm, 269, rfl⟩
abbrev main_call7_v1 : Ref sig .tc := ⟨.hbm, 270, rfl⟩
abbrev main_call7_v2 : Ref sig .tc := ⟨.hbm, 271, rfl⟩
abbrev main_call7_v3 : Ref sig .tc := ⟨.hbm, 272, rfl⟩
abbrev main_call7_v4 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_cst_26 : Ref sig .tc := ⟨.hbm, 277, rfl⟩
abbrev main_cst_27 : Ref sig .tc := ⟨.hbm, 278, rfl⟩
abbrev main_call8_v0 : Ref sig .tc := ⟨.hbm, 279, rfl⟩
abbrev main_call8_v1 : Ref sig .tc := ⟨.hbm, 280, rfl⟩
abbrev main_call8_v2 : Ref sig .tc := ⟨.hbm, 281, rfl⟩
abbrev main_call8_v3 : Ref sig .tc := ⟨.hbm, 282, rfl⟩
abbrev main_call8_v4 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_cst_28 : Ref sig .tc := ⟨.hbm, 292, rfl⟩
abbrev main_v227 : Ref sig .tc := ⟨.hbm, 293, rfl⟩
abbrev main_v228 : Ref sig .tc := ⟨.hbm, 294, rfl⟩
abbrev main_cst_29 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_cst_30 : Ref sig .tc := ⟨.hbm, 308, rfl⟩
abbrev main_v241 : Ref sig .tc := ⟨.hbm, 309, rfl⟩
abbrev main_v242 : Ref sig .tc := ⟨.hbm, 310, rfl⟩
abbrev main_cst_31 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_cst_32 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_cst_33 : Ref sig .tc := ⟨.hbm, 319, rfl⟩
abbrev main_call9_v0 : Ref sig .tc := ⟨.hbm, 320, rfl⟩
abbrev main_call9_v1 : Ref sig .tc := ⟨.hbm, 321, rfl⟩
abbrev main_call9_v2 : Ref sig .tc := ⟨.hbm, 322, rfl⟩
abbrev main_v249 : Ref sig .tc := ⟨.hbm, 323, rfl⟩
abbrev main_v250 : Ref sig .tc := ⟨.hbm, 324, rfl⟩
abbrev main_call10_v0 : Ref sig .tc := ⟨.hbm, 325, rfl⟩
abbrev main_call10_v1 : Ref sig .tc := ⟨.hbm, 326, rfl⟩
abbrev main_call10_v2_0 : Ref sig .tc := ⟨.hbm, 327, rfl⟩
abbrev main_v251 : Ref sig .tc := ⟨.hbm, 328, rfl⟩
abbrev main_c_34 : Ref sig .tc := ⟨.hbm, 329, rfl⟩
abbrev main_v252 : Ref sig .tc := ⟨.hbm, 330, rfl⟩
abbrev main_v253 : Ref sig .tc := ⟨.hbm, 331, rfl⟩
abbrev main_c_35 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_c_36 : Ref sig .tc := ⟨.hbm, 338, rfl⟩
abbrev main_v259 : Ref sig .tc := ⟨.hbm, 339, rfl⟩
abbrev main_v260 : Ref sig .tc := ⟨.hbm, 340, rfl⟩
abbrev main_c_37 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_c_38 : Ref sig .tc := ⟨.hbm, 347, rfl⟩
abbrev main_v266 : Ref sig .tc := ⟨.hbm, 348, rfl⟩
abbrev main_v267 : Ref sig .tc := ⟨.hbm, 349, rfl⟩
abbrev main_c_39 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_cst_40 : Ref sig .tc := ⟨.hbm, 361, rfl⟩
abbrev main_v278 : Ref sig .tc := ⟨.hbm, 362, rfl⟩
abbrev main_v279 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_cst_41 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_cst_42 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_v299 : Ref sig .tc := ⟨.hbm, 385, rfl⟩
abbrev main_cst_43 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_cst_44 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_cst_45 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_v335 : Ref sig .tc := ⟨.hbm, 424, rfl⟩
abbrev main_c_46 : Ref sig .tc := ⟨.hbm, 425, rfl⟩
abbrev main_v336_0 : Ref sig .tc := ⟨.hbm, 426, rfl⟩
abbrev main_v336_1 : Ref sig .tc := ⟨.hbm, 427, rfl⟩
abbrev main_v336_2 : Ref sig .tc := ⟨.hbm, 428, rfl⟩
abbrev main_v336_3 : Ref sig .tc := ⟨.hbm, 429, rfl⟩
abbrev main_v336_4 : Ref sig .tc := ⟨.hbm, 430, rfl⟩
abbrev main_while0c_c_56 : Ref sig .tc := ⟨.hbm, 431, rfl⟩
abbrev main_while0c_v345 : Ref sig .tc := ⟨.hbm, 432, rfl⟩
abbrev main_while0b_call11_v0 : Ref sig .tc := ⟨.hbm, 433, rfl⟩
abbrev main_while0b_v345 : Ref sig .tc := ⟨.hbm, 434, rfl⟩
abbrev main_while0b_call12_c : Ref sig .tc := ⟨.hbm, 435, rfl⟩
abbrev main_while0b_call12_v0 : Ref sig .tc := ⟨.hbm, 436, rfl⟩
abbrev main_while0b_call12_c_0 : Ref sig .tc := ⟨.hbm, 437, rfl⟩
abbrev main_while0b_call12_v1 : Ref sig .tc := ⟨.hbm, 438, rfl⟩
abbrev main_while0b_call12_v2 : Ref sig .tc := ⟨.hbm, 439, rfl⟩
abbrev main_while0b_call12_c_1 : Ref sig .tc := ⟨.hbm, 440, rfl⟩
abbrev main_while0b_call12_c_2 : Ref sig .tc := ⟨.hbm, 441, rfl⟩
abbrev main_while0b_call12_v3 : Ref sig .tc := ⟨.hbm, 442, rfl⟩
abbrev main_while0b_v346 : Ref sig .tc := ⟨.hbm, 443, rfl⟩
abbrev main_while0b_call13_c : Ref sig .tc := ⟨.hbm, 444, rfl⟩
abbrev main_while0b_call13_v0 : Ref sig .tc := ⟨.hbm, 445, rfl⟩
abbrev main_while0b_call13_c_0 : Ref sig .tc := ⟨.hbm, 446, rfl⟩
abbrev main_while0b_call13_v1 : Ref sig .tc := ⟨.hbm, 447, rfl⟩
abbrev main_while0b_call13_v2 : Ref sig .tc := ⟨.hbm, 448, rfl⟩
abbrev main_while0b_call13_c_1 : Ref sig .tc := ⟨.hbm, 449, rfl⟩
abbrev main_while0b_v347 : Ref sig .tc := ⟨.hbm, 450, rfl⟩
abbrev main_while0b_cst_56 : Ref sig .tc := ⟨.hbm, 451, rfl⟩
abbrev main_while0b_v348 : Ref sig .tc := ⟨.hbm, 452, rfl⟩
abbrev main_while0b_v349 : Ref sig .tc := ⟨.hbm, 453, rfl⟩
abbrev main_while0b_v350 : Ref sig .tc := ⟨.hbm, 454, rfl⟩
abbrev main_while0b_v351 : Ref sig .tc := ⟨.hbm, 455, rfl⟩
abbrev main_while0b_v352 : Ref sig .tc := ⟨.hbm, 456, rfl⟩
abbrev main_while0b_v353 : Ref sig .tc := ⟨.hbm, 457, rfl⟩
abbrev main_while0b_v354 : Ref sig .tc := ⟨.hbm, 458, rfl⟩
abbrev main_while0b_v355 : Ref sig .tc := ⟨.hbm, 459, rfl⟩
abbrev main_while0b_v356 : Ref sig .tc := ⟨.hbm, 460, rfl⟩
abbrev main_while0b_v357 : Ref sig .tc := ⟨.hbm, 461, rfl⟩
abbrev main_while0b_v358 : Ref sig .tc := ⟨.hbm, 462, rfl⟩
abbrev main_while0b_c_57 : Ref sig .tc := ⟨.hbm, 463, rfl⟩
abbrev main_while0b_v359 : Ref sig .tc := ⟨.hbm, 464, rfl⟩
abbrev main_cst_47 : Ref sig .tc := ⟨.hbm, 465, rfl⟩
abbrev main_call14_v0 : Ref sig .tc := ⟨.hbm, 466, rfl⟩
abbrev main_call14_v1 : Ref sig .tc := ⟨.hbm, 467, rfl⟩
abbrev main_call14_v2 : Ref sig .tc := ⟨.hbm, 468, rfl⟩
abbrev main_v337 : Ref sig .tc := ⟨.hbm, 469, rfl⟩
abbrev main_values_48 : Ref sig .tc := ⟨.hbm, 470, rfl⟩
abbrev main_indices_49 : Ref sig .tc := ⟨.hbm, 471, rfl⟩
abbrev main_c_50 : Ref sig .tc := ⟨.hbm, 472, rfl⟩
abbrev main_v338 : Ref sig .tc := ⟨.hbm, 473, rfl⟩
abbrev main_v339 : Ref sig .tc := ⟨.hbm, 474, rfl⟩
abbrev main_c_51 : Ref sig .tc := ⟨.hbm, 475, rfl⟩
abbrev main_v340 : Ref sig .tc := ⟨.hbm, 476, rfl⟩
abbrev main_v341 : Ref sig .tc := ⟨.hbm, 477, rfl⟩
abbrev main_v342 : Ref sig .tc := ⟨.hbm, 478, rfl⟩
abbrev main_v343 : Ref sig .tc := ⟨.hbm, 479, rfl⟩
abbrev main_v344 : Ref sig .tc := ⟨.hbm, 480, rfl⟩

abbrev nD : Nat := 1
abbrev τ : Topo := Topo.v7x

variable {F : FTy → Type} [FloatOps F]

abbrev main_while0_count : Scf.Loop 32 := ⟨0#32, 2000#32, 1#32⟩
-- ==== Proof.Ssa.lean ====
/- Reading a straight line of host operations, one operation at a time. In a line where a buffer is written once and
   never read before it is written, the final contents of every buffer satisfy the operation's own equation: the
   result is the operation's function of the FINAL contents of the operands. -/
module

public import Idealize.ShloMosaic.Lib.StableHlo.RunRead
public import Idealize.ShloMosaic.Lib.StableHlo.RunLoop

@[expose] public section

noncomputable section

namespace Cert.Ssa

open Idealize.ShloMosaic Idealize.ShloMosaic.StableHlo

variable {τ : Topo} {sig : RefSig} {Val : EltTy → Type}

/-- The writes of a line, listed: operation `i` writes exactly the `i`-th reference of `W`. -/
abbrev Writes (L : List (HloOp τ sig Val)) (W : List (Ref sig .tc)) : Prop :=
  L.map HloOp.writes = W.map fun w => {Proc.devRef (τ := τ) .tc w}

variable {L : List (HloOp τ sig Val)} {W : List (Ref sig .tc)} (hW : Writes L W) (V : Valuation τ sig Val) (i : ℕ)
include hW

/-- A buffer not written from position `i` on already has its final contents there. -/
theorem operand {a : Ref sig .tc} (ha : a ∉ W.drop i) :
    after (L.take i) V (Proc.devRef .tc a) = after L V (Proc.devRef .tc a) := by
  conv_rhs => rw [← List.take_append_drop i L, after_append]
  refine (after_unwritten (W.drop i) ?_ ha _).symm
  unfold Writes at hW
  rw [List.map_drop, hW, List.map_drop]

/-- A buffer's final contents are what its last writer left there. -/
theorem result {op : HloOp τ sig Val} (hop : L[i]? = some op) {y : Ref sig .tc} (hy : y ∉ W.drop (i + 1)) :
    after L V (Proc.devRef .tc y) = op.result (after (L.take i) V) (Proc.devRef .tc y) := by
  rw [← operand hW V (i + 1) hy]
  obtain ⟨h, rfl⟩ := List.getElem?_eq_some_iff.mp hop
  rw [List.take_succ_eq_append_getElem h, after_append]
  rfl

/-- A buffer the line does not write keeps its contents. -/
theorem input {a : Ref sig .tc} (ha : a ∉ W) : after L V (Proc.devRef .tc a) = V (Proc.devRef .tc a) :=
  after_unwritten W hW ha V

theorem nullary {y v hy} (hop : L[i]? = some (StableHlo.nullary y v hy)) (h : y ∉ W.drop (i + 1)) :
    after L V (Proc.devRef .tc y) = v := by
  rw [result hW V i hop h]; exact nullary_result ..

theorem unary {x y f hx hy} (hop : L[i]? = some (StableHlo.unary x y f hx hy)) (h : y ∉ W.drop (i + 1)) (h0 : x ∉ W.drop i) :
    after L V (Proc.devRef .tc y) = f (after L V (Proc.devRef .tc x)) := by
  rw [result hW V i hop h, ← operand hW V i h0]; exact unary_result ..

theorem binary {a b y f ha hb hy} (hop : L[i]? = some (StableHlo.binary a b y f ha hb hy)) (h : y ∉ W.drop (i + 1))
    (h0 : a ∉ W.drop i) (h1 : b ∉ W.drop i) :
    after L V (Proc.devRef .tc y) = f (after L V (Proc.devRef .tc a)) (after L V (Proc.devRef .tc b)) := by
  rw [result hW V i hop h, ← operand hW V i h0, ← operand hW V i h1]; exact binary_result ..

theorem ternary {c a b y f hc ha hb hy} (hop : L[i]? = some (StableHlo.ternary c a b y f hc ha hb hy)) (h : y ∉ W.drop (i + 1))
    (h0 : c ∉ W.drop i) (h1 : a ∉ W.drop i) (h2 : b ∉ W.drop i) :
    after L V (Proc.devRef .tc y) = f (after L V (Proc.devRef .tc c)) (after L V (Proc.devRef .tc a)) (after L V (Proc.devRef .tc b)) := by
  rw [result hW V i hop h, ← operand hW V i h0, ← operand hW V i h1, ← operand hW V i h2]; exact ternary_result ..

theorem reshape {x y he hn hx hy} (hop : L[i]? = some (StableHlo.reshape x y he hn hx hy)) (h : y ∉ W.drop (i + 1)) (h0 : x ∉ W.drop i) :
    after L V (Proc.devRef .tc y) = fun j => he ▸ shapeCast y.ty.shape (after L V (Proc.devRef .tc x)) hn j := by
  rw [result hW V i hop h, ← operand hW V i h0]; exact reshape_result ..

theorem nary {n : ℕ} {xs : Fin n → Ref sig .tc} {y f hxs hy} (hop : L[i]? = some (StableHlo.nary xs y f hxs hy)) (h : y ∉ W.drop (i + 1))
    (h0 : ∀ k, xs k ∉ W.drop i) :
    after L V (Proc.devRef .tc y) = f fun k => after L V (Proc.devRef .tc (xs k)) := by
  rw [result hW V i hop h]
  refine (nary_result ..).trans ?_
  congr 1
  funext k
  exact operand hW V i (h0 k)

end Cert.Ssa

end
-- ==== Proof.KerEq.lean ====
/- Host equations: the program with the kernels: before the first call (`k`), between the two calls (`p`), after the second (`t`). `k_x V` is what buffer `x` holds at the end of the line from the contents `V`; each operation gives the equation of its result. -/
module

public import Idealize.ShloMosaic.PureOps.Ideal
public import proofs.«01_k».proof.Proof.Ssa
public import proofs.«01_k».proof.Proof.Gen.KernelIdeal.Launch

@[expose] public section

set_option maxRecDepth 16384

noncomputable section

namespace Cert.KernelIdeal.Host

open Idealize.ShloMosaic Idealize.ShloMosaic.TcCoe Idealize.ShloMosaic.StableHlo
open Cert.KernelIdeal.Gen

variable (V : Valuation τ sig (Elt Ideal))

attribute [local irreducible] after

/-- The operations of the host operations before the first kernel call, in one line. -/
abbrev kL : List (HloOp τ sig (Elt Ideal)) := ([hostOps0, hostOps0_1, hostOps0_2, hostOps0_3, hostOps0_4, hostOps0_5, hostOps0_6] : List (List (HloOp τ sig (Elt Ideal)))).flatten
/-- What each writes. -/
abbrev k_W : List (Ref sig .tc) := [main_cst, main_cst_0, main_v0, main_c, main_call0_v0, main_v1, main_v2, main_v3, main_v4, main_v5, main_v6, main_v7, main_c_1, main_call1_v0, main_v8, main_v9, main_c_2, main_call2_v0, main_v10, main_v11, main_v12]
theorem k_hW : Ssa.Writes kL k_W := rfl

def k_cst : (⟨S3, .f32⟩ : BufTy).Contents (Elt Ideal) := after kL V (Proc.devRef .tc main_cst)
theorem k_cst_eq : k_cst V = fun i => FloatOps.ofBits (F := Ideal) .f32 (lit0 (S3.rowMajor i)) := (Ssa.nullary k_hW V 0 rfl (by decide +kernel) :)
def k_cst_0 : (⟨S3, .f32⟩ : BufTy).Contents (Elt Ideal) := after kL V (Proc.devRef .tc main_cst_0)
theorem k_cst_0_eq : k_cst_0 V = fun i => FloatOps.ofBits (F := Ideal) .f32 (lit1 (S3.rowMajor i)) := (Ssa.nullary k_hW V 1 rfl (by decide +kernel) :)
def k_arg1 : (⟨S2x256x64x64, .f32⟩ : BufTy).Contents (Elt Ideal) := after kL V (Proc.devRef .tc main_arg1)
theorem k_arg1_in : k_arg1 V = V (Proc.devRef .tc main_arg1) := Ssa.input k_hW V (by decide +kernel)
def k_v0 : (⟨S2x64x64x256, .f32⟩ : BufTy).Contents (Elt Ideal) := after kL V (Proc.devRef .tc main_v0)
theorem k_v0_eq : k_v0 V = transpose S2x64x64x256 [0, 2, 3, 1] (k_arg1 V) transposes_S2x256x64x64_S2x64x64x256_0_2_3_1 := (Ssa.unary k_hW V 2 rfl (by decide +kernel) (by decide +kernel) :)
def k_c : (⟨S_, .i32⟩ : BufTy).Contents (Elt Ideal) := after kL V (Proc.devRef .tc main_c)
theorem k_c_eq : k_c V = constantI S_ 32 0#32 := (Ssa.nullary k_hW V 3 rfl (by decide +kernel) :)
def k_call0_v0 : (⟨S_, .f32⟩ : BufTy).Contents (Elt Ideal) := after kL V (Proc.devRef .tc main_call0_v0)
theorem k_call0_v0_eq : k_call0_v0 V = sitofp (F := Ideal) .f32 (k_c V) := (Ssa.unary k_hW V 4 rfl (by decide +kernel) (by decide +kernel) :)
def k_v1 : (⟨S2x66x66x256, .f32⟩ : BufTy).Contents (Elt Ideal) := after kL V (Proc.devRef .tc main_v1)
theorem k_v1_eq : k_v1 V = pad S2x66x66x256 ![0, 1, 1, 0] ![0, 1, 1, 0] ![0, 0, 0, 0] (k_v0 V) (k_call0_v0 V) pads_S2x64x64x256_S2x66x66x256_000_110_110_000 h_S_ := (Ssa.binary k_hW V 5 rfl (by decide +kernel) (by decide +kernel) (by decide +kernel) :)
def k_arg2 : (⟨S256x256x3x3, .f32⟩ : BufTy).Contents (Elt Ideal) := after kL V (Proc.devRef .tc main_arg2)
theorem k_arg2_in : k_arg2 V = V (Proc.devRef .tc main_arg2) := Ssa.input k_hW V (by decide +kernel)
def k_v2 : (⟨S3x3x256x256, .f32⟩ : BufTy).Contents (Elt Ideal) := after kL V (Proc.devRef .tc main_v2)
theorem k_v2_eq : k_v2 V = transpose S3x3x256x256 [2, 3, 1, 0] (k_arg2 V) transposes_S256x256x3x3_S3x3x256x256_2_3_1_0 := (Ssa.unary k_hW V 6 rfl (by decide +kernel) (by decide +kernel) :)
def k_v3 : (⟨S9x256x256, .f32⟩ : BufTy).Contents (Elt Ideal) := after kL V (Proc.devRef .tc main_v3)
theorem k_v3_eq : k_v3 V = shapeCast S9x256x256 (k_v2 V) shapeCasts_S3x3x256x256_S9x256x256 := (Ssa.reshape k_hW V 7 rfl (by decide +kernel) (by decide +kernel) :)
def k_arg4 : (⟨S9x256x1x1, .f32⟩ : BufTy).Contents (Elt Ideal) := after kL V (Proc.devRef .tc main_arg4)
theorem k_arg4_in : k_arg4 V = V (Proc.devRef .tc main_arg4) := Ssa.input k_hW V (by decide +kernel)
def k_v4 : (⟨S9x256, .f32⟩ : BufTy).Contents (Elt Ideal) := after kL V (Proc.devRef .tc main_v4)
theorem k_v4_eq : k_v4 V = shapeCast S9x256 (k_arg4 V) shapeCasts_S9x256x1x1_S9x256 := (Ssa.reshape k_hW V 8 rfl (by decide +kernel) (by decide +kernel) :)
def k_arg6 : (⟨S36x256x1x1, .f32⟩ : BufTy).Contents (Elt Ideal) := after kL V (Proc.devRef .tc main_arg6)
theorem k_arg6_in : k_arg6 V = V (Proc.devRef .tc main_arg6) := Ssa.input k_hW V (by decide +kernel)
def k_v5 : (⟨S36x256, .f32⟩ : BufTy).Contents (Elt Ideal) := after kL V (Proc.devRef .tc main_v5)
theorem k_v5_eq : k_v5 V = shapeCast S36x256 (k_arg6 V) shapeCasts_S36x256x1x1_S36x256 := (Ssa.reshape k_hW V 9 rfl (by decide +kernel) (by decide +kernel) :)
def k_v6 : (⟨S45x256, .f32⟩ : BufTy).Contents (Elt Ideal) := after kL V (Proc.devRef .tc main_v6)
theorem k_v6_eq : k_v6 V = concatenate S45x256 0 [⟨S9x256, (k_v4 V)⟩, ⟨S36x256, (k_v5 V)⟩] concatenates_S9x256_S36x256_S45x256_d0 := (Ssa.binary k_hW V 10 rfl (by decide +kernel) (by decide +kernel) (by decide +kernel) :)
def k_v7 : (⟨S256x45, .f32⟩ : BufTy).Contents (Elt Ideal) := after kL V (Proc.devRef .tc main_v7)
theorem k_v7_eq : k_v7 V = transpose S256x45 [1, 0] (k_v6 V) transposes_S45x256_S256x45_1_0 := (Ssa.unary k_hW V 11 rfl (by decide +kernel) (by decide +kernel) :)
def k_c_1 : (⟨S_, .i32⟩ : BufTy).Contents (Elt Ideal) := after kL V (Proc.devRef .tc main_c_1)
theorem k_c_1_eq : k_c_1 V = constantI S_ 32 0#32 := (Ssa.nullary k_hW V 12 rfl (by decide +kernel) :)
def k_call1_v0 : (⟨S_, .f32⟩ : BufTy).Contents (Elt Ideal) := after kL V (Proc.devRef .tc main_call1_v0)
theorem k_call1_v0_eq : k_call1_v0 V = sitofp (F := Ideal) .f32 (k_c_1 V) := (Ssa.unary k_hW V 13 rfl (by decide +kernel) (by decide +kernel) :)
def k_v8 : (⟨S256x128, .f32⟩ : BufTy).Contents (Elt Ideal) := after kL V (Proc.devRef .tc main_v8)
theorem k_v8_eq : k_v8 V = pad S256x128 ![0, 0] ![0, 83] ![0, 0] (k_v7 V) (k_call1_v0 V) pads_S256x45_S256x128_000_0830 h_S_ := (Ssa.binary k_hW V 14 rfl (by decide +kernel) (by decide +kernel) (by decide +kernel) :)
def k_arg5 : (⟨S9, .f32⟩ : BufTy).Contents (Elt Ideal) := after kL V (Proc.devRef .tc main_arg5)
theorem k_arg5_in : k_arg5 V = V (Proc.devRef .tc main_arg5) := Ssa.input k_hW V (by decide +kernel)
def k_arg7 : (⟨S36, .f32⟩ : BufTy).Contents (Elt Ideal) := after kL V (Proc.devRef .tc main_arg7)
theorem k_arg7_in : k_arg7 V = V (Proc.devRef .tc main_arg7) := Ssa.input k_hW V (by decide +kernel)
def k_v9 : (⟨S45, .f32⟩ : BufTy).Contents (Elt Ideal) := after kL V (Proc.devRef .tc main_v9)
theorem k_v9_eq : k_v9 V = concatenate S45 0 [⟨S9, (k_arg5 V)⟩, ⟨S36, (k_arg7 V)⟩] concatenates_S9_S36_S45_d0 := (Ssa.binary k_hW V 15 rfl (by decide +kernel) (by decide +kernel) (by decide +kernel) :)
def k_c_2 : (⟨S_, .i32⟩ : BufTy).Contents (Elt Ideal) := after kL V (Proc.devRef .tc main_c_2)
theorem k_c_2_eq : k_c_2 V = constantI S_ 32 0#32 := (Ssa.nullary k_hW V 16 rfl (by decide +kernel) :)
def k_call2_v0 : (⟨S_, .f32⟩ : BufTy).Contents (Elt Ideal) := after kL V (Proc.devRef .tc main_call2_v0)
theorem k_call2_v0_eq : k_call2_v0 V = sitofp (F := Ideal) .f32 (k_c_2 V) := (Ssa.unary k_hW V 17 rfl (by decide +kernel) (by decide +kernel) :)
def k_v10 : (⟨S128, .f32⟩ : BufTy).Contents (Elt Ideal) := after kL V (Proc.devRef .tc main_v10)
theorem k_v10_eq : k_v10 V = pad S128 ![0] ![83] ![0] (k_v9 V) (k_call2_v0 V) pads_S45_S128_0830 h_S_ := (Ssa.binary k_hW V 18 rfl (by decide +kernel) (by decide +kernel) (by decide +kernel) :)
def k_arg3 : (⟨S256, .f32⟩ : BufTy).Contents (Elt Ideal) := after kL V (Proc.devRef .tc main_arg3)
theorem k_arg3_in : k_arg3 V = V (Proc.devRef .tc main_arg3) := Ssa.input k_hW V (by decide +kernel)
def k_v11 : (⟨S1x256, .f32⟩ : BufTy).Contents (Elt Ideal) := after kL V (Proc.devRef .tc main_v11)
theorem k_v11_eq : k_v11 V = broadcastInDim S1x256 ![1] bcast_S256_S1x256_1 (k_arg3 V) := (Ssa.unary k_hW V 19 rfl (by decide +kernel) (by decide +kernel) :)
def k_v12 : (⟨S1x128, .f32⟩ : BufTy).Contents (Elt Ideal) := after kL V (Proc.devRef .tc main_v12)
theorem k_v12_eq : k_v12 V = broadcastInDim S1x128 ![1] bcast_S128_S1x128_1 (k_v10 V) := (Ssa.unary k_hW V 20 rfl (by decide +kernel) (by decide +kernel) :)

/-- The operations of the host operations between the two kernel calls, in one line. -/
abbrev pL : List (HloOp τ sig (Elt Ideal)) := ([hostOps1, hostOps1_1, hostOps1_2, hostOps1_3, hostOps1_4, hostOps1_5, hostOps1_6, hostOps1_7, hostOps1_8] : List (List (HloOp τ sig (Elt Ideal)))).flatten
/-- What each writes. -/
abbrev p_W : List (Ref sig .tc) := [main_v14, main_v15, main_v16, main_v17, main_v18, main_cst_3, main_v19, main_v20, main_v21, main_v22, main_v23, main_v24, main_v25, main_v26, main_v27, main_v28, main_v29, main_v30, main_v31, main_v32, main_v33, main_v34, main_v35, main_v36, main_v37, main_v38, main_v39, main_cst_4, main_v40, main_v41, main_v42, main_v43, main_cst_5, main_v44, main_v45, main_v46, main_cst_6, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_cst_7, main_v78, main_v79, main_v80, main_v81, main_v82, main_cst_8, main_v83, main_v84, main_v85, main_v86, main_v87, main_v88, main_v89, main_v90, main_v91, main_cst_9, main_v92, main_v93, main_v94, main_v95, main_cst_10, main_v96, main_v97, main_v98, main_v99, main_v100, main_v101, main_v102, main_v103, main_v104, main_v105, main_v106, main_v107, main_v108, main_v109, main_v110, main_v111, main_v112, main_v113, main_v114, main_v115, main_v116, main_v117, main_cst_11, main_v118, main_v119, main_v120, main_cst_12, main_v121, main_v122, main_v123, main_cst_13, main_v124, main_v125, main_v126, main_cst_14, main_v127, main_v128, main_v129, main_v130, main_v131, main_v132, main_v133, main_v134, main_values, main_indices, main_v135, main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v136, main_c_15, main_call5_v0, main_v137, main_v138, main_cst_16, main_call6_v0, main_v139, main_v140]
theorem p_hW : Ssa.Writes pL p_W := rfl

def p_v13 : (⟨S2x4096x128, .f32⟩ : BufTy).Contents (Elt Ideal) := after pL V (Proc.devRef .tc main_v13)
theorem p_v13_in : p_v13 V = V (Proc.devRef .tc main_v13) := Ssa.input p_hW V (by decide +kernel)
def p_v14 : (⟨S2x4096x9, .f32⟩ : BufTy).Contents (Elt Ideal) := after pL V (Proc.devRef .tc main_v14)
theorem p_v14_eq : p_v14 V = extractStridedSlice S2x4096x9 ![0, 0, 0] (p_v13 V) slices_S2x4096x128_S2x4096x9_0_0_0 := (Ssa.unary p_hW V 0 rfl (by decide +kernel) (by decide +kernel) :)
def p_v15 : (⟨S2x36864, .f32⟩ : BufTy).Contents (Elt Ideal) := after pL V (Proc.devRef .tc main_v15)
theorem p_v15_eq : p_v15 V = shapeCast S2x36864 (p_v14 V) shapeCasts_S2x4096x9_S2x36864 := (Ssa.reshape p_hW V 1 rfl (by decide +kernel) (by decide +kernel) :)
def p_v16 : (⟨S2x4096x36, .f32⟩ : BufTy).Contents (Elt Ideal) := after pL V (Proc.devRef .tc main_v16)
theorem p_v16_eq : p_v16 V = extractStridedSlice S2x4096x36 ![0, 0, 9] (p_v13 V) slices_S2x4096x128_S2x4096x36_0_0_9 := (Ssa.unary p_hW V 2 rfl (by decide +kernel) (by decide +kernel) :)
def p_v17 : (⟨S2x36864x4, .f32⟩ : BufTy).Contents (Elt Ideal) := after pL V (Proc.devRef .tc main_v17)
theorem p_v17_eq : p_v17 V = shapeCast S2x36864x4 (p_v16 V) shapeCasts_S2x4096x36_S2x36864x4 := (Ssa.reshape p_hW V 3 rfl (by decide +kernel) (by decide +kernel) :)
def p_cst_0 : (⟨S3, .f32⟩ : BufTy).Contents (Elt Ideal) := after pL V (Proc.devRef .tc main_cst_0)
theorem p_cst_0_in : p_cst_0 V = V (Proc.devRef .tc main_cst_0) := Ssa.input p_hW V (by decide +kernel)
def p_v18 : (⟨S3, .f32⟩ : BufTy).Contents (Elt Ideal) := after pL V (Proc.devRef .tc main_v18)
theorem p_v18_eq : p_v18 V = Host.sqrt (F := Ideal) (φ := .f32) (p_cst_0 V) := (Ssa.unary p_hW V 4 rfl (by decide +kernel) (by decide +kernel) :)
def p_cst_3 : (⟨S_, .f32⟩ : BufTy).Contents (Elt Ideal) := after pL V (Proc.devRef .tc main_cst_3)
theorem p_cst_3_eq : p_cst_3 V = constant (F := Ideal) S_ .f32 0x3F800000#32 := (Ssa.nullary p_hW V 5 rfl (by decide +kernel) :)
def p_v19 : (⟨S3, .f32⟩ : BufTy).Contents (Elt Ideal) := after pL V (Proc.devRef .tc main_v19)
theorem p_v19_eq : p_v19 V = broadcastInDim S3 ![] bcast_S_S3 (p_cst_3 V) := (Ssa.unary p_hW V 6 rfl (by decide +kernel) (by decide +kernel) :)
def p_v20 : (⟨S3, .f32⟩ : BufTy).Contents (Elt Ideal) := after pL V (Proc.devRef .tc main_v20)
theorem p_v20_eq : p_v20 V = Host.divf (F := Ideal) (φ := .f32) (p_v19 V) (p_v18 V) := (Ssa.binary p_hW V 7 rfl (by decide +kernel) (by decide +kernel) (by decide +kernel) :)
def p_v21 : (⟨S3x1, .f32⟩ : BufTy).Contents (Elt Ideal) := after pL V (Proc.devRef .tc main_v21)
theorem p_v21_eq : p_v21 V = broadcastInDim S3x1 ![0] bcast_S3_S3x1_0 (p_v20 V) := (Ssa.unary p_hW V 8 rfl (by decide +kernel) (by decide +kernel) :)
def p_cst : (⟨S3, .f32⟩ : BufTy).Contents (Elt Ideal) := after pL V (Proc.devRef .tc main_cst)
theorem p_cst_in : p_cst V = V (Proc.devRef .tc main_cst) := Ssa.input p_hW V (by decide +kernel)
def p_v22 : (⟨S1x3, .f32⟩ : BufTy).Contents (Elt Ideal) := after pL V (Proc.devRef .tc main_v22)
theorem p_v22_eq : p_v22 V = broadcastInDim S1x3 ![1] bcast_S3_S1x3_1 (p_cst V) := (Ssa.unary p_hW V 9 rfl (by decide +kernel) (by decide +kernel) :)
def p_v23 : (⟨S3x3, .f32⟩ : BufTy).Contents (Elt Ideal) := after pL V (Proc.devRef .tc main_v23)
theorem p_v23_eq : p_v23 V = broadcastInDim S3x3 ![0, 1] bcast_S3x1_S3x3_0_1 (p_v21 V) := (Ssa.unary p_hW V 10 rfl (by decide +kernel) (by decide +kernel) :)
def p_v24 : (⟨S3x3, .f32⟩ : BufTy).Contents (Elt Ideal) := after pL V (Proc.devRef .tc main_v24)
theorem p_v24_eq : p_v24 V = broadcastInDim S3x3 ![0, 1] bcast_S1x3_S3x3_0_1 (p_v22 V) := (Ssa.unary p_hW V 11 rfl (by decide +kernel) (by decide +kernel) :)
def p_v25 : (⟨S3x3, .f32⟩ : BufTy).Contents (Elt Ideal) := after pL V (Proc.devRef .tc main_v25)
theorem p_v25_eq : p_v25 V = mulf (F := Ideal) (φ := .f32) (p_v23 V) (p_v24 V) := (Ssa.binary p_hW V 12 rfl (by decide +kernel) (by decide +kernel) (by decide +kernel) :)
def p_v26 : (⟨S9, .f32⟩ : BufTy).Contents (Elt Ideal) := after pL V (Proc.devRef .tc main_v26)
theorem p_v26_eq : p_v26 V = shapeCast S9 (p_v25 V) shapeCasts_S3x3_S9 := (Ssa.reshape p_hW V 13 rfl (by decide +kernel) (by decide +kernel) :)
def p_v27 : (⟨S3x1, .f32⟩ : BufTy).Contents (Elt Ideal) := after pL V (Proc.devRef .tc main_v27)
theorem p_v27_eq : p_v27 V = broadcastInDim S3x1 ![0] bcast_S3_S3x1_0 (p_v18 V) := (Ssa.unary p_hW V 14 rfl (by decide +kernel) (by decide +kernel) :)
def p_v28 : (⟨S1x3, .f32⟩ : BufTy).Contents (Elt Ideal) := after pL V (Proc.devRef .tc main_v28)
theorem p_v28_eq : p_v28 V = broadcastInDim S1x3 ![1] bcast_S3_S1x3_1 (p_cst V) := (Ssa.unary p_hW V 15 rfl (by decide +kernel) (by decide +kernel) :)
def p_v29 : (⟨S3x3, .f32⟩ : BufTy).Contents (Elt Ideal) := after pL V (Proc.devRef .tc main_v29)
theorem p_v29_eq : p_v29 V = broadcastInDim S3x3 ![0, 1] bcast_S3x1_S3x3_0_1 (p_v27 V) := (Ssa.unary p_hW V 16 rfl (by decide +kernel) (by decide +kernel) :)
def p_v30 : (⟨S3x3, .f32⟩ : BufTy).Contents (Elt Ideal) := after pL V (Proc.devRef .tc main_v30)
theorem p_v30_eq : p_v30 V = broadcastInDim S3x3 ![0, 1] bcast_S1x3_S3x3_0_1 (p_v28 V) := (Ssa.unary p_hW V 17 rfl (by decide +kernel) (by decide +kernel) :)
def p_v31 : (⟨S3x3, .f32⟩ : BufTy).Contents (Elt Ideal) := after pL V (Proc.devRef .tc main_v31)
theorem p_v31_eq : p_v31 V = mulf (F := Ideal) (φ := .f32) (p_v29 V) (p_v30 V) := (Ssa.binary p_hW V 18 rfl (by decide +kernel) (by decide +kernel) (by decide +kernel) :)
def p_v32 : (⟨S9, .f32⟩ : BufTy).Contents (Elt Ideal) := after pL V (Proc.devRef .tc main_v32)
theorem p_v32_eq : p_v32 V = shapeCast S9 (p_v31 V) shapeCasts_S3x3_S9 := (Ssa.reshape p_hW V 19 rfl (by decide +kernel) (by decide +kernel) :)
def p_v33 : (⟨S9, .f32⟩ : BufTy).Contents (Elt Ideal) := after pL V (Proc.devRef .tc main_v33)
theorem p_v33_eq : p_v33 V = Host.negf (F := Ideal) (φ := .f32) (p_v26 V) := (Ssa.unary p_hW V 20 rfl (by decide +kernel) (by decide +kernel) :)
def p_v34 : (⟨S9, .f32⟩ : BufTy).Contents (Elt Ideal) := after pL V (Proc.devRef .tc main_v34)
theorem p_v34_eq : p_v34 V = Host.negf (F := Ideal) (φ := .f32) (p_v32 V) := (Ssa.unary p_hW V 21 rfl (by decide +kernel) (by decide +kernel) :)
def p_v35 : (⟨S9x1, .f32⟩ : BufTy).Contents (Elt Ideal) := after pL V (Proc.devRef .tc main_v35)
theorem p_v35_eq : p_v35 V = broadcastInDim S9x1 ![0] bcast_S9_S9x1_0 (p_v33 V) := (Ssa.unary p_hW V 22 rfl (by decide +kernel) (by decide +kernel) :)
def p_v36 : (⟨S9x1, .f32⟩ : BufTy).Contents (Elt Ideal) := after pL V (Proc.devRef .tc main_v36)
theorem p_v36_eq : p_v36 V = broadcastInDim S9x1 ![0] bcast_S9_S9x1_0 (p_v34 V) := (Ssa.unary p_hW V 23 rfl (by decide +kernel) (by decide +kernel) :)
def p_v37 : (⟨S9x1, .f32⟩ : BufTy).Contents (Elt Ideal) := after pL V (Proc.devRef .tc main_v37)
theorem p_v37_eq : p_v37 V = broadcastInDim S9x1 ![0] bcast_S9_S9x1_0 (p_v26 V) := (Ssa.unary p_hW V 24 rfl (by decide +kernel) (by decide +kernel) :)
def p_v38 : (⟨S9x1, .f32⟩ : BufTy).Contents (Elt Ideal) := after pL V (Proc.devRef .tc main_v38)
theorem p_v38_eq : p_v38 V = broadcastInDim S9x1 ![0] bcast_S9_S9x1_0 (p_v32 V) := (Ssa.unary p_hW V 25 rfl (by decide +kernel) (by decide +kernel) :)
def p_v39 : (⟨S9x4, .f32⟩ : BufTy).Contents (Elt Ideal) := after pL V (Proc.devRef .tc main_v39)
theorem p_v39_eq : p_v39 V = concatenate S9x4 1 [⟨S9x1, (p_v35 V)⟩, ⟨S9x1, (p_v36 V)⟩, ⟨S9x1, (p_v37 V)⟩, ⟨S9x1, (p_v38 V)⟩] concatenates_S9x1_S9x1_S9x1_S9x1_S9x4_d1 := (Ssa.nary p_hW V 26 rfl (by decide +kernel) (by decide +kernel) :)
def p_cst_4 : (⟨S_, .f32⟩ : BufTy).Contents (Elt Ideal) := after pL V (Proc.devRef .tc main_cst_4)
theorem p_cst_4_eq : p_cst_4 V = constant (F := Ideal) S_ .f32 0x40000000#32 := (Ssa.nullary p_hW V 27 rfl (by decide +kernel) :)
def p_v40 : (⟨S9x4, .f32⟩ : BufTy).Contents (Elt Ideal) := after pL V (Proc.devRef .tc main_v40)
theorem p_v40_eq : p_v40 V = broadcastInDim S9x4 ![] bcast_S_S9x4 (p_cst_4 V) := (Ssa.unary p_hW V 28 rfl (by decide +kernel) (by decide +kernel) :)
def p_v41 : (⟨S9x4, .f32⟩ : BufTy).Contents (Elt Ideal) := after pL V (Proc.devRef .tc main_v41)
theorem p_v41_eq : p_v41 V = Host.divf (F := Ideal) (φ := .f32) (p_v39 V) (p_v40 V) := (Ssa.binary p_hW V 29 rfl (by decide +kernel) (by decide +kernel) (by decide +kernel) :)
def p_v42 : (⟨S9x4, .f32⟩ : BufTy).Contents (Elt Ideal) := after pL V (Proc.devRef .tc main_v42)
theorem p_v42_eq : p_v42 V = Host.roundeven (F := Ideal) (φ := .f32) (p_v41 V) := (Ssa.unary p_hW V 30 rfl (by decide +kernel) (by decide +kernel) :)
def p_v43 : (⟨S64, .f32⟩ : BufTy).Contents (Elt Ideal) := after pL V (Proc.devRef .tc main_v43)
theorem p_v43_eq : p_v43 V = sitofp (F := Ideal) .f32 (iotaInDim S64 32 0) := (Ssa.nullary p_hW V 31 rfl (by decide +kernel) :)
def p_cst_5 : (⟨S_, .f32⟩ : BufTy).Contents (Elt Ideal) := after pL V (Proc.devRef .tc main_cst_5)
theorem p_cst_5_eq : p_cst_5 V = constant (F := Ideal) S_ .f32 0x41000000#32 := (Ssa.nullary p_hW V 32 rfl (by decide +kernel) :)
def p_v44 : (⟨S64, .f32⟩ : BufTy).Contents (Elt Ideal) := after pL V (Proc.devRef .tc main_v44)
theorem p_v44_eq : p_v44 V = broadcastInDim S64 ![] bcast_S_S64 (p_cst_5 V) := (Ssa.unary p_hW V 33 rfl (by decide +kernel) (by decide +kernel) :)
def p_v45 : (⟨S64, .f32⟩ : BufTy).Contents (Elt Ideal) := after pL V (Proc.devRef .tc main_v45)
theorem p_v45_eq : p_v45 V = mulf (F := Ideal) (φ := .f32) (p_v43 V) (p_v44 V) := (Ssa.binary p_hW V 34 rfl (by decide +kernel) (by decide +kernel) (by decide +kernel) :)
def p_v46 : (⟨S64, .f32⟩ : BufTy).Contents (Elt Ideal) := after pL V (Proc.devRef .tc main_v46)
theorem p_v46_eq : p_v46 V = sitofp (F := Ideal) .f32 (iotaInDim S64 32 0) := (Ssa.nullary p_hW V 35 rfl (by decide +kernel) :)
def p_cst_6 : (⟨S_, .f32⟩ : BufTy).Contents (Elt Ideal) := after pL V (Proc.devRef .tc main_cst_6)
theorem p_cst_6_eq : p_cst_6 V = constant (F := Ideal) S_ .f32 0x41000000#32 := (Ssa.nullary p_hW V 36 rfl (by decide +kernel) :)
def p_v47 : (⟨S64, .f32⟩ : BufTy).Contents (Elt Ideal) := after pL V (Proc.devRef .tc main_v47)
theorem p_v47_eq : p_v47 V = broadcastInDim S64 ![] bcast_S_S64 (p_cst_6 V) := (Ssa.unary p_hW V 37 rfl (by decide +kernel) (by decide +kernel) :)
def p_v48 : (⟨S64, .f32⟩ : BufTy).Contents (Elt Ideal) := after pL V (Proc.devRef .tc main_v48)
theorem p_v48_eq : p_v48 V = mulf (F := Ideal) (φ := .f32) (p_v46 V) (p_v47 V) := (Ssa.binary p_hW V 38 rfl (by decide +kernel) (by decide +kernel) (by decide +kernel) :)
def p_v49 : (⟨S64x64, .f32⟩ : BufTy).Contents (Elt Ideal) := after pL V (Proc.devRef .tc main_v49)
theorem p_v49_eq : p_v49 V = broadcastInDim S64x64 ![0] bcast_S64_S64x64_0 (p_v48 V) := (Ssa.unary p_hW V 39 rfl (by decide +kernel) (by decide +kernel) :)
def p_v50 : (⟨S64x64, .f32⟩ : BufTy).Contents (Elt Ideal) := after pL V (Proc.devRef .tc main_v50)
theorem p_v50_eq : p_v50 V = broadcastInDim S64x64 ![1] bcast_S64_S64x64_1 (p_v45 V) := (Ssa.unary p_hW V 40 rfl (by decide +kernel) (by decide +kernel) :)
def p_v51 : (⟨S4096, .f32⟩ : BufTy).Contents (Elt Ideal) := after pL V (Proc.devRef .tc main_v51)
theorem p_v51_eq : p_v51 V = shapeCast S4096 (p_v50 V) shapeCasts_S64x64_S4096 := (Ssa.reshape p_hW V 41 rfl (by decide +kernel) (by decide +kernel) :)
def p_v52 : (⟨S4096, .f32⟩ : BufTy).Contents (Elt Ideal) := after pL V (Proc.devRef .tc main_v52)
theorem p_v52_eq : p_v52 V = shapeCast S4096 (p_v49 V) shapeCasts_S64x64_S4096 := (Ssa.reshape p_hW V 42 rfl (by decide +kernel) (by decide +kernel) :)
def p_v53 : (⟨S4096, .f32⟩ : BufTy).Contents (Elt Ideal) := after pL V (Proc.devRef .tc main_v53)
theorem p_v53_eq : p_v53 V = shapeCast S4096 (p_v50 V) shapeCasts_S64x64_S4096 := (Ssa.reshape p_hW V 43 rfl (by decide +kernel) (by decide +kernel) :)
def p_v54 : (⟨S4096, .f32⟩ : BufTy).Contents (Elt Ideal) := after pL V (Proc.devRef .tc main_v54)
theorem p_v54_eq : p_v54 V = shapeCast S4096 (p_v49 V) shapeCasts_S64x64_S4096 := (Ssa.reshape p_hW V 44 rfl (by decide +kernel) (by decide +kernel) :)
def p_v55 : (⟨S4096x1, .f32⟩ : BufTy).Contents (Elt Ideal) := after pL V (Proc.devRef .tc main_v55)
theorem p_v55_eq : p_v55 V = broadcastInDim S4096x1 ![0] bcast_S4096_S4096x1_0 (p_v51 V) := (Ssa.unary p_hW V 45 rfl (by decide +kernel) (by decide +kernel) :)
def p_v56 : (⟨S4096x1, .f32⟩ : BufTy).Contents (Elt Ideal) := after pL V (Proc.devRef .tc main_v56)
theorem p_v56_eq : p_v56 V = broadcastInDim S4096x1 ![0] bcast_S4096_S4096x1_0 (p_v52 V) := (Ssa.unary p_hW V 46 rfl (by decide +kernel) (by decide +kernel) :)
def p_v57 : (⟨S4096x1, .f32⟩ : BufTy).Contents (Elt Ideal) := after pL V (Proc.devRef .tc main_v57)
theorem p_v57_eq : p_v57 V = broadcastInDim S4096x1 ![0] bcast_S4096_S4096x1_0 (p_v53 V) := (Ssa.unary p_hW V 47 rfl (by decide +kernel) (by decide +kernel) :)
def p_v58 : (⟨S4096x1, .f32⟩ : BufTy).Contents (Elt Ideal) := after pL V (Proc.devRef .tc main_v58)
theorem p_v58_eq : p_v58 V = broadcastInDim S4096x1 ![0] bcast_S4096_S4096x1_0 (p_v54 V) := (Ssa.unary p_hW V 48 rfl (by decide +kernel) (by decide +kernel) :)
def p_v59 : (⟨S4096x4, .f32⟩ : BufTy).Contents (Elt Ideal) := after pL V (Proc.devRef .tc main_v59)
theorem p_v59_eq : p_v59 V = concatenate S4096x4 1 [⟨S4096x1, (p_v55 V)⟩, ⟨S4096x1, (p_v56 V)⟩, ⟨S4096x1, (p_v57 V)⟩, ⟨S4096x1, (p_v58 V)⟩] concatenates_S4096x1_S4096x1_S4096x1_S4096x1_S4096x4_d1 := (Ssa.nary p_hW V 49 rfl (by decide +kernel) (by decide +kernel) :)
def p_v60 : (⟨S4096x1x4, .f32⟩ : BufTy).Contents (Elt Ideal) := after pL V (Proc.devRef .tc main_v60)
theorem p_v60_eq : p_v60 V = broadcastInDim S4096x1x4 ![0, 2] bcast_S4096x4_S4096x1x4_0_2 (p_v59 V) := (Ssa.unary p_hW V 50 rfl (by decide +kernel) (by decide +kernel) :)
def p_v61 : (⟨S1x9x4, .f32⟩ : BufTy).Contents (Elt Ideal) := after pL V (Proc.devRef .tc main_v61)
theorem p_v61_eq : p_v61 V = broadcastInDim S1x9x4 ![1, 2] bcast_S9x4_S1x9x4_1_2 (p_v42 V) := (Ssa.unary p_hW V 51 rfl (by decide +kernel) (by decide +kernel) :)
def p_v62 : (⟨S4096x9x4, .f32⟩ : BufTy).Contents (Elt Ideal) := after pL V (Proc.devRef .tc main_v62)
theorem p_v62_eq : p_v62 V = broadcastInDim S4096x9x4 ![0, 1, 2] bcast_S4096x1x4_S4096x9x4_0_1_2 (p_v60 V) := (Ssa.unary p_hW V 52 rfl (by decide +kernel) (by decide +kernel) :)
def p_v63 : (⟨S4096x9x4, .f32⟩ : BufTy).Contents (Elt Ideal) := after pL V (Proc.devRef .tc main_v63)
theorem p_v63_eq : p_v63 V = broadcastInDim S4096x9x4 ![0, 1, 2] bcast_S1x9x4_S4096x9x4_0_1_2 (p_v61 V) := (Ssa.unary p_hW V 53 rfl (by decide +kernel) (by decide +kernel) :)
def p_v64 : (⟨S4096x9x4, .f32⟩ : BufTy).Contents (Elt Ideal) := after pL V (Proc.devRef .tc main_v64)
theorem p_v64_eq : p_v64 V = addf (F := Ideal) (φ := .f32) (p_v62 V) (p_v63 V) := (Ssa.binary p_hW V 54 rfl (by decide +kernel) (by decide +kernel) (by decide +kernel) :)
def p_v65 : (⟨S36864x4, .f32⟩ : BufTy).Contents (Elt Ideal) := after pL V (Proc.devRef .tc main_v65)
theorem p_v65_eq : p_v65 V = shapeCast S36864x4 (p_v64 V) shapeCasts_S4096x9x4_S36864x4 := (Ssa.reshape p_hW V 55 rfl (by decide +kernel) (by decide +kernel) :)
def p_v66 : (⟨S36864x1, .f32⟩ : BufTy).Contents (Elt Ideal) := after pL V (Proc.devRef .tc main_v66)
theorem p_v66_eq : p_v66 V = extractStridedSlice S36864x1 ![0, 2] (p_v65 V) slices_S36864x4_S36864x1_0_2 := (Ssa.unary p_hW V 56 rfl (by decide +kernel) (by decide +kernel) :)
def p_v67 : (⟨S36864, .f32⟩ : BufTy).Contents (Elt Ideal) := after pL V (Proc.devRef .tc main_v67)
theorem p_v67_eq : p_v67 V = shapeCast S36864 (p_v66 V) shapeCasts_S36864x1_S36864 := (Ssa.reshape p_hW V 57 rfl (by decide +kernel) (by decide +kernel) :)
def p_v68 : (⟨S36864x1, .f32⟩ : BufTy).Contents (Elt Ideal) := after pL V (Proc.devRef .tc main_v68)
theorem p_v68_eq : p_v68 V = extractStridedSlice S36864x1 ![0, 0] (p_v65 V) slices_S36864x4_S36864x1_0_0 := (Ssa.unary p_hW V 58 rfl (by decide +kernel) (by decide +kernel) :)
def p_v69 : (⟨S36864, .f32⟩ : BufTy).Contents (Elt Ideal) := after pL V (Proc.devRef .tc main_v69)
theorem p_v69_eq : p_v69 V = shapeCast S36864 (p_v68 V) shapeCasts_S36864x1_S36864 := (Ssa.reshape p_hW V 59 rfl (by decide +kernel) (by decide +kernel) :)
def p_v70 : (⟨S36864, .f32⟩ : BufTy).Contents (Elt Ideal) := after pL V (Proc.devRef .tc main_v70)
theorem p_v70_eq : p_v70 V = subf (F := Ideal) (φ := .f32) (p_v67 V) (p_v69 V) := (Ssa.binary p_hW V 60 rfl (by decide +kernel) (by decide +kernel) (by decide +kernel) :)
def p_v71 : (⟨S36864x1, .f32⟩ : BufTy).Contents (Elt Ideal) := after pL V (Proc.devRef .tc main_v71)
theorem p_v71_eq : p_v71 V = extractStridedSlice S36864x1 ![0, 3] (p_v65 V) slices_S36864x4_S36864x1_0_3 := (Ssa.unary p_hW V 61 rfl (by decide +kernel) (by decide +kernel) :)
def p_v72 : (⟨S36864, .f32⟩ : BufTy).Contents (Elt Ideal) := after pL V (Proc.devRef .tc main_v72)
theorem p_v72_eq : p_v72 V = shapeCast S36864 (p_v71 V) shapeCasts_S36864x1_S36864 := (Ssa.reshape p_hW V 62 rfl (by decide +kernel) (by decide +kernel) :)
def p_v73 : (⟨S36864x1, .f32⟩ : BufTy).Contents (Elt Ideal) := after pL V (Proc.devRef .tc main_v73)
theorem p_v73_eq : p_v73 V = extractStridedSlice S36864x1 ![0, 1] (p_v65 V) slices_S36864x4_S36864x1_0_1 := (Ssa.unary p_hW V 63 rfl (by decide +kernel) (by decide +kernel) :)
def p_v74 : (⟨S36864, .f32⟩ : BufTy).Contents (Elt Ideal) := after pL V (Proc.devRef .tc main_v74)
theorem p_v74_eq : p_v74 V = shapeCast S36864 (p_v73 V) shapeCasts_S36864x1_S36864 := (Ssa.reshape p_hW V 64 rfl (by decide +kernel) (by decide +kernel) :)
def p_v75 : (⟨S36864, .f32⟩ : BufTy).Contents (Elt Ideal) := after pL V (Proc.devRef .tc main_v75)
theorem p_v75_eq : p_v75 V = subf (F := Ideal) (φ := .f32) (p_v72 V) (p_v74 V) := (Ssa.binary p_hW V 65 rfl (by decide +kernel) (by decide +kernel) (by decide +kernel) :)
def p_v76 : (⟨S36864x1, .f32⟩ : BufTy).Contents (Elt Ideal) := after pL V (Proc.devRef .tc main_v76)
theorem p_v76_eq : p_v76 V = extractStridedSlice S36864x1 ![0, 0] (p_v65 V) slices_S36864x4_S36864x1_0_0 := (Ssa.unary p_hW V 66 rfl (by decide +kernel) (by decide +kernel) :)
def p_v77 : (⟨S36864, .f32⟩ : BufTy).Contents (Elt Ideal) := after pL V (Proc.devRef .tc main_v77)
theorem p_v77_eq : p_v77 V = shapeCast S36864 (p_v76 V) shapeCasts_S36864x1_S36864 := (Ssa.reshape p_hW V 67 rfl (by decide +kernel) (by decide +kernel) :)
def p_cst_7 : (⟨S_, .f32⟩ : BufTy).Contents (Elt Ideal) := after pL V (Proc.devRef .tc main_cst_7)
theorem p_cst_7_eq : p_cst_7 V = constant (F := Ideal) S_ .f32 0x3F000000#32 := (Ssa.nullary p_hW V 68 rfl (by decide +kernel) :)
def p_v78 : (⟨S36864, .f32⟩ : BufTy).Contents (Elt Ideal) := after pL V (Proc.devRef .tc main_v78)
theorem p_v78_eq : p_v78 V = broadcastInDim S36864 ![] bcast_S_S36864 (p_cst_7 V) := (Ssa.unary p_hW V 69 rfl (by decide +kernel) (by decide +kernel) :)
def p_v79 : (⟨S36864, .f32⟩ : BufTy).Contents (Elt Ideal) := after pL V (Proc.devRef .tc main_v79)
theorem p_v79_eq : p_v79 V = mulf (F := Ideal) (φ := .f32) (p_v78 V) (p_v70 V) := (Ssa.binary p_hW V 70 rfl (by decide +kernel) (by decide +kernel) (by decide +kernel) :)
def p_v80 : (⟨S36864, .f32⟩ : BufTy).Contents (Elt Ideal) := after pL V (Proc.devRef .tc main_v80)
theorem p_v80_eq : p_v80 V = addf (F := Ideal) (φ := .f32) (p_v77 V) (p_v79 V) := (Ssa.binary p_hW V 71 rfl (by decide +kernel) (by decide +kernel) (by decide +kernel) :)
def p_v81 : (⟨S36864x1, .f32⟩ : BufTy).Contents (Elt Ideal) := after pL V (Proc.devRef .tc main_v81)
theorem p_v81_eq : p_v81 V = extractStridedSlice S36864x1 ![0, 1] (p_v65 V) slices_S36864x4_S36864x1_0_1 := (Ssa.unary p_hW V 72 rfl (by decide +kernel) (by decide +kernel) :)
def p_v82 : (⟨S36864, .f32⟩ : BufTy).Contents (Elt Ideal) := after pL V (Proc.devRef .tc main_v82)
theorem p_v82_eq : p_v82 V = shapeCast S36864 (p_v81 V) shapeCasts_S36864x1_S36864 := (Ssa.reshape p_hW V 73 rfl (by decide +kernel) (by decide +kernel) :)
def p_cst_8 : (⟨S_, .f32⟩ : BufTy).Contents (Elt Ideal) := after pL V (Proc.devRef .tc main_cst_8)
theorem p_cst_8_eq : p_cst_8 V = constant (F := Ideal) S_ .f32 0x3F000000#32 := (Ssa.nullary p_hW V 74 rfl (by decide +kernel) :)
def p_v83 : (⟨S36864, .f32⟩ : BufTy).Contents (Elt Ideal) := after pL V (Proc.devRef .tc main_v83)
theorem p_v83_eq : p_v83 V = broadcastInDim S36864 ![] bcast_S_S36864 (p_cst_8 V) := (Ssa.unary p_hW V 75 rfl (by decide +kernel) (by decide +kernel) :)
def p_v84 : (⟨S36864, .f32⟩ : BufTy).Contents (Elt Ideal) := after pL V (Proc.devRef .tc main_v84)
theorem p_v84_eq : p_v84 V = mulf (F := Ideal) (φ := .f32) (p_v83 V) (p_v75 V) := (Ssa.binary p_hW V 76 rfl (by decide +kernel) (by decide +kernel) (by decide +kernel) :)
def p_v85 : (⟨S36864, .f32⟩ : BufTy).Contents (Elt Ideal) := after pL V (Proc.devRef .tc main_v85)
theorem p_v85_eq : p_v85 V = addf (F := Ideal) (φ := .f32) (p_v82 V) (p_v84 V) := (Ssa.binary p_hW V 77 rfl (by decide +kernel) (by decide +kernel) (by decide +kernel) :)
def p_v86 : (⟨S2x36864x1, .f32⟩ : BufTy).Contents (Elt Ideal) := after pL V (Proc.devRef .tc main_v86)
theorem p_v86_eq : p_v86 V = extractStridedSlice S2x36864x1 ![0, 0, 0] (p_v17 V) slices_S2x36864x4_S2x36864x1_0_0_0 := (Ssa.unary p_hW V 78 rfl (by decide +kernel) (by decide +kernel) :)
def p_v87 : (⟨S2x36864, .f32⟩ : BufTy).Contents (Elt Ideal) := after pL V (Proc.devRef .tc main_v87)
theorem p_v87_eq : p_v87 V = shapeCast S2x36864 (p_v86 V) shapeCasts_S2x36864x1_S2x36864 := (Ssa.reshape p_hW V 79 rfl (by decide +kernel) (by decide +kernel) :)
def p_v88 : (⟨S2x36864x1, .f32⟩ : BufTy).Contents (Elt Ideal) := after pL V (Proc.devRef .tc main_v88)
theorem p_v88_eq : p_v88 V = extractStridedSlice S2x36864x1 ![0, 0, 1] (p_v17 V) slices_S2x36864x4_S2x36864x1_0_0_1 := (Ssa.unary p_hW V 80 rfl (by decide +kernel) (by decide +kernel) :)
def p_v89 : (⟨S2x36864, .f32⟩ : BufTy).Contents (Elt Ideal) := after pL V (Proc.devRef .tc main_v89)
theorem p_v89_eq : p_v89 V = shapeCast S2x36864 (p_v88 V) shapeCasts_S2x36864x1_S2x36864 := (Ssa.reshape p_hW V 81 rfl (by decide +kernel) (by decide +kernel) :)
def p_v90 : (⟨S2x36864x1, .f32⟩ : BufTy).Contents (Elt Ideal) := after pL V (Proc.devRef .tc main_v90)
theorem p_v90_eq : p_v90 V = extractStridedSlice S2x36864x1 ![0, 0, 2] (p_v17 V) slices_S2x36864x4_S2x36864x1_0_0_2 := (Ssa.unary p_hW V 82 rfl (by decide +kernel) (by decide +kernel) :)
def p_v91 : (⟨S2x36864, .f32⟩ : BufTy).Contents (Elt Ideal) := after pL V (Proc.devRef .tc main_v91)
theorem p_v91_eq : p_v91 V = shapeCast S2x36864 (p_v90 V) shapeCasts_S2x36864x1_S2x36864 := (Ssa.reshape p_hW V 83 rfl (by decide +kernel) (by decide +kernel) :)
def p_cst_9 : (⟨S_, .f32⟩ : BufTy).Contents (Elt Ideal) := after pL V (Proc.devRef .tc main_cst_9)
theorem p_cst_9_eq : p_cst_9 V = constant (F := Ideal) S_ .f32 0x40845349#32 := (Ssa.nullary p_hW V 84 rfl (by decide +kernel) :)
def p_v92 : (⟨S2x36864, .f32⟩ : BufTy).Contents (Elt Ideal) := after pL V (Proc.devRef .tc main_v92)
theorem p_v92_eq : p_v92 V = broadcastInDim S2x36864 ![] bcast_S_S2x36864 (p_cst_9 V) := (Ssa.unary p_hW V 85 rfl (by decide +kernel) (by decide +kernel) :)
def p_v93 : (⟨S2x36864, .f32⟩ : BufTy).Contents (Elt Ideal) := after pL V (Proc.devRef .tc main_v93)
theorem p_v93_eq : p_v93 V = minimumf (F := Ideal) (φ := .f32) (p_v91 V) (p_v92 V) := (Ssa.binary p_hW V 86 rfl (by decide +kernel) (by decide +kernel) (by decide +kernel) :)
def p_v94 : (⟨S2x36864x1, .f32⟩ : BufTy).Contents (Elt Ideal) := after pL V (Proc.devRef .tc main_v94)
theorem p_v94_eq : p_v94 V = extractStridedSlice S2x36864x1 ![0, 0, 3] (p_v17 V) slices_S2x36864x4_S2x36864x1_0_0_3 := (Ssa.unary p_hW V 87 rfl (by decide +kernel) (by decide +kernel) :)
def p_v95 : (⟨S2x36864, .f32⟩ : BufTy).Contents (Elt Ideal) := after pL V (Proc.devRef .tc main_v95)
theorem p_v95_eq : p_v95 V = shapeCast S2x36864 (p_v94 V) shapeCasts_S2x36864x1_S2x36864 := (Ssa.reshape p_hW V 88 rfl (by decide +kernel) (by decide +kernel) :)
def p_cst_10 : (⟨S_, .f32⟩ : BufTy).Contents (Elt Ideal) := after pL V (Proc.devRef .tc main_cst_10)
theorem p_cst_10_eq : p_cst_10 V = constant (F := Ideal) S_ .f32 0x40845349#32 := (Ssa.nullary p_hW V 89 rfl (by decide +kernel) :)
def p_v96 : (⟨S2x36864, .f32⟩ : BufTy).Contents (Elt Ideal) := after pL V (Proc.devRef .tc main_v96)
theorem p_v96_eq : p_v96 V = broadcastInDim S2x36864 ![] bcast_S_S2x36864 (p_cst_10 V) := (Ssa.unary p_hW V 90 rfl (by decide +kernel) (by decide +kernel) :)
def p_v97 : (⟨S2x36864, .f32⟩ : BufTy).Contents (Elt Ideal) := after pL V (Proc.devRef .tc main_v97)
theorem p_v97_eq : p_v97 V = minimumf (F := Ideal) (φ := .f32) (p_v95 V) (p_v96 V) := (Ssa.binary p_hW V 91 rfl (by decide +kernel) (by decide +kernel) (by decide +kernel) :)
def p_v98 : (⟨S1x36864, .f32⟩ : BufTy).Contents (Elt Ideal) := after pL V (Proc.devRef .tc main_v98)
theorem p_v98_eq : p_v98 V = broadcastInDim S1x36864 ![1] bcast_S36864_S1x36864_1 (p_v70 V) := (Ssa.unary p_hW V 92 rfl (by decide +kernel) (by decide +kernel) :)
def p_v99 : (⟨S2x36864, .f32⟩ : BufTy).Contents (Elt Ideal) := after pL V (Proc.devRef .tc main_v99)
theorem p_v99_eq : p_v99 V = broadcastInDim S2x36864 ![0, 1] bcast_S1x36864_S2x36864_0_1 (p_v98 V) := (Ssa.unary p_hW V 93 rfl (by decide +kernel) (by decide +kernel) :)
def p_v100 : (⟨S2x36864, .f32⟩ : BufTy).Contents (Elt Ideal) := after pL V (Proc.devRef .tc main_v100)
theorem p_v100_eq : p_v100 V = mulf (F := Ideal) (φ := .f32) (p_v87 V) (p_v99 V) := (Ssa.binary p_hW V 94 rfl (by decide +kernel) (by decide +kernel) (by decide +kernel) :)
def p_v101 : (⟨S1x36864, .f32⟩ : BufTy).Contents (Elt Ideal) := after pL V (Proc.devRef .tc main_v101)
theorem p_v101_eq : p_v101 V = broadcastInDim S1x36864 ![1] bcast_S36864_S1x36864_1 (p_v80 V) := (Ssa.unary p_hW V 95 rfl (by decide +kernel) (by decide +kernel) :)
def p_v102 : (⟨S2x36864, .f32⟩ : BufTy).Contents (Elt Ideal) := after pL V (Proc.devRef .tc main_v102)
theorem p_v102_eq : p_v102 V = broadcastInDim S2x36864 ![0, 1] bcast_S1x36864_S2x36864_0_1 (p_v101 V) := (Ssa.unary p_hW V 96 rfl (by decide +kernel) (by decide +kernel) :)
def p_v103 : (⟨S2x36864, .f32⟩ : BufTy).Contents (Elt Ideal) := after pL V (Proc.devRef .tc main_v103)
theorem p_v103_eq : p_v103 V = addf (F := Ideal) (φ := .f32) (p_v100 V) (p_v102 V) := (Ssa.binary p_hW V 97 rfl (by decide +kernel) (by decide +kernel) (by decide +kernel) :)
def p_v104 : (⟨S1x36864, .f32⟩ : BufTy).Contents (Elt Ideal) := after pL V (Proc.devRef .tc main_v104)
theorem p_v104_eq : p_v104 V = broadcastInDim S1x36864 ![1] bcast_S36864_S1x36864_1 (p_v75 V) := (Ssa.unary p_hW V 98 rfl (by decide +kernel) (by decide +kernel) :)
def p_v105 : (⟨S2x36864, .f32⟩ : BufTy).Contents (Elt Ideal) := after pL V (Proc.devRef .tc main_v105)
theorem p_v105_eq : p_v105 V = broadcastInDim S2x36864 ![0, 1] bcast_S1x36864_S2x36864_0_1 (p_v104 V) := (Ssa.unary p_hW V 99 rfl (by decide +kernel) (by decide +kernel) :)
def p_v106 : (⟨S2x36864, .f32⟩ : BufTy).Contents (Elt Ideal) := after pL V (Proc.devRef .tc main_v106)
theorem p_v106_eq : p_v106 V = mulf (F := Ideal) (φ := .f32) (p_v89 V) (p_v105 V) := (Ssa.binary p_hW V 100 rfl (by decide +kernel) (by decide +kernel) (by decide +kernel) :)
def p_v107 : (⟨S1x36864, .f32⟩ : BufTy).Contents (Elt Ideal) := after pL V (Proc.devRef .tc main_v107)
theorem p_v107_eq : p_v107 V = broadcastInDim S1x36864 ![1] bcast_S36864_S1x36864_1 (p_v85 V) := (Ssa.unary p_hW V 101 rfl (by decide +kernel) (by decide +kernel) :)
def p_v108 : (⟨S2x36864, .f32⟩ : BufTy).Contents (Elt Ideal) := after pL V (Proc.devRef .tc main_v108)
theorem p_v108_eq : p_v108 V = broadcastInDim S2x36864 ![0, 1] bcast_S1x36864_S2x36864_0_1 (p_v107 V) := (Ssa.unary p_hW V 102 rfl (by decide +kernel) (by decide +kernel) :)
def p_v109 : (⟨S2x36864, .f32⟩ : BufTy).Contents (Elt Ideal) := after pL V (Proc.devRef .tc main_v109)
theorem p_v109_eq : p_v109 V = addf (F := Ideal) (φ := .f32) (p_v106 V) (p_v108 V) := (Ssa.binary p_hW V 103 rfl (by decide +kernel) (by decide +kernel) (by decide +kernel) :)
def p_v110 : (⟨S2x36864, .f32⟩ : BufTy).Contents (Elt Ideal) := after pL V (Proc.devRef .tc main_v110)
theorem p_v110_eq : p_v110 V = Host.exp (F := Ideal) (φ := .f32) (p_v93 V) := (Ssa.unary p_hW V 104 rfl (by decide +kernel) (by decide +kernel) :)
def p_v111 : (⟨S1x36864, .f32⟩ : BufTy).Contents (Elt Ideal) := after pL V (Proc.devRef .tc main_v111)
theorem p_v111_eq : p_v111 V = broadcastInDim S1x36864 ![1] bcast_S36864_S1x36864_1 (p_v70 V) := (Ssa.unary p_hW V 105 rfl (by decide +kernel) (by decide +kernel) :)
def p_v112 : (⟨S2x36864, .f32⟩ : BufTy).Contents (Elt Ideal) := after pL V (Proc.devRef .tc main_v112)
theorem p_v112_eq : p_v112 V = broadcastInDim S2x36864 ![0, 1] bcast_S1x36864_S2x36864_0_1 (p_v111 V) := (Ssa.unary p_hW V 106 rfl (by decide +kernel) (by decide +kernel) :)
def p_v113 : (⟨S2x36864, .f32⟩ : BufTy).Contents (Elt Ideal) := after pL V (Proc.devRef .tc main_v113)
theorem p_v113_eq : p_v113 V = mulf (F := Ideal) (φ := .f32) (p_v110 V) (p_v112 V) := (Ssa.binary p_hW V 107 rfl (by decide +kernel) (by decide +kernel) (by decide +kernel) :)
def p_v114 : (⟨S2x36864, .f32⟩ : BufTy).Contents (Elt Ideal) := after pL V (Proc.devRef .tc main_v114)
theorem p_v114_eq : p_v114 V = Host.exp (F := Ideal) (φ := .f32) (p_v97 V) := (Ssa.unary p_hW V 108 rfl (by decide +kernel) (by decide +kernel) :)
def p_v115 : (⟨S1x36864, .f32⟩ : BufTy).Contents (Elt Ideal) := after pL V (Proc.devRef .tc main_v115)
theorem p_v115_eq : p_v115 V = broadcastInDim S1x36864 ![1] bcast_S36864_S1x36864_1 (p_v75 V) := (Ssa.unary p_hW V 109 rfl (by decide +kernel) (by decide +kernel) :)
def p_v116 : (⟨S2x36864, .f32⟩ : BufTy).Contents (Elt Ideal) := after pL V (Proc.devRef .tc main_v116)
theorem p_v116_eq : p_v116 V = broadcastInDim S2x36864 ![0, 1] bcast_S1x36864_S2x36864_0_1 (p_v115 V) := (Ssa.unary p_hW V 110 rfl (by decide +kernel) (by decide +kernel) :)
def p_v117 : (⟨S2x36864, .f32⟩ : BufTy).Contents (Elt Ideal) := after pL V (Proc.devRef .tc main_v117)
theorem p_v117_eq : p_v117 V = mulf (F := Ideal) (φ := .f32) (p_v114 V) (p_v116 V) := (Ssa.binary p_hW V 111 rfl (by decide +kernel) (by decide +kernel) (by decide +kernel) :)
def p_cst_11 : (⟨S_, .f32⟩ : BufTy).Contents (Elt Ideal) := after pL V (Proc.devRef .tc main_cst_11)
theorem p_cst_11_eq : p_cst_11 V = constant (F := Ideal) S_ .f32 0x3F000000#32 := (Ssa.nullary p_hW V 112 rfl (by decide +kernel) :)
def p_v118 : (⟨S2x36864, .f32⟩ : BufTy).Contents (Elt Ideal) := after pL V (Proc.devRef .tc main_v118)
theorem p_v118_eq : p_v118 V = broadcastInDim S2x36864 ![] bcast_S_S2x36864 (p_cst_11 V) := (Ssa.unary p_hW V 113 rfl (by decide +kernel) (by decide +kernel) :)
def p_v119 : (⟨S2x36864, .f32⟩ : BufTy).Contents (Elt Ideal) := after pL V (Proc.devRef .tc main_v119)
theorem p_v119_eq : p_v119 V = mulf (F := Ideal) (φ := .f32) (p_v118 V) (p_v113 V) := (Ssa.binary p_hW V 114 rfl (by decide +kernel) (by decide +kernel) (by decide +kernel) :)
def p_v120 : (⟨S2x36864, .f32⟩ : BufTy).Contents (Elt Ideal) := after pL V (Proc.devRef .tc main_v120)
theorem p_v120_eq : p_v120 V = subf (F := Ideal) (φ := .f32) (p_v103 V) (p_v119 V) := (Ssa.binary p_hW V 115 rfl (by decide +kernel) (by decide +kernel) (by decide +kernel) :)
def p_cst_12 : (⟨S_, .f32⟩ : BufTy).Contents (Elt Ideal) := after pL V (Proc.devRef .tc main_cst_12)
theorem p_cst_12_eq : p_cst_12 V = constant (F := Ideal) S_ .f32 0x3F000000#32 := (Ssa.nullary p_hW V 116 rfl (by decide +kernel) :)
def p_v121 : (⟨S2x36864, .f32⟩ : BufTy).Contents (Elt Ideal) := after pL V (Proc.devRef .tc main_v121)
theorem p_v121_eq : p_v121 V = broadcastInDim S2x36864 ![] bcast_S_S2x36864 (p_cst_12 V) := (Ssa.unary p_hW V 117 rfl (by decide +kernel) (by decide +kernel) :)
def p_v122 : (⟨S2x36864, .f32⟩ : BufTy).Contents (Elt Ideal) := after pL V (Proc.devRef .tc main_v122)
theorem p_v122_eq : p_v122 V = mulf (F := Ideal) (φ := .f32) (p_v121 V) (p_v117 V) := (Ssa.binary p_hW V 118 rfl (by decide +kernel) (by decide +kernel) (by decide +kernel) :)
def p_v123 : (⟨S2x36864, .f32⟩ : BufTy).Contents (Elt Ideal) := after pL V (Proc.devRef .tc main_v123)
theorem p_v123_eq : p_v123 V = subf (F := Ideal) (φ := .f32) (p_v109 V) (p_v122 V) := (Ssa.binary p_hW V 119 rfl (by decide +kernel) (by decide +kernel) (by decide +kernel) :)
def p_cst_13 : (⟨S_, .f32⟩ : BufTy).Contents (Elt Ideal) := after pL V (Proc.devRef .tc main_cst_13)
theorem p_cst_13_eq : p_cst_13 V = constant (F := Ideal) S_ .f32 0x3F000000#32 := (Ssa.nullary p_hW V 120 rfl (by decide +kernel) :)
def p_v124 : (⟨S2x36864, .f32⟩ : BufTy).Contents (Elt Ideal) := after pL V (Proc.devRef .tc main_v124)
theorem p_v124_eq : p_v124 V = broadcastInDim S2x36864 ![] bcast_S_S2x36864 (p_cst_13 V) := (Ssa.unary p_hW V 121 rfl (by decide +kernel) (by decide +kernel) :)
def p_v125 : (⟨S2x36864, .f32⟩ : BufTy).Contents (Elt Ideal) := after pL V (Proc.devRef .tc main_v125)
theorem p_v125_eq : p_v125 V = mulf (F := Ideal) (φ := .f32) (p_v124 V) (p_v113 V) := (Ssa.binary p_hW V 122 rfl (by decide +kernel) (by decide +kernel) (by decide +kernel) :)
def p_v126 : (⟨S2x36864, .f32⟩ : BufTy).Contents (Elt Ideal) := after pL V (Proc.devRef .tc main_v126)
theorem p_v126_eq : p_v126 V = addf (F := Ideal) (φ := .f32) (p_v103 V) (p_v125 V) := (Ssa.binary p_hW V 123 rfl (by decide +kernel) (by decide +kernel) (by decide +kernel) :)
def p_cst_14 : (⟨S_, .f32⟩ : BufTy).Contents (Elt Ideal) := after pL V (Proc.devRef .tc main_cst_14)
theorem p_cst_14_eq : p_cst_14 V = constant (F := Ideal) S_ .f32 0x3F000000#32 := (Ssa.nullary p_hW V 124 rfl (by decide +kernel) :)
def p_v127 : (⟨S2x36864, .f32⟩ : BufTy).Contents (Elt Ideal) := after pL V (Proc.devRef .tc main_v127)
theorem p_v127_eq : p_v127 V = broadcastInDim S2x36864 ![] bcast_S_S2x36864 (p_cst_14 V) := (Ssa.unary p_hW V 125 rfl (by decide +kernel) (by decide +kernel) :)
def p_v128 : (⟨S2x36864, .f32⟩ : BufTy).Contents (Elt Ideal) := after pL V (Proc.devRef .tc main_v128)
theorem p_v128_eq : p_v128 V = mulf (F := Ideal) (φ := .f32) (p_v127 V) (p_v117 V) := (Ssa.binary p_hW V 126 rfl (by decide +kernel) (by decide +kernel) (by decide +kernel) :)
def p_v129 : (⟨S2x36864, .f32⟩ : BufTy).Contents (Elt Ideal) := after pL V (Proc.devRef .tc main_v129)
theorem p_v129_eq : p_v129 V = addf (F := Ideal) (φ := .f32) (p_v109 V) (p_v128 V) := (Ssa.binary p_hW V 127 rfl (by decide +kernel) (by decide +kernel) (by decide +kernel) :)
def p_v130 : (⟨S2x36864x1, .f32⟩ : BufTy).Contents (Elt Ideal) := after pL V (Proc.devRef .tc main_v130)
theorem p_v130_eq : p_v130 V = broadcastInDim S2x36864x1 ![0, 1] bcast_S2x36864_S2x36864x1_0_1 (p_v120 V) := (Ssa.unary p_hW V 128 rfl (by decide +kernel) (by decide +kernel) :)
def p_v131 : (⟨S2x36864x1, .f32⟩ : BufTy).Contents (Elt Ideal) := after pL V (Proc.devRef .tc main_v131)
theorem p_v131_eq : p_v131 V = broadcastInDim S2x36864x1 ![0, 1] bcast_S2x36864_S2x36864x1_0_1 (p_v123 V) := (Ssa.unary p_hW V 129 rfl (by decide +kernel) (by decide +kernel) :)
def p_v132 : (⟨S2x36864x1, .f32⟩ : BufTy).Contents (Elt Ideal) := after pL V (Proc.devRef .tc main_v132)
theorem p_v132_eq : p_v132 V = broadcastInDim S2x36864x1 ![0, 1] bcast_S2x36864_S2x36864x1_0_1 (p_v126 V) := (Ssa.unary p_hW V 130 rfl (by decide +kernel) (by decide +kernel) :)
def p_v133 : (⟨S2x36864x1, .f32⟩ : BufTy).Contents (Elt Ideal) := after pL V (Proc.devRef .tc main_v133)
theorem p_v133_eq : p_v133 V = broadcastInDim S2x36864x1 ![0, 1] bcast_S2x36864_S2x36864x1_0_1 (p_v129 V) := (Ssa.unary p_hW V 131 rfl (by decide +kernel) (by decide +kernel) :)
def p_v134 : (⟨S2x36864x4, .f32⟩ : BufTy).Contents (Elt Ideal) := after pL V (Proc.devRef .tc main_v134)
theorem p_v134_eq : p_v134 V = concatenate S2x36864x4 2 [⟨S2x36864x1, (p_v130 V)⟩, ⟨S2x36864x1, (p_v131 V)⟩, ⟨S2x36864x1, (p_v132 V)⟩, ⟨S2x36864x1, (p_v133 V)⟩] concatenates_S2x36864x1_S2x36864x1_S2x36864x1_S2x36864x1_S2x36864x4_d2 := (Ssa.nary p_hW V 132 rfl (by decide +kernel) (by decide +kernel) :)
def p_values : (⟨S2x2000, .f32⟩ : BufTy).Contents (Elt Ideal) := after pL V (Proc.devRef .tc main_values)
theorem p_values_eq : p_values V = (Host.topK S2x2000 1 (FloatOps.cmpfTotal (F := Ideal) (φ := .f32) .gt) (p_v15 V) sliceFits_S2x36864_S2x2000).1 := (Ssa.unary p_hW V 133 rfl (by decide +kernel) (by decide +kernel) :)
def p_indices : (⟨S2x2000, .i32⟩ : BufTy).Contents (Elt Ideal) := after pL V (Proc.devRef .tc main_indices)
theorem p_indices_eq : p_indices V = (Host.topK S2x2000 1 (FloatOps.cmpfTotal (F := Ideal) (φ := .f32) .gt) (p_v15 V) sliceFits_S2x36864_S2x2000).2 := (Ssa.unary p_hW V 134 rfl (by decide +kernel) (by decide +kernel) :)
def p_v135 : (⟨S2x2000x1, .i32⟩ : BufTy).Contents (Elt Ideal) := after pL V (Proc.devRef .tc main_v135)
theorem p_v135_eq : p_v135 V = broadcastInDim S2x2000x1 ![0, 1] bcast_S2x2000_S2x2000x1_0_1 (p_indices V) := (Ssa.unary p_hW V 135 rfl (by decide +kernel) (by decide +kernel) :)
def p_call4_c : (⟨S_, .i32⟩ : BufTy).Contents (Elt Ideal) := after pL V (Proc.devRef .tc main_call4_c)
theorem p_call4_c_eq : p_call4_c V = constantI S_ 32 0#32 := (Ssa.nullary p_hW V 136 rfl (by decide +kernel) :)
def p_call4_v0 : (⟨S2x2000x1, .i32⟩ : BufTy).Contents (Elt Ideal) := after pL V (Proc.devRef .tc main_call4_v0)
theorem p_call4_v0_eq : p_call4_v0 V = broadcastInDim S2x2000x1 ![] bcast_S_S2x2000x1 (p_call4_c V) := (Ssa.unary p_hW V 137 rfl (by decide +kernel) (by decide +kernel) :)
def p_call4_v1 : (⟨S2x2000x1, .i1⟩ : BufTy).Contents (Elt Ideal) := after pL V (Proc.devRef .tc main_call4_v1)
theorem p_call4_v1_eq : p_call4_v1 V = cmpi .slt (p_v135 V) (p_call4_v0 V) := (Ssa.binary p_hW V 138 rfl (by decide +kernel) (by decide +kernel) (by decide +kernel) :)
def p_call4_c_0 : (⟨S_, .i32⟩ : BufTy).Contents (Elt Ideal) := after pL V (Proc.devRef .tc main_call4_c_0)
theorem p_call4_c_0_eq : p_call4_c_0 V = constantI S_ 32 36864#32 := (Ssa.nullary p_hW V 139 rfl (by decide +kernel) :)
def p_call4_v2 : (⟨S2x2000x1, .i32⟩ : BufTy).Contents (Elt Ideal) := after pL V (Proc.devRef .tc main_call4_v2)
theorem p_call4_v2_eq : p_call4_v2 V = broadcastInDim S2x2000x1 ![] bcast_S_S2x2000x1 (p_call4_c_0 V) := (Ssa.unary p_hW V 140 rfl (by decide +kernel) (by decide +kernel) :)
def p_call4_v3 : (⟨S2x2000x1, .i32⟩ : BufTy).Contents (Elt Ideal) := after pL V (Proc.devRef .tc main_call4_v3)
theorem p_call4_v3_eq : p_call4_v3 V = addi (p_v135 V) (p_call4_v2 V) := (Ssa.binary p_hW V 141 rfl (by decide +kernel) (by decide +kernel) (by decide +kernel) :)
def p_call4_v4 : (⟨S2x2000x1, .i32⟩ : BufTy).Contents (Elt Ideal) := after pL V (Proc.devRef .tc main_call4_v4)
theorem p_call4_v4_eq : p_call4_v4 V = select (p_call4_v1 V) (p_call4_v3 V) (p_v135 V) := (Ssa.ternary p_hW V 142 rfl (by decide +kernel) (by decide +kernel) (by decide +kernel) (by decide +kernel) :)
def p_call4_c_1 : (⟨S1, .i32⟩ : BufTy).Contents (Elt Ideal) := after pL V (Proc.devRef .tc main_call4_c_1)
theorem p_call4_c_1_eq : p_call4_c_1 V = constantI S1 32 36863#32 := (Ssa.nullary p_hW V 143 rfl (by decide +kernel) :)
def p_call4_c_2 : (⟨S_, .i32⟩ : BufTy).Contents (Elt Ideal) := after pL V (Proc.devRef .tc main_call4_c_2)
theorem p_call4_c_2_eq : p_call4_c_2 V = constantI S_ 32 0#32 := (Ssa.nullary p_hW V 144 rfl (by decide +kernel) :)
def p_call4_v5 : (⟨S2x2000x1, .i32⟩ : BufTy).Contents (Elt Ideal) := after pL V (Proc.devRef .tc main_call4_v5)
theorem p_call4_v5_eq : p_call4_v5 V = broadcastInDim S2x2000x1 ![] bcast_S_S2x2000x1 (p_call4_c_2 V) := (Ssa.unary p_hW V 145 rfl (by decide +kernel) (by decide +kernel) :)
def p_call4_v6 : (⟨S2x2000x1, .i1⟩ : BufTy).Contents (Elt Ideal) := after pL V (Proc.devRef .tc main_call4_v6)
theorem p_call4_v6_eq : p_call4_v6 V = cmpi .sge (p_call4_v4 V) (p_call4_v5 V) := (Ssa.binary p_hW V 146 rfl (by decide +kernel) (by decide +kernel) (by decide +kernel) :)
def p_call4_v7 : (⟨S1x1x1, .i32⟩ : BufTy).Contents (Elt Ideal) := after pL V (Proc.devRef .tc main_call4_v7)
theorem p_call4_v7_eq : p_call4_v7 V = broadcastInDim S1x1x1 ![2] bcast_S1_S1x1x1_2 (p_call4_c_1 V) := (Ssa.unary p_hW V 147 rfl (by decide +kernel) (by decide +kernel) :)
def p_call4_v8 : (⟨S2x2000x1, .i32⟩ : BufTy).Contents (Elt Ideal) := after pL V (Proc.devRef .tc main_call4_v8)
theorem p_call4_v8_eq : p_call4_v8 V = broadcastInDim S2x2000x1 ![0, 1, 2] bcast_S1x1x1_S2x2000x1_0_1_2 (p_call4_v7 V) := (Ssa.unary p_hW V 148 rfl (by decide +kernel) (by decide +kernel) :)
def p_call4_v9 : (⟨S2x2000x1, .i1⟩ : BufTy).Contents (Elt Ideal) := after pL V (Proc.devRef .tc main_call4_v9)
theorem p_call4_v9_eq : p_call4_v9 V = cmpi .sle (p_call4_v4 V) (p_call4_v8 V) := (Ssa.binary p_hW V 149 rfl (by decide +kernel) (by decide +kernel) (by decide +kernel) :)
def p_call4_v10 : (⟨S2x2000x1, .i1⟩ : BufTy).Contents (Elt Ideal) := after pL V (Proc.devRef .tc main_call4_v10)
theorem p_call4_v10_eq : p_call4_v10 V = andi (p_call4_v6 V) (p_call4_v9 V) := (Ssa.binary p_hW V 150 rfl (by decide +kernel) (by decide +kernel) (by decide +kernel) :)
def p_call4_c_3 : (⟨S_, .i1⟩ : BufTy).Contents (Elt Ideal) := after pL V (Proc.devRef .tc main_call4_c_3)
theorem p_call4_c_3_eq : p_call4_c_3 V = constantI S_ 1 1#1 := (Ssa.nullary p_hW V 151 rfl (by decide +kernel) :)
def p_call4_v11 : (⟨S2x2000, .i1⟩ : BufTy).Contents (Elt Ideal) := after pL V (Proc.devRef .tc main_call4_v11)
theorem p_call4_v11_eq : p_call4_v11 V = Host.reduce IntOp.andi (p_call4_v10 V) (p_call4_c_3 V) reducesTo_S2x2000x1_S2x2000_d2 h_S_ := (Ssa.binary p_hW V 152 rfl (by decide +kernel) (by decide +kernel) (by decide +kernel) :)
def p_call4_v12 : (⟨S2x2000x4, .f32⟩ : BufTy).Contents (Elt Ideal) := after pL V (Proc.devRef .tc main_call4_v12)
theorem p_call4_v12_eq : p_call4_v12 V = Host.gather gather_S2x36864x4_S2x2000x1_S2x2000x4_2_1_0_0_1_2_114 (p_v134 V) (p_call4_v4 V) := (Ssa.binary p_hW V 153 rfl (by decide +kernel) (by decide +kernel) (by decide +kernel) :)
def p_call4_v13 : (⟨S2x2000x4, .i1⟩ : BufTy).Contents (Elt Ideal) := after pL V (Proc.devRef .tc main_call4_v13)
theorem p_call4_v13_eq : p_call4_v13 V = broadcastInDim S2x2000x4 ![0, 1] bcast_S2x2000_S2x2000x4_0_1 (p_call4_v11 V) := (Ssa.unary p_hW V 154 rfl (by decide +kernel) (by decide +kernel) :)
def p_call4_cst : (⟨S_, .f32⟩ : BufTy).Contents (Elt Ideal) := after pL V (Proc.devRef .tc main_call4_cst)
theorem p_call4_cst_eq : p_call4_cst V = constant (F := Ideal) S_ .f32 0x7FC00000#32 := (Ssa.nullary p_hW V 155 rfl (by decide +kernel) :)
def p_call4_v14 : (⟨S2x2000x4, .f32⟩ : BufTy).Contents (Elt Ideal) := after pL V (Proc.devRef .tc main_call4_v14)
theorem p_call4_v14_eq : p_call4_v14 V = broadcastInDim S2x2000x4 ![] bcast_S_S2x2000x4 (p_call4_cst V) := (Ssa.unary p_hW V 156 rfl (by decide +kernel) (by decide +kernel) :)
def p_v136 : (⟨S2x2000x4, .f32⟩ : BufTy).Contents (Elt Ideal) := after pL V (Proc.devRef .tc main_v136)
theorem p_v136_eq : p_v136 V = select (p_call4_v13 V) (p_call4_v12 V) (p_call4_v14 V) := (Ssa.ternary p_hW V 157 rfl (by decide +kernel) (by decide +kernel) (by decide +kernel) (by decide +kernel) :)
def p_c_15 : (⟨S_, .i32⟩ : BufTy).Contents (Elt Ideal) := after pL V (Proc.devRef .tc main_c_15)
theorem p_c_15_eq : p_c_15 V = constantI S_ 32 0#32 := (Ssa.nullary p_hW V 158 rfl (by decide +kernel) :)
def p_call5_v0 : (⟨S_, .f32⟩ : BufTy).Contents (Elt Ideal) := after pL V (Proc.devRef .tc main_call5_v0)
theorem p_call5_v0_eq : p_call5_v0 V = sitofp (F := Ideal) .f32 (p_c_15 V) := (Ssa.unary p_hW V 159 rfl (by decide +kernel) (by decide +kernel) :)
def p_v137 : (⟨S2x2048x4, .f32⟩ : BufTy).Contents (Elt Ideal) := after pL V (Proc.devRef .tc main_v137)
theorem p_v137_eq : p_v137 V = pad S2x2048x4 ![0, 0, 0] ![0, 48, 0] ![0, 0, 0] (p_v136 V) (p_call5_v0 V) pads_S2x2000x4_S2x2048x4_000_0480_000 h_S_ := (Ssa.binary p_hW V 160 rfl (by decide +kernel) (by decide +kernel) (by decide +kernel) :)
def p_v138 : (⟨S2x4x2048, .f32⟩ : BufTy).Contents (Elt Ideal) := after pL V (Proc.devRef .tc main_v138)
theorem p_v138_eq : p_v138 V = transpose S2x4x2048 [0, 2, 1] (p_v137 V) transposes_S2x2048x4_S2x4x2048_0_2_1 := (Ssa.unary p_hW V 161 rfl (by decide +kernel) (by decide +kernel) :)
def p_cst_16 : (⟨S_, .f32⟩ : BufTy).Contents (Elt Ideal) := after pL V (Proc.devRef .tc main_cst_16)
theorem p_cst_16_eq : p_cst_16 V = constant (F := Ideal) S_ .f32 0xF149F2CA#32 := (Ssa.nullary p_hW V 162 rfl (by decide +kernel) :)
def p_call6_v0 : (⟨S_, .f32⟩ : BufTy).Contents (Elt Ideal) := after pL V (Proc.devRef .tc main_call6_v0)
theorem p_call6_v0_eq : p_call6_v0 V = p_cst_16 V := (Ssa.unary p_hW V 163 rfl (by decide +kernel) (by decide +kernel) :)
def p_v139 : (⟨S2x2048, .f32⟩ : BufTy).Contents (Elt Ideal) := after pL V (Proc.devRef .tc main_v139)
theorem p_v139_eq : p_v139 V = pad S2x2048 ![0, 0] ![0, 48] ![0, 0] (p_values V) (p_call6_v0 V) pads_S2x2000_S2x2048_000_0480 h_S_ := (Ssa.binary p_hW V 164 rfl (by decide +kernel) (by decide +kernel) (by decide +kernel) :)
def p_v140 : (⟨S2x1x2048, .f32⟩ : BufTy).Contents (Elt Ideal) := after pL V (Proc.devRef .tc main_v140)
theorem p_v140_eq : p_v140 V = broadcastInDim S2x1x2048 ![0, 2] bcast_S2x2048_S2x1x2048_0_2 (p_v139 V) := (Ssa.unary p_hW V 165 rfl (by decide +kernel) (by decide +kernel) :)

/-- The operations of the host operations after the second kernel call, in one line. -/
abbrev tL : List (HloOp τ sig (Elt Ideal)) := ([hostOps2] : List (List (HloOp τ sig (Elt Ideal)))).flatten
/-- What each writes. -/
abbrev t_W : List (Ref sig .tc) := [main_v142, main_v143, main_v144]
theorem t_hW : Ssa.Writes tL t_W := rfl

def t_v141 : (⟨S2x1024x128, .f32⟩ : BufTy).Contents (Elt Ideal) := after tL V (Proc.devRef .tc main_v141)
theorem t_v141_in : t_v141 V = V (Proc.devRef .tc main_v141) := Ssa.input t_hW V (by decide +kernel)
def t_v142 : (⟨S2x1000x4, .f32⟩ : BufTy).Contents (Elt Ideal) := after tL V (Proc.devRef .tc main_v142)
theorem t_v142_eq : t_v142 V = extractStridedSlice S2x1000x4 ![0, 0, 0] (t_v141 V) slices_S2x1024x128_S2x1000x4_0_0_0 := (Ssa.unary t_hW V 0 rfl (by decide +kernel) (by decide +kernel) :)
def t_v143 : (⟨S2x1000x1, .f32⟩ : BufTy).Contents (Elt Ideal) := after tL V (Proc.devRef .tc main_v143)
theorem t_v143_eq : t_v143 V = extractStridedSlice S2x1000x1 ![0, 0, 4] (t_v141 V) slices_S2x1024x128_S2x1000x1_0_0_4 := (Ssa.unary t_hW V 1 rfl (by decide +kernel) (by decide +kernel) :)
def t_v144 : (⟨S2x1000, .f32⟩ : BufTy).Contents (Elt Ideal) := after tL V (Proc.devRef .tc main_v144)
theorem t_v144_eq : t_v144 V = shapeCast S2x1000 (t_v143 V) shapeCasts_S2x1000x1_S2x1000 := (Ssa.reshape t_hW V 2 rfl (by decide +kernel) (by decide +kernel) :)

end Cert.KernelIdeal.Host

end
-- ==== Proof.KernelRun.lean ====
/- The run of the program with the two kernels, read at its results: every array ends at the contents the last host
   stretch leaves. -/
module

public import proofs.«01_k».proof.Proof.Gen.KernelIdeal.Frame
public import proofs.«01_k».proof.Proof.KerEq

@[expose] public section

set_option maxRecDepth 16384

noncomputable section

namespace Cert.KernelIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every array at the last boundary's contents. -/
theorem run_contents : θ_run defs (onTc (τ := τ) (main (F := F))) ⟨m, fun _ => 0, ρ⟩ (fun r => ∀ (c : Dev nD) (b : Ref sig .tc),
      (Proc.devRef .tc b : DevRef τ sig).isScoped = false → r.2.mem ((c.tc : Thread nD τ).loc b) = W19 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => fun c b hb => h c _ (mem_uc b (by rw [hb]; decide)))

end Run

variable (m : (ℓ : Loc nD τ sig) → Buf (Elt Ideal) ℓ) (ρ : Dev nD → PrngReg) (c : Dev nD)

/-- The contents when the first kernel is entered. -/
theorem W7_eq : W7 m ρ c = StableHlo.after kL (W0 m ρ c) := StableHlo.afterL_eq_after_flatten [hostOps0, hostOps0_1, hostOps0_2, hostOps0_3, hostOps0_4, hostOps0_5, hostOps0_6] (W0 m ρ c)
/-- The contents when the second kernel is entered. -/
theorem W17_eq : W17 m ρ c = StableHlo.after pL (W8 m ρ c) := StableHlo.afterL_eq_after_flatten [hostOps1, hostOps1_1, hostOps1_2, hostOps1_3, hostOps1_4, hostOps1_5, hostOps1_6, hostOps1_7, hostOps1_8] (W8 m ρ c)
/-- The contents at the end. -/
theorem W19_eq : W19 m ρ c = StableHlo.after tL (W18 m ρ c) := StableHlo.afterL_eq_after_flatten [hostOps2] (W18 m ρ c)

end Cert.KernelIdeal.Host

end
-- ==== Proof.Region1.lean ====
/- The suppression kernel's block as one closed term of its two input blocks. -/
module

public import proofs.«01_k».proof.Proof.Gen.KernelIdeal.Frame
public import Idealize.ShloMosaic.Lib.Pointwise
public import Idealize.ShloMosaic.Lib.WholeRead
public import Idealize.ShloMosaic.Lib.WordArith.Masks
public import Idealize.ShloMosaic.Lib.Pipeline.Value

@[expose] public section

set_option maxRecDepth 16384

noncomputable section

namespace Cert.KernelIdeal.Nms

open Idealize.ShloMosaic Idealize.ShloMosaic.TcCoe
open Cert.KernelIdeal.Gen

variable {F : FTy → Type} [FloatOps F]

/-- Row `k` of the block of box coordinates. -/
def rowOf (x0 : Vec F S1x4x2048 .f32) (k : Fin 4) : Vec F S1x1x2048 .f32 := fun j => x0 (ix3 0 k (j 2))

/-- The clipped corner coordinates. -/
def cx1 (x0 : Vec F S1x4x2048 .f32) : FVec F S2048 .f32 := k1_pay2 (rowOf x0 0)
/-- The clipped corner coordinates. -/
def cy1 (x0 : Vec F S1x4x2048 .f32) : FVec F S2048 .f32 := k1_pay3 (rowOf x0 1)
/-- The clipped corner coordinates. -/
def cx2 (x0 : Vec F S1x4x2048 .f32) : FVec F S2048 .f32 := k1_pay4 (rowOf x0 2)
/-- The clipped corner coordinates. -/
def cy2 (x0 : Vec F S1x4x2048 .f32) : FVec F S2048 .f32 := k1_pay5 (rowOf x0 3)
/-- The lanes that hold a box large enough. -/
def vld (x0 : Vec F S1x4x2048 .f32) (x1 : Vec F S1x1x2048 .f32) : IVec S2048 1 :=
  k1_pay8 (k1_pay6 x1) (k1_pay7 (rowOf x0 0) (rowOf x0 1) (rowOf x0 2) (rowOf x0 3))
/-- The table of overlaps. -/
def ovl (x0 : Vec F S1x4x2048 .f32) : FVec F S2048x2048 .f32 := k1_pay9 (cx1 x0) (cy1 x0) (cx2 x0) (cy2 x0)

theorem trips_eq : k1_t1_loop.trips = 2000 := by decide
theorem trips_lt (k : Fin k1_t1_loop.trips) : k.val < 2048 := by
  have h := lt_of_lt_of_eq k.isLt trips_eq
  omega

/-- Row `k` of the table of overlaps. -/
def ovlRow (x0 : Vec F S1x4x2048 .f32) (k : Fin k1_t1_loop.trips) : Vec F S1x2048 .f32 :=
  fun j => ovl x0 (ix2 ⟨k.val, trips_lt k⟩ (j 1))

/-- The marks of the boxes still kept before trip `k`. -/
def keepSt (x0 : Vec F S1x4x2048 .f32) (x1 : Vec F S1x1x2048 .f32) : ℕ → FVec F S2048 .f32
  | 0 => k1_pay11 (vld x0 x1)
  | k + 1 => if h : k < k1_t1_loop.trips then k1_pay12 k1_pay10 ⟨k, h⟩ (keepSt x0 x1 k) (ovlRow x0 ⟨k, h⟩) else keepSt x0 x1 k

/-- The block the suppression kernel writes. -/
def block (x0 : Vec F S1x4x2048 .f32) (x1 : Vec F S1x1x2048 .f32) : Vec F S1x1024x128 .f32 :=
  k1_pay1 (cx1 x0) (cy1 x0) (cx2 x0) (cy2 x0) (k1_pay6 x1) (vld x0 x1) (keepSt x0 x1 k1_t1_loop.trips)
    (k1_pay15 (keepSt x0 x1 k1_t1_loop.trips)) (k1_pay16 (vld x0 x1) (keepSt x0 x1 k1_t1_loop.trips))
    (k1_pay17 (vld x0 x1) k1_pay10 (keepSt x0 x1 k1_t1_loop.trips)) (k1_pay18 (keepSt x0 x1 k1_t1_loop.trips))
    (k1_pay19 (vld x0 x1) k1_pay10 (keepSt x0 x1 k1_t1_loop.trips)) (k1_pay20 (vld x0 x1) k1_pay10 (keepSt x0 x1 k1_t1_loop.trips))

section Reads
variable (c : Dev nD) (i : grid1.Coords) (arg1 : Memref sig .tc .vmem S1x4x2048 .f32) (harg1 : arg1.IsWhole)
  (arg2 : Memref sig .tc .vmem S1x1x2048 .f32) (harg2 : arg2.IsWhole) (arg3 : Memref sig .tc .vmem S1x1024x128 .f32) (harg3 : arg3.IsWhole)
  (arg4 : Memref sig .tc .vmem S2048x2048 .f32) (harg4 : arg4.IsWhole) (x0 : Vec F S1x4x2048 .f32) (x1 : Vec F S1x1x2048 .f32)

set_option backward.isDefEq.respectTransparency.types false

/-- A load of one row of the coordinate block reads that row. -/
theorem load_row (off : Fin 3 → ℕ) (k : Fin 4) (hoff : off = ![0, k.val, 0]) (inb : ∀ a, off a + S1x1x2048.size a ≤ S1x4x2048.size a) :
    View.readAt (Elt F) arg1.view (Rect.unit (s := S1x4x2048) off S1x1x2048.size inb).toLoadRect (harg1.unread x0) = rowOf x0 k := by
  subst hoff
  funext j
  rw [Memref.IsWhole.readAt_unread]
  unfold rowOf
  refine congrArg x0 (funext fun a => Fin.ext ?_)
  fin_cases a
  · show 0 + 1 * (j 0).val = 0
    have h : (j 0).val < 1 := (j 0).isLt
    omega
  · show k.val + 1 * (j 1).val = k.val
    have h : (j 1).val < 1 := (j 1).isLt
    omega
  · show 0 + 1 * (j 2).val = (j 2).val
    omega

/-- A load of the whole score block reads it. -/
theorem load_all (inb : ∀ a, (![0, 0, 0] : Fin 3 → ℕ) a + S1x1x2048.size a ≤ S1x1x2048.size a) :
    View.readAt (Elt F) arg2.view (Rect.unit ![0, 0, 0] S1x1x2048.size inb).toLoadRect (harg2.unread x1) = x1 := by
  funext j
  rw [Memref.IsWhole.readAt_unread]
  refine congrArg x1 (funext fun a => Fin.ext ?_)
  fin_cases a
  · show 0 + 1 * (j 0).val = (j 0).val; omega
  · show 0 + 1 * (j 1).val = (j 1).val; omega
  · show 0 + 1 * (j 2).val = (j 2).val; omega

theorem r0_eq : kernelRun1_A.sl.r c arg1 harg1 x0 = cx1 x0 := by
  unfold kernelRun1_A.sl.r cx1; exact congrArg k1_pay2 (load_row arg1 harg1 x0 _ 0 rfl _)
theorem r1_eq : kernelRun1_A.sl.r_1 c arg1 harg1 x0 = cy1 x0 := by
  unfold kernelRun1_A.sl.r_1 cy1; exact congrArg k1_pay3 (load_row arg1 harg1 x0 _ 1 rfl _)
theorem r2_eq : kernelRun1_A.sl.r_2 c arg1 harg1 x0 = cx2 x0 := by
  unfold kernelRun1_A.sl.r_2 cx2; exact congrArg k1_pay4 (load_row arg1 harg1 x0 _ 2 rfl _)
theorem r3_eq : kernelRun1_A.sl.r_3 c arg1 harg1 x0 = cy2 x0 := by
  unfold kernelRun1_A.sl.r_3 cy2; exact congrArg k1_pay5 (load_row arg1 harg1 x0 _ 3 rfl _)
theorem r4_eq : kernelRun1_A.sl.r_4 c arg2 harg2 x1 = k1_pay6 x1 := by
  unfold kernelRun1_A.sl.r_4; exact congrArg k1_pay6 (load_all arg2 harg2 x1 _)
theorem r6_eq : kernelRun1_A.sl.r_6 c arg1 harg1 arg2 harg2 x0 x1 = vld x0 x1 := by
  unfold kernelRun1_A.sl.r_6 vld
  rw [r4_eq]
  unfold kernelRun1_A.sl.r_5
  exact congrArg (k1_pay8 _) (congr (congr (congr (congrArg k1_pay7 (load_row arg1 harg1 x0 _ 0 rfl _)) (load_row arg1 harg1 x0 _ 1 rfl _))
    (load_row arg1 harg1 x0 _ 2 rfl _)) (load_row arg1 harg1 x0 _ 3 rfl _))

/-- What the scratch table holds, read back one row at a time. -/
theorem load_ovl (k : Fin k1_t1_loop.trips) (inb : ∀ a, k1_off1 k a + S1x2048.size a ≤ S2048x2048.size a) :
    View.readAt (Elt F) arg4.view (Rect.unit (s := S2048x2048) (k1_off1 k) S1x2048.size inb).toLoadRect
      (arg4.view.writes (Elt F) arg4.view.junk (kernelRun1_A.sl.HS0_1 c arg1 harg1 x0)) = ovlRow x0 k := by
  have hz2 : (![0, 0] : Fin 2 → ℕ) = fun _ => 0 := by decide
  have hk : k.val < 2000 := lt_of_lt_of_eq k.isLt (by decide)
  rw [View.readAt_writes_junk_eq_canon]
  · unfold kernelRun1_A.sl.HS0_1
    rw [View.canon_unit_zero hz2, r0_eq, r1_eq, r2_eq, r3_eq]
    funext j
    unfold ovlRow ovl
    refine congrArg (k1_pay9 _ _ _ _) (funext fun a => Fin.ext ?_)
    fin_cases a
    · show k1_off1 k 0 + 1 * (j 0).val = k.val
      have h : (j 0).val < 1 := (j 0).isLt
      have e : k1_off1 k 0 = k.val := by
        show (Scf.iv 0#32 1#32 k.val).toNat = k.val
        exact WordArith.toNat_iv_zero_one _ (by omega)
      omega
    · show k1_off1 k 1 + 1 * (j 1).val = (j 1).val
      have e : k1_off1 k 1 = 0 := rfl
      omega

set_option maxHeartbeats 1000000 in
theorem st_eq (n : ℕ) (hn : n ≤ k1_t1_loop.trips) :
    st_k1_t1 (F := F) Variants.none c none i arg1 harg1 arg2 harg2 arg3 harg3 arg4 harg4 (vld x0 x1) k1_pay10
      (arg4.view.writes (Elt F) arg4.view.junk (kernelRun1_A.sl.HS0_1 c arg1 harg1 x0)) (k1_pay11 (vld x0 x1)) n = keepSt x0 x1 n := by
  induction n with
  | zero => rw [st_k1_t1_zero]; rfl
  | succ k ih =>
    have hk : k < k1_t1_loop.trips := hn
    have e := st_k1_t1_succ (F := F) Variants.none c none i arg1 harg1 arg2 harg2 arg3 harg3 arg4 harg4 (vld x0 x1) k1_pay10
      (arg4.view.writes (Elt F) arg4.view.junk (kernelRun1_A.sl.HS0_1 c arg1 harg1 x0)) (k1_pay11 (vld x0 x1)) ⟨k, hk⟩
    rw [e, ih (le_of_lt hk), keepSt, dif_pos hk]
    show (trip_k1_t1 _ _ _ _ _ _ _ _ _ _ _ _ _ _ _ _).1 _ = _
    unfold trip_k1_t1
    dsimp only
    rw [load_ovl]

end Reads

set_option backward.isDefEq.respectTransparency.types false in
set_option maxHeartbeats 2000000 in
/-- The suppression kernel's run leaves its output block holding `block` of its input blocks. -/
theorem out_eq (c : Dev nD) (i : grid1.Coords) (arg1 : Memref sig .tc .vmem S1x4x2048 .f32) (harg1 : arg1.IsWhole) (arg2 : Memref sig .tc .vmem S1x1x2048 .f32) (harg2 : arg2.IsWhole) (arg3 : Memref sig .tc .vmem S1x1024x128 .f32) (harg3 : arg3.IsWhole) (arg4 : Memref sig .tc .vmem S2048x2048 .f32) (harg4 : arg4.IsWhole)
    (x0 : Vec F S1x4x2048 .f32) (x1 : Vec F S1x1x2048 .f32) :
    out1_A_2 (F := F) c i arg1 harg1 arg2 harg2 arg3 harg3 arg4 harg4 x0 x1 = block x0 x1 := by
  have hz3 : (![0, 0, 0] : Fin 3 → ℕ) = fun _ => 0 := by decide
  have hz2 : (![0, 0] : Fin 2 → ℕ) = fun _ => 0 := by decide
  unfold out1_A_2
  unfold kernelRun1_A
  dsimp only
  rw [View.read_writes_junk_eq_canon, View.canon_unit_zero hz3]
  unfold block
  have e7 : kernelRun1_A.sl.r_7 c i arg1 harg1 arg2 harg2 arg3 harg3 arg4 harg4 x0 x1 = keepSt x0 x1 k1_t1_loop.trips := by
    unfold kernelRun1_A.sl.r_7
    rw [r6_eq]
    exact st_eq c i arg1 harg1 arg2 harg2 arg3 harg3 arg4 harg4 x0 x1 _ le_rfl
  have e8 : kernelRun1_A.sl.r_8 c i arg1 harg1 arg2 harg2 arg3 harg3 arg4 harg4 x0 x1 = k1_pay15 (keepSt x0 x1 k1_t1_loop.trips) := by
    rw [← e7]; unfold kernelRun1_A.sl.r_8 kernelRun1_A.sl.r_7; rfl
  have e9 : kernelRun1_A.sl.r_9 c i arg1 harg1 arg2 harg2 arg3 harg3 arg4 harg4 x0 x1 = k1_pay16 (vld x0 x1) (keepSt x0 x1 k1_t1_loop.trips) := by
    rw [← e7, ← r6_eq c arg1 harg1 arg2 harg2]; unfold kernelRun1_A.sl.r_9 kernelRun1_A.sl.r_7; rfl
  have e10 : kernelRun1_A.sl.r_10 c i arg1 harg1 arg2 harg2 arg3 harg3 arg4 harg4 x0 x1 = k1_pay17 (vld x0 x1) k1_pay10 (keepSt x0 x1 k1_t1_loop.trips) := by
    rw [← e7, ← r6_eq c arg1 harg1 arg2 harg2]; unfold kernelRun1_A.sl.r_10 kernelRun1_A.sl.r_7; rfl
  have e11 : kernelRun1_A.sl.r_11 c i arg1 harg1 arg2 harg2 arg3 harg3 arg4 harg4 x0 x1 = k1_pay18 (keepSt x0 x1 k1_t1_loop.trips) := by
    rw [← e7]; unfold kernelRun1_A.sl.r_11 kernelRun1_A.sl.r_7; rfl
  have e12 : kernelRun1_A.sl.r_12 c i arg1 harg1 arg2 harg2 arg3 harg3 arg4 harg4 x0 x1 = k1_pay19 (vld x0 x1) k1_pay10 (keepSt x0 x1 k1_t1_loop.trips) := by
    rw [← e7, ← r6_eq c arg1 harg1 arg2 harg2]; unfold kernelRun1_A.sl.r_12 kernelRun1_A.sl.r_7; rfl
  have e13 : kernelRun1_A.sl.r_13 c i arg1 harg1 arg2 harg2 arg3 harg3 arg4 harg4 x0 x1 = k1_pay20 (vld x0 x1) k1_pay10 (keepSt x0 x1 k1_t1_loop.trips) := by
    rw [← e7, ← r6_eq c arg1 harg1 arg2 harg2]; unfold kernelRun1_A.sl.r_13 kernelRun1_A.sl.r_7; rfl
  rw [r0_eq, r1_eq, r2_eq, r3_eq, r4_eq, r6_eq, e7, e8, e9, e10, e11, e12, e13]

end Cert.KernelIdeal.Nms
-- ==== Proof.Arrays.lean ====
/- The two kernels' result arrays, one block per image. -/
module

public import proofs.«01_k».proof.Proof.Region1

@[expose] public section

set_option maxRecDepth 16384

noncomputable section

namespace Cert.KernelIdeal.Nms

open Idealize.ShloMosaic Idealize.ShloMosaic.TcCoe
open Idealize.ShloMosaic.Pipeline (Dat)
open Cert.KernelIdeal.Gen

variable {F : FTy → Type} [FloatOps F]
variable (V : Dev nD → (b : Ref sig .tc) → b.ty.Contents (Elt F))

/-- The point that works on image `b`. -/
def pt1 (b : Fin 2) : Fin cfg1.N := ⟨b.val, lt_of_lt_of_eq b.isLt (by decide : 2 = cfg1.N)⟩
/-- The point that works on image `b`. -/
def pt0 (b : Fin 2) : Fin cfg0.N := ⟨b.val, lt_of_lt_of_eq b.isLt (by decide : 2 = cfg0.N)⟩

/-- Image `b`'s block of box coordinates. -/
def boxesOf (X : (S2x4x2048.Idx → F .f32)) (b : Fin 2) : Vec F S1x4x2048 .f32 := fun j => X (ix3 b (j 1) (j 2))
/-- Image `b`'s block of scores. -/
def scoresOf (X : (S2x1x2048.Idx → F .f32)) (b : Fin 2) : Vec F S1x1x2048 .f32 := fun j => X (ix3 b (j 1) (j 2))
/-- Image `b`'s block of the padded image. -/
def imageOf (X : (S2x66x66x256.Idx → F .f32)) (b : Fin 2) : Vec F S1x66x66x256 .f32 := fun j => X (ix4 b (j 1) (j 2) (j 3))

set_option backward.isDefEq.respectTransparency.types false

theorem pt1_surj (t : Fin cfg1.N) : ∃ b, t = pt1 b :=
  ⟨⟨t.val, lt_of_lt_of_eq t.isLt N_1⟩, rfl⟩
theorem pt0_surj (t : Fin cfg0.N) : ∃ b, t = pt0 b :=
  ⟨⟨t.val, lt_of_lt_of_eq t.isLt N_0⟩, rfl⟩

theorem idx1_0 (t : Fin cfg1.N) : win1_0.index t 0 * win1_0.size 0 = t.val ∧ win1_0.index t 1 * win1_0.size 1 = 0 ∧ win1_0.index t 2 * win1_0.size 2 = 0 := by
  rcases fin_N1 t with rfl | rfl <;> decide +kernel

theorem idx1_1 (t : Fin cfg1.N) : win1_1.index t 0 * win1_1.size 0 = t.val ∧ win1_1.index t 1 * win1_1.size 1 = 0 ∧ win1_1.index t 2 * win1_1.size 2 = 0 := by
  rcases fin_N1 t with rfl | rfl <;> decide +kernel

theorem idx1_2 (t : Fin cfg1.N) : win1_2.index t 0 * win1_2.size 0 = t.val ∧ win1_2.index t 1 * win1_2.size 1 = 0 ∧ win1_2.index t 2 * win1_2.size 2 = 0 := by
  rcases fin_N1 t with rfl | rfl <;> decide +kernel

theorem idx0_0 (t : Fin cfg0.N) : win0_0.index t 0 * win0_0.size 0 = t.val ∧ win0_0.index t 1 * win0_0.size 1 = 0 ∧ win0_0.index t 2 * win0_0.size 2 = 0 ∧ win0_0.index t 3 * win0_0.size 3 = 0 := by
  rcases fin_N0 t with rfl | rfl <;> decide +kernel

theorem idx0_5 (t : Fin cfg0.N) : win0_5.index t 0 * win0_5.size 0 = t.val ∧ win0_5.index t 1 * win0_5.size 1 = 0 ∧ win0_5.index t 2 * win0_5.size 2 = 0 := by
  rcases fin_N0 t with rfl | rfl <;> decide +kernel

theorem idx0_1 (t : Fin cfg0.N) : win0_1.index t 0 * win0_1.size 0 = 0 ∧ win0_1.index t 1 * win0_1.size 1 = 0 ∧ win0_1.index t 2 * win0_1.size 2 = 0 := by
  rcases fin_N0 t with rfl | rfl <;> decide +kernel

theorem idx0_2 (t : Fin cfg0.N) : win0_2.index t 0 * win0_2.size 0 = 0 ∧ win0_2.index t 1 * win0_2.size 1 = 0 := by
  rcases fin_N0 t with rfl | rfl <;> decide +kernel

theorem idx0_3 (t : Fin cfg0.N) : win0_3.index t 0 * win0_3.size 0 = 0 ∧ win0_3.index t 1 * win0_3.size 1 = 0 := by
  rcases fin_N0 t with rfl | rfl <;> decide +kernel

theorem idx0_4 (t : Fin cfg0.N) : win0_4.index t 0 * win0_4.size 0 = 0 ∧ win0_4.index t 1 * win0_4.size 1 = 0 := by
  rcases fin_N0 t with rfl | rfl <;> decide +kernel

theorem iblk1_0 (c : Dev nD) (b : Fin 2) : iblk1 V c 0 (pt1 b) = boxesOf (V c main_v138) b := by
  funext j
  unfold iblk1 boxesOf
  refine congrArg (V c main_v138) (funext fun a => Fin.ext ?_)
  have h0 : (j 0).val < 1 := (j 0).isLt
  have e := idx1_0 (pt1 b)
  match a with
  | ⟨0, _⟩ =>
    show win1_0.index (pt1 b) 0 * win1_0.size 0 + 1 * (j 0).val = b.val
    rw [e.1]
    show b.val + _ = b.val; omega
  | ⟨1, _⟩ =>
    show win1_0.index (pt1 b) 1 * win1_0.size 1 + 1 * (j 1).val = (j 1).val
    rw [e.2.1]
    omega
  | ⟨2, _⟩ =>
    show win1_0.index (pt1 b) 2 * win1_0.size 2 + 1 * (j 2).val = (j 2).val
    rw [e.2.2]
    omega

theorem iblk1_1 (c : Dev nD) (b : Fin 2) : iblk1 V c 1 (pt1 b) = scoresOf (V c main_v140) b := by
  funext j
  unfold iblk1 scoresOf
  refine congrArg (V c main_v140) (funext fun a => Fin.ext ?_)
  have h0 : (j 0).val < 1 := (j 0).isLt
  have e := idx1_1 (pt1 b)
  match a with
  | ⟨0, _⟩ =>
    show win1_1.index (pt1 b) 0 * win1_1.size 0 + 1 * (j 0).val = b.val
    rw [e.1]
    show b.val + _ = b.val; omega
  | ⟨1, _⟩ =>
    show win1_1.index (pt1 b) 1 * win1_1.size 1 + 1 * (j 1).val = (j 1).val
    rw [e.2.1]
    omega
  | ⟨2, _⟩ =>
    show win1_1.index (pt1 b) 2 * win1_1.size 2 + 1 * (j 2).val = (j 2).val
    rw [e.2.2]
    omega

theorem iblk0_0 (c : Dev nD) (b : Fin 2) : iblk0 V c 0 (pt0 b) = imageOf (V c main_v1) b := by
  funext j
  unfold iblk0 imageOf
  refine congrArg (V c main_v1) (funext fun a => Fin.ext ?_)
  have h0 : (j 0).val < 1 := (j 0).isLt
  have e := idx0_0 (pt0 b)
  match a with
  | ⟨0, _⟩ =>
    show win0_0.index (pt0 b) 0 * win0_0.size 0 + 1 * (j 0).val = b.val
    rw [e.1]
    show b.val + _ = b.val; omega
  | ⟨1, _⟩ =>
    show win0_0.index (pt0 b) 1 * win0_0.size 1 + 1 * (j 1).val = (j 1).val
    rw [e.2.1]
    omega
  | ⟨2, _⟩ =>
    show win0_0.index (pt0 b) 2 * win0_0.size 2 + 1 * (j 2).val = (j 2).val
    rw [e.2.2.1]
    omega
  | ⟨3, _⟩ =>
    show win0_0.index (pt0 b) 3 * win0_0.size 3 + 1 * (j 3).val = (j 3).val
    rw [e.2.2.2]
    omega

theorem iblk0_1 (c : Dev nD) (t : Fin cfg0.N) : iblk0 V c 1 t = V c main_v3 := by
  funext j
  unfold iblk0
  refine congrArg (V c main_v3) (funext fun a => Fin.ext ?_)
  have e := idx0_1 t
  match a with
  | ⟨0, _⟩ =>
    show win0_1.index t 0 * win0_1.size 0 + 1 * (j 0).val = (j 0).val
    rw [e.1]
    omega
  | ⟨1, _⟩ =>
    show win0_1.index t 1 * win0_1.size 1 + 1 * (j 1).val = (j 1).val
    rw [e.2.1]
    omega
  | ⟨2, _⟩ =>
    show win0_1.index t 2 * win0_1.size 2 + 1 * (j 2).val = (j 2).val
    rw [e.2.2]
    omega

theorem iblk0_2 (c : Dev nD) (t : Fin cfg0.N) : iblk0 V c 2 t = V c main_v11 := by
  funext j
  unfold iblk0
  refine congrArg (V c main_v11) (funext fun a => Fin.ext ?_)
  have e := idx0_2 t
  match a with
  | ⟨0, _⟩ =>
    show win0_2.index t 0 * win0_2.size 0 + 1 * (j 0).val = (j 0).val
    rw [e.1]
    omega
  | ⟨1, _⟩ =>
    show win0_2.index t 1 * win0_2.size 1 + 1 * (j 1).val = (j 1).val
    rw [e.2]
    omega

theorem iblk0_3 (c : Dev nD) (t : Fin cfg0.N) : iblk0 V c 3 t = V c main_v8 := by
  funext j
  unfold iblk0
  refine congrArg (V c main_v8) (funext fun a => Fin.ext ?_)
  have e := idx0_3 t
  match a with
  | ⟨0, _⟩ =>
    show win0_3.index t 0 * win0_3.size 0 + 1 * (j 0).val = (j 0).val
    rw [e.1]
    omega
  | ⟨1, _⟩ =>
    show win0_3.index t 1 * win0_3.size 1 + 1 * (j 1).val = (j 1).val
    rw [e.2]
    omega

theorem iblk0_4 (c : Dev nD) (t : Fin cfg0.N) : iblk0 V c 4 t = V c main_v12 := by
  funext j
  unfold iblk0
  refine congrArg (V c main_v12) (funext fun a => Fin.ext ?_)
  have e := idx0_4 t
  match a with
  | ⟨0, _⟩ =>
    show win0_4.index t 0 * win0_4.size 0 + 1 * (j 0).val = (j 0).val
    rw [e.1]
    omega
  | ⟨1, _⟩ =>
    show win0_4.index t 1 * win0_4.size 1 + 1 * (j 1).val = (j 1).val
    rw [e.2]
    omega

/-- What the kernel's result array holds. -/
def arr1 (c : Dev nD) : S2x1024x128.Idx → F .f32 :=
  fun i => block (boxesOf (V c main_v138) (i 0)) (scoresOf (V c main_v140) (i 0)) (ix3 0 (i 1) (i 2))

theorem cover1 (i : S2x1024x128.Idx) : ∃ t : Fin cfg1.N, (cfg1.win 2).flush t = true ∧ i ∈ ((cfg1.win 2).blk t).view.set := by
  refine ⟨pt1 (i 0), flush1_2 _, ?_⟩
  show i ∈ ((View.whole main_v141).slice (win1_2.rect (pt1 (i 0)))).set
  rw [View.set_slice_whole, Rect.mem_set_unit]
  have e := idx1_2 (pt1 (i 0))
  intro a
  match a with
  | ⟨0, _⟩ =>
    show win1_2.index (pt1 (i 0)) 0 * win1_2.size 0 ≤ (i 0).val ∧ (i 0).val < win1_2.index (pt1 (i 0)) 0 * win1_2.size 0 + 1
    rw [e.1]; show (i 0).val ≤ (i 0).val ∧ (i 0).val < (i 0).val + 1; omega
  | ⟨1, _⟩ =>
    have h : (i 1).val < S2x1024x128.size 1 := (i 1).isLt
    show win1_2.index (pt1 (i 0)) 1 * win1_2.size 1 ≤ (i 1).val ∧ (i 1).val < win1_2.index (pt1 (i 0)) 1 * win1_2.size 1 + S2x1024x128.size 1
    rw [e.2.1]; omega
  | ⟨2, _⟩ =>
    have h : (i 2).val < S2x1024x128.size 2 := (i 2).isLt
    show win1_2.index (pt1 (i 0)) 2 * win1_2.size 2 ≤ (i 2).val ∧ (i 2).val < win1_2.index (pt1 (i 0)) 2 * win1_2.size 2 + S2x1024x128.size 2
    rw [e.2.2]; omega

/-- The kernel's result array, whole. -/
theorem final1 (c : Dev nD) : (dat1 V c).arrAt 2 cfg1.N = arr1 V c := by
  refine (dat1 V c).arrAt_eq_of_cover 2 _ (fun t _ => ?_) (fun i => ?_)
  · obtain ⟨b, rfl⟩ := pt1_surj t
    show (cfg1.win 2).cut (grid1.coords _) ((dat1 V c).after 2 _) = _
    rw [after1_2]
    unfold outsAt1
    rw [out_eq, iblk1_0, iblk1_1]
    funext x
    have h0 : (x 0).val < 1 := (x 0).isLt
    have e := idx1_2 (pt1 b)
    have hx : ((cfg1.win 2).blk (pt1 b)).view.emb x = (ix3 b (x 1) (x 2) : S2x1024x128.Idx) := by
      refine funext fun a => Fin.ext ?_
      match a with
      | ⟨0, _⟩ =>
        show win1_2.index (pt1 b) 0 * win1_2.size 0 + 1 * (x 0).val = b.val
        rw [e.1]; show b.val + _ = b.val; omega
      | ⟨1, _⟩ =>
        show win1_2.index (pt1 b) 1 * win1_2.size 1 + 1 * (x 1).val = (x 1).val
        rw [e.2.1]; omega
      | ⟨2, _⟩ =>
        show win1_2.index (pt1 b) 2 * win1_2.size 2 + 1 * (x 2).val = (x 2).val
        rw [e.2.2]; omega
    show _ = arr1 V c (((cfg1.win 2).blk (pt1 b)).view.emb x)
    rw [hx]
    have hx' : x = (ix3 0 (x 1) (x 2)) := by
      refine funext fun a => Fin.ext ?_
      match a with
      | ⟨0, _⟩ => show (x 0).val = 0; omega
      | ⟨1, _⟩ => rfl
      | ⟨2, _⟩ => rfl
    have ea : arr1 V c (ix3 b (x 1) (x 2)) = block (boxesOf (V c main_v138) b) (scoresOf (V c main_v140) b) (ix3 0 (x 1) (x 2)) := rfl
    rw [ea]
    generalize block (boxesOf (V c main_v138) b) (scoresOf (V c main_v140) b) = f
    show f x = f (ix3 0 (x 1) (x 2))
    exact congrArg f hx'
  · exact cover1 i

/-- What the kernel's result array holds. -/
def arr0 (c : Dev nD) : S2x4096x128.Idx → F .f32 :=
  fun i => out0_5 (imageOf (V c main_v1) (i 0)) (V c main_v3) (V c main_v11) (V c main_v8) (V c main_v12) (ix3 0 (i 1) (i 2))

theorem cover0 (i : S2x4096x128.Idx) : ∃ t : Fin cfg0.N, (cfg0.win 5).flush t = true ∧ i ∈ ((cfg0.win 5).blk t).view.set := by
  refine ⟨pt0 (i 0), flush0_5 _, ?_⟩
  show i ∈ ((View.whole main_v13).slice (win0_5.rect (pt0 (i 0)))).set
  rw [View.set_slice_whole, Rect.mem_set_unit]
  have e := idx0_5 (pt0 (i 0))
  intro a
  match a with
  | ⟨0, _⟩ =>
    show win0_5.index (pt0 (i 0)) 0 * win0_5.size 0 ≤ (i 0).val ∧ (i 0).val < win0_5.index (pt0 (i 0)) 0 * win0_5.size 0 + 1
    rw [e.1]; show (i 0).val ≤ (i 0).val ∧ (i 0).val < (i 0).val + 1; omega
  | ⟨1, _⟩ =>
    have h : (i 1).val < S2x4096x128.size 1 := (i 1).isLt
    show win0_5.index (pt0 (i 0)) 1 * win0_5.size 1 ≤ (i 1).val ∧ (i 1).val < win0_5.index (pt0 (i 0)) 1 * win0_5.size 1 + S2x4096x128.size 1
    rw [e.2.1]; omega
  | ⟨2, _⟩ =>
    have h : (i 2).val < S2x4096x128.size 2 := (i 2).isLt
    show win0_5.index (pt0 (i 0)) 2 * win0_5.size 2 ≤ (i 2).val ∧ (i 2).val < win0_5.index (pt0 (i 0)) 2 * win0_5.size 2 + S2x4096x128.size 2
    rw [e.2.2]; omega

/-- The kernel's result array, whole. -/
theorem final0 (c : Dev nD) : (dat0 V c).arrAt 5 cfg0.N = arr0 V c := by
  refine (dat0 V c).arrAt_eq_of_cover 5 _ (fun t _ => ?_) (fun i => ?_)
  · obtain ⟨b, rfl⟩ := pt0_surj t
    show (cfg0.win 5).cut (grid0.coords _) ((dat0 V c).after 5 _) = _
    rw [after0_5, iblk0_0, iblk0_1, iblk0_2, iblk0_3, iblk0_4]
    funext x
    have h0 : (x 0).val < 1 := (x 0).isLt
    have e := idx0_5 (pt0 b)
    have hx : ((cfg0.win 5).blk (pt0 b)).view.emb x = (ix3 b (x 1) (x 2) : S2x4096x128.Idx) := by
      refine funext fun a => Fin.ext ?_
      match a with
      | ⟨0, _⟩ =>
        show win0_5.index (pt0 b) 0 * win0_5.size 0 + 1 * (x 0).val = b.val
        rw [e.1]; show b.val + _ = b.val; omega
      | ⟨1, _⟩ =>
        show win0_5.index (pt0 b) 1 * win0_5.size 1 + 1 * (x 1).val = (x 1).val
        rw [e.2.1]; omega
      | ⟨2, _⟩ =>
        show win0_5.index (pt0 b) 2 * win0_5.size 2 + 1 * (x 2).val = (x 2).val
        rw [e.2.2]; omega
    have hG : ∀ G : S2x4096x128.Idx → F .f32, ((cfg0.win 5).blk (pt0 b)).view.read (Elt F) G x = G (ix3 b (x 1) (x 2)) :=
      fun G => congrArg G hx
    refine Eq.trans ?_ (hG (arr0 V c)).symm
    have hx' : x = (ix3 0 (x 1) (x 2)) := by
      refine funext fun a => Fin.ext ?_
      match a with
      | ⟨0, _⟩ => show (x 0).val = 0; omega
      | ⟨1, _⟩ => rfl
      | ⟨2, _⟩ => rfl
    have ea : arr0 V c (ix3 b (x 1) (x 2)) = out0_5 (imageOf (V c main_v1) b) (V c main_v3) (V c main_v11) (V c main_v8) (V c main_v12) (ix3 0 (x 1) (x 2)) := rfl
    rw [ea]
    generalize out0_5 (imageOf (V c main_v1) b) (V c main_v3) (V c main_v11) (V c main_v8) (V c main_v12) = f
    show f x = f (ix3 0 (x 1) (x 2))
    exact congrArg f hx'
  · exact cover0 i

end Cert.KernelIdeal.Nms
-- ==== Proof.HeadKer.lean ====
/- The head kernel's block, read at an index: three-by-three taps, a rectifier, the two one-by-one convolutions side by side. -/
module

public import proofs.«01_k».proof.Proof.Arrays

@[expose] public section

set_option maxRecDepth 16384

noncomputable section

namespace Cert.Head

open Idealize.ShloMosaic

/-- One unit of the hidden layer at `(h, w)`, channel `o`: the nine taps `K d c o` over the padded image `X`, plus the bias, rectified. -/
def hid (X : Fin 66 → Fin 66 → Fin 256 → EReal) (K : Fin 9 → Fin 256 → Fin 256 → EReal) (β : Fin 256 → EReal)
    (h w : Fin 64) (o : Fin 256) : EReal :=
  max (((((((((∑ c, X ⟨h.val, by omega⟩ ⟨w.val, by omega⟩ c * K 0 c o) + ∑ c, X ⟨h.val, by omega⟩ ⟨1 + w.val, by omega⟩ c * K 1 c o)
    + ∑ c, X ⟨h.val, by omega⟩ ⟨2 + w.val, by omega⟩ c * K 2 c o)
    + ∑ c, X ⟨1 + h.val, by omega⟩ ⟨w.val, by omega⟩ c * K 3 c o)
    + ∑ c, X ⟨1 + h.val, by omega⟩ ⟨1 + w.val, by omega⟩ c * K 4 c o)
    + ∑ c, X ⟨1 + h.val, by omega⟩ ⟨2 + w.val, by omega⟩ c * K 5 c o)
    + ∑ c, X ⟨2 + h.val, by omega⟩ ⟨w.val, by omega⟩ c * K 6 c o)
    + ∑ c, X ⟨2 + h.val, by omega⟩ ⟨1 + w.val, by omega⟩ c * K 7 c o)
    + ∑ c, X ⟨2 + h.val, by omega⟩ ⟨2 + w.val, by omega⟩ c * K 8 c o + β o) 0

end Cert.Head

namespace Cert.KernelIdeal.Nms

open Idealize.ShloMosaic
open Cert.KernelIdeal.Gen Cert.Head

theorem pay1_at (a b : FVec Ideal S4096x256 .f32) (u : FVec Ideal S256x256 .f32) (x0 : Vec Ideal S1x64x64x256 .f32)
    (w0 : Vec Ideal S1x256x256 .f32) (y : Vec Ideal S1x256 .f32) (z : Vec Ideal S256x128 .f32) (zz : Vec Ideal S1x128 .f32)
    (p : Fin 4096) (o : Fin 128) :
    k0_pay1 a b u x0 w0 y z zz (ix3 0 p o)
      = ∑ x, max (a (ix2 p x) + ∑ x_1, b (ix2 p x_1) * u (ix2 x_1 x)
          + ∑ x_1, x0 (ix4 0 ⟨p.val / 64, by omega⟩ ⟨p.val % 64, by omega⟩ x_1) * w0 (ix3 0 x_1 x) + y (ix2 0 x)) 0 * z (ix2 x o) + zz (ix2 0 o) := by
  pointwise [k0_pay1]

theorem pay2_at (x0 : Vec Ideal S1x64x64x256 .f32) (w0 : Vec Ideal S1x256x256 .f32) (x1 : Vec Ideal S1x64x64x256 .f32)
    (w1 : Vec Ideal S1x256x256 .f32) (x2 : Vec Ideal S1x64x64x256 .f32) (w2 : Vec Ideal S1x256x256 .f32) (p : Fin 4096) (o : Fin 256) :
    k0_pay2 x0 w0 x1 w1 x2 w2 (ix2 p o)
      = ∑ x, x0 (ix4 0 ⟨p.val / 64, by omega⟩ ⟨p.val % 64, by omega⟩ x) * w0 (ix3 0 x o)
        + ∑ x, x1 (ix4 0 ⟨p.val / 64, by omega⟩ ⟨p.val % 64, by omega⟩ x) * w1 (ix3 0 x o)
        + ∑ x, x2 (ix4 0 ⟨p.val / 64, by omega⟩ ⟨p.val % 64, by omega⟩ x) * w2 (ix3 0 x o) := by
  pointwise [k0_pay2]

theorem pay3_at (x0 : Vec Ideal S1x64x64x256 .f32) (p : Fin 4096) (o : Fin 256) :
    k0_pay3 x0 (ix2 p o) = x0 (ix4 0 ⟨p.val / 64, by omega⟩ ⟨p.val % 64, by omega⟩ o) := by
  pointwise [k0_pay3]
theorem pay6_at (x0 : Vec Ideal S1x64x64x256 .f32) (p : Fin 4096) (o : Fin 256) :
    k0_pay6 x0 (ix2 p o) = x0 (ix4 0 ⟨p.val / 64, by omega⟩ ⟨p.val % 64, by omega⟩ o) := by
  pointwise [k0_pay6]
theorem pay4_at (x0 : Vec Ideal S1x256x256 .f32) (p o : Fin 256) : k0_pay4 x0 (ix2 p o) = x0 (ix3 0 p o) := by
  pointwise [k0_pay4]
theorem pay7_at (x0 : Vec Ideal S1x256x256 .f32) (p o : Fin 256) : k0_pay7 x0 (ix2 p o) = x0 (ix3 0 p o) := by
  pointwise [k0_pay7]

theorem pay5_at (a : FVec Ideal S4096x256 .f32) (b : FVec Ideal S4096x256 .f32) (u : FVec Ideal S256x256 .f32)
    (x0 : Vec Ideal S1x64x64x256 .f32) (w0 : Vec Ideal S1x256x256 .f32) (x1 : Vec Ideal S1x64x64x256 .f32)
    (w1 : Vec Ideal S1x256x256 .f32) (x2 : Vec Ideal S1x64x64x256 .f32) (w2 : Vec Ideal S1x256x256 .f32) (p : Fin 4096) (o : Fin 256) :
    k0_pay5 a b u x0 w0 x1 w1 x2 w2 (ix2 p o)
      = a (ix2 p o) + ∑ x, b (ix2 p x) * u (ix2 x o)
        + ∑ x, x0 (ix4 0 ⟨p.val / 64, by omega⟩ ⟨p.val % 64, by omega⟩ x) * w0 (ix3 0 x o)
        + ∑ x, x1 (ix4 0 ⟨p.val / 64, by omega⟩ ⟨p.val % 64, by omega⟩ x) * w1 (ix3 0 x o)
        + ∑ x, x2 (ix4 0 ⟨p.val / 64, by omega⟩ ⟨p.val % 64, by omega⟩ x) * w2 (ix3 0 x o) := by
  pointwise [k0_pay5]

/-- The block the head kernel writes, at row `p` (place `(p / 64, p % 64)`) and channel `o`. -/
theorem head_at (x0 : Vec Ideal S1x66x66x256 .f32) (x1 : Vec Ideal S9x256x256 .f32) (x2 : Vec Ideal S1x256 .f32)
    (x3 : Vec Ideal S256x128 .f32) (x4 : Vec Ideal S1x128 .f32) (p : Fin 4096) (o : Fin 128) :
    out0_5 x0 x1 x2 x3 x4 (ix3 0 p o)
      = ∑ x, hid (fun h w c => x0 (ix4 0 h w c)) (fun d c o => x1 (ix3 d c o)) (fun o => x2 (ix2 0 o))
          ⟨p.val / 64, by omega⟩ ⟨p.val % 64, by omega⟩ x * x3 (ix2 x o) + x4 (ix2 0 o) := by
  have hz3 : (![0, 0, 0] : Fin 3 → ℕ) = fun _ => 0 := by decide
  unfold out0_5 r0_21
  rw [View.canon_unit_zero hz3, pay1_at]
  unfold hid
  simp only [pay5_at, pay2_at, pay3_at, pay4_at, pay6_at, pay7_at]
  pointwise [r0_0]

end Cert.KernelIdeal.Nms
-- ==== Proof.RefEq1.lean ====
/- Host equations: the reference before its loop, part 1. `r_x V` is what buffer `x` holds at the end of the line from the contents `V`; each operation gives the equation of its result. -/
module

public import Idealize.ShloMosaic.PureOps.Ideal
public import proofs.«01_k».proof.Proof.Ssa
public import proofs.«01_k».proof.Proof.Gen.ReferenceIdeal.Run

@[expose] public section

set_option maxRecDepth 16384

noncomputable section

namespace Cert.ReferenceIdeal.Value

open Idealize.ShloMosaic Idealize.ShloMosaic.TcCoe Idealize.ShloMosaic.StableHlo
open Cert.ReferenceIdeal.Gen

variable (V : Valuation τ sig (Elt Ideal))

attribute [local irreducible] after

/-- The operations of the reference before its loop, in one line. -/
abbrev rL : List (HloOp τ sig (Elt Ideal)) := (preI (F := Ideal)).flatten
/-- What each writes. -/
abbrev r_W : List (Ref sig .tc) := [main_cst, main_cst_0, main_c, main_call0_v0, main_v0, main_v1, main_v2, main_v3, main_v4, main_v5, main_cst_1, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_call1_cst, main_call1_v0, main_v59, main_c_2, main_call2_v0, main_v60, main_v61, main_v62, main_v63, main_cst_3, main_v64, main_v65, main_v66, main_v67, main_v68, main_c_4, main_call3_v0, main_v69, main_v70, main_v71, main_v72, main_cst_5, main_v73, main_v74, main_v75, main_v76, main_v77, main_v78, main_v79, main_v80, main_v81, main_v82, main_v83, main_v84, main_cst_6, main_v85, main_v86, main_v87, main_v88, main_v89, main_v90, main_v91, main_v92, main_v93, main_v94, main_v95, main_v96, main_v97, main_v98, main_v99, main_v100, main_v101, main_v102, main_v103, main_v104, main_v105, main_cst_7, main_v106, main_v107, main_v108, main_v109, main_cst_8, main_v110, main_v111, main_v112, main_cst_9, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_cst_10, main_v144, main_v145, main_v146, main_v147, main_v148, main_cst_11, main_v149, main_v150, main_v151, main_v152, main_v153, main_v154, main_v155, main_v156, main_v157, main_cst_12, main_v158, main_v159, main_v160, main_v161, main_cst_13, main_v162, main_v163, main_v164, main_v165, main_v166, main_v167, main_v168, main_v169, main_v170, main_v171, main_v172, main_v173, main_v174, main_v175, main_v176, main_v177, main_v178, main_v179, main_v180, main_v181, main_v182, main_v183, main_cst_14, main_v184, main_v185, main_v186, main_cst_15, main_v187, main_v188, main_v189, main_cst_16, main_v190, main_v191, main_v192, main_cst_17, main_v193, main_v194, main_v195, main_v196, main_v197, main_v198, main_v199, main_v200, main_values, main_indices, main_c_18, main_v201, main_v202, main_c_19, main_v203, main_v204, main_v205, main_v206, main_v207, main_v208, main_v209, main_cst_20, main_cst_21, main_call5_v0, main_call5_v1, main_call5_v2, main_call5_v3, main_call5_v4, main_v210, main_v211, main_v212, main_cst_22, main_cst_23, main_call6_v0, main_call6_v1, main_call6_v2, main_call6_v3, main_call6_v4, main_v213, main_v214, main_v215, main_cst_24, main_cst_25, main_call7_v0, main_call7_v1, main_call7_v2, main_call7_v3, main_call7_v4, main_v216, main_v217, main_v218, main_cst_26, main_cst_27, main_call8_v0, main_call8_v1, main_call8_v2, main_call8_v3, main_call8_v4, main_v219, main_v220, main_v221, main_v222, main_v223, main_v224, main_v225, main_v226, main_cst_28, main_v227, main_v228, main_cst_29, main_v229, main_v230, main_v231, main_v232, main_v233, main_v234, main_v235, main_v236, main_v237, main_v238, main_v239, main_v240, main_cst_30, main_v241, main_v242, main_cst_31, main_v243, main_v244, main_v245, main_cst_32, main_v246, main_v247, main_v248, main_cst_33, main_call9_v0, main_call9_v1, main_call9_v2, main_v249, main_v250, main_call10_v0, main_call10_v1, main_call10_v2_0, main_v251, main_c_34, main_v252, main_v253, main_c_35, main_v254, main_v255, main_v256, main_v257, main_v258, main_c_36, main_v259, main_v260, main_c_37, main_v261, main_v262, main_v263, main_v264, main_v265, main_c_38, main_v266, main_v267, main_c_39, main_v268, main_v269, main_v270, main_v271, main_v272, main_v273, main_v274, main_v275, main_v276, main_v277, main_cst_40, main_v278, main_v279, main_v280, main_v281, main_v282, main_v283, main_v284, main_cst_41, main_v285, main_v286, main_v287, main_v288, main_v289, main_v290, main_v291, main_v292, main_cst_42, main_v293, main_v294, main_v295, main_v296, main_v297, main_v298, main_v299, main_cst_43, main_v300, main_v301, main_v302, main_v303, main_v304, main_v305, main_v306, main_v307, main_v308, main_v309, main_v310, main_v311, main_v312, main_v313, main_v314, main_v315, main_v316, main_v317, main_cst_44, main_v318, main_v319, main_v320, main_v321, main_v322, main_v323, main_v324, main_v325, main_v326, main_v327, main_v328, main_v329, main_v330, main_cst_45, main_v331, main_v332, main_v333, main_v334, main_v335, main_c_46, main_v336_0, main_v336_1, main_v336_2, main_v336_3, main_v336_4]
theorem r_hW : Ssa.Writes rL r_W := rfl

def r_cst : (⟨S3, .f32⟩ : BufTy).Contents (Elt Ideal) := after rL V (Proc.devRef .tc main_cst)
theorem r_cst_eq : r_cst V = fun i => FloatOps.ofBits (F := Ideal) .f32 (lit0 (S3.rowMajor i)) := (Ssa.nullary r_hW V 0 rfl (by decide +kernel) :)
def r_cst_0 : (⟨S3, .f32⟩ : BufTy).Contents (Elt Ideal) := after rL V (Proc.devRef .tc main_cst_0)
theorem r_cst_0_eq : r_cst_0 V = fun i => FloatOps.ofBits (F := Ideal) .f32 (lit1 (S3.rowMajor i)) := (Ssa.nullary r_hW V 1 rfl (by decide +kernel) :)
def r_c : (⟨S_, .i32⟩ : BufTy).Contents (Elt Ideal) := after rL V (Proc.devRef .tc main_c)
theorem r_c_eq : r_c V = constantI S_ 32 0#32 := (Ssa.nullary r_hW V 2 rfl (by decide +kernel) :)
def r_call0_v0 : (⟨S_, .f32⟩ : BufTy).Contents (Elt Ideal) := after rL V (Proc.devRef .tc main_call0_v0)
theorem r_call0_v0_eq : r_call0_v0 V = sitofp (F := Ideal) .f32 (r_c V) := (Ssa.unary r_hW V 3 rfl (by decide +kernel) (by decide +kernel) :)
def r_arg1 : (⟨S2x256x64x64, .f32⟩ : BufTy).Contents (Elt Ideal) := after rL V (Proc.devRef .tc main_arg1)
theorem r_arg1_in : r_arg1 V = V (Proc.devRef .tc main_arg1) := Ssa.input r_hW V (by decide +kernel)
def r_v0 : (⟨S2x256x66x66, .f32⟩ : BufTy).Contents (Elt Ideal) := after rL V (Proc.devRef .tc main_v0)
theorem r_v0_eq : r_v0 V = pad S2x256x66x66 ![0, 0, 1, 1] ![0, 0, 1, 1] ![0, 0, 0, 0] (r_arg1 V) (r_call0_v0 V) pads_S2x256x64x64_S2x256x66x66_000_000_110_110 h_S_ := (Ssa.binary r_hW V 4 rfl (by decide +kernel) (by decide +kernel) (by decide +kernel) :)
def r_v1 : (⟨S2x256x64x64, .f32⟩ : BufTy).Contents (Elt Ideal) := after rL V (Proc.devRef .tc main_v1)
theorem r_v1_eq : r_v1 V = extractStridedSlice S2x256x64x64 ![0, 0, 0, 0] (r_v0 V) slices_S2x256x66x66_S2x256x64x64_0_0_0_0 := (Ssa.unary r_hW V 5 rfl (by decide +kernel) (by decide +kernel) :)
def r_arg2 : (⟨S256x256x3x3, .f32⟩ : BufTy).Contents (Elt Ideal) := after rL V (Proc.devRef .tc main_arg2)
theorem r_arg2_in : r_arg2 V = V (Proc.devRef .tc main_arg2) := Ssa.input r_hW V (by decide +kernel)
def r_v2 : (⟨S256x256x1x1, .f32⟩ : BufTy).Contents (Elt Ideal) := after rL V (Proc.devRef .tc main_v2)
theorem r_v2_eq : r_v2 V = extractStridedSlice S256x256x1x1 ![0, 0, 0, 0] (r_arg2 V) slices_S256x256x3x3_S256x256x1x1_0_0_0_0 := (Ssa.unary r_hW V 6 rfl (by decide +kernel) (by decide +kernel) :)
def r_v3 : (⟨S256x256, .f32⟩ : BufTy).Contents (Elt Ideal) := after rL V (Proc.devRef .tc main_v3)
theorem r_v3_eq : r_v3 V = shapeCast S256x256 (r_v2 V) shapeCasts_S256x256x1x1_S256x256 := (Ssa.reshape r_hW V 7 rfl (by decide +kernel) (by decide +kernel) :)
def r_v4 : (⟨S256x2x64x64, .f32⟩ : BufTy).Contents (Elt Ideal) := after rL V (Proc.devRef .tc main_v4)
theorem r_v4_eq : r_v4 V = Host.dotGeneral (F := Ideal) (φ₁ := .f32) (φ₂ := .f32) dot_S256x256_S2x256x64x64_S256x2x64x64_1_1_0_023_n_n none (r_v3 V) (r_v1 V) := (Ssa.binary r_hW V 8 rfl (by decide +kernel) (by decide +kernel) (by decide +kernel) :)
def r_v5 : (⟨S2x256x64x64, .f32⟩ : BufTy).Contents (Elt Ideal) := after rL V (Proc.devRef .tc main_v5)
theorem r_v5_eq : r_v5 V = transpose S2x256x64x64 [1, 0, 2, 3] (r_v4 V) transposes_S256x2x64x64_S2x256x64x64_1_0_2_3 := (Ssa.unary r_hW V 9 rfl (by decide +kernel) (by decide +kernel) :)
def r_cst_1 : (⟨S_, .f32⟩ : BufTy).Contents (Elt Ideal) := after rL V (Proc.devRef .tc main_cst_1)
theorem r_cst_1_eq : r_cst_1 V = constant (F := Ideal) S_ .f32 0x00000000#32 := (Ssa.nullary r_hW V 10 rfl (by decide +kernel) :)
def r_v6 : (⟨S2x256x64x64, .f32⟩ : BufTy).Contents (Elt Ideal) := after rL V (Proc.devRef .tc main_v6)
theorem r_v6_eq : r_v6 V = broadcastInDim S2x256x64x64 ![] bcast_S_S2x256x64x64 (r_cst_1 V) := (Ssa.unary r_hW V 11 rfl (by decide +kernel) (by decide +kernel) :)
def r_v7 : (⟨S2x256x64x64, .f32⟩ : BufTy).Contents (Elt Ideal) := after rL V (Proc.devRef .tc main_v7)
theorem r_v7_eq : r_v7 V = addf (F := Ideal) (φ := .f32) (r_v6 V) (r_v5 V) := (Ssa.binary r_hW V 12 rfl (by decide +kernel) (by decide +kernel) (by decide +kernel) :)
def r_v8 : (⟨S2x256x64x64, .f32⟩ : BufTy).Contents (Elt Ideal) := after rL V (Proc.devRef .tc main_v8)
theorem r_v8_eq : r_v8 V = extractStridedSlice S2x256x64x64 ![0, 0, 0, 1] (r_v0 V) slices_S2x256x66x66_S2x256x64x64_0_0_0_1 := (Ssa.unary r_hW V 13 rfl (by decide +kernel) (by decide +kernel) :)
def r_v9 : (⟨S256x256x1x1, .f32⟩ : BufTy).Contents (Elt Ideal) := after rL V (Proc.devRef .tc main_v9)
theorem r_v9_eq : r_v9 V = extractStridedSlice S256x256x1x1 ![0, 0, 0, 1] (r_arg2 V) slices_S256x256x3x3_S256x256x1x1_0_0_0_1 := (Ssa.unary r_hW V 14 rfl (by decide +kernel) (by decide +kernel) :)
def r_v10 : (⟨S256x256, .f32⟩ : BufTy).Contents (Elt Ideal) := after rL V (Proc.devRef .tc main_v10)
theorem r_v10_eq : r_v10 V = shapeCast S256x256 (r_v9 V) shapeCasts_S256x256x1x1_S256x256 := (Ssa.reshape r_hW V 15 rfl (by decide +kernel) (by decide +kernel) :)
def r_v11 : (⟨S256x2x64x64, .f32⟩ : BufTy).Contents (Elt Ideal) := after rL V (Proc.devRef .tc main_v11)
theorem r_v11_eq : r_v11 V = Host.dotGeneral (F := Ideal) (φ₁ := .f32) (φ₂ := .f32) dot_S256x256_S2x256x64x64_S256x2x64x64_1_1_0_023_n_n none (r_v10 V) (r_v8 V) := (Ssa.binary r_hW V 16 rfl (by decide +kernel) (by decide +kernel) (by decide +kernel) :)
def r_v12 : (⟨S2x256x64x64, .f32⟩ : BufTy).Contents (Elt Ideal) := after rL V (Proc.devRef .tc main_v12)
theorem r_v12_eq : r_v12 V = transpose S2x256x64x64 [1, 0, 2, 3] (r_v11 V) transposes_S256x2x64x64_S2x256x64x64_1_0_2_3 := (Ssa.unary r_hW V 17 rfl (by decide +kernel) (by decide +kernel) :)
def r_v13 : (⟨S2x256x64x64, .f32⟩ : BufTy).Contents (Elt Ideal) := after rL V (Proc.devRef .tc main_v13)
theorem r_v13_eq : r_v13 V = addf (F := Ideal) (φ := .f32) (r_v7 V) (r_v12 V) := (Ssa.binary r_hW V 18 rfl (by decide +kernel) (by decide +kernel) (by decide +kernel) :)
def r_v14 : (⟨S2x256x64x64, .f32⟩ : BufTy).Contents (Elt Ideal) := after rL V (Proc.devRef .tc main_v14)
theorem r_v14_eq : r_v14 V = extractStridedSlice S2x256x64x64 ![0, 0, 0, 2] (r_v0 V) slices_S2x256x66x66_S2x256x64x64_0_0_0_2 := (Ssa.unary r_hW V 19 rfl (by decide +kernel) (by decide +kernel) :)
def r_v15 : (⟨S256x256x1x1, .f32⟩ : BufTy).Contents (Elt Ideal) := after rL V (Proc.devRef .tc main_v15)
theorem r_v15_eq : r_v15 V = extractStridedSlice S256x256x1x1 ![0, 0, 0, 2] (r_arg2 V) slices_S256x256x3x3_S256x256x1x1_0_0_0_2 := (Ssa.unary r_hW V 20 rfl (by decide +kernel) (by decide +kernel) :)
def r_v16 : (⟨S256x256, .f32⟩ : BufTy).Contents (Elt Ideal) := after rL V (Proc.devRef .tc main_v16)
theorem r_v16_eq : r_v16 V = shapeCast S256x256 (r_v15 V) shapeCasts_S256x256x1x1_S256x256 := (Ssa.reshape r_hW V 21 rfl (by decide +kernel) (by decide +kernel) :)
def r_v17 : (⟨S256x2x64x64, .f32⟩ : BufTy).Contents (Elt Ideal) := after rL V (Proc.devRef .tc main_v17)
theorem r_v17_eq : r_v17 V = Host.dotGeneral (F := Ideal) (φ₁ := .f32) (φ₂ := .f32) dot_S256x256_S2x256x64x64_S256x2x64x64_1_1_0_023_n_n none (r_v16 V) (r_v14 V) := (Ssa.binary r_hW V 22 rfl (by decide +kernel) (by decide +kernel) (by decide +kernel) :)
def r_v18 : (⟨S2x256x64x64, .f32⟩ : BufTy).Contents (Elt Ideal) := after rL V (Proc.devRef .tc main_v18)
theorem r_v18_eq : r_v18 V = transpose S2x256x64x64 [1, 0, 2, 3] (r_v17 V) transposes_S256x2x64x64_S2x256x64x64_1_0_2_3 := (Ssa.unary r_hW V 23 rfl (by decide +kernel) (by decide +kernel) :)
def r_v19 : (⟨S2x256x64x64, .f32⟩ : BufTy).Contents (Elt Ideal) := after rL V (Proc.devRef .tc main_v19)
theorem r_v19_eq : r_v19 V = addf (F := Ideal) (φ := .f32) (r_v13 V) (r_v18 V) := (Ssa.binary r_hW V 24 rfl (by decide +kernel) (by decide +kernel) (by decide +kernel) :)
def r_v20 : (⟨S2x256x64x64, .f32⟩ : BufTy).Contents (Elt Ideal) := after rL V (Proc.devRef .tc main_v20)
theorem r_v20_eq : r_v20 V = extractStridedSlice S2x256x64x64 ![0, 0, 1, 0] (r_v0 V) slices_S2x256x66x66_S2x256x64x64_0_0_1_0 := (Ssa.unary r_hW V 25 rfl (by decide +kernel) (by decide +kernel) :)
def r_v21 : (⟨S256x256x1x1, .f32⟩ : BufTy).Contents (Elt Ideal) := after rL V (Proc.devRef .tc main_v21)
theorem r_v21_eq : r_v21 V = extractStridedSlice S256x256x1x1 ![0, 0, 1, 0] (r_arg2 V) slices_S256x256x3x3_S256x256x1x1_0_0_1_0 := (Ssa.unary r_hW V 26 rfl (by decide +kernel) (by decide +kernel) :)
def r_v22 : (⟨S256x256, .f32⟩ : BufTy).Contents (Elt Ideal) := after rL V (Proc.devRef .tc main_v22)
theorem r_v22_eq : r_v22 V = shapeCast S256x256 (r_v21 V) shapeCasts_S256x256x1x1_S256x256 := (Ssa.reshape r_hW V 27 rfl (by decide +kernel) (by decide +kernel) :)
def r_v23 : (⟨S256x2x64x64, .f32⟩ : BufTy).Contents (Elt Ideal) := after rL V (Proc.devRef .tc main_v23)
theorem r_v23_eq : r_v23 V = Host.dotGeneral (F := Ideal) (φ₁ := .f32) (φ₂ := .f32) dot_S256x256_S2x256x64x64_S256x2x64x64_1_1_0_023_n_n none (r_v22 V) (r_v20 V) := (Ssa.binary r_hW V 28 rfl (by decide +kernel) (by decide +kernel) (by decide +kernel) :)
def r_v24 : (⟨S2x256x64x64, .f32⟩ : BufTy).Contents (Elt Ideal) := after rL V (Proc.devRef .tc main_v24)
theorem r_v24_eq : r_v24 V = transpose S2x256x64x64 [1, 0, 2, 3] (r_v23 V) transposes_S256x2x64x64_S2x256x64x64_1_0_2_3 := (Ssa.unary r_hW V 29 rfl (by decide +kernel) (by decide +kernel) :)
def r_v25 : (⟨S2x256x64x64, .f32⟩ : BufTy).Contents (Elt Ideal) := after rL V (Proc.devRef .tc main_v25)
theorem r_v25_eq : r_v25 V = addf (F := Ideal) (φ := .f32) (r_v19 V) (r_v24 V) := (Ssa.binary r_hW V 30 rfl (by decide +kernel) (by decide +kernel) (by decide +kernel) :)
def r_v26 : (⟨S2x256x64x64, .f32⟩ : BufTy).Contents (Elt Ideal) := after rL V (Proc.devRef .tc main_v26)
theorem r_v26_eq : r_v26 V = extractStridedSlice S2x256x64x64 ![0, 0, 1, 1] (r_v0 V) slices_S2x256x66x66_S2x256x64x64_0_0_1_1 := (Ssa.unary r_hW V 31 rfl (by decide +kernel) (by decide +kernel) :)
def r_v27 : (⟨S256x256x1x1, .f32⟩ : BufTy).Contents (Elt Ideal) := after rL V (Proc.devRef .tc main_v27)
theorem r_v27_eq : r_v27 V = extractStridedSlice S256x256x1x1 ![0, 0, 1, 1] (r_arg2 V) slices_S256x256x3x3_S256x256x1x1_0_0_1_1 := (Ssa.unary r_hW V 32 rfl (by decide +kernel) (by decide +kernel) :)
def r_v28 : (⟨S256x256, .f32⟩ : BufTy).Contents (Elt Ideal) := after rL V (Proc.devRef .tc main_v28)
theorem r_v28_eq : r_v28 V = shapeCast S256x256 (r_v27 V) shapeCasts_S256x256x1x1_S256x256 := (Ssa.reshape r_hW V 33 rfl (by decide +kernel) (by decide +kernel) :)
def r_v29 : (⟨S256x2x64x64, .f32⟩ : BufTy).Contents (Elt Ideal) := after rL V (Proc.devRef .tc main_v29)
theorem r_v29_eq : r_v29 V = Host.dotGeneral (F := Ideal) (φ₁ := .f32) (φ₂ := .f32) dot_S256x256_S2x256x64x64_S256x2x64x64_1_1_0_023_n_n none (r_v28 V) (r_v26 V) := (Ssa.binary r_hW V 34 rfl (by decide +kernel) (by decide +kernel) (by decide +kernel) :)
def r_v30 : (⟨S2x256x64x64, .f32⟩ : BufTy).Contents (Elt Ideal) := after rL V (Proc.devRef .tc main_v30)
theorem r_v30_eq : r_v30 V = transpose S2x256x64x64 [1, 0, 2, 3] (r_v29 V) transposes_S256x2x64x64_S2x256x64x64_1_0_2_3 := (Ssa.unary r_hW V 35 rfl (by decide +kernel) (by decide +kernel) :)
def r_v31 : (⟨S2x256x64x64, .f32⟩ : BufTy).Contents (Elt Ideal) := after rL V (Proc.devRef .tc main_v31)
theorem r_v31_eq : r_v31 V = addf (F := Ideal) (φ := .f32) (r_v25 V) (r_v30 V) := (Ssa.binary r_hW V 36 rfl (by decide +kernel) (by decide +kernel) (by decide +kernel) :)
def r_v32 : (⟨S2x256x64x64, .f32⟩ : BufTy).Contents (Elt Ideal) := after rL V (Proc.devRef .tc main_v32)
theorem r_v32_eq : r_v32 V = extractStridedSlice S2x256x64x64 ![0, 0, 1, 2] (r_v0 V) slices_S2x256x66x66_S2x256x64x64_0_0_1_2 := (Ssa.unary r_hW V 37 rfl (by decide +kernel) (by decide +kernel) :)
def r_v33 : (⟨S256x256x1x1, .f32⟩ : BufTy).Contents (Elt Ideal) := after rL V (Proc.devRef .tc main_v33)
theorem r_v33_eq : r_v33 V = extractStridedSlice S256x256x1x1 ![0, 0, 1, 2] (r_arg2 V) slices_S256x256x3x3_S256x256x1x1_0_0_1_2 := (Ssa.unary r_hW V 38 rfl (by decide +kernel) (by decide +kernel) :)
def r_v34 : (⟨S256x256, .f32⟩ : BufTy).Contents (Elt Ideal) := after rL V (Proc.devRef .tc main_v34)
theorem r_v34_eq : r_v34 V = shapeCast S256x256 (r_v33 V) shapeCasts_S256x256x1x1_S256x256 := (Ssa.reshape r_hW V 39 rfl (by decide +kernel) (by decide +kernel) :)
def r_v35 : (⟨S256x2x64x64, .f32⟩ : BufTy).Contents (Elt Ideal) := after rL V (Proc.devRef .tc main_v35)
theorem r_v35_eq : r_v35 V = Host.dotGeneral (F := Ideal) (φ₁ := .f32) (φ₂ := .f32) dot_S256x256_S2x256x64x64_S256x2x64x64_1_1_0_023_n_n none (r_v34 V) (r_v32 V) := (Ssa.binary r_hW V 40 rfl (by decide +kernel) (by decide +kernel) (by decide +kernel) :)
def r_v36 : (⟨S2x256x64x64, .f32⟩ : BufTy).Contents (Elt Ideal) := after rL V (Proc.devRef .tc main_v36)
theorem r_v36_eq : r_v36 V = transpose S2x256x64x64 [1, 0, 2, 3] (r_v35 V) transposes_S256x2x64x64_S2x256x64x64_1_0_2_3 := (Ssa.unary r_hW V 41 rfl (by decide +kernel) (by decide +kernel) :)
def r_v37 : (⟨S2x256x64x64, .f32⟩ : BufTy).Contents (Elt Ideal) := after rL V (Proc.devRef .tc main_v37)
theorem r_v37_eq : r_v37 V = addf (F := Ideal) (φ := .f32) (r_v31 V) (r_v36 V) := (Ssa.binary r_hW V 42 rfl (by decide +kernel) (by decide +kernel) (by decide +kernel) :)
def r_v38 : (⟨S2x256x64x64, .f32⟩ : BufTy).Contents (Elt Ideal) := after rL V (Proc.devRef .tc main_v38)
theorem r_v38_eq : r_v38 V = extractStridedSlice S2x256x64x64 ![0, 0, 2, 0] (r_v0 V) slices_S2x256x66x66_S2x256x64x64_0_0_2_0 := (Ssa.unary r_hW V 43 rfl (by decide +kernel) (by decide +kernel) :)
def r_v39 : (⟨S256x256x1x1, .f32⟩ : BufTy).Contents (Elt Ideal) := after rL V (Proc.devRef .tc main_v39)
theorem r_v39_eq : r_v39 V = extractStridedSlice S256x256x1x1 ![0, 0, 2, 0] (r_arg2 V) slices_S256x256x3x3_S256x256x1x1_0_0_2_0 := (Ssa.unary r_hW V 44 rfl (by decide +kernel) (by decide +kernel) :)
def r_v40 : (⟨S256x256, .f32⟩ : BufTy).Contents (Elt Ideal) := after rL V (Proc.devRef .tc main_v40)
theorem r_v40_eq : r_v40 V = shapeCast S256x256 (r_v39 V) shapeCasts_S256x256x1x1_S256x256 := (Ssa.reshape r_hW V 45 rfl (by decide +kernel) (by decide +kernel) :)
def r_v41 : (⟨S256x2x64x64, .f32⟩ : BufTy).Contents (Elt Ideal) := after rL V (Proc.devRef .tc main_v41)
theorem r_v41_eq : r_v41 V = Host.dotGeneral (F := Ideal) (φ₁ := .f32) (φ₂ := .f32) dot_S256x256_S2x256x64x64_S256x2x64x64_1_1_0_023_n_n none (r_v40 V) (r_v38 V) := (Ssa.binary r_hW V 46 rfl (by decide +kernel) (by decide +kernel) (by decide +kernel) :)
def r_v42 : (⟨S2x256x64x64, .f32⟩ : BufTy).Contents (Elt Ideal) := after rL V (Proc.devRef .tc main_v42)
theorem r_v42_eq : r_v42 V = transpose S2x256x64x64 [1, 0, 2, 3] (r_v41 V) transposes_S256x2x64x64_S2x256x64x64_1_0_2_3 := (Ssa.unary r_hW V 47 rfl (by decide +kernel) (by decide +kernel) :)
def r_v43 : (⟨S2x256x64x64, .f32⟩ : BufTy).Contents (Elt Ideal) := after rL V (Proc.devRef .tc main_v43)
theorem r_v43_eq : r_v43 V = addf (F := Ideal) (φ := .f32) (r_v37 V) (r_v42 V) := (Ssa.binary r_hW V 48 rfl (by decide +kernel) (by decide +kernel) (by decide +kernel) :)
def r_v44 : (⟨S2x256x64x64, .f32⟩ : BufTy).Contents (Elt Ideal) := after rL V (Proc.devRef .tc main_v44)
theorem r_v44_eq : r_v44 V = extractStridedSlice S2x256x64x64 ![0, 0, 2, 1] (r_v0 V) slices_S2x256x66x66_S2x256x64x64_0_0_2_1 := (Ssa.unary r_hW V 49 rfl (by decide +kernel) (by decide +kernel) :)
def r_v45 : (⟨S256x256x1x1, .f32⟩ : BufTy).Contents (Elt Ideal) := after rL V (Proc.devRef .tc main_v45)
theorem r_v45_eq : r_v45 V = extractStridedSlice S256x256x1x1 ![0, 0, 2, 1] (r_arg2 V) slices_S256x256x3x3_S256x256x1x1_0_0_2_1 := (Ssa.unary r_hW V 50 rfl (by decide +kernel) (by decide +kernel) :)
def r_v46 : (⟨S256x256, .f32⟩ : BufTy).Contents (Elt Ideal) := after rL V (Proc.devRef .tc main_v46)
theorem r_v46_eq : r_v46 V = shapeCast S256x256 (r_v45 V) shapeCasts_S256x256x1x1_S256x256 := (Ssa.reshape r_hW V 51 rfl (by decide +kernel) (by decide +kernel) :)
def r_v47 : (⟨S256x2x64x64, .f32⟩ : BufTy).Contents (Elt Ideal) := after rL V (Proc.devRef .tc main_v47)
theorem r_v47_eq : r_v47 V = Host.dotGeneral (F := Ideal) (φ₁ := .f32) (φ₂ := .f32) dot_S256x256_S2x256x64x64_S256x2x64x64_1_1_0_023_n_n none (r_v46 V) (r_v44 V) := (Ssa.binary r_hW V 52 rfl (by decide +kernel) (by decide +kernel) (by decide +kernel) :)
def r_v48 : (⟨S2x256x64x64, .f32⟩ : BufTy).Contents (Elt Ideal) := after rL V (Proc.devRef .tc main_v48)
theorem r_v48_eq : r_v48 V = transpose S2x256x64x64 [1, 0, 2, 3] (r_v47 V) transposes_S256x2x64x64_S2x256x64x64_1_0_2_3 := (Ssa.unary r_hW V 53 rfl (by decide +kernel) (by decide +kernel) :)
def r_v49 : (⟨S2x256x64x64, .f32⟩ : BufTy).Contents (Elt Ideal) := after rL V (Proc.devRef .tc main_v49)
theorem r_v49_eq : r_v49 V = addf (F := Ideal) (φ := .f32) (r_v43 V) (r_v48 V) := (Ssa.binary r_hW V 54 rfl (by decide +kernel) (by decide +kernel) (by decide +kernel) :)
def r_v50 : (⟨S2x256x64x64, .f32⟩ : BufTy).Contents (Elt Ideal) := after rL V (Proc.devRef .tc main_v50)
theorem r_v50_eq : r_v50 V = extractStridedSlice S2x256x64x64 ![0, 0, 2, 2] (r_v0 V) slices_S2x256x66x66_S2x256x64x64_0_0_2_2 := (Ssa.unary r_hW V 55 rfl (by decide +kernel) (by decide +kernel) :)
def r_v51 : (⟨S256x256x1x1, .f32⟩ : BufTy).Contents (Elt Ideal) := after rL V (Proc.devRef .tc main_v51)
theorem r_v51_eq : r_v51 V = extractStridedSlice S256x256x1x1 ![0, 0, 2, 2] (r_arg2 V) slices_S256x256x3x3_S256x256x1x1_0_0_2_2 := (Ssa.unary r_hW V 56 rfl (by decide +kernel) (by decide +kernel) :)
def r_v52 : (⟨S256x256, .f32⟩ : BufTy).Contents (Elt Ideal) := after rL V (Proc.devRef .tc main_v52)
theorem r_v52_eq : r_v52 V = shapeCast S256x256 (r_v51 V) shapeCasts_S256x256x1x1_S256x256 := (Ssa.reshape r_hW V 57 rfl (by decide +kernel) (by decide +kernel) :)
def r_v53 : (⟨S256x2x64x64, .f32⟩ : BufTy).Contents (Elt Ideal) := after rL V (Proc.devRef .tc main_v53)
theorem r_v53_eq : r_v53 V = Host.dotGeneral (F := Ideal) (φ₁ := .f32) (φ₂ := .f32) dot_S256x256_S2x256x64x64_S256x2x64x64_1_1_0_023_n_n none (r_v52 V) (r_v50 V) := (Ssa.binary r_hW V 58 rfl (by decide +kernel) (by decide +kernel) (by decide +kernel) :)
def r_v54 : (⟨S2x256x64x64, .f32⟩ : BufTy).Contents (Elt Ideal) := after rL V (Proc.devRef .tc main_v54)
theorem r_v54_eq : r_v54 V = transpose S2x256x64x64 [1, 0, 2, 3] (r_v53 V) transposes_S256x2x64x64_S2x256x64x64_1_0_2_3 := (Ssa.unary r_hW V 59 rfl (by decide +kernel) (by decide +kernel) :)
def r_v55 : (⟨S2x256x64x64, .f32⟩ : BufTy).Contents (Elt Ideal) := after rL V (Proc.devRef .tc main_v55)
theorem r_v55_eq : r_v55 V = addf (F := Ideal) (φ := .f32) (r_v49 V) (r_v54 V) := (Ssa.binary r_hW V 60 rfl (by decide +kernel) (by decide +kernel) (by decide +kernel) :)
def r_arg3 : (⟨S256, .f32⟩ : BufTy).Contents (Elt Ideal) := after rL V (Proc.devRef .tc main_arg3)
theorem r_arg3_in : r_arg3 V = V (Proc.devRef .tc main_arg3) := Ssa.input r_hW V (by decide +kernel)
def r_v56 : (⟨S1x256x1x1, .f32⟩ : BufTy).Contents (Elt Ideal) := after rL V (Proc.devRef .tc main_v56)
theorem r_v56_eq : r_v56 V = broadcastInDim S1x256x1x1 ![1] bcast_S256_S1x256x1x1_1 (r_arg3 V) := (Ssa.unary r_hW V 61 rfl (by decide +kernel) (by decide +kernel) :)
def r_v57 : (⟨S2x256x64x64, .f32⟩ : BufTy).Contents (Elt Ideal) := after rL V (Proc.devRef .tc main_v57)
theorem r_v57_eq : r_v57 V = broadcastInDim S2x256x64x64 ![0, 1, 2, 3] bcast_S1x256x1x1_S2x256x64x64_0_1_2_3 (r_v56 V) := (Ssa.unary r_hW V 62 rfl (by decide +kernel) (by decide +kernel) :)
def r_v58 : (⟨S2x256x64x64, .f32⟩ : BufTy).Contents (Elt Ideal) := after rL V (Proc.devRef .tc main_v58)
theorem r_v58_eq : r_v58 V = addf (F := Ideal) (φ := .f32) (r_v55 V) (r_v57 V) := (Ssa.binary r_hW V 63 rfl (by decide +kernel) (by decide +kernel) (by decide +kernel) :)
def r_call1_cst : (⟨S_, .f32⟩ : BufTy).Contents (Elt Ideal) := after rL V (Proc.devRef .tc main_call1_cst)
theorem r_call1_cst_eq : r_call1_cst V = constant (F := Ideal) S_ .f32 0x00000000#32 := (Ssa.nullary r_hW V 64 rfl (by decide +kernel) :)
def r_call1_v0 : (⟨S2x256x64x64, .f32⟩ : BufTy).Contents (Elt Ideal) := after rL V (Proc.devRef .tc main_call1_v0)
theorem r_call1_v0_eq : r_call1_v0 V = broadcastInDim S2x256x64x64 ![] bcast_S_S2x256x64x64 (r_call1_cst V) := (Ssa.unary r_hW V 65 rfl (by decide +kernel) (by decide +kernel) :)
def r_v59 : (⟨S2x256x64x64, .f32⟩ : BufTy).Contents (Elt Ideal) := after rL V (Proc.devRef .tc main_v59)
theorem r_v59_eq : r_v59 V = maximumf (F := Ideal) (φ := .f32) (r_v58 V) (r_call1_v0 V) := (Ssa.binary r_hW V 66 rfl (by decide +kernel) (by decide +kernel) (by decide +kernel) :)
def r_c_2 : (⟨S_, .i32⟩ : BufTy).Contents (Elt Ideal) := after rL V (Proc.devRef .tc main_c_2)
theorem r_c_2_eq : r_c_2 V = constantI S_ 32 0#32 := (Ssa.nullary r_hW V 67 rfl (by decide +kernel) :)
def r_call2_v0 : (⟨S_, .f32⟩ : BufTy).Contents (Elt Ideal) := after rL V (Proc.devRef .tc main_call2_v0)
theorem r_call2_v0_eq : r_call2_v0 V = sitofp (F := Ideal) .f32 (r_c_2 V) := (Ssa.unary r_hW V 68 rfl (by decide +kernel) (by decide +kernel) :)
def r_v60 : (⟨S2x256x64x64, .f32⟩ : BufTy).Contents (Elt Ideal) := after rL V (Proc.devRef .tc main_v60)
theorem r_v60_eq : r_v60 V = pad S2x256x64x64 ![0, 0, 0, 0] ![0, 0, 0, 0] ![0, 0, 0, 0] (r_v59 V) (r_call2_v0 V) pads_S2x256x64x64_S2x256x64x64_000_000_000_000 h_S_ := (Ssa.binary r_hW V 69 rfl (by decide +kernel) (by decide +kernel) (by decide +kernel) :)
def r_arg4 : (⟨S9x256x1x1, .f32⟩ : BufTy).Contents (Elt Ideal) := after rL V (Proc.devRef .tc main_arg4)
theorem r_arg4_in : r_arg4 V = V (Proc.devRef .tc main_arg4) := Ssa.input r_hW V (by decide +kernel)
def r_v61 : (⟨S9x256, .f32⟩ : BufTy).Contents (Elt Ideal) := after rL V (Proc.devRef .tc main_v61)
theorem r_v61_eq : r_v61 V = shapeCast S9x256 (r_arg4 V) shapeCasts_S9x256x1x1_S9x256 := (Ssa.reshape r_hW V 70 rfl (by decide +kernel) (by decide +kernel) :)
def r_v62 : (⟨S9x2x64x64, .f32⟩ : BufTy).Contents (Elt Ideal) := after rL V (Proc.devRef .tc main_v62)
theorem r_v62_eq : r_v62 V = Host.dotGeneral (F := Ideal) (φ₁ := .f32) (φ₂ := .f32) dot_S9x256_S2x256x64x64_S9x2x64x64_1_1_0_023_n_n none (r_v61 V) (r_v60 V) := (Ssa.binary r_hW V 71 rfl (by decide +kernel) (by decide +kernel) (by decide +kernel) :)
def r_v63 : (⟨S2x9x64x64, .f32⟩ : BufTy).Contents (Elt Ideal) := after rL V (Proc.devRef .tc main_v63)
theorem r_v63_eq : r_v63 V = transpose S2x9x64x64 [1, 0, 2, 3] (r_v62 V) transposes_S9x2x64x64_S2x9x64x64_1_0_2_3 := (Ssa.unary r_hW V 72 rfl (by decide +kernel) (by decide +kernel) :)
def r_cst_3 : (⟨S_, .f32⟩ : BufTy).Contents (Elt Ideal) := after rL V (Proc.devRef .tc main_cst_3)
theorem r_cst_3_eq : r_cst_3 V = constant (F := Ideal) S_ .f32 0x00000000#32 := (Ssa.nullary r_hW V 73 rfl (by decide +kernel) :)
def r_v64 : (⟨S2x9x64x64, .f32⟩ : BufTy).Contents (Elt Ideal) := after rL V (Proc.devRef .tc main_v64)
theorem r_v64_eq : r_v64 V = broadcastInDim S2x9x64x64 ![] bcast_S_S2x9x64x64 (r_cst_3 V) := (Ssa.unary r_hW V 74 rfl (by decide +kernel) (by decide +kernel) :)
def r_v65 : (⟨S2x9x64x64, .f32⟩ : BufTy).Contents (Elt Ideal) := after rL V (Proc.devRef .tc main_v65)
theorem r_v65_eq : r_v65 V = addf (F := Ideal) (φ := .f32) (r_v64 V) (r_v63 V) := (Ssa.binary r_hW V 75 rfl (by decide +kernel) (by decide +kernel) (by decide +kernel) :)
def r_arg5 : (⟨S9, .f32⟩ : BufTy).Contents (Elt Ideal) := after rL V (Proc.devRef .tc main_arg5)
theorem r_arg5_in : r_arg5 V = V (Proc.devRef .tc main_arg5) := Ssa.input r_hW V (by decide +kernel)
def r_v66 : (⟨S1x9x1x1, .f32⟩ : BufTy).Contents (Elt Ideal) := after rL V (Proc.devRef .tc main_v66)
theorem r_v66_eq : r_v66 V = broadcastInDim S1x9x1x1 ![1] bcast_S9_S1x9x1x1_1 (r_arg5 V) := (Ssa.unary r_hW V 76 rfl (by decide +kernel) (by decide +kernel) :)
def r_v67 : (⟨S2x9x64x64, .f32⟩ : BufTy).Contents (Elt Ideal) := after rL V (Proc.devRef .tc main_v67)
theorem r_v67_eq : r_v67 V = broadcastInDim S2x9x64x64 ![0, 1, 2, 3] bcast_S1x9x1x1_S2x9x64x64_0_1_2_3 (r_v66 V) := (Ssa.unary r_hW V 77 rfl (by decide +kernel) (by decide +kernel) :)
def r_v68 : (⟨S2x9x64x64, .f32⟩ : BufTy).Contents (Elt Ideal) := after rL V (Proc.devRef .tc main_v68)
theorem r_v68_eq : r_v68 V = addf (F := Ideal) (φ := .f32) (r_v65 V) (r_v67 V) := (Ssa.binary r_hW V 78 rfl (by decide +kernel) (by decide +kernel) (by decide +kernel) :)
def r_c_4 : (⟨S_, .i32⟩ : BufTy).Contents (Elt Ideal) := after rL V (Proc.devRef .tc main_c_4)
theorem r_c_4_eq : r_c_4 V = constantI S_ 32 0#32 := (Ssa.nullary r_hW V 79 rfl (by decide +kernel) :)
def r_call3_v0 : (⟨S_, .f32⟩ : BufTy).Contents (Elt Ideal) := after rL V (Proc.devRef .tc main_call3_v0)
theorem r_call3_v0_eq : r_call3_v0 V = sitofp (F := Ideal) .f32 (r_c_4 V) := (Ssa.unary r_hW V 80 rfl (by decide +kernel) (by decide +kernel) :)
def r_v69 : (⟨S2x256x64x64, .f32⟩ : BufTy).Contents (Elt Ideal) := after rL V (Proc.devRef .tc main_v69)
theorem r_v69_eq : r_v69 V = pad S2x256x64x64 ![0, 0, 0, 0] ![0, 0, 0, 0] ![0, 0, 0, 0] (r_v59 V) (r_call3_v0 V) pads_S2x256x64x64_S2x256x64x64_000_000_000_000 h_S_ := (Ssa.binary r_hW V 81 rfl (by decide +kernel) (by decide +kernel) (by decide +kernel) :)
def r_arg6 : (⟨S36x256x1x1, .f32⟩ : BufTy).Contents (Elt Ideal) := after rL V (Proc.devRef .tc main_arg6)
theorem r_arg6_in : r_arg6 V = V (Proc.devRef .tc main_arg6) := Ssa.input r_hW V (by decide +kernel)
def r_v70 : (⟨S36x256, .f32⟩ : BufTy).Contents (Elt Ideal) := after rL V (Proc.devRef .tc main_v70)
theorem r_v70_eq : r_v70 V = shapeCast S36x256 (r_arg6 V) shapeCasts_S36x256x1x1_S36x256 := (Ssa.reshape r_hW V 82 rfl (by decide +kernel) (by decide +kernel) :)
def r_v71 : (⟨S36x2x64x64, .f32⟩ : BufTy).Contents (Elt Ideal) := after rL V (Proc.devRef .tc main_v71)
theorem r_v71_eq : r_v71 V = Host.dotGeneral (F := Ideal) (φ₁ := .f32) (φ₂ := .f32) dot_S36x256_S2x256x64x64_S36x2x64x64_1_1_0_023_n_n none (r_v70 V) (r_v69 V) := (Ssa.binary r_hW V 83 rfl (by decide +kernel) (by decide +kernel) (by decide +kernel) :)
def r_v72 : (⟨S2x36x64x64, .f32⟩ : BufTy).Contents (Elt Ideal) := after rL V (Proc.devRef .tc main_v72)
theorem r_v72_eq : r_v72 V = transpose S2x36x64x64 [1, 0, 2, 3] (r_v71 V) transposes_S36x2x64x64_S2x36x64x64_1_0_2_3 := (Ssa.unary r_hW V 84 rfl (by decide +kernel) (by decide +kernel) :)
def r_cst_5 : (⟨S_, .f32⟩ : BufTy).Contents (Elt Ideal) := after rL V (Proc.devRef .tc main_cst_5)
theorem r_cst_5_eq : r_cst_5 V = constant (F := Ideal) S_ .f32 0x00000000#32 := (Ssa.nullary r_hW V 85 rfl (by decide +kernel) :)
def r_v73 : (⟨S2x36x64x64, .f32⟩ : BufTy).Contents (Elt Ideal) := after rL V (Proc.devRef .tc main_v73)
theorem r_v73_eq : r_v73 V = broadcastInDim S2x36x64x64 ![] bcast_S_S2x36x64x64 (r_cst_5 V) := (Ssa.unary r_hW V 86 rfl (by decide +kernel) (by decide +kernel) :)
def r_v74 : (⟨S2x36x64x64, .f32⟩ : BufTy).Contents (Elt Ideal) := after rL V (Proc.devRef .tc main_v74)
theorem r_v74_eq : r_v74 V = addf (F := Ideal) (φ := .f32) (r_v73 V) (r_v72 V) := (Ssa.binary r_hW V 87 rfl (by decide +kernel) (by decide +kernel) (by decide +kernel) :)
def r_arg7 : (⟨S36, .f32⟩ : BufTy).Contents (Elt Ideal) := after rL V (Proc.devRef .tc main_arg7)
theorem r_arg7_in : r_arg7 V = V (Proc.devRef .tc main_arg7) := Ssa.input r_hW V (by decide +kernel)
def r_v75 : (⟨S1x36x1x1, .f32⟩ : BufTy).Contents (Elt Ideal) := after rL V (Proc.devRef .tc main_v75)
theorem r_v75_eq : r_v75 V = broadcastInDim S1x36x1x1 ![1] bcast_S36_S1x36x1x1_1 (r_arg7 V) := (Ssa.unary r_hW V 88 rfl (by decide +kernel) (by decide +kernel) :)
def r_v76 : (⟨S2x36x64x64, .f32⟩ : BufTy).Contents (Elt Ideal) := after rL V (Proc.devRef .tc main_v76)
theorem r_v76_eq : r_v76 V = broadcastInDim S2x36x64x64 ![0, 1, 2, 3] bcast_S1x36x1x1_S2x36x64x64_0_1_2_3 (r_v75 V) := (Ssa.unary r_hW V 89 rfl (by decide +kernel) (by decide +kernel) :)
def r_v77 : (⟨S2x36x64x64, .f32⟩ : BufTy).Contents (Elt Ideal) := after rL V (Proc.devRef .tc main_v77)
theorem r_v77_eq : r_v77 V = addf (F := Ideal) (φ := .f32) (r_v74 V) (r_v76 V) := (Ssa.binary r_hW V 90 rfl (by decide +kernel) (by decide +kernel) (by decide +kernel) :)
def r_v78 : (⟨S2x9x1x64x64, .f32⟩ : BufTy).Contents (Elt Ideal) := after rL V (Proc.devRef .tc main_v78)
theorem r_v78_eq : r_v78 V = shapeCast S2x9x1x64x64 (r_v68 V) shapeCasts_S2x9x64x64_S2x9x1x64x64 := (Ssa.reshape r_hW V 91 rfl (by decide +kernel) (by decide +kernel) :)
def r_v79 : (⟨S2x64x64x9x1, .f32⟩ : BufTy).Contents (Elt Ideal) := after rL V (Proc.devRef .tc main_v79)
theorem r_v79_eq : r_v79 V = transpose S2x64x64x9x1 [0, 3, 4, 1, 2] (r_v78 V) transposes_S2x9x1x64x64_S2x64x64x9x1_0_3_4_1_2 := (Ssa.unary r_hW V 92 rfl (by decide +kernel) (by decide +kernel) :)
def r_v80 : (⟨S2x36864, .f32⟩ : BufTy).Contents (Elt Ideal) := after rL V (Proc.devRef .tc main_v80)
theorem r_v80_eq : r_v80 V = shapeCast S2x36864 (r_v79 V) shapeCasts_S2x64x64x9x1_S2x36864 := (Ssa.reshape r_hW V 93 rfl (by decide +kernel) (by decide +kernel) :)
def r_v81 : (⟨S2x9x4x64x64, .f32⟩ : BufTy).Contents (Elt Ideal) := after rL V (Proc.devRef .tc main_v81)
theorem r_v81_eq : r_v81 V = shapeCast S2x9x4x64x64 (r_v77 V) shapeCasts_S2x36x64x64_S2x9x4x64x64 := (Ssa.reshape r_hW V 94 rfl (by decide +kernel) (by decide +kernel) :)
def r_v82 : (⟨S2x64x64x9x4, .f32⟩ : BufTy).Contents (Elt Ideal) := after rL V (Proc.devRef .tc main_v82)
theorem r_v82_eq : r_v82 V = transpose S2x64x64x9x4 [0, 3, 4, 1, 2] (r_v81 V) transposes_S2x9x4x64x64_S2x64x64x9x4_0_3_4_1_2 := (Ssa.unary r_hW V 95 rfl (by decide +kernel) (by decide +kernel) :)
def r_v83 : (⟨S2x36864x4, .f32⟩ : BufTy).Contents (Elt Ideal) := after rL V (Proc.devRef .tc main_v83)
theorem r_v83_eq : r_v83 V = shapeCast S2x36864x4 (r_v82 V) shapeCasts_S2x64x64x9x4_S2x36864x4 := (Ssa.reshape r_hW V 96 rfl (by decide +kernel) (by decide +kernel) :)
def r_v84 : (⟨S3, .f32⟩ : BufTy).Contents (Elt Ideal) := after rL V (Proc.devRef .tc main_v84)
theorem r_v84_eq : r_v84 V = Host.sqrt (F := Ideal) (φ := .f32) (r_cst_0 V) := (Ssa.unary r_hW V 97 rfl (by decide +kernel) (by decide +kernel) :)
def r_cst_6 : (⟨S_, .f32⟩ : BufTy).Contents (Elt Ideal) := after rL V (Proc.devRef .tc main_cst_6)
theorem r_cst_6_eq : r_cst_6 V = constant (F := Ideal) S_ .f32 0x3F800000#32 := (Ssa.nullary r_hW V 98 rfl (by decide +kernel) :)
def r_v85 : (⟨S3, .f32⟩ : BufTy).Contents (Elt Ideal) := after rL V (Proc.devRef .tc main_v85)
theorem r_v85_eq : r_v85 V = broadcastInDim S3 ![] bcast_S_S3 (r_cst_6 V) := (Ssa.unary r_hW V 99 rfl (by decide +kernel) (by decide +kernel) :)
def r_v86 : (⟨S3, .f32⟩ : BufTy).Contents (Elt Ideal) := after rL V (Proc.devRef .tc main_v86)
theorem r_v86_eq : r_v86 V = Host.divf (F := Ideal) (φ := .f32) (r_v85 V) (r_v84 V) := (Ssa.binary r_hW V 100 rfl (by decide +kernel) (by decide +kernel) (by decide +kernel) :)
def r_v87 : (⟨S3x1, .f32⟩ : BufTy).Contents (Elt Ideal) := after rL V (Proc.devRef .tc main_v87)
theorem r_v87_eq : r_v87 V = broadcastInDim S3x1 ![0] bcast_S3_S3x1_0 (r_v86 V) := (Ssa.unary r_hW V 101 rfl (by decide +kernel) (by decide +kernel) :)
def r_v88 : (⟨S1x3, .f32⟩ : BufTy).Contents (Elt Ideal) := after rL V (Proc.devRef .tc main_v88)
theorem r_v88_eq : r_v88 V = broadcastInDim S1x3 ![1] bcast_S3_S1x3_1 (r_cst V) := (Ssa.unary r_hW V 102 rfl (by decide +kernel) (by decide +kernel) :)
def r_v89 : (⟨S3x3, .f32⟩ : BufTy).Contents (Elt Ideal) := after rL V (Proc.devRef .tc main_v89)
theorem r_v89_eq : r_v89 V = broadcastInDim S3x3 ![0, 1] bcast_S3x1_S3x3_0_1 (r_v87 V) := (Ssa.unary r_hW V 103 rfl (by decide +kernel) (by decide +kernel) :)
def r_v90 : (⟨S3x3, .f32⟩ : BufTy).Contents (Elt Ideal) := after rL V (Proc.devRef .tc main_v90)
theorem r_v90_eq : r_v90 V = broadcastInDim S3x3 ![0, 1] bcast_S1x3_S3x3_0_1 (r_v88 V) := (Ssa.unary r_hW V 104 rfl (by decide +kernel) (by decide +kernel) :)
def r_v91 : (⟨S3x3, .f32⟩ : BufTy).Contents (Elt Ideal) := after rL V (Proc.devRef .tc main_v91)
theorem r_v91_eq : r_v91 V = mulf (F := Ideal) (φ := .f32) (r_v89 V) (r_v90 V) := (Ssa.binary r_hW V 105 rfl (by decide +kernel) (by decide +kernel) (by decide +kernel) :)
def r_v92 : (⟨S9, .f32⟩ : BufTy).Contents (Elt Ideal) := after rL V (Proc.devRef .tc main_v92)
theorem r_v92_eq : r_v92 V = shapeCast S9 (r_v91 V) shapeCasts_S3x3_S9 := (Ssa.reshape r_hW V 106 rfl (by decide +kernel) (by decide +kernel) :)
def r_v93 : (⟨S3x1, .f32⟩ : BufTy).Contents (Elt Ideal) := after rL V (Proc.devRef .tc main_v93)
theorem r_v93_eq : r_v93 V = broadcastInDim S3x1 ![0] bcast_S3_S3x1_0 (r_v84 V) := (Ssa.unary r_hW V 107 rfl (by decide +kernel) (by decide +kernel) :)
def r_v94 : (⟨S1x3, .f32⟩ : BufTy).Contents (Elt Ideal) := after rL V (Proc.devRef .tc main_v94)
theorem r_v94_eq : r_v94 V = broadcastInDim S1x3 ![1] bcast_S3_S1x3_1 (r_cst V) := (Ssa.unary r_hW V 108 rfl (by decide +kernel) (by decide +kernel) :)
def r_v95 : (⟨S3x3, .f32⟩ : BufTy).Contents (Elt Ideal) := after rL V (Proc.devRef .tc main_v95)
theorem r_v95_eq : r_v95 V = broadcastInDim S3x3 ![0, 1] bcast_S3x1_S3x3_0_1 (r_v93 V) := (Ssa.unary r_hW V 109 rfl (by decide +kernel) (by decide +kernel) :)
def r_v96 : (⟨S3x3, .f32⟩ : BufTy).Contents (Elt Ideal) := after rL V (Proc.devRef .tc main_v96)
theorem r_v96_eq : r_v96 V = broadcastInDim S3x3 ![0, 1] bcast_S1x3_S3x3_0_1 (r_v94 V) := (Ssa.unary r_hW V 110 rfl (by decide +kernel) (by decide +kernel) :)
def r_v97 : (⟨S3x3, .f32⟩ : BufTy).Contents (Elt Ideal) := after rL V (Proc.devRef .tc main_v97)
theorem r_v97_eq : r_v97 V = mulf (F := Ideal) (φ := .f32) (r_v95 V) (r_v96 V) := (Ssa.binary r_hW V 111 rfl (by decide +kernel) (by decide +kernel) (by decide +kernel) :)
def r_v98 : (⟨S9, .f32⟩ : BufTy).Contents (Elt Ideal) := after rL V (Proc.devRef .tc main_v98)
theorem r_v98_eq : r_v98 V = shapeCast S9 (r_v97 V) shapeCasts_S3x3_S9 := (Ssa.reshape r_hW V 112 rfl (by decide +kernel) (by decide +kernel) :)
def r_v99 : (⟨S9, .f32⟩ : BufTy).Contents (Elt Ideal) := after rL V (Proc.devRef .tc main_v99)
theorem r_v99_eq : r_v99 V = Host.negf (F := Ideal) (φ := .f32) (r_v92 V) := (Ssa.unary r_hW V 113 rfl (by decide +kernel) (by decide +kernel) :)
def r_v100 : (⟨S9, .f32⟩ : BufTy).Contents (Elt Ideal) := after rL V (Proc.devRef .tc main_v100)
theorem r_v100_eq : r_v100 V = Host.negf (F := Ideal) (φ := .f32) (r_v98 V) := (Ssa.unary r_hW V 114 rfl (by decide +kernel) (by decide +kernel) :)
def r_v101 : (⟨S9x1, .f32⟩ : BufTy).Contents (Elt Ideal) := after rL V (Proc.devRef .tc main_v101)
theorem r_v101_eq : r_v101 V = broadcastInDim S9x1 ![0] bcast_S9_S9x1_0 (r_v99 V) := (Ssa.unary r_hW V 115 rfl (by decide +kernel) (by decide +kernel) :)
def r_v102 : (⟨S9x1, .f32⟩ : BufTy).Contents (Elt Ideal) := after rL V (Proc.devRef .tc main_v102)
theorem r_v102_eq : r_v102 V = broadcastInDim S9x1 ![0] bcast_S9_S9x1_0 (r_v100 V) := (Ssa.unary r_hW V 116 rfl (by decide +kernel) (by decide +kernel) :)
def r_v103 : (⟨S9x1, .f32⟩ : BufTy).Contents (Elt Ideal) := after rL V (Proc.devRef .tc main_v103)
theorem r_v103_eq : r_v103 V = broadcastInDim S9x1 ![0] bcast_S9_S9x1_0 (r_v92 V) := (Ssa.unary r_hW V 117 rfl (by decide +kernel) (by decide +kernel) :)
def r_v104 : (⟨S9x1, .f32⟩ : BufTy).Contents (Elt Ideal) := after rL V (Proc.devRef .tc main_v104)
theorem r_v104_eq : r_v104 V = broadcastInDim S9x1 ![0] bcast_S9_S9x1_0 (r_v98 V) := (Ssa.unary r_hW V 118 rfl (by decide +kernel) (by decide +kernel) :)
def r_v105 : (⟨S9x4, .f32⟩ : BufTy).Contents (Elt Ideal) := after rL V (Proc.devRef .tc main_v105)
theorem r_v105_eq : r_v105 V = concatenate S9x4 1 [⟨S9x1, (r_v101 V)⟩, ⟨S9x1, (r_v102 V)⟩, ⟨S9x1, (r_v103 V)⟩, ⟨S9x1, (r_v104 V)⟩] concatenates_S9x1_S9x1_S9x1_S9x1_S9x4_d1 := (Ssa.nary r_hW V 119 rfl (by decide +kernel) (by decide +kernel) :)
def r_cst_7 : (⟨S_, .f32⟩ : BufTy).Contents (Elt Ideal) := after rL V (Proc.devRef .tc main_cst_7)
theorem r_cst_7_eq : r_cst_7 V = constant (F := Ideal) S_ .f32 0x40000000#32 := (Ssa.nullary r_hW V 120 rfl (by decide +kernel) :)
def r_v106 : (⟨S9x4, .f32⟩ : BufTy).Contents (Elt Ideal) := after rL V (Proc.devRef .tc main_v106)
theorem r_v106_eq : r_v106 V = broadcastInDim S9x4 ![] bcast_S_S9x4 (r_cst_7 V) := (Ssa.unary r_hW V 121 rfl (by decide +kernel) (by decide +kernel) :)
def r_v107 : (⟨S9x4, .f32⟩ : BufTy).Contents (Elt Ideal) := after rL V (Proc.devRef .tc main_v107)
theorem r_v107_eq : r_v107 V = Host.divf (F := Ideal) (φ := .f32) (r_v105 V) (r_v106 V) := (Ssa.binary r_hW V 122 rfl (by decide +kernel) (by decide +kernel) (by decide +kernel) :)
def r_v108 : (⟨S9x4, .f32⟩ : BufTy).Contents (Elt Ideal) := after rL V (Proc.devRef .tc main_v108)
theorem r_v108_eq : r_v108 V = Host.roundeven (F := Ideal) (φ := .f32) (r_v107 V) := (Ssa.unary r_hW V 123 rfl (by decide +kernel) (by decide +kernel) :)
def r_v109 : (⟨S64, .f32⟩ : BufTy).Contents (Elt Ideal) := after rL V (Proc.devRef .tc main_v109)
theorem r_v109_eq : r_v109 V = sitofp (F := Ideal) .f32 (iotaInDim S64 32 0) := (Ssa.nullary r_hW V 124 rfl (by decide +kernel) :)
def r_cst_8 : (⟨S_, .f32⟩ : BufTy).Contents (Elt Ideal) := after rL V (Proc.devRef .tc main_cst_8)
theorem r_cst_8_eq : r_cst_8 V = constant (F := Ideal) S_ .f32 0x41000000#32 := (Ssa.nullary r_hW V 125 rfl (by decide +kernel) :)
def r_v110 : (⟨S64, .f32⟩ : BufTy).Contents (Elt Ideal) := after rL V (Proc.devRef .tc main_v110)
theorem r_v110_eq : r_v110 V = broadcastInDim S64 ![] bcast_S_S64 (r_cst_8 V) := (Ssa.unary r_hW V 126 rfl (by decide +kernel) (by decide +kernel) :)
def r_v111 : (⟨S64, .f32⟩ : BufTy).Contents (Elt Ideal) := after rL V (Proc.devRef .tc main_v111)
theorem r_v111_eq : r_v111 V = mulf (F := Ideal) (φ := .f32) (r_v109 V) (r_v110 V) := (Ssa.binary r_hW V 127 rfl (by decide +kernel) (by decide +kernel) (by decide +kernel) :)
def r_v112 : (⟨S64, .f32⟩ : BufTy).Contents (Elt Ideal) := after rL V (Proc.devRef .tc main_v112)
theorem r_v112_eq : r_v112 V = sitofp (F := Ideal) .f32 (iotaInDim S64 32 0) := (Ssa.nullary r_hW V 128 rfl (by decide +kernel) :)
def r_cst_9 : (⟨S_, .f32⟩ : BufTy).Contents (Elt Ideal) := after rL V (Proc.devRef .tc main_cst_9)
theorem r_cst_9_eq : r_cst_9 V = constant (F := Ideal) S_ .f32 0x41000000#32 := (Ssa.nullary r_hW V 129 rfl (by decide +kernel) :)
def r_v113 : (⟨S64, .f32⟩ : BufTy).Contents (Elt Ideal) := after rL V (Proc.devRef .tc main_v113)
theorem r_v113_eq : r_v113 V = broadcastInDim S64 ![] bcast_S_S64 (r_cst_9 V) := (Ssa.unary r_hW V 130 rfl (by decide +kernel) (by decide +kernel) :)
def r_v114 : (⟨S64, .f32⟩ : BufTy).Contents (Elt Ideal) := after rL V (Proc.devRef .tc main_v114)
theorem r_v114_eq : r_v114 V = mulf (F := Ideal) (φ := .f32) (r_v112 V) (r_v113 V) := (Ssa.binary r_hW V 131 rfl (by decide +kernel) (by decide +kernel) (by decide +kernel) :)
def r_v115 : (⟨S64x64, .f32⟩ : BufTy).Contents (Elt Ideal) := after rL V (Proc.devRef .tc main_v115)
theorem r_v115_eq : r_v115 V = broadcastInDim S64x64 ![0] bcast_S64_S64x64_0 (r_v114 V) := (Ssa.unary r_hW V 132 rfl (by decide +kernel) (by decide +kernel) :)
def r_v116 : (⟨S64x64, .f32⟩ : BufTy).Contents (Elt Ideal) := after rL V (Proc.devRef .tc main_v116)
theorem r_v116_eq : r_v116 V = broadcastInDim S64x64 ![1] bcast_S64_S64x64_1 (r_v111 V) := (Ssa.unary r_hW V 133 rfl (by decide +kernel) (by decide +kernel) :)
def r_v117 : (⟨S4096, .f32⟩ : BufTy).Contents (Elt Ideal) := after rL V (Proc.devRef .tc main_v117)
theorem r_v117_eq : r_v117 V = shapeCast S4096 (r_v116 V) shapeCasts_S64x64_S4096 := (Ssa.reshape r_hW V 134 rfl (by decide +kernel) (by decide +kernel) :)
def r_v118 : (⟨S4096, .f32⟩ : BufTy).Contents (Elt Ideal) := after rL V (Proc.devRef .tc main_v118)
theorem r_v118_eq : r_v118 V = shapeCast S4096 (r_v115 V) shapeCasts_S64x64_S4096 := (Ssa.reshape r_hW V 135 rfl (by decide +kernel) (by decide +kernel) :)
def r_v119 : (⟨S4096, .f32⟩ : BufTy).Contents (Elt Ideal) := after rL V (Proc.devRef .tc main_v119)
theorem r_v119_eq : r_v119 V = shapeCast S4096 (r_v116 V) shapeCasts_S64x64_S4096 := (Ssa.reshape r_hW V 136 rfl (by decide +kernel) (by decide +kernel) :)
def r_v120 : (⟨S4096, .f32⟩ : BufTy).Contents (Elt Ideal) := after rL V (Proc.devRef .tc main_v120)
theorem r_v120_eq : r_v120 V = shapeCast S4096 (r_v115 V) shapeCasts_S64x64_S4096 := (Ssa.reshape r_hW V 137 rfl (by decide +kernel) (by decide +kernel) :)
def r_v121 : (⟨S4096x1, .f32⟩ : BufTy).Contents (Elt Ideal) := after rL V (Proc.devRef .tc main_v121)
theorem r_v121_eq : r_v121 V = broadcastInDim S4096x1 ![0] bcast_S4096_S4096x1_0 (r_v117 V) := (Ssa.unary r_hW V 138 rfl (by decide +kernel) (by decide +kernel) :)
def r_v122 : (⟨S4096x1, .f32⟩ : BufTy).Contents (Elt Ideal) := after rL V (Proc.devRef .tc main_v122)
theorem r_v122_eq : r_v122 V = broadcastInDim S4096x1 ![0] bcast_S4096_S4096x1_0 (r_v118 V) := (Ssa.unary r_hW V 139 rfl (by decide +kernel) (by decide +kernel) :)

end Cert.ReferenceIdeal.Value

end
-- ==== Proof.HeadEq.lean ====
/- The two programs' class scores and box offsets are the same arrays. -/
module

public import proofs.«01_k».proof.Proof.HeadKer
public import proofs.«01_k».proof.Proof.KerEq
public import proofs.«01_k».proof.Proof.RefEq1
public import Idealize.ShloMosaic.Lib.Tactic.CleanTypes

@[expose] public section

set_option maxRecDepth 16384

noncomputable section

namespace Cert.Head

open Idealize.ShloMosaic Idealize.ShloMosaic.StableHlo
open Cert.KernelIdeal.Host Cert.KernelIdeal.Nms Cert.KernelIdeal.Gen
open Cert.ReferenceIdeal.Value

variable {VK : Valuation KernelIdeal.τ KernelIdeal.sig (Elt Ideal)}
variable {VR : Valuation ReferenceIdeal.τ ReferenceIdeal.sig (Elt Ideal)}

/-- The hidden layer as the reference reads its arguments. -/
def hidR (VR : Valuation ReferenceIdeal.τ ReferenceIdeal.sig (Elt Ideal)) (b : Fin 2) (h w : Fin 64) (o : Fin 256) : EReal :=
  hid (fun h w c => r_v0 VR (ix4 b c h w)) (fun d c o => r_arg2 VR (ix4 o c ⟨d.val / 3, by omega⟩ ⟨d.val % 3, by omega⟩)) (fun o => r_arg3 VR (ix1 o)) h w o

theorem r_v59_at (b : Fin 2) (o : Fin 256) (h w : Fin 64) : r_v59 VR (ix4 b o h w) = hidR VR b h w o := by
  rw [r_v59_eq, r_v58_eq, r_v57_eq, r_v56_eq, r_call1_v0_eq, r_call1_cst_eq]
  rw [r_v55_eq, r_v54_eq, r_v53_eq, r_v52_eq, r_v51_eq, r_v50_eq]
  rw [r_v49_eq, r_v48_eq, r_v47_eq, r_v46_eq, r_v45_eq, r_v44_eq]
  rw [r_v43_eq, r_v42_eq, r_v41_eq, r_v40_eq, r_v39_eq, r_v38_eq]
  rw [r_v37_eq, r_v36_eq, r_v35_eq, r_v34_eq, r_v33_eq, r_v32_eq]
  rw [r_v31_eq, r_v30_eq, r_v29_eq, r_v28_eq, r_v27_eq, r_v26_eq]
  rw [r_v25_eq, r_v24_eq, r_v23_eq, r_v22_eq, r_v21_eq, r_v20_eq]
  rw [r_v19_eq, r_v18_eq, r_v17_eq, r_v16_eq, r_v15_eq, r_v14_eq]
  rw [r_v13_eq, r_v12_eq, r_v11_eq, r_v10_eq, r_v9_eq, r_v8_eq]
  rw [r_v7_eq, r_v6_eq, r_cst_1_eq, r_v5_eq, r_v4_eq, r_v3_eq, r_v2_eq, r_v1_eq]
  unfold hidR hid
  generalize r_v0 VR = X
  generalize r_arg2 VR = K
  generalize r_arg3 VR = B
  clean_types
  pointwise
  simp only [fun i (y : EReal) => mul_comm (K i : EReal) y]

theorem r_v68_at (b : Fin 2) (a : Fin 9) (h w : Fin 64) :
    r_v68 VR (ix4 b a h w) = ∑ x, hidR VR b h w x * r_arg4 VR (ix4 a x 0 0) + r_arg5 VR (ix1 a) := by
  simp only [← r_v59_at]
  rw [r_v68_eq, r_v67_eq, r_v66_eq, r_v65_eq, r_v64_eq, r_cst_3_eq, r_v63_eq, r_v62_eq, r_v61_eq, r_v60_eq]
  generalize r_v59 VR = X
  generalize r_arg4 VR = K
  generalize r_arg5 VR = B
  generalize r_call2_v0 VR = Z
  clean_types
  pointwise
  simp only [fun i (y : EReal) => mul_comm (K i : EReal) y]

theorem r_v77_at (b : Fin 2) (a : Fin 36) (h w : Fin 64) :
    r_v77 VR (ix4 b a h w) = ∑ x, hidR VR b h w x * r_arg6 VR (ix4 a x 0 0) + r_arg7 VR (ix1 a) := by
  simp only [← r_v59_at]
  rw [r_v77_eq, r_v76_eq, r_v75_eq, r_v74_eq, r_v73_eq, r_cst_5_eq, r_v72_eq, r_v71_eq, r_v70_eq, r_v69_eq]
  generalize r_v59 VR = X
  generalize r_arg6 VR = K
  generalize r_arg7 VR = B
  generalize r_call3_v0 VR = Z
  clean_types
  pointwise
  simp only [fun i (y : EReal) => mul_comm (K i : EReal) y]

/-- The padded image, seen from either program. -/
theorem pad_eq (h1 : k_arg1 VK = r_arg1 VR) (b : Fin 2) (h w : Fin 66) (c : Fin 256) : k_v1 VK (ix4 b h w c) = r_v0 VR (ix4 b c h w) := by
  rw [k_v1_eq, k_v0_eq, k_call0_v0_eq, k_c_eq, r_v0_eq, r_call0_v0_eq, r_c_eq, h1]
  generalize r_arg1 VR = X
  clean_types
  pointwise

/-- The hidden layer, seen from either program. -/
theorem hid_eq (h1 : k_arg1 VK = r_arg1 VR) (h2 : k_arg2 VK = r_arg2 VR) (h3 : k_arg3 VK = r_arg3 VR) (b : Fin 2) (h w : Fin 64) (o : Fin 256) :
    hid (fun h w c => imageOf (F := Ideal) (k_v1 VK) b (ix4 0 h w c)) (fun d c o => k_v3 VK (ix3 d c o)) (fun o => k_v11 VK (ix2 0 o)) h w o = hidR VR b h w o := by
  unfold hidR
  have e1 : (fun h w c => imageOf (F := Ideal) (k_v1 VK) b (ix4 0 h w c)) = fun h w c => r_v0 VR (ix4 b c h w) := by
    funext h w c
    exact pad_eq h1 b h w c
  have e2 : (fun (d : Fin 9) (c o : Fin 256) => k_v3 VK (ix3 d c o)) = fun d c o => r_arg2 VR (ix4 o c ⟨d.val / 3, by omega⟩ ⟨d.val % 3, by omega⟩) := by
    funext d c o
    rw [k_v3_eq, k_v2_eq, h2]
    generalize r_arg2 VR = X
    clean_types
    pointwise
  have e3 : (fun (o : Fin 256) => k_v11 VK (ix2 0 o)) = fun o => r_arg3 VR (ix1 o) := by
    funext o
    rw [k_v11_eq, h3]
    generalize r_arg3 VR = X
    clean_types
    pointwise
  rw [e1, e2, e3]

theorem k_v8_lo (h4 : k_arg4 VK = r_arg4 VR) (x : Fin 256) (a : Fin 9) : k_v8 VK (ix2 x ⟨a.val, by omega⟩) = r_arg4 VR (ix4 a x 0 0) := by
  rw [k_v8_eq, k_v7_eq, k_v6_eq, k_v5_eq, k_v4_eq, h4]
  generalize r_arg4 VR = X
  generalize k_arg6 VK = Y
  generalize k_call1_v0 VK = Z
  clean_types
  pointwise
  exact dif_pos (by omega)

theorem k_v8_hi (h6 : k_arg6 VK = r_arg6 VR) (x : Fin 256) (a : Fin 36) : k_v8 VK (ix2 x ⟨9 + a.val, by omega⟩) = r_arg6 VR (ix4 a x 0 0) := by
  rw [k_v8_eq, k_v7_eq, k_v6_eq, k_v5_eq, k_v4_eq, h6]
  generalize k_arg4 VK = X
  generalize r_arg6 VR = Y
  generalize k_call1_v0 VK = Z
  clean_types
  pointwise
  exact dif_pos (by omega)

theorem k_v12_lo (h5 : k_arg5 VK = r_arg5 VR) (a : Fin 9) : k_v12 VK (ix2 0 ⟨a.val, by omega⟩) = r_arg5 VR (ix1 a) := by
  rw [k_v12_eq, k_v10_eq, k_v9_eq, h5]
  generalize r_arg5 VR = X
  generalize k_arg7 VK = Y
  generalize k_call2_v0 VK = Z
  clean_types
  pointwise
  exact dif_pos (by omega)

theorem k_v12_hi (h7 : k_arg7 VK = r_arg7 VR) (a : Fin 36) : k_v12 VK (ix2 0 ⟨9 + a.val, by omega⟩) = r_arg7 VR (ix1 a) := by
  rw [k_v12_eq, k_v10_eq, k_v9_eq, h7]
  generalize k_arg5 VK = X
  generalize r_arg7 VR = Y
  generalize k_call2_v0 VK = Z
  clean_types
  pointwise
  exact dif_pos (by omega)

section Join
variable {VP : Valuation KernelIdeal.τ KernelIdeal.sig (Elt Ideal)}
  (h13 : ∀ (b : Fin 2) (p : Fin 4096) (o : Fin 128), p_v13 VP (ix3 b p o)
    = out0_5 (F := Ideal) (imageOf (F := Ideal) (k_v1 VK) b) (k_v3 VK) (k_v11 VK) (k_v8 VK) (k_v12 VK) (ix3 0 p o))
  (h1 : k_arg1 VK = r_arg1 VR) (h2 : k_arg2 VK = r_arg2 VR) (h3 : k_arg3 VK = r_arg3 VR) (h4 : k_arg4 VK = r_arg4 VR)
  (h5 : k_arg5 VK = r_arg5 VR) (h6 : k_arg6 VK = r_arg6 VR) (h7 : k_arg7 VK = r_arg7 VR)
include h13 h1 h2 h3 h4 h5 h6 h7

theorem scores_at (b : Fin 2) (p : Fin 4096) (a : Fin 9) :
    p_v13 VP (ix3 b p ⟨a.val, by omega⟩) = r_v68 VR (ix4 b a ⟨p.val / 64, by omega⟩ ⟨p.val % 64, by omega⟩) := by
  rw [h13, head_at, r_v68_at, k_v12_lo h5]
  simp only [hid_eq h1 h2 h3, k_v8_lo h4]

theorem deltas_at (b : Fin 2) (p : Fin 4096) (a : Fin 36) :
    p_v13 VP (ix3 b p ⟨9 + a.val, by omega⟩) = r_v77 VR (ix4 b a ⟨p.val / 64, by omega⟩ ⟨p.val % 64, by omega⟩) := by
  rw [h13, head_at, r_v77_at, k_v12_hi h7]
  simp only [hid_eq h1 h2 h3, k_v8_hi h6]

/-- The class scores. -/
theorem scores_eq : p_v15 VP = r_v80 VR := by
  funext i
  obtain ⟨b, l, rfl⟩ : ∃ (b : Fin 2) (l : Fin 36864), i = ix2 b l := ⟨i 0, i 1, eq_ix2 i⟩
  have e := scores_at h13 h1 h2 h3 h4 h5 h6 h7 b ⟨l.val / 9, by omega⟩ ⟨l.val % 9, by omega⟩
  rw [p_v15_eq, p_v14_eq, r_v80_eq, r_v79_eq, r_v78_eq]
  generalize r_v68 VR = X at *
  generalize p_v13 VP = Y at *
  clean_types
  pointwise
  refine Eq.trans ?_ (e.trans ?_)
  · rfl
  · have hd : l.val / 9 / 64 = l.val / 576 := by omega
    simp only [hd]

/-- The box offsets. -/
theorem deltas_eq : p_v17 VP = r_v83 VR := by
  funext i
  obtain ⟨b, l, k, rfl⟩ : ∃ (b : Fin 2) (l : Fin 36864) (k : Fin 4), i = ix3 b l k := ⟨i 0, i 1, i 2, eq_ix3 i⟩
  have e := deltas_at h13 h1 h2 h3 h4 h5 h6 h7 b ⟨l.val / 9, by omega⟩ ⟨l.val % 9 * 4 + k.val, by omega⟩
  rw [p_v17_eq, p_v16_eq, r_v83_eq, r_v82_eq, r_v81_eq]
  generalize r_v77 VR = X at *
  generalize p_v13 VP = Y at *
  clean_types
  pointwise
  refine Eq.trans ?_ (e.trans ?_)
  · rfl
  · have hd : l.val / 9 / 64 = l.val / 576 := by omega
    simp only [hd]

end Join

end Cert.Head
-- ==== Proof.RefEq2.lean ====
/- Host equations: the reference before its loop, part 2. `r_x V` is what buffer `x` holds at the end of the line from the contents `V`; each operation gives the equation of its result. -/
module

public import Idealize.ShloMosaic.PureOps.Ideal
public import proofs.«01_k».proof.Proof.RefEq1

@[expose] public section

set_option maxRecDepth 16384

noncomputable section

namespace Cert.ReferenceIdeal.Value

open Idealize.ShloMosaic Idealize.ShloMosaic.TcCoe Idealize.ShloMosaic.StableHlo
open Cert.ReferenceIdeal.Gen

variable (V : Valuation τ sig (Elt Ideal))

attribute [local irreducible] after

def r_v123 : (⟨S4096x1, .f32⟩ : BufTy).Contents (Elt Ideal) := after rL V (Proc.devRef .tc main_v123)
theorem r_v123_eq : r_v123 V = broadcastInDim S4096x1 ![0] bcast_S4096_S4096x1_0 (r_v119 V) := (Ssa.unary r_hW V 140 rfl (by decide +kernel) (by decide +kernel) :)
def r_v124 : (⟨S4096x1, .f32⟩ : BufTy).Contents (Elt Ideal) := after rL V (Proc.devRef .tc main_v124)
theorem r_v124_eq : r_v124 V = broadcastInDim S4096x1 ![0] bcast_S4096_S4096x1_0 (r_v120 V) := (Ssa.unary r_hW V 141 rfl (by decide +kernel) (by decide +kernel) :)
def r_v125 : (⟨S4096x4, .f32⟩ : BufTy).Contents (Elt Ideal) := after rL V (Proc.devRef .tc main_v125)
theorem r_v125_eq : r_v125 V = concatenate S4096x4 1 [⟨S4096x1, (r_v121 V)⟩, ⟨S4096x1, (r_v122 V)⟩, ⟨S4096x1, (r_v123 V)⟩, ⟨S4096x1, (r_v124 V)⟩] concatenates_S4096x1_S4096x1_S4096x1_S4096x1_S4096x4_d1 := (Ssa.nary r_hW V 142 rfl (by decide +kernel) (by decide +kernel) :)
def r_v126 : (⟨S4096x1x4, .f32⟩ : BufTy).Contents (Elt Ideal) := after rL V (Proc.devRef .tc main_v126)
theorem r_v126_eq : r_v126 V = broadcastInDim S4096x1x4 ![0, 2] bcast_S4096x4_S4096x1x4_0_2 (r_v125 V) := (Ssa.unary r_hW V 143 rfl (by decide +kernel) (by decide +kernel) :)
def r_v127 : (⟨S1x9x4, .f32⟩ : BufTy).Contents (Elt Ideal) := after rL V (Proc.devRef .tc main_v127)
theorem r_v127_eq : r_v127 V = broadcastInDim S1x9x4 ![1, 2] bcast_S9x4_S1x9x4_1_2 (r_v108 V) := (Ssa.unary r_hW V 144 rfl (by decide +kernel) (by decide +kernel) :)
def r_v128 : (⟨S4096x9x4, .f32⟩ : BufTy).Contents (Elt Ideal) := after rL V (Proc.devRef .tc main_v128)
theorem r_v128_eq : r_v128 V = broadcastInDim S4096x9x4 ![0, 1, 2] bcast_S4096x1x4_S4096x9x4_0_1_2 (r_v126 V) := (Ssa.unary r_hW V 145 rfl (by decide +kernel) (by decide +kernel) :)
def r_v129 : (⟨S4096x9x4, .f32⟩ : BufTy).Contents (Elt Ideal) := after rL V (Proc.devRef .tc main_v129)
theorem r_v129_eq : r_v129 V = broadcastInDim S4096x9x4 ![0, 1, 2] bcast_S1x9x4_S4096x9x4_0_1_2 (r_v127 V) := (Ssa.unary r_hW V 146 rfl (by decide +kernel) (by decide +kernel) :)
def r_v130 : (⟨S4096x9x4, .f32⟩ : BufTy).Contents (Elt Ideal) := after rL V (Proc.devRef .tc main_v130)
theorem r_v130_eq : r_v130 V = addf (F := Ideal) (φ := .f32) (r_v128 V) (r_v129 V) := (Ssa.binary r_hW V 147 rfl (by decide +kernel) (by decide +kernel) (by decide +kernel) :)
def r_v131 : (⟨S36864x4, .f32⟩ : BufTy).Contents (Elt Ideal) := after rL V (Proc.devRef .tc main_v131)
theorem r_v131_eq : r_v131 V = shapeCast S36864x4 (r_v130 V) shapeCasts_S4096x9x4_S36864x4 := (Ssa.reshape r_hW V 148 rfl (by decide +kernel) (by decide +kernel) :)
def r_v132 : (⟨S36864x1, .f32⟩ : BufTy).Contents (Elt Ideal) := after rL V (Proc.devRef .tc main_v132)
theorem r_v132_eq : r_v132 V = extractStridedSlice S36864x1 ![0, 2] (r_v131 V) slices_S36864x4_S36864x1_0_2 := (Ssa.unary r_hW V 149 rfl (by decide +kernel) (by decide +kernel) :)
def r_v133 : (⟨S36864, .f32⟩ : BufTy).Contents (Elt Ideal) := after rL V (Proc.devRef .tc main_v133)
theorem r_v133_eq : r_v133 V = shapeCast S36864 (r_v132 V) shapeCasts_S36864x1_S36864 := (Ssa.reshape r_hW V 150 rfl (by decide +kernel) (by decide +kernel) :)
def r_v134 : (⟨S36864x1, .f32⟩ : BufTy).Contents (Elt Ideal) := after rL V (Proc.devRef .tc main_v134)
theorem r_v134_eq : r_v134 V = extractStridedSlice S36864x1 ![0, 0] (r_v131 V) slices_S36864x4_S36864x1_0_0 := (Ssa.unary r_hW V 151 rfl (by decide +kernel) (by decide +kernel) :)
def r_v135 : (⟨S36864, .f32⟩ : BufTy).Contents (Elt Ideal) := after rL V (Proc.devRef .tc main_v135)
theorem r_v135_eq : r_v135 V = shapeCast S36864 (r_v134 V) shapeCasts_S36864x1_S36864 := (Ssa.reshape r_hW V 152 rfl (by decide +kernel) (by decide +kernel) :)
def r_v136 : (⟨S36864, .f32⟩ : BufTy).Contents (Elt Ideal) := after rL V (Proc.devRef .tc main_v136)
theorem r_v136_eq : r_v136 V = subf (F := Ideal) (φ := .f32) (r_v133 V) (r_v135 V) := (Ssa.binary r_hW V 153 rfl (by decide +kernel) (by decide +kernel) (by decide +kernel) :)
def r_v137 : (⟨S36864x1, .f32⟩ : BufTy).Contents (Elt Ideal) := after rL V (Proc.devRef .tc main_v137)
theorem r_v137_eq : r_v137 V = extractStridedSlice S36864x1 ![0, 3] (r_v131 V) slices_S36864x4_S36864x1_0_3 := (Ssa.unary r_hW V 154 rfl (by decide +kernel) (by decide +kernel) :)
def r_v138 : (⟨S36864, .f32⟩ : BufTy).Contents (Elt Ideal) := after rL V (Proc.devRef .tc main_v138)
theorem r_v138_eq : r_v138 V = shapeCast S36864 (r_v137 V) shapeCasts_S36864x1_S36864 := (Ssa.reshape r_hW V 155 rfl (by decide +kernel) (by decide +kernel) :)
def r_v139 : (⟨S36864x1, .f32⟩ : BufTy).Contents (Elt Ideal) := after rL V (Proc.devRef .tc main_v139)
theorem r_v139_eq : r_v139 V = extractStridedSlice S36864x1 ![0, 1] (r_v131 V) slices_S36864x4_S36864x1_0_1 := (Ssa.unary r_hW V 156 rfl (by decide +kernel) (by decide +kernel) :)
def r_v140 : (⟨S36864, .f32⟩ : BufTy).Contents (Elt Ideal) := after rL V (Proc.devRef .tc main_v140)
theorem r_v140_eq : r_v140 V = shapeCast S36864 (r_v139 V) shapeCasts_S36864x1_S36864 := (Ssa.reshape r_hW V 157 rfl (by decide +kernel) (by decide +kernel) :)
def r_v141 : (⟨S36864, .f32⟩ : BufTy).Contents (Elt Ideal) := after rL V (Proc.devRef .tc main_v141)
theorem r_v141_eq : r_v141 V = subf (F := Ideal) (φ := .f32) (r_v138 V) (r_v140 V) := (Ssa.binary r_hW V 158 rfl (by decide +kernel) (by decide +kernel) (by decide +kernel) :)
def r_v142 : (⟨S36864x1, .f32⟩ : BufTy).Contents (Elt Ideal) := after rL V (Proc.devRef .tc main_v142)
theorem r_v142_eq : r_v142 V = extractStridedSlice S36864x1 ![0, 0] (r_v131 V) slices_S36864x4_S36864x1_0_0 := (Ssa.unary r_hW V 159 rfl (by decide +kernel) (by decide +kernel) :)
def r_v143 : (⟨S36864, .f32⟩ : BufTy).Contents (Elt Ideal) := after rL V (Proc.devRef .tc main_v143)
theorem r_v143_eq : r_v143 V = shapeCast S36864 (r_v142 V) shapeCasts_S36864x1_S36864 := (Ssa.reshape r_hW V 160 rfl (by decide +kernel) (by decide +kernel) :)
def r_cst_10 : (⟨S_, .f32⟩ : BufTy).Contents (Elt Ideal) := after rL V (Proc.devRef .tc main_cst_10)
theorem r_cst_10_eq : r_cst_10 V = constant (F := Ideal) S_ .f32 0x3F000000#32 := (Ssa.nullary r_hW V 161 rfl (by decide +kernel) :)
def r_v144 : (⟨S36864, .f32⟩ : BufTy).Contents (Elt Ideal) := after rL V (Proc.devRef .tc main_v144)
theorem r_v144_eq : r_v144 V = broadcastInDim S36864 ![] bcast_S_S36864 (r_cst_10 V) := (Ssa.unary r_hW V 162 rfl (by decide +kernel) (by decide +kernel) :)
def r_v145 : (⟨S36864, .f32⟩ : BufTy).Contents (Elt Ideal) := after rL V (Proc.devRef .tc main_v145)
theorem r_v145_eq : r_v145 V = mulf (F := Ideal) (φ := .f32) (r_v144 V) (r_v136 V) := (Ssa.binary r_hW V 163 rfl (by decide +kernel) (by decide +kernel) (by decide +kernel) :)
def r_v146 : (⟨S36864, .f32⟩ : BufTy).Contents (Elt Ideal) := after rL V (Proc.devRef .tc main_v146)
theorem r_v146_eq : r_v146 V = addf (F := Ideal) (φ := .f32) (r_v143 V) (r_v145 V) := (Ssa.binary r_hW V 164 rfl (by decide +kernel) (by decide +kernel) (by decide +kernel) :)
def r_v147 : (⟨S36864x1, .f32⟩ : BufTy).Contents (Elt Ideal) := after rL V (Proc.devRef .tc main_v147)
theorem r_v147_eq : r_v147 V = extractStridedSlice S36864x1 ![0, 1] (r_v131 V) slices_S36864x4_S36864x1_0_1 := (Ssa.unary r_hW V 165 rfl (by decide +kernel) (by decide +kernel) :)
def r_v148 : (⟨S36864, .f32⟩ : BufTy).Contents (Elt Ideal) := after rL V (Proc.devRef .tc main_v148)
theorem r_v148_eq : r_v148 V = shapeCast S36864 (r_v147 V) shapeCasts_S36864x1_S36864 := (Ssa.reshape r_hW V 166 rfl (by decide +kernel) (by decide +kernel) :)
def r_cst_11 : (⟨S_, .f32⟩ : BufTy).Contents (Elt Ideal) := after rL V (Proc.devRef .tc main_cst_11)
theorem r_cst_11_eq : r_cst_11 V = constant (F := Ideal) S_ .f32 0x3F000000#32 := (Ssa.nullary r_hW V 167 rfl (by decide +kernel) :)
def r_v149 : (⟨S36864, .f32⟩ : BufTy).Contents (Elt Ideal) := after rL V (Proc.devRef .tc main_v149)
theorem r_v149_eq : r_v149 V = broadcastInDim S36864 ![] bcast_S_S36864 (r_cst_11 V) := (Ssa.unary r_hW V 168 rfl (by decide +kernel) (by decide +kernel) :)
def r_v150 : (⟨S36864, .f32⟩ : BufTy).Contents (Elt Ideal) := after rL V (Proc.devRef .tc main_v150)
theorem r_v150_eq : r_v150 V = mulf (F := Ideal) (φ := .f32) (r_v149 V) (r_v141 V) := (Ssa.binary r_hW V 169 rfl (by decide +kernel) (by decide +kernel) (by decide +kernel) :)
def r_v151 : (⟨S36864, .f32⟩ : BufTy).Contents (Elt Ideal) := after rL V (Proc.devRef .tc main_v151)
theorem r_v151_eq : r_v151 V = addf (F := Ideal) (φ := .f32) (r_v148 V) (r_v150 V) := (Ssa.binary r_hW V 170 rfl (by decide +kernel) (by decide +kernel) (by decide +kernel) :)
def r_v152 : (⟨S2x36864x1, .f32⟩ : BufTy).Contents (Elt Ideal) := after rL V (Proc.devRef .tc main_v152)
theorem r_v152_eq : r_v152 V = extractStridedSlice S2x36864x1 ![0, 0, 0] (r_v83 V) slices_S2x36864x4_S2x36864x1_0_0_0 := (Ssa.unary r_hW V 171 rfl (by decide +kernel) (by decide +kernel) :)
def r_v153 : (⟨S2x36864, .f32⟩ : BufTy).Contents (Elt Ideal) := after rL V (Proc.devRef .tc main_v153)
theorem r_v153_eq : r_v153 V = shapeCast S2x36864 (r_v152 V) shapeCasts_S2x36864x1_S2x36864 := (Ssa.reshape r_hW V 172 rfl (by decide +kernel) (by decide +kernel) :)
def r_v154 : (⟨S2x36864x1, .f32⟩ : BufTy).Contents (Elt Ideal) := after rL V (Proc.devRef .tc main_v154)
theorem r_v154_eq : r_v154 V = extractStridedSlice S2x36864x1 ![0, 0, 1] (r_v83 V) slices_S2x36864x4_S2x36864x1_0_0_1 := (Ssa.unary r_hW V 173 rfl (by decide +kernel) (by decide +kernel) :)
def r_v155 : (⟨S2x36864, .f32⟩ : BufTy).Contents (Elt Ideal) := after rL V (Proc.devRef .tc main_v155)
theorem r_v155_eq : r_v155 V = shapeCast S2x36864 (r_v154 V) shapeCasts_S2x36864x1_S2x36864 := (Ssa.reshape r_hW V 174 rfl (by decide +kernel) (by decide +kernel) :)
def r_v156 : (⟨S2x36864x1, .f32⟩ : BufTy).Contents (Elt Ideal) := after rL V (Proc.devRef .tc main_v156)
theorem r_v156_eq : r_v156 V = extractStridedSlice S2x36864x1 ![0, 0, 2] (r_v83 V) slices_S2x36864x4_S2x36864x1_0_0_2 := (Ssa.unary r_hW V 175 rfl (by decide +kernel) (by decide +kernel) :)
def r_v157 : (⟨S2x36864, .f32⟩ : BufTy).Contents (Elt Ideal) := after rL V (Proc.devRef .tc main_v157)
theorem r_v157_eq : r_v157 V = shapeCast S2x36864 (r_v156 V) shapeCasts_S2x36864x1_S2x36864 := (Ssa.reshape r_hW V 176 rfl (by decide +kernel) (by decide +kernel) :)
def r_cst_12 : (⟨S_, .f32⟩ : BufTy).Contents (Elt Ideal) := after rL V (Proc.devRef .tc main_cst_12)
theorem r_cst_12_eq : r_cst_12 V = constant (F := Ideal) S_ .f32 0x40845349#32 := (Ssa.nullary r_hW V 177 rfl (by decide +kernel) :)
def r_v158 : (⟨S2x36864, .f32⟩ : BufTy).Contents (Elt Ideal) := after rL V (Proc.devRef .tc main_v158)
theorem r_v158_eq : r_v158 V = broadcastInDim S2x36864 ![] bcast_S_S2x36864 (r_cst_12 V) := (Ssa.unary r_hW V 178 rfl (by decide +kernel) (by decide +kernel) :)
def r_v159 : (⟨S2x36864, .f32⟩ : BufTy).Contents (Elt Ideal) := after rL V (Proc.devRef .tc main_v159)
theorem r_v159_eq : r_v159 V = minimumf (F := Ideal) (φ := .f32) (r_v157 V) (r_v158 V) := (Ssa.binary r_hW V 179 rfl (by decide +kernel) (by decide +kernel) (by decide +kernel) :)
def r_v160 : (⟨S2x36864x1, .f32⟩ : BufTy).Contents (Elt Ideal) := after rL V (Proc.devRef .tc main_v160)
theorem r_v160_eq : r_v160 V = extractStridedSlice S2x36864x1 ![0, 0, 3] (r_v83 V) slices_S2x36864x4_S2x36864x1_0_0_3 := (Ssa.unary r_hW V 180 rfl (by decide +kernel) (by decide +kernel) :)
def r_v161 : (⟨S2x36864, .f32⟩ : BufTy).Contents (Elt Ideal) := after rL V (Proc.devRef .tc main_v161)
theorem r_v161_eq : r_v161 V = shapeCast S2x36864 (r_v160 V) shapeCasts_S2x36864x1_S2x36864 := (Ssa.reshape r_hW V 181 rfl (by decide +kernel) (by decide +kernel) :)
def r_cst_13 : (⟨S_, .f32⟩ : BufTy).Contents (Elt Ideal) := after rL V (Proc.devRef .tc main_cst_13)
theorem r_cst_13_eq : r_cst_13 V = constant (F := Ideal) S_ .f32 0x40845349#32 := (Ssa.nullary r_hW V 182 rfl (by decide +kernel) :)
def r_v162 : (⟨S2x36864, .f32⟩ : BufTy).Contents (Elt Ideal) := after rL V (Proc.devRef .tc main_v162)
theorem r_v162_eq : r_v162 V = broadcastInDim S2x36864 ![] bcast_S_S2x36864 (r_cst_13 V) := (Ssa.unary r_hW V 183 rfl (by decide +kernel) (by decide +kernel) :)
def r_v163 : (⟨S2x36864, .f32⟩ : BufTy).Contents (Elt Ideal) := after rL V (Proc.devRef .tc main_v163)
theorem r_v163_eq : r_v163 V = minimumf (F := Ideal) (φ := .f32) (r_v161 V) (r_v162 V) := (Ssa.binary r_hW V 184 rfl (by decide +kernel) (by decide +kernel) (by decide +kernel) :)
def r_v164 : (⟨S1x36864, .f32⟩ : BufTy).Contents (Elt Ideal) := after rL V (Proc.devRef .tc main_v164)
theorem r_v164_eq : r_v164 V = broadcastInDim S1x36864 ![1] bcast_S36864_S1x36864_1 (r_v136 V) := (Ssa.unary r_hW V 185 rfl (by decide +kernel) (by decide +kernel) :)
def r_v165 : (⟨S2x36864, .f32⟩ : BufTy).Contents (Elt Ideal) := after rL V (Proc.devRef .tc main_v165)
theorem r_v165_eq : r_v165 V = broadcastInDim S2x36864 ![0, 1] bcast_S1x36864_S2x36864_0_1 (r_v164 V) := (Ssa.unary r_hW V 186 rfl (by decide +kernel) (by decide +kernel) :)
def r_v166 : (⟨S2x36864, .f32⟩ : BufTy).Contents (Elt Ideal) := after rL V (Proc.devRef .tc main_v166)
theorem r_v166_eq : r_v166 V = mulf (F := Ideal) (φ := .f32) (r_v153 V) (r_v165 V) := (Ssa.binary r_hW V 187 rfl (by decide +kernel) (by decide +kernel) (by decide +kernel) :)
def r_v167 : (⟨S1x36864, .f32⟩ : BufTy).Contents (Elt Ideal) := after rL V (Proc.devRef .tc main_v167)
theorem r_v167_eq : r_v167 V = broadcastInDim S1x36864 ![1] bcast_S36864_S1x36864_1 (r_v146 V) := (Ssa.unary r_hW V 188 rfl (by decide +kernel) (by decide +kernel) :)
def r_v168 : (⟨S2x36864, .f32⟩ : BufTy).Contents (Elt Ideal) := after rL V (Proc.devRef .tc main_v168)
theorem r_v168_eq : r_v168 V = broadcastInDim S2x36864 ![0, 1] bcast_S1x36864_S2x36864_0_1 (r_v167 V) := (Ssa.unary r_hW V 189 rfl (by decide +kernel) (by decide +kernel) :)
def r_v169 : (⟨S2x36864, .f32⟩ : BufTy).Contents (Elt Ideal) := after rL V (Proc.devRef .tc main_v169)
theorem r_v169_eq : r_v169 V = addf (F := Ideal) (φ := .f32) (r_v166 V) (r_v168 V) := (Ssa.binary r_hW V 190 rfl (by decide +kernel) (by decide +kernel) (by decide +kernel) :)
def r_v170 : (⟨S1x36864, .f32⟩ : BufTy).Contents (Elt Ideal) := after rL V (Proc.devRef .tc main_v170)
theorem r_v170_eq : r_v170 V = broadcastInDim S1x36864 ![1] bcast_S36864_S1x36864_1 (r_v141 V) := (Ssa.unary r_hW V 191 rfl (by decide +kernel) (by decide +kernel) :)
def r_v171 : (⟨S2x36864, .f32⟩ : BufTy).Contents (Elt Ideal) := after rL V (Proc.devRef .tc main_v171)
theorem r_v171_eq : r_v171 V = broadcastInDim S2x36864 ![0, 1] bcast_S1x36864_S2x36864_0_1 (r_v170 V) := (Ssa.unary r_hW V 192 rfl (by decide +kernel) (by decide +kernel) :)
def r_v172 : (⟨S2x36864, .f32⟩ : BufTy).Contents (Elt Ideal) := after rL V (Proc.devRef .tc main_v172)
theorem r_v172_eq : r_v172 V = mulf (F := Ideal) (φ := .f32) (r_v155 V) (r_v171 V) := (Ssa.binary r_hW V 193 rfl (by decide +kernel) (by decide +kernel) (by decide +kernel) :)
def r_v173 : (⟨S1x36864, .f32⟩ : BufTy).Contents (Elt Ideal) := after rL V (Proc.devRef .tc main_v173)
theorem r_v173_eq : r_v173 V = broadcastInDim S1x36864 ![1] bcast_S36864_S1x36864_1 (r_v151 V) := (Ssa.unary r_hW V 194 rfl (by decide +kernel) (by decide +kernel) :)
def r_v174 : (⟨S2x36864, .f32⟩ : BufTy).Contents (Elt Ideal) := after rL V (Proc.devRef .tc main_v174)
theorem r_v174_eq : r_v174 V = broadcastInDim S2x36864 ![0, 1] bcast_S1x36864_S2x36864_0_1 (r_v173 V) := (Ssa.unary r_hW V 195 rfl (by decide +kernel) (by decide +kernel) :)
def r_v175 : (⟨S2x36864, .f32⟩ : BufTy).Contents (Elt Ideal) := after rL V (Proc.devRef .tc main_v175)
theorem r_v175_eq : r_v175 V = addf (F := Ideal) (φ := .f32) (r_v172 V) (r_v174 V) := (Ssa.binary r_hW V 196 rfl (by decide +kernel) (by decide +kernel) (by decide +kernel) :)
def r_v176 : (⟨S2x36864, .f32⟩ : BufTy).Contents (Elt Ideal) := after rL V (Proc.devRef .tc main_v176)
theorem r_v176_eq : r_v176 V = Host.exp (F := Ideal) (φ := .f32) (r_v159 V) := (Ssa.unary r_hW V 197 rfl (by decide +kernel) (by decide +kernel) :)
def r_v177 : (⟨S1x36864, .f32⟩ : BufTy).Contents (Elt Ideal) := after rL V (Proc.devRef .tc main_v177)
theorem r_v177_eq : r_v177 V = broadcastInDim S1x36864 ![1] bcast_S36864_S1x36864_1 (r_v136 V) := (Ssa.unary r_hW V 198 rfl (by decide +kernel) (by decide +kernel) :)
def r_v178 : (⟨S2x36864, .f32⟩ : BufTy).Contents (Elt Ideal) := after rL V (Proc.devRef .tc main_v178)
theorem r_v178_eq : r_v178 V = broadcastInDim S2x36864 ![0, 1] bcast_S1x36864_S2x36864_0_1 (r_v177 V) := (Ssa.unary r_hW V 199 rfl (by decide +kernel) (by decide +kernel) :)
def r_v179 : (⟨S2x36864, .f32⟩ : BufTy).Contents (Elt Ideal) := after rL V (Proc.devRef .tc main_v179)
theorem r_v179_eq : r_v179 V = mulf (F := Ideal) (φ := .f32) (r_v176 V) (r_v178 V) := (Ssa.binary r_hW V 200 rfl (by decide +kernel) (by decide +kernel) (by decide +kernel) :)
def r_v180 : (⟨S2x36864, .f32⟩ : BufTy).Contents (Elt Ideal) := after rL V (Proc.devRef .tc main_v180)
theorem r_v180_eq : r_v180 V = Host.exp (F := Ideal) (φ := .f32) (r_v163 V) := (Ssa.unary r_hW V 201 rfl (by decide +kernel) (by decide +kernel) :)
def r_v181 : (⟨S1x36864, .f32⟩ : BufTy).Contents (Elt Ideal) := after rL V (Proc.devRef .tc main_v181)
theorem r_v181_eq : r_v181 V = broadcastInDim S1x36864 ![1] bcast_S36864_S1x36864_1 (r_v141 V) := (Ssa.unary r_hW V 202 rfl (by decide +kernel) (by decide +kernel) :)
def r_v182 : (⟨S2x36864, .f32⟩ : BufTy).Contents (Elt Ideal) := after rL V (Proc.devRef .tc main_v182)
theorem r_v182_eq : r_v182 V = broadcastInDim S2x36864 ![0, 1] bcast_S1x36864_S2x36864_0_1 (r_v181 V) := (Ssa.unary r_hW V 203 rfl (by decide +kernel) (by decide +kernel) :)
def r_v183 : (⟨S2x36864, .f32⟩ : BufTy).Contents (Elt Ideal) := after rL V (Proc.devRef .tc main_v183)
theorem r_v183_eq : r_v183 V = mulf (F := Ideal) (φ := .f32) (r_v180 V) (r_v182 V) := (Ssa.binary r_hW V 204 rfl (by decide +kernel) (by decide +kernel) (by decide +kernel) :)
def r_cst_14 : (⟨S_, .f32⟩ : BufTy).Contents (Elt Ideal) := after rL V (Proc.devRef .tc main_cst_14)
theorem r_cst_14_eq : r_cst_14 V = constant (F := Ideal) S_ .f32 0x3F000000#32 := (Ssa.nullary r_hW V 205 rfl (by decide +kernel) :)
def r_v184 : (⟨S2x36864, .f32⟩ : BufTy).Contents (Elt Ideal) := after rL V (Proc.devRef .tc main_v184)
theorem r_v184_eq : r_v184 V = broadcastInDim S2x36864 ![] bcast_S_S2x36864 (r_cst_14 V) := (Ssa.unary r_hW V 206 rfl (by decide +kernel) (by decide +kernel) :)
def r_v185 : (⟨S2x36864, .f32⟩ : BufTy).Contents (Elt Ideal) := after rL V (Proc.devRef .tc main_v185)
theorem r_v185_eq : r_v185 V = mulf (F := Ideal) (φ := .f32) (r_v184 V) (r_v179 V) := (Ssa.binary r_hW V 207 rfl (by decide +kernel) (by decide +kernel) (by decide +kernel) :)
def r_v186 : (⟨S2x36864, .f32⟩ : BufTy).Contents (Elt Ideal) := after rL V (Proc.devRef .tc main_v186)
theorem r_v186_eq : r_v186 V = subf (F := Ideal) (φ := .f32) (r_v169 V) (r_v185 V) := (Ssa.binary r_hW V 208 rfl (by decide +kernel) (by decide +kernel) (by decide +kernel) :)
def r_cst_15 : (⟨S_, .f32⟩ : BufTy).Contents (Elt Ideal) := after rL V (Proc.devRef .tc main_cst_15)
theorem r_cst_15_eq : r_cst_15 V = constant (F := Ideal) S_ .f32 0x3F000000#32 := (Ssa.nullary r_hW V 209 rfl (by decide +kernel) :)
def r_v187 : (⟨S2x36864, .f32⟩ : BufTy).Contents (Elt Ideal) := after rL V (Proc.devRef .tc main_v187)
theorem r_v187_eq : r_v187 V = broadcastInDim S2x36864 ![] bcast_S_S2x36864 (r_cst_15 V) := (Ssa.unary r_hW V 210 rfl (by decide +kernel) (by decide +kernel) :)
def r_v188 : (⟨S2x36864, .f32⟩ : BufTy).Contents (Elt Ideal) := after rL V (Proc.devRef .tc main_v188)
theorem r_v188_eq : r_v188 V = mulf (F := Ideal) (φ := .f32) (r_v187 V) (r_v183 V) := (Ssa.binary r_hW V 211 rfl (by decide +kernel) (by decide +kernel) (by decide +kernel) :)
def r_v189 : (⟨S2x36864, .f32⟩ : BufTy).Contents (Elt Ideal) := after rL V (Proc.devRef .tc main_v189)
theorem r_v189_eq : r_v189 V = subf (F := Ideal) (φ := .f32) (r_v175 V) (r_v188 V) := (Ssa.binary r_hW V 212 rfl (by decide +kernel) (by decide +kernel) (by decide +kernel) :)
def r_cst_16 : (⟨S_, .f32⟩ : BufTy).Contents (Elt Ideal) := after rL V (Proc.devRef .tc main_cst_16)
theorem r_cst_16_eq : r_cst_16 V = constant (F := Ideal) S_ .f32 0x3F000000#32 := (Ssa.nullary r_hW V 213 rfl (by decide +kernel) :)
def r_v190 : (⟨S2x36864, .f32⟩ : BufTy).Contents (Elt Ideal) := after rL V (Proc.devRef .tc main_v190)
theorem r_v190_eq : r_v190 V = broadcastInDim S2x36864 ![] bcast_S_S2x36864 (r_cst_16 V) := (Ssa.unary r_hW V 214 rfl (by decide +kernel) (by decide +kernel) :)
def r_v191 : (⟨S2x36864, .f32⟩ : BufTy).Contents (Elt Ideal) := after rL V (Proc.devRef .tc main_v191)
theorem r_v191_eq : r_v191 V = mulf (F := Ideal) (φ := .f32) (r_v190 V) (r_v179 V) := (Ssa.binary r_hW V 215 rfl (by decide +kernel) (by decide +kernel) (by decide +kernel) :)
def r_v192 : (⟨S2x36864, .f32⟩ : BufTy).Contents (Elt Ideal) := after rL V (Proc.devRef .tc main_v192)
theorem r_v192_eq : r_v192 V = addf (F := Ideal) (φ := .f32) (r_v169 V) (r_v191 V) := (Ssa.binary r_hW V 216 rfl (by decide +kernel) (by decide +kernel) (by decide +kernel) :)
def r_cst_17 : (⟨S_, .f32⟩ : BufTy).Contents (Elt Ideal) := after rL V (Proc.devRef .tc main_cst_17)
theorem r_cst_17_eq : r_cst_17 V = constant (F := Ideal) S_ .f32 0x3F000000#32 := (Ssa.nullary r_hW V 217 rfl (by decide +kernel) :)
def r_v193 : (⟨S2x36864, .f32⟩ : BufTy).Contents (Elt Ideal) := after rL V (Proc.devRef .tc main_v193)
theorem r_v193_eq : r_v193 V = broadcastInDim S2x36864 ![] bcast_S_S2x36864 (r_cst_17 V) := (Ssa.unary r_hW V 218 rfl (by decide +kernel) (by decide +kernel) :)
def r_v194 : (⟨S2x36864, .f32⟩ : BufTy).Contents (Elt Ideal) := after rL V (Proc.devRef .tc main_v194)
theorem r_v194_eq : r_v194 V = mulf (F := Ideal) (φ := .f32) (r_v193 V) (r_v183 V) := (Ssa.binary r_hW V 219 rfl (by decide +kernel) (by decide +kernel) (by decide +kernel) :)
def r_v195 : (⟨S2x36864, .f32⟩ : BufTy).Contents (Elt Ideal) := after rL V (Proc.devRef .tc main_v195)
theorem r_v195_eq : r_v195 V = addf (F := Ideal) (φ := .f32) (r_v175 V) (r_v194 V) := (Ssa.binary r_hW V 220 rfl (by decide +kernel) (by decide +kernel) (by decide +kernel) :)
def r_v196 : (⟨S2x36864x1, .f32⟩ : BufTy).Contents (Elt Ideal) := after rL V (Proc.devRef .tc main_v196)
theorem r_v196_eq : r_v196 V = broadcastInDim S2x36864x1 ![0, 1] bcast_S2x36864_S2x36864x1_0_1 (r_v186 V) := (Ssa.unary r_hW V 221 rfl (by decide +kernel) (by decide +kernel) :)
def r_v197 : (⟨S2x36864x1, .f32⟩ : BufTy).Contents (Elt Ideal) := after rL V (Proc.devRef .tc main_v197)
theorem r_v197_eq : r_v197 V = broadcastInDim S2x36864x1 ![0, 1] bcast_S2x36864_S2x36864x1_0_1 (r_v189 V) := (Ssa.unary r_hW V 222 rfl (by decide +kernel) (by decide +kernel) :)
def r_v198 : (⟨S2x36864x1, .f32⟩ : BufTy).Contents (Elt Ideal) := after rL V (Proc.devRef .tc main_v198)
theorem r_v198_eq : r_v198 V = broadcastInDim S2x36864x1 ![0, 1] bcast_S2x36864_S2x36864x1_0_1 (r_v192 V) := (Ssa.unary r_hW V 223 rfl (by decide +kernel) (by decide +kernel) :)
def r_v199 : (⟨S2x36864x1, .f32⟩ : BufTy).Contents (Elt Ideal) := after rL V (Proc.devRef .tc main_v199)
theorem r_v199_eq : r_v199 V = broadcastInDim S2x36864x1 ![0, 1] bcast_S2x36864_S2x36864x1_0_1 (r_v195 V) := (Ssa.unary r_hW V 224 rfl (by decide +kernel) (by decide +kernel) :)
def r_v200 : (⟨S2x36864x4, .f32⟩ : BufTy).Contents (Elt Ideal) := after rL V (Proc.devRef .tc main_v200)
theorem r_v200_eq : r_v200 V = concatenate S2x36864x4 2 [⟨S2x36864x1, (r_v196 V)⟩, ⟨S2x36864x1, (r_v197 V)⟩, ⟨S2x36864x1, (r_v198 V)⟩, ⟨S2x36864x1, (r_v199 V)⟩] concatenates_S2x36864x1_S2x36864x1_S2x36864x1_S2x36864x1_S2x36864x4_d2 := (Ssa.nary r_hW V 225 rfl (by decide +kernel) (by decide +kernel) :)
def r_values : (⟨S2x2000, .f32⟩ : BufTy).Contents (Elt Ideal) := after rL V (Proc.devRef .tc main_values)
theorem r_values_eq : r_values V = (Host.topK S2x2000 1 (FloatOps.cmpfTotal (F := Ideal) (φ := .f32) .gt) (r_v80 V) sliceFits_S2x36864_S2x2000).1 := (Ssa.unary r_hW V 226 rfl (by decide +kernel) (by decide +kernel) :)
def r_indices : (⟨S2x2000, .i32⟩ : BufTy).Contents (Elt Ideal) := after rL V (Proc.devRef .tc main_indices)
theorem r_indices_eq : r_indices V = (Host.topK S2x2000 1 (FloatOps.cmpfTotal (F := Ideal) (φ := .f32) .gt) (r_v80 V) sliceFits_S2x36864_S2x2000).2 := (Ssa.unary r_hW V 227 rfl (by decide +kernel) (by decide +kernel) :)
def r_c_18 : (⟨S_, .i32⟩ : BufTy).Contents (Elt Ideal) := after rL V (Proc.devRef .tc main_c_18)
theorem r_c_18_eq : r_c_18 V = constantI S_ 32 0#32 := (Ssa.nullary r_hW V 228 rfl (by decide +kernel) :)
def r_v201 : (⟨S2x2000, .i32⟩ : BufTy).Contents (Elt Ideal) := after rL V (Proc.devRef .tc main_v201)
theorem r_v201_eq : r_v201 V = broadcastInDim S2x2000 ![] bcast_S_S2x2000 (r_c_18 V) := (Ssa.unary r_hW V 229 rfl (by decide +kernel) (by decide +kernel) :)
def r_v202 : (⟨S2x2000, .i1⟩ : BufTy).Contents (Elt Ideal) := after rL V (Proc.devRef .tc main_v202)
theorem r_v202_eq : r_v202 V = cmpi .slt (r_indices V) (r_v201 V) := (Ssa.binary r_hW V 230 rfl (by decide +kernel) (by decide +kernel) (by decide +kernel) :)
def r_c_19 : (⟨S_, .i32⟩ : BufTy).Contents (Elt Ideal) := after rL V (Proc.devRef .tc main_c_19)
theorem r_c_19_eq : r_c_19 V = constantI S_ 32 36864#32 := (Ssa.nullary r_hW V 231 rfl (by decide +kernel) :)
def r_v203 : (⟨S2x2000, .i32⟩ : BufTy).Contents (Elt Ideal) := after rL V (Proc.devRef .tc main_v203)
theorem r_v203_eq : r_v203 V = broadcastInDim S2x2000 ![] bcast_S_S2x2000 (r_c_19 V) := (Ssa.unary r_hW V 232 rfl (by decide +kernel) (by decide +kernel) :)
def r_v204 : (⟨S2x2000, .i32⟩ : BufTy).Contents (Elt Ideal) := after rL V (Proc.devRef .tc main_v204)
theorem r_v204_eq : r_v204 V = addi (r_indices V) (r_v203 V) := (Ssa.binary r_hW V 233 rfl (by decide +kernel) (by decide +kernel) (by decide +kernel) :)
def r_v205 : (⟨S2x2000, .i32⟩ : BufTy).Contents (Elt Ideal) := after rL V (Proc.devRef .tc main_v205)
theorem r_v205_eq : r_v205 V = select (r_v202 V) (r_v204 V) (r_indices V) := (Ssa.ternary r_hW V 234 rfl (by decide +kernel) (by decide +kernel) (by decide +kernel) (by decide +kernel) :)
def r_v206 : (⟨S2x2000x1, .i32⟩ : BufTy).Contents (Elt Ideal) := after rL V (Proc.devRef .tc main_v206)
theorem r_v206_eq : r_v206 V = broadcastInDim S2x2000x1 ![0, 1] bcast_S2x2000_S2x2000x1_0_1 (r_v205 V) := (Ssa.unary r_hW V 235 rfl (by decide +kernel) (by decide +kernel) :)
def r_v207 : (⟨S2x2000x4, .f32⟩ : BufTy).Contents (Elt Ideal) := after rL V (Proc.devRef .tc main_v207)
theorem r_v207_eq : r_v207 V = Host.gather gather_S2x36864x4_S2x2000x1_S2x2000x4_2_1_0_0_1_2_114 (r_v200 V) (r_v206 V) := (Ssa.binary r_hW V 236 rfl (by decide +kernel) (by decide +kernel) (by decide +kernel) :)
def r_v208 : (⟨S2x2000x1, .f32⟩ : BufTy).Contents (Elt Ideal) := after rL V (Proc.devRef .tc main_v208)
theorem r_v208_eq : r_v208 V = extractStridedSlice S2x2000x1 ![0, 0, 0] (r_v207 V) slices_S2x2000x4_S2x2000x1_0_0_0 := (Ssa.unary r_hW V 237 rfl (by decide +kernel) (by decide +kernel) :)
def r_v209 : (⟨S2x2000, .f32⟩ : BufTy).Contents (Elt Ideal) := after rL V (Proc.devRef .tc main_v209)
theorem r_v209_eq : r_v209 V = shapeCast S2x2000 (r_v208 V) shapeCasts_S2x2000x1_S2x2000 := (Ssa.reshape r_hW V 238 rfl (by decide +kernel) (by decide +kernel) :)
def r_cst_20 : (⟨S_, .f32⟩ : BufTy).Contents (Elt Ideal) := after rL V (Proc.devRef .tc main_cst_20)
theorem r_cst_20_eq : r_cst_20 V = constant (F := Ideal) S_ .f32 0x00000000#32 := (Ssa.nullary r_hW V 239 rfl (by decide +kernel) :)
def r_cst_21 : (⟨S_, .f32⟩ : BufTy).Contents (Elt Ideal) := after rL V (Proc.devRef .tc main_cst_21)
theorem r_cst_21_eq : r_cst_21 V = constant (F := Ideal) S_ .f32 0x44000000#32 := (Ssa.nullary r_hW V 240 rfl (by decide +kernel) :)
def r_call5_v0 : (⟨S_, .f32⟩ : BufTy).Contents (Elt Ideal) := after rL V (Proc.devRef .tc main_call5_v0)
theorem r_call5_v0_eq : r_call5_v0 V = r_cst_20 V := (Ssa.unary r_hW V 241 rfl (by decide +kernel) (by decide +kernel) :)
def r_call5_v1 : (⟨S2x2000, .f32⟩ : BufTy).Contents (Elt Ideal) := after rL V (Proc.devRef .tc main_call5_v1)
theorem r_call5_v1_eq : r_call5_v1 V = broadcastInDim S2x2000 ![] bcast_S_S2x2000 (r_call5_v0 V) := (Ssa.unary r_hW V 242 rfl (by decide +kernel) (by decide +kernel) :)
def r_call5_v2 : (⟨S2x2000, .f32⟩ : BufTy).Contents (Elt Ideal) := after rL V (Proc.devRef .tc main_call5_v2)
theorem r_call5_v2_eq : r_call5_v2 V = maximumf (F := Ideal) (φ := .f32) (r_call5_v1 V) (r_v209 V) := (Ssa.binary r_hW V 243 rfl (by decide +kernel) (by decide +kernel) (by decide +kernel) :)
def r_call5_v3 : (⟨S_, .f32⟩ : BufTy).Contents (Elt Ideal) := after rL V (Proc.devRef .tc main_call5_v3)
theorem r_call5_v3_eq : r_call5_v3 V = r_cst_21 V := (Ssa.unary r_hW V 244 rfl (by decide +kernel) (by decide +kernel) :)
def r_call5_v4 : (⟨S2x2000, .f32⟩ : BufTy).Contents (Elt Ideal) := after rL V (Proc.devRef .tc main_call5_v4)
theorem r_call5_v4_eq : r_call5_v4 V = broadcastInDim S2x2000 ![] bcast_S_S2x2000 (r_call5_v3 V) := (Ssa.unary r_hW V 245 rfl (by decide +kernel) (by decide +kernel) :)
def r_v210 : (⟨S2x2000, .f32⟩ : BufTy).Contents (Elt Ideal) := after rL V (Proc.devRef .tc main_v210)
theorem r_v210_eq : r_v210 V = minimumf (F := Ideal) (φ := .f32) (r_call5_v4 V) (r_call5_v2 V) := (Ssa.binary r_hW V 246 rfl (by decide +kernel) (by decide +kernel) (by decide +kernel) :)
def r_v211 : (⟨S2x2000x1, .f32⟩ : BufTy).Contents (Elt Ideal) := after rL V (Proc.devRef .tc main_v211)
theorem r_v211_eq : r_v211 V = extractStridedSlice S2x2000x1 ![0, 0, 1] (r_v207 V) slices_S2x2000x4_S2x2000x1_0_0_1 := (Ssa.unary r_hW V 247 rfl (by decide +kernel) (by decide +kernel) :)
def r_v212 : (⟨S2x2000, .f32⟩ : BufTy).Contents (Elt Ideal) := after rL V (Proc.devRef .tc main_v212)
theorem r_v212_eq : r_v212 V = shapeCast S2x2000 (r_v211 V) shapeCasts_S2x2000x1_S2x2000 := (Ssa.reshape r_hW V 248 rfl (by decide +kernel) (by decide +kernel) :)
def r_cst_22 : (⟨S_, .f32⟩ : BufTy).Contents (Elt Ideal) := after rL V (Proc.devRef .tc main_cst_22)
theorem r_cst_22_eq : r_cst_22 V = constant (F := Ideal) S_ .f32 0x00000000#32 := (Ssa.nullary r_hW V 249 rfl (by decide +kernel) :)
def r_cst_23 : (⟨S_, .f32⟩ : BufTy).Contents (Elt Ideal) := after rL V (Proc.devRef .tc main_cst_23)
theorem r_cst_23_eq : r_cst_23 V = constant (F := Ideal) S_ .f32 0x44000000#32 := (Ssa.nullary r_hW V 250 rfl (by decide +kernel) :)
def r_call6_v0 : (⟨S_, .f32⟩ : BufTy).Contents (Elt Ideal) := after rL V (Proc.devRef .tc main_call6_v0)
theorem r_call6_v0_eq : r_call6_v0 V = r_cst_22 V := (Ssa.unary r_hW V 251 rfl (by decide +kernel) (by decide +kernel) :)
def r_call6_v1 : (⟨S2x2000, .f32⟩ : BufTy).Contents (Elt Ideal) := after rL V (Proc.devRef .tc main_call6_v1)
theorem r_call6_v1_eq : r_call6_v1 V = broadcastInDim S2x2000 ![] bcast_S_S2x2000 (r_call6_v0 V) := (Ssa.unary r_hW V 252 rfl (by decide +kernel) (by decide +kernel) :)
def r_call6_v2 : (⟨S2x2000, .f32⟩ : BufTy).Contents (Elt Ideal) := after rL V (Proc.devRef .tc main_call6_v2)
theorem r_call6_v2_eq : r_call6_v2 V = maximumf (F := Ideal) (φ := .f32) (r_call6_v1 V) (r_v212 V) := (Ssa.binary r_hW V 253 rfl (by decide +kernel) (by decide +kernel) (by decide +kernel) :)
def r_call6_v3 : (⟨S_, .f32⟩ : BufTy).Contents (Elt Ideal) := after rL V (Proc.devRef .tc main_call6_v3)
theorem r_call6_v3_eq : r_call6_v3 V = r_cst_23 V := (Ssa.unary r_hW V 254 rfl (by decide +kernel) (by decide +kernel) :)
def r_call6_v4 : (⟨S2x2000, .f32⟩ : BufTy).Contents (Elt Ideal) := after rL V (Proc.devRef .tc main_call6_v4)
theorem r_call6_v4_eq : r_call6_v4 V = broadcastInDim S2x2000 ![] bcast_S_S2x2000 (r_call6_v3 V) := (Ssa.unary r_hW V 255 rfl (by decide +kernel) (by decide +kernel) :)
def r_v213 : (⟨S2x2000, .f32⟩ : BufTy).Contents (Elt Ideal) := after rL V (Proc.devRef .tc main_v213)
theorem r_v213_eq : r_v213 V = minimumf (F := Ideal) (φ := .f32) (r_call6_v4 V) (r_call6_v2 V) := (Ssa.binary r_hW V 256 rfl (by decide +kernel) (by decide +kernel) (by decide +kernel) :)
def r_v214 : (⟨S2x2000x1, .f32⟩ : BufTy).Contents (Elt Ideal) := after rL V (Proc.devRef .tc main_v214)
theorem r_v214_eq : r_v214 V = extractStridedSlice S2x2000x1 ![0, 0, 2] (r_v207 V) slices_S2x2000x4_S2x2000x1_0_0_2 := (Ssa.unary r_hW V 257 rfl (by decide +kernel) (by decide +kernel) :)
def r_v215 : (⟨S2x2000, .f32⟩ : BufTy).Contents (Elt Ideal) := after rL V (Proc.devRef .tc main_v215)
theorem r_v215_eq : r_v215 V = shapeCast S2x2000 (r_v214 V) shapeCasts_S2x2000x1_S2x2000 := (Ssa.reshape r_hW V 258 rfl (by decide +kernel) (by decide +kernel) :)
def r_cst_24 : (⟨S_, .f32⟩ : BufTy).Contents (Elt Ideal) := after rL V (Proc.devRef .tc main_cst_24)
theorem r_cst_24_eq : r_cst_24 V = constant (F := Ideal) S_ .f32 0x00000000#32 := (Ssa.nullary r_hW V 259 rfl (by decide +kernel) :)
def r_cst_25 : (⟨S_, .f32⟩ : BufTy).Contents (Elt Ideal) := after rL V (Proc.devRef .tc main_cst_25)
theorem r_cst_25_eq : r_cst_25 V = constant (F := Ideal) S_ .f32 0x44000000#32 := (Ssa.nullary r_hW V 260 rfl (by decide +kernel) :)
def r_call7_v0 : (⟨S_, .f32⟩ : BufTy).Contents (Elt Ideal) := after rL V (Proc.devRef .tc main_call7_v0)
theorem r_call7_v0_eq : r_call7_v0 V = r_cst_24 V := (Ssa.unary r_hW V 261 rfl (by decide +kernel) (by decide +kernel) :)
def r_call7_v1 : (⟨S2x2000, .f32⟩ : BufTy).Contents (Elt Ideal) := after rL V (Proc.devRef .tc main_call7_v1)
theorem r_call7_v1_eq : r_call7_v1 V = broadcastInDim S2x2000 ![] bcast_S_S2x2000 (r_call7_v0 V) := (Ssa.unary r_hW V 262 rfl (by decide +kernel) (by decide +kernel) :)
def r_call7_v2 : (⟨S2x2000, .f32⟩ : BufTy).Contents (Elt Ideal) := after rL V (Proc.devRef .tc main_call7_v2)
theorem r_call7_v2_eq : r_call7_v2 V = maximumf (F := Ideal) (φ := .f32) (r_call7_v1 V) (r_v215 V) := (Ssa.binary r_hW V 263 rfl (by decide +kernel) (by decide +kernel) (by decide +kernel) :)
def r_call7_v3 : (⟨S_, .f32⟩ : BufTy).Contents (Elt Ideal) := after rL V (Proc.devRef .tc main_call7_v3)
theorem r_call7_v3_eq : r_call7_v3 V = r_cst_25 V := (Ssa.unary r_hW V 264 rfl (by decide +kernel) (by decide +kernel) :)
def r_call7_v4 : (⟨S2x2000, .f32⟩ : BufTy).Contents (Elt Ideal) := after rL V (Proc.devRef .tc main_call7_v4)
theorem r_call7_v4_eq : r_call7_v4 V = broadcastInDim S2x2000 ![] bcast_S_S2x2000 (r_call7_v3 V) := (Ssa.unary r_hW V 265 rfl (by decide +kernel) (by decide +kernel) :)
def r_v216 : (⟨S2x2000, .f32⟩ : BufTy).Contents (Elt Ideal) := after rL V (Proc.devRef .tc main_v216)
theorem r_v216_eq : r_v216 V = minimumf (F := Ideal) (φ := .f32) (r_call7_v4 V) (r_call7_v2 V) := (Ssa.binary r_hW V 266 rfl (by decide +kernel) (by decide +kernel) (by decide +kernel) :)
def r_v217 : (⟨S2x2000x1, .f32⟩ : BufTy).Contents (Elt Ideal) := after rL V (Proc.devRef .tc main_v217)
theorem r_v217_eq : r_v217 V = extractStridedSlice S2x2000x1 ![0, 0, 3] (r_v207 V) slices_S2x2000x4_S2x2000x1_0_0_3 := (Ssa.unary r_hW V 267 rfl (by decide +kernel) (by decide +kernel) :)
def r_v218 : (⟨S2x2000, .f32⟩ : BufTy).Contents (Elt Ideal) := after rL V (Proc.devRef .tc main_v218)
theorem r_v218_eq : r_v218 V = shapeCast S2x2000 (r_v217 V) shapeCasts_S2x2000x1_S2x2000 := (Ssa.reshape r_hW V 268 rfl (by decide +kernel) (by decide +kernel) :)
def r_cst_26 : (⟨S_, .f32⟩ : BufTy).Contents (Elt Ideal) := after rL V (Proc.devRef .tc main_cst_26)
theorem r_cst_26_eq : r_cst_26 V = constant (F := Ideal) S_ .f32 0x00000000#32 := (Ssa.nullary r_hW V 269 rfl (by decide +kernel) :)
def r_cst_27 : (⟨S_, .f32⟩ : BufTy).Contents (Elt Ideal) := after rL V (Proc.devRef .tc main_cst_27)
theorem r_cst_27_eq : r_cst_27 V = constant (F := Ideal) S_ .f32 0x44000000#32 := (Ssa.nullary r_hW V 270 rfl (by decide +kernel) :)
def r_call8_v0 : (⟨S_, .f32⟩ : BufTy).Contents (Elt Ideal) := after rL V (Proc.devRef .tc main_call8_v0)
theorem r_call8_v0_eq : r_call8_v0 V = r_cst_26 V := (Ssa.unary r_hW V 271 rfl (by decide +kernel) (by decide +kernel) :)
def r_call8_v1 : (⟨S2x2000, .f32⟩ : BufTy).Contents (Elt Ideal) := after rL V (Proc.devRef .tc main_call8_v1)
theorem r_call8_v1_eq : r_call8_v1 V = broadcastInDim S2x2000 ![] bcast_S_S2x2000 (r_call8_v0 V) := (Ssa.unary r_hW V 272 rfl (by decide +kernel) (by decide +kernel) :)
def r_call8_v2 : (⟨S2x2000, .f32⟩ : BufTy).Contents (Elt Ideal) := after rL V (Proc.devRef .tc main_call8_v2)
theorem r_call8_v2_eq : r_call8_v2 V = maximumf (F := Ideal) (φ := .f32) (r_call8_v1 V) (r_v218 V) := (Ssa.binary r_hW V 273 rfl (by decide +kernel) (by decide +kernel) (by decide +kernel) :)
def r_call8_v3 : (⟨S_, .f32⟩ : BufTy).Contents (Elt Ideal) := after rL V (Proc.devRef .tc main_call8_v3)
theorem r_call8_v3_eq : r_call8_v3 V = r_cst_27 V := (Ssa.unary r_hW V 274 rfl (by decide +kernel) (by decide +kernel) :)
def r_call8_v4 : (⟨S2x2000, .f32⟩ : BufTy).Contents (Elt Ideal) := after rL V (Proc.devRef .tc main_call8_v4)
theorem r_call8_v4_eq : r_call8_v4 V = broadcastInDim S2x2000 ![] bcast_S_S2x2000 (r_call8_v3 V) := (Ssa.unary r_hW V 275 rfl (by decide +kernel) (by decide +kernel) :)
def r_v219 : (⟨S2x2000, .f32⟩ : BufTy).Contents (Elt Ideal) := after rL V (Proc.devRef .tc main_v219)
theorem r_v219_eq : r_v219 V = minimumf (F := Ideal) (φ := .f32) (r_call8_v4 V) (r_call8_v2 V) := (Ssa.binary r_hW V 276 rfl (by decide +kernel) (by decide +kernel) (by decide +kernel) :)
def r_v220 : (⟨S2x2000x1, .f32⟩ : BufTy).Contents (Elt Ideal) := after rL V (Proc.devRef .tc main_v220)
theorem r_v220_eq : r_v220 V = broadcastInDim S2x2000x1 ![0, 1] bcast_S2x2000_S2x2000x1_0_1 (r_v210 V) := (Ssa.unary r_hW V 277 rfl (by decide +kernel) (by decide +kernel) :)
def r_v221 : (⟨S2x2000x1, .f32⟩ : BufTy).Contents (Elt Ideal) := after rL V (Proc.devRef .tc main_v221)
theorem r_v221_eq : r_v221 V = broadcastInDim S2x2000x1 ![0, 1] bcast_S2x2000_S2x2000x1_0_1 (r_v213 V) := (Ssa.unary r_hW V 278 rfl (by decide +kernel) (by decide +kernel) :)
def r_v222 : (⟨S2x2000x1, .f32⟩ : BufTy).Contents (Elt Ideal) := after rL V (Proc.devRef .tc main_v222)
theorem r_v222_eq : r_v222 V = broadcastInDim S2x2000x1 ![0, 1] bcast_S2x2000_S2x2000x1_0_1 (r_v216 V) := (Ssa.unary r_hW V 279 rfl (by decide +kernel) (by decide +kernel) :)

end Cert.ReferenceIdeal.Value

end
-- ==== Proof.RefEq3.lean ====
/- Host equations: the reference before its loop, part 3. `r_x V` is what buffer `x` holds at the end of the line from the contents `V`; each operation gives the equation of its result. -/
module

public import Idealize.ShloMosaic.PureOps.Ideal
public import proofs.«01_k».proof.Proof.RefEq2

@[expose] public section

set_option maxRecDepth 16384

noncomputable section

namespace Cert.ReferenceIdeal.Value

open Idealize.ShloMosaic Idealize.ShloMosaic.TcCoe Idealize.ShloMosaic.StableHlo
open Cert.ReferenceIdeal.Gen

variable (V : Valuation τ sig (Elt Ideal))

attribute [local irreducible] after

def r_v223 : (⟨S2x2000x1, .f32⟩ : BufTy).Contents (Elt Ideal) := after rL V (Proc.devRef .tc main_v223)
theorem r_v223_eq : r_v223 V = broadcastInDim S2x2000x1 ![0, 1] bcast_S2x2000_S2x2000x1_0_1 (r_v219 V) := (Ssa.unary r_hW V 280 rfl (by decide +kernel) (by decide +kernel) :)
def r_v224 : (⟨S2x2000x4, .f32⟩ : BufTy).Contents (Elt Ideal) := after rL V (Proc.devRef .tc main_v224)
theorem r_v224_eq : r_v224 V = concatenate S2x2000x4 2 [⟨S2x2000x1, (r_v220 V)⟩, ⟨S2x2000x1, (r_v221 V)⟩, ⟨S2x2000x1, (r_v222 V)⟩, ⟨S2x2000x1, (r_v223 V)⟩] concatenates_S2x2000x1_S2x2000x1_S2x2000x1_S2x2000x1_S2x2000x4_d2 := (Ssa.nary r_hW V 281 rfl (by decide +kernel) (by decide +kernel) :)
def r_v225 : (⟨S2x2000, .f32⟩ : BufTy).Contents (Elt Ideal) := after rL V (Proc.devRef .tc main_v225)
theorem r_v225_eq : r_v225 V = Host.negf (F := Ideal) (φ := .f32) (r_values V) := (Ssa.unary r_hW V 282 rfl (by decide +kernel) (by decide +kernel) :)
def r_v226 : (⟨S2x2000, .f32⟩ : BufTy).Contents (Elt Ideal) := after rL V (Proc.devRef .tc main_v226)
theorem r_v226_eq : r_v226 V = Host.exp (F := Ideal) (φ := .f32) (r_v225 V) := (Ssa.unary r_hW V 283 rfl (by decide +kernel) (by decide +kernel) :)
def r_cst_28 : (⟨S_, .f32⟩ : BufTy).Contents (Elt Ideal) := after rL V (Proc.devRef .tc main_cst_28)
theorem r_cst_28_eq : r_cst_28 V = constant (F := Ideal) S_ .f32 0x3F800000#32 := (Ssa.nullary r_hW V 284 rfl (by decide +kernel) :)
def r_v227 : (⟨S2x2000, .f32⟩ : BufTy).Contents (Elt Ideal) := after rL V (Proc.devRef .tc main_v227)
theorem r_v227_eq : r_v227 V = broadcastInDim S2x2000 ![] bcast_S_S2x2000 (r_cst_28 V) := (Ssa.unary r_hW V 285 rfl (by decide +kernel) (by decide +kernel) :)
def r_v228 : (⟨S2x2000, .f32⟩ : BufTy).Contents (Elt Ideal) := after rL V (Proc.devRef .tc main_v228)
theorem r_v228_eq : r_v228 V = addf (F := Ideal) (φ := .f32) (r_v227 V) (r_v226 V) := (Ssa.binary r_hW V 286 rfl (by decide +kernel) (by decide +kernel) (by decide +kernel) :)
def r_cst_29 : (⟨S_, .f32⟩ : BufTy).Contents (Elt Ideal) := after rL V (Proc.devRef .tc main_cst_29)
theorem r_cst_29_eq : r_cst_29 V = constant (F := Ideal) S_ .f32 0x3F800000#32 := (Ssa.nullary r_hW V 287 rfl (by decide +kernel) :)
def r_v229 : (⟨S2x2000, .f32⟩ : BufTy).Contents (Elt Ideal) := after rL V (Proc.devRef .tc main_v229)
theorem r_v229_eq : r_v229 V = broadcastInDim S2x2000 ![] bcast_S_S2x2000 (r_cst_29 V) := (Ssa.unary r_hW V 288 rfl (by decide +kernel) (by decide +kernel) :)
def r_v230 : (⟨S2x2000, .f32⟩ : BufTy).Contents (Elt Ideal) := after rL V (Proc.devRef .tc main_v230)
theorem r_v230_eq : r_v230 V = Host.divf (F := Ideal) (φ := .f32) (r_v229 V) (r_v228 V) := (Ssa.binary r_hW V 289 rfl (by decide +kernel) (by decide +kernel) (by decide +kernel) :)
def r_v231 : (⟨S2x2000x1, .f32⟩ : BufTy).Contents (Elt Ideal) := after rL V (Proc.devRef .tc main_v231)
theorem r_v231_eq : r_v231 V = extractStridedSlice S2x2000x1 ![0, 0, 2] (r_v224 V) slices_S2x2000x4_S2x2000x1_0_0_2 := (Ssa.unary r_hW V 290 rfl (by decide +kernel) (by decide +kernel) :)
def r_v232 : (⟨S2x2000, .f32⟩ : BufTy).Contents (Elt Ideal) := after rL V (Proc.devRef .tc main_v232)
theorem r_v232_eq : r_v232 V = shapeCast S2x2000 (r_v231 V) shapeCasts_S2x2000x1_S2x2000 := (Ssa.reshape r_hW V 291 rfl (by decide +kernel) (by decide +kernel) :)
def r_v233 : (⟨S2x2000x1, .f32⟩ : BufTy).Contents (Elt Ideal) := after rL V (Proc.devRef .tc main_v233)
theorem r_v233_eq : r_v233 V = extractStridedSlice S2x2000x1 ![0, 0, 0] (r_v224 V) slices_S2x2000x4_S2x2000x1_0_0_0 := (Ssa.unary r_hW V 292 rfl (by decide +kernel) (by decide +kernel) :)
def r_v234 : (⟨S2x2000, .f32⟩ : BufTy).Contents (Elt Ideal) := after rL V (Proc.devRef .tc main_v234)
theorem r_v234_eq : r_v234 V = shapeCast S2x2000 (r_v233 V) shapeCasts_S2x2000x1_S2x2000 := (Ssa.reshape r_hW V 293 rfl (by decide +kernel) (by decide +kernel) :)
def r_v235 : (⟨S2x2000, .f32⟩ : BufTy).Contents (Elt Ideal) := after rL V (Proc.devRef .tc main_v235)
theorem r_v235_eq : r_v235 V = subf (F := Ideal) (φ := .f32) (r_v232 V) (r_v234 V) := (Ssa.binary r_hW V 294 rfl (by decide +kernel) (by decide +kernel) (by decide +kernel) :)
def r_v236 : (⟨S2x2000x1, .f32⟩ : BufTy).Contents (Elt Ideal) := after rL V (Proc.devRef .tc main_v236)
theorem r_v236_eq : r_v236 V = extractStridedSlice S2x2000x1 ![0, 0, 3] (r_v224 V) slices_S2x2000x4_S2x2000x1_0_0_3 := (Ssa.unary r_hW V 295 rfl (by decide +kernel) (by decide +kernel) :)
def r_v237 : (⟨S2x2000, .f32⟩ : BufTy).Contents (Elt Ideal) := after rL V (Proc.devRef .tc main_v237)
theorem r_v237_eq : r_v237 V = shapeCast S2x2000 (r_v236 V) shapeCasts_S2x2000x1_S2x2000 := (Ssa.reshape r_hW V 296 rfl (by decide +kernel) (by decide +kernel) :)
def r_v238 : (⟨S2x2000x1, .f32⟩ : BufTy).Contents (Elt Ideal) := after rL V (Proc.devRef .tc main_v238)
theorem r_v238_eq : r_v238 V = extractStridedSlice S2x2000x1 ![0, 0, 1] (r_v224 V) slices_S2x2000x4_S2x2000x1_0_0_1 := (Ssa.unary r_hW V 297 rfl (by decide +kernel) (by decide +kernel) :)
def r_v239 : (⟨S2x2000, .f32⟩ : BufTy).Contents (Elt Ideal) := after rL V (Proc.devRef .tc main_v239)
theorem r_v239_eq : r_v239 V = shapeCast S2x2000 (r_v238 V) shapeCasts_S2x2000x1_S2x2000 := (Ssa.reshape r_hW V 298 rfl (by decide +kernel) (by decide +kernel) :)
def r_v240 : (⟨S2x2000, .f32⟩ : BufTy).Contents (Elt Ideal) := after rL V (Proc.devRef .tc main_v240)
theorem r_v240_eq : r_v240 V = subf (F := Ideal) (φ := .f32) (r_v237 V) (r_v239 V) := (Ssa.binary r_hW V 299 rfl (by decide +kernel) (by decide +kernel) (by decide +kernel) :)
def r_cst_30 : (⟨S_, .f32⟩ : BufTy).Contents (Elt Ideal) := after rL V (Proc.devRef .tc main_cst_30)
theorem r_cst_30_eq : r_cst_30 V = constant (F := Ideal) S_ .f32 0x3A83126F#32 := (Ssa.nullary r_hW V 300 rfl (by decide +kernel) :)
def r_v241 : (⟨S2x2000, .f32⟩ : BufTy).Contents (Elt Ideal) := after rL V (Proc.devRef .tc main_v241)
theorem r_v241_eq : r_v241 V = broadcastInDim S2x2000 ![] bcast_S_S2x2000 (r_cst_30 V) := (Ssa.unary r_hW V 301 rfl (by decide +kernel) (by decide +kernel) :)
def r_v242 : (⟨S2x2000, .i1⟩ : BufTy).Contents (Elt Ideal) := after rL V (Proc.devRef .tc main_v242)
theorem r_v242_eq : r_v242 V = cmpf (F := Ideal) (φ := .f32) .oge (r_v235 V) (r_v241 V) := (Ssa.binary r_hW V 302 rfl (by decide +kernel) (by decide +kernel) (by decide +kernel) :)
def r_cst_31 : (⟨S_, .f32⟩ : BufTy).Contents (Elt Ideal) := after rL V (Proc.devRef .tc main_cst_31)
theorem r_cst_31_eq : r_cst_31 V = constant (F := Ideal) S_ .f32 0x3A83126F#32 := (Ssa.nullary r_hW V 303 rfl (by decide +kernel) :)
def r_v243 : (⟨S2x2000, .f32⟩ : BufTy).Contents (Elt Ideal) := after rL V (Proc.devRef .tc main_v243)
theorem r_v243_eq : r_v243 V = broadcastInDim S2x2000 ![] bcast_S_S2x2000 (r_cst_31 V) := (Ssa.unary r_hW V 304 rfl (by decide +kernel) (by decide +kernel) :)
def r_v244 : (⟨S2x2000, .i1⟩ : BufTy).Contents (Elt Ideal) := after rL V (Proc.devRef .tc main_v244)
theorem r_v244_eq : r_v244 V = cmpf (F := Ideal) (φ := .f32) .oge (r_v240 V) (r_v243 V) := (Ssa.binary r_hW V 305 rfl (by decide +kernel) (by decide +kernel) (by decide +kernel) :)
def r_v245 : (⟨S2x2000, .i1⟩ : BufTy).Contents (Elt Ideal) := after rL V (Proc.devRef .tc main_v245)
theorem r_v245_eq : r_v245 V = andi (r_v242 V) (r_v244 V) := (Ssa.binary r_hW V 306 rfl (by decide +kernel) (by decide +kernel) (by decide +kernel) :)
def r_cst_32 : (⟨S_, .f32⟩ : BufTy).Contents (Elt Ideal) := after rL V (Proc.devRef .tc main_cst_32)
theorem r_cst_32_eq : r_cst_32 V = constant (F := Ideal) S_ .f32 0x00000000#32 := (Ssa.nullary r_hW V 307 rfl (by decide +kernel) :)
def r_v246 : (⟨S2x2000, .f32⟩ : BufTy).Contents (Elt Ideal) := after rL V (Proc.devRef .tc main_v246)
theorem r_v246_eq : r_v246 V = broadcastInDim S2x2000 ![] bcast_S_S2x2000 (r_cst_32 V) := (Ssa.unary r_hW V 308 rfl (by decide +kernel) (by decide +kernel) :)
def r_v247 : (⟨S2x2000, .i1⟩ : BufTy).Contents (Elt Ideal) := after rL V (Proc.devRef .tc main_v247)
theorem r_v247_eq : r_v247 V = cmpf (F := Ideal) (φ := .f32) .oge (r_v230 V) (r_v246 V) := (Ssa.binary r_hW V 309 rfl (by decide +kernel) (by decide +kernel) (by decide +kernel) :)
def r_v248 : (⟨S2x2000, .i1⟩ : BufTy).Contents (Elt Ideal) := after rL V (Proc.devRef .tc main_v248)
theorem r_v248_eq : r_v248 V = andi (r_v245 V) (r_v247 V) := (Ssa.binary r_hW V 310 rfl (by decide +kernel) (by decide +kernel) (by decide +kernel) :)
def r_cst_33 : (⟨S_, .f32⟩ : BufTy).Contents (Elt Ideal) := after rL V (Proc.devRef .tc main_cst_33)
theorem r_cst_33_eq : r_cst_33 V = constant (F := Ideal) S_ .f32 0xBF800000#32 := (Ssa.nullary r_hW V 311 rfl (by decide +kernel) :)
def r_call9_v0 : (⟨S_, .f32⟩ : BufTy).Contents (Elt Ideal) := after rL V (Proc.devRef .tc main_call9_v0)
theorem r_call9_v0_eq : r_call9_v0 V = r_cst_33 V := (Ssa.unary r_hW V 312 rfl (by decide +kernel) (by decide +kernel) :)
def r_call9_v1 : (⟨S2000, .f32⟩ : BufTy).Contents (Elt Ideal) := after rL V (Proc.devRef .tc main_call9_v1)
theorem r_call9_v1_eq : r_call9_v1 V = broadcastInDim S2000 ![] bcast_S_S2000 (r_call9_v0 V) := (Ssa.unary r_hW V 313 rfl (by decide +kernel) (by decide +kernel) :)
def r_call9_v2 : (⟨S2x2000, .f32⟩ : BufTy).Contents (Elt Ideal) := after rL V (Proc.devRef .tc main_call9_v2)
theorem r_call9_v2_eq : r_call9_v2 V = broadcastInDim S2x2000 ![1] bcast_S2000_S2x2000_1 (r_call9_v1 V) := (Ssa.unary r_hW V 314 rfl (by decide +kernel) (by decide +kernel) :)
def r_v249 : (⟨S2x2000, .f32⟩ : BufTy).Contents (Elt Ideal) := after rL V (Proc.devRef .tc main_v249)
theorem r_v249_eq : r_v249 V = select (r_v248 V) (r_v230 V) (r_call9_v2 V) := (Ssa.ternary r_hW V 315 rfl (by decide +kernel) (by decide +kernel) (by decide +kernel) (by decide +kernel) :)
def r_v250 : (⟨S2x2000, .f32⟩ : BufTy).Contents (Elt Ideal) := after rL V (Proc.devRef .tc main_v250)
theorem r_v250_eq : r_v250 V = Host.negf (F := Ideal) (φ := .f32) (r_v249 V) := (Ssa.unary r_hW V 316 rfl (by decide +kernel) (by decide +kernel) :)
def r_call10_v0 : (⟨S2000, .i32⟩ : BufTy).Contents (Elt Ideal) := after rL V (Proc.devRef .tc main_call10_v0)
theorem r_call10_v0_eq : r_call10_v0 V = iotaInDim S2000 32 0 := (Ssa.nullary r_hW V 317 rfl (by decide +kernel) :)
def r_call10_v1 : (⟨S2x2000, .i32⟩ : BufTy).Contents (Elt Ideal) := after rL V (Proc.devRef .tc main_call10_v1)
theorem r_call10_v1_eq : r_call10_v1 V = broadcastInDim S2x2000 ![1] bcast_S2000_S2x2000_1 (r_call10_v0 V) := (Ssa.unary r_hW V 318 rfl (by decide +kernel) (by decide +kernel) :)
def r_call10_v2_0 : (⟨S2x2000, .f32⟩ : BufTy).Contents (Elt Ideal) := after rL V (Proc.devRef .tc main_call10_v2_0)
theorem r_call10_v2_0_eq : r_call10_v2_0 V = (Host.sort2 S2x2000 1 (comparator_f32_i32_d1 (F := Ideal)) (r_v250 V) (r_call10_v1 V)).1 := (Ssa.binary r_hW V 319 rfl (by decide +kernel) (by decide +kernel) (by decide +kernel) :)
def r_v251 : (⟨S2x2000, .i32⟩ : BufTy).Contents (Elt Ideal) := after rL V (Proc.devRef .tc main_v251)
theorem r_v251_eq : r_v251 V = (Host.sort2 S2x2000 1 (comparator_f32_i32_d1 (F := Ideal)) (r_v250 V) (r_call10_v1 V)).2 := (Ssa.binary r_hW V 320 rfl (by decide +kernel) (by decide +kernel) (by decide +kernel) :)
def r_c_34 : (⟨S_, .i32⟩ : BufTy).Contents (Elt Ideal) := after rL V (Proc.devRef .tc main_c_34)
theorem r_c_34_eq : r_c_34 V = constantI S_ 32 0#32 := (Ssa.nullary r_hW V 321 rfl (by decide +kernel) :)
def r_v252 : (⟨S2x2000, .i32⟩ : BufTy).Contents (Elt Ideal) := after rL V (Proc.devRef .tc main_v252)
theorem r_v252_eq : r_v252 V = broadcastInDim S2x2000 ![] bcast_S_S2x2000 (r_c_34 V) := (Ssa.unary r_hW V 322 rfl (by decide +kernel) (by decide +kernel) :)
def r_v253 : (⟨S2x2000, .i1⟩ : BufTy).Contents (Elt Ideal) := after rL V (Proc.devRef .tc main_v253)
theorem r_v253_eq : r_v253 V = cmpi .slt (r_v251 V) (r_v252 V) := (Ssa.binary r_hW V 323 rfl (by decide +kernel) (by decide +kernel) (by decide +kernel) :)
def r_c_35 : (⟨S_, .i32⟩ : BufTy).Contents (Elt Ideal) := after rL V (Proc.devRef .tc main_c_35)
theorem r_c_35_eq : r_c_35 V = constantI S_ 32 2000#32 := (Ssa.nullary r_hW V 324 rfl (by decide +kernel) :)
def r_v254 : (⟨S2x2000, .i32⟩ : BufTy).Contents (Elt Ideal) := after rL V (Proc.devRef .tc main_v254)
theorem r_v254_eq : r_v254 V = broadcastInDim S2x2000 ![] bcast_S_S2x2000 (r_c_35 V) := (Ssa.unary r_hW V 325 rfl (by decide +kernel) (by decide +kernel) :)
def r_v255 : (⟨S2x2000, .i32⟩ : BufTy).Contents (Elt Ideal) := after rL V (Proc.devRef .tc main_v255)
theorem r_v255_eq : r_v255 V = addi (r_v251 V) (r_v254 V) := (Ssa.binary r_hW V 326 rfl (by decide +kernel) (by decide +kernel) (by decide +kernel) :)
def r_v256 : (⟨S2x2000, .i32⟩ : BufTy).Contents (Elt Ideal) := after rL V (Proc.devRef .tc main_v256)
theorem r_v256_eq : r_v256 V = select (r_v253 V) (r_v255 V) (r_v251 V) := (Ssa.ternary r_hW V 327 rfl (by decide +kernel) (by decide +kernel) (by decide +kernel) (by decide +kernel) :)
def r_v257 : (⟨S2x2000x1, .i32⟩ : BufTy).Contents (Elt Ideal) := after rL V (Proc.devRef .tc main_v257)
theorem r_v257_eq : r_v257 V = broadcastInDim S2x2000x1 ![0, 1] bcast_S2x2000_S2x2000x1_0_1 (r_v256 V) := (Ssa.unary r_hW V 328 rfl (by decide +kernel) (by decide +kernel) :)
def r_v258 : (⟨S2x2000x4, .f32⟩ : BufTy).Contents (Elt Ideal) := after rL V (Proc.devRef .tc main_v258)
theorem r_v258_eq : r_v258 V = Host.gather gather_S2x2000x4_S2x2000x1_S2x2000x4_2_1_0_0_1_2_114 (r_v224 V) (r_v257 V) := (Ssa.binary r_hW V 329 rfl (by decide +kernel) (by decide +kernel) (by decide +kernel) :)
def r_c_36 : (⟨S_, .i32⟩ : BufTy).Contents (Elt Ideal) := after rL V (Proc.devRef .tc main_c_36)
theorem r_c_36_eq : r_c_36 V = constantI S_ 32 0#32 := (Ssa.nullary r_hW V 330 rfl (by decide +kernel) :)
def r_v259 : (⟨S2x2000, .i32⟩ : BufTy).Contents (Elt Ideal) := after rL V (Proc.devRef .tc main_v259)
theorem r_v259_eq : r_v259 V = broadcastInDim S2x2000 ![] bcast_S_S2x2000 (r_c_36 V) := (Ssa.unary r_hW V 331 rfl (by decide +kernel) (by decide +kernel) :)
def r_v260 : (⟨S2x2000, .i1⟩ : BufTy).Contents (Elt Ideal) := after rL V (Proc.devRef .tc main_v260)
theorem r_v260_eq : r_v260 V = cmpi .slt (r_v251 V) (r_v259 V) := (Ssa.binary r_hW V 332 rfl (by decide +kernel) (by decide +kernel) (by decide +kernel) :)
def r_c_37 : (⟨S_, .i32⟩ : BufTy).Contents (Elt Ideal) := after rL V (Proc.devRef .tc main_c_37)
theorem r_c_37_eq : r_c_37 V = constantI S_ 32 2000#32 := (Ssa.nullary r_hW V 333 rfl (by decide +kernel) :)
def r_v261 : (⟨S2x2000, .i32⟩ : BufTy).Contents (Elt Ideal) := after rL V (Proc.devRef .tc main_v261)
theorem r_v261_eq : r_v261 V = broadcastInDim S2x2000 ![] bcast_S_S2x2000 (r_c_37 V) := (Ssa.unary r_hW V 334 rfl (by decide +kernel) (by decide +kernel) :)
def r_v262 : (⟨S2x2000, .i32⟩ : BufTy).Contents (Elt Ideal) := after rL V (Proc.devRef .tc main_v262)
theorem r_v262_eq : r_v262 V = addi (r_v251 V) (r_v261 V) := (Ssa.binary r_hW V 335 rfl (by decide +kernel) (by decide +kernel) (by decide +kernel) :)
def r_v263 : (⟨S2x2000, .i32⟩ : BufTy).Contents (Elt Ideal) := after rL V (Proc.devRef .tc main_v263)
theorem r_v263_eq : r_v263 V = select (r_v260 V) (r_v262 V) (r_v251 V) := (Ssa.ternary r_hW V 336 rfl (by decide +kernel) (by decide +kernel) (by decide +kernel) (by decide +kernel) :)
def r_v264 : (⟨S2x2000x1, .i32⟩ : BufTy).Contents (Elt Ideal) := after rL V (Proc.devRef .tc main_v264)
theorem r_v264_eq : r_v264 V = broadcastInDim S2x2000x1 ![0, 1] bcast_S2x2000_S2x2000x1_0_1 (r_v263 V) := (Ssa.unary r_hW V 337 rfl (by decide +kernel) (by decide +kernel) :)
def r_v265 : (⟨S2x2000, .f32⟩ : BufTy).Contents (Elt Ideal) := after rL V (Proc.devRef .tc main_v265)
theorem r_v265_eq : r_v265 V = Host.gather gather_S2x2000_S2x2000x1_S2x2000_n_1_0_0_1_2_11 (r_v249 V) (r_v264 V) := (Ssa.binary r_hW V 338 rfl (by decide +kernel) (by decide +kernel) (by decide +kernel) :)
def r_c_38 : (⟨S_, .i32⟩ : BufTy).Contents (Elt Ideal) := after rL V (Proc.devRef .tc main_c_38)
theorem r_c_38_eq : r_c_38 V = constantI S_ 32 0#32 := (Ssa.nullary r_hW V 339 rfl (by decide +kernel) :)
def r_v266 : (⟨S2x2000, .i32⟩ : BufTy).Contents (Elt Ideal) := after rL V (Proc.devRef .tc main_v266)
theorem r_v266_eq : r_v266 V = broadcastInDim S2x2000 ![] bcast_S_S2x2000 (r_c_38 V) := (Ssa.unary r_hW V 340 rfl (by decide +kernel) (by decide +kernel) :)
def r_v267 : (⟨S2x2000, .i1⟩ : BufTy).Contents (Elt Ideal) := after rL V (Proc.devRef .tc main_v267)
theorem r_v267_eq : r_v267 V = cmpi .slt (r_v251 V) (r_v266 V) := (Ssa.binary r_hW V 341 rfl (by decide +kernel) (by decide +kernel) (by decide +kernel) :)
def r_c_39 : (⟨S_, .i32⟩ : BufTy).Contents (Elt Ideal) := after rL V (Proc.devRef .tc main_c_39)
theorem r_c_39_eq : r_c_39 V = constantI S_ 32 2000#32 := (Ssa.nullary r_hW V 342 rfl (by decide +kernel) :)
def r_v268 : (⟨S2x2000, .i32⟩ : BufTy).Contents (Elt Ideal) := after rL V (Proc.devRef .tc main_v268)
theorem r_v268_eq : r_v268 V = broadcastInDim S2x2000 ![] bcast_S_S2x2000 (r_c_39 V) := (Ssa.unary r_hW V 343 rfl (by decide +kernel) (by decide +kernel) :)
def r_v269 : (⟨S2x2000, .i32⟩ : BufTy).Contents (Elt Ideal) := after rL V (Proc.devRef .tc main_v269)
theorem r_v269_eq : r_v269 V = addi (r_v251 V) (r_v268 V) := (Ssa.binary r_hW V 344 rfl (by decide +kernel) (by decide +kernel) (by decide +kernel) :)
def r_v270 : (⟨S2x2000, .i32⟩ : BufTy).Contents (Elt Ideal) := after rL V (Proc.devRef .tc main_v270)
theorem r_v270_eq : r_v270 V = select (r_v267 V) (r_v269 V) (r_v251 V) := (Ssa.ternary r_hW V 345 rfl (by decide +kernel) (by decide +kernel) (by decide +kernel) (by decide +kernel) :)
def r_v271 : (⟨S2x2000x1, .i32⟩ : BufTy).Contents (Elt Ideal) := after rL V (Proc.devRef .tc main_v271)
theorem r_v271_eq : r_v271 V = broadcastInDim S2x2000x1 ![0, 1] bcast_S2x2000_S2x2000x1_0_1 (r_v270 V) := (Ssa.unary r_hW V 346 rfl (by decide +kernel) (by decide +kernel) :)
def r_v272 : (⟨S2x2000, .i1⟩ : BufTy).Contents (Elt Ideal) := after rL V (Proc.devRef .tc main_v272)
theorem r_v272_eq : r_v272 V = Host.gather gather_S2x2000_S2x2000x1_S2x2000_n_1_0_0_1_2_11 (r_v248 V) (r_v271 V) := (Ssa.binary r_hW V 347 rfl (by decide +kernel) (by decide +kernel) (by decide +kernel) :)
def r_v273 : (⟨S2x2000x1, .f32⟩ : BufTy).Contents (Elt Ideal) := after rL V (Proc.devRef .tc main_v273)
theorem r_v273_eq : r_v273 V = extractStridedSlice S2x2000x1 ![0, 0, 2] (r_v258 V) slices_S2x2000x4_S2x2000x1_0_0_2 := (Ssa.unary r_hW V 348 rfl (by decide +kernel) (by decide +kernel) :)
def r_v274 : (⟨S2x2000, .f32⟩ : BufTy).Contents (Elt Ideal) := after rL V (Proc.devRef .tc main_v274)
theorem r_v274_eq : r_v274 V = shapeCast S2x2000 (r_v273 V) shapeCasts_S2x2000x1_S2x2000 := (Ssa.reshape r_hW V 349 rfl (by decide +kernel) (by decide +kernel) :)
def r_v275 : (⟨S2x2000x1, .f32⟩ : BufTy).Contents (Elt Ideal) := after rL V (Proc.devRef .tc main_v275)
theorem r_v275_eq : r_v275 V = extractStridedSlice S2x2000x1 ![0, 0, 0] (r_v258 V) slices_S2x2000x4_S2x2000x1_0_0_0 := (Ssa.unary r_hW V 350 rfl (by decide +kernel) (by decide +kernel) :)
def r_v276 : (⟨S2x2000, .f32⟩ : BufTy).Contents (Elt Ideal) := after rL V (Proc.devRef .tc main_v276)
theorem r_v276_eq : r_v276 V = shapeCast S2x2000 (r_v275 V) shapeCasts_S2x2000x1_S2x2000 := (Ssa.reshape r_hW V 351 rfl (by decide +kernel) (by decide +kernel) :)
def r_v277 : (⟨S2x2000, .f32⟩ : BufTy).Contents (Elt Ideal) := after rL V (Proc.devRef .tc main_v277)
theorem r_v277_eq : r_v277 V = subf (F := Ideal) (φ := .f32) (r_v274 V) (r_v276 V) := (Ssa.binary r_hW V 352 rfl (by decide +kernel) (by decide +kernel) (by decide +kernel) :)
def r_cst_40 : (⟨S_, .f32⟩ : BufTy).Contents (Elt Ideal) := after rL V (Proc.devRef .tc main_cst_40)
theorem r_cst_40_eq : r_cst_40 V = constant (F := Ideal) S_ .f32 0x00000000#32 := (Ssa.nullary r_hW V 353 rfl (by decide +kernel) :)
def r_v278 : (⟨S2x2000, .f32⟩ : BufTy).Contents (Elt Ideal) := after rL V (Proc.devRef .tc main_v278)
theorem r_v278_eq : r_v278 V = broadcastInDim S2x2000 ![] bcast_S_S2x2000 (r_cst_40 V) := (Ssa.unary r_hW V 354 rfl (by decide +kernel) (by decide +kernel) :)
def r_v279 : (⟨S2x2000, .f32⟩ : BufTy).Contents (Elt Ideal) := after rL V (Proc.devRef .tc main_v279)
theorem r_v279_eq : r_v279 V = maximumf (F := Ideal) (φ := .f32) (r_v277 V) (r_v278 V) := (Ssa.binary r_hW V 355 rfl (by decide +kernel) (by decide +kernel) (by decide +kernel) :)
def r_v280 : (⟨S2x2000x1, .f32⟩ : BufTy).Contents (Elt Ideal) := after rL V (Proc.devRef .tc main_v280)
theorem r_v280_eq : r_v280 V = extractStridedSlice S2x2000x1 ![0, 0, 3] (r_v258 V) slices_S2x2000x4_S2x2000x1_0_0_3 := (Ssa.unary r_hW V 356 rfl (by decide +kernel) (by decide +kernel) :)
def r_v281 : (⟨S2x2000, .f32⟩ : BufTy).Contents (Elt Ideal) := after rL V (Proc.devRef .tc main_v281)
theorem r_v281_eq : r_v281 V = shapeCast S2x2000 (r_v280 V) shapeCasts_S2x2000x1_S2x2000 := (Ssa.reshape r_hW V 357 rfl (by decide +kernel) (by decide +kernel) :)
def r_v282 : (⟨S2x2000x1, .f32⟩ : BufTy).Contents (Elt Ideal) := after rL V (Proc.devRef .tc main_v282)
theorem r_v282_eq : r_v282 V = extractStridedSlice S2x2000x1 ![0, 0, 1] (r_v258 V) slices_S2x2000x4_S2x2000x1_0_0_1 := (Ssa.unary r_hW V 358 rfl (by decide +kernel) (by decide +kernel) :)
def r_v283 : (⟨S2x2000, .f32⟩ : BufTy).Contents (Elt Ideal) := after rL V (Proc.devRef .tc main_v283)
theorem r_v283_eq : r_v283 V = shapeCast S2x2000 (r_v282 V) shapeCasts_S2x2000x1_S2x2000 := (Ssa.reshape r_hW V 359 rfl (by decide +kernel) (by decide +kernel) :)
def r_v284 : (⟨S2x2000, .f32⟩ : BufTy).Contents (Elt Ideal) := after rL V (Proc.devRef .tc main_v284)
theorem r_v284_eq : r_v284 V = subf (F := Ideal) (φ := .f32) (r_v281 V) (r_v283 V) := (Ssa.binary r_hW V 360 rfl (by decide +kernel) (by decide +kernel) (by decide +kernel) :)
def r_cst_41 : (⟨S_, .f32⟩ : BufTy).Contents (Elt Ideal) := after rL V (Proc.devRef .tc main_cst_41)
theorem r_cst_41_eq : r_cst_41 V = constant (F := Ideal) S_ .f32 0x00000000#32 := (Ssa.nullary r_hW V 361 rfl (by decide +kernel) :)
def r_v285 : (⟨S2x2000, .f32⟩ : BufTy).Contents (Elt Ideal) := after rL V (Proc.devRef .tc main_v285)
theorem r_v285_eq : r_v285 V = broadcastInDim S2x2000 ![] bcast_S_S2x2000 (r_cst_41 V) := (Ssa.unary r_hW V 362 rfl (by decide +kernel) (by decide +kernel) :)
def r_v286 : (⟨S2x2000, .f32⟩ : BufTy).Contents (Elt Ideal) := after rL V (Proc.devRef .tc main_v286)
theorem r_v286_eq : r_v286 V = maximumf (F := Ideal) (φ := .f32) (r_v284 V) (r_v285 V) := (Ssa.binary r_hW V 363 rfl (by decide +kernel) (by decide +kernel) (by decide +kernel) :)
def r_v287 : (⟨S2x2000, .f32⟩ : BufTy).Contents (Elt Ideal) := after rL V (Proc.devRef .tc main_v287)
theorem r_v287_eq : r_v287 V = mulf (F := Ideal) (φ := .f32) (r_v279 V) (r_v286 V) := (Ssa.binary r_hW V 364 rfl (by decide +kernel) (by decide +kernel) (by decide +kernel) :)
def r_v288 : (⟨S2x2000x1, .f32⟩ : BufTy).Contents (Elt Ideal) := after rL V (Proc.devRef .tc main_v288)
theorem r_v288_eq : r_v288 V = extractStridedSlice S2x2000x1 ![0, 0, 2] (r_v258 V) slices_S2x2000x4_S2x2000x1_0_0_2 := (Ssa.unary r_hW V 365 rfl (by decide +kernel) (by decide +kernel) :)
def r_v289 : (⟨S2x2000, .f32⟩ : BufTy).Contents (Elt Ideal) := after rL V (Proc.devRef .tc main_v289)
theorem r_v289_eq : r_v289 V = shapeCast S2x2000 (r_v288 V) shapeCasts_S2x2000x1_S2x2000 := (Ssa.reshape r_hW V 366 rfl (by decide +kernel) (by decide +kernel) :)
def r_v290 : (⟨S2x2000x1, .f32⟩ : BufTy).Contents (Elt Ideal) := after rL V (Proc.devRef .tc main_v290)
theorem r_v290_eq : r_v290 V = extractStridedSlice S2x2000x1 ![0, 0, 0] (r_v258 V) slices_S2x2000x4_S2x2000x1_0_0_0 := (Ssa.unary r_hW V 367 rfl (by decide +kernel) (by decide +kernel) :)
def r_v291 : (⟨S2x2000, .f32⟩ : BufTy).Contents (Elt Ideal) := after rL V (Proc.devRef .tc main_v291)
theorem r_v291_eq : r_v291 V = shapeCast S2x2000 (r_v290 V) shapeCasts_S2x2000x1_S2x2000 := (Ssa.reshape r_hW V 368 rfl (by decide +kernel) (by decide +kernel) :)
def r_v292 : (⟨S2x2000, .f32⟩ : BufTy).Contents (Elt Ideal) := after rL V (Proc.devRef .tc main_v292)
theorem r_v292_eq : r_v292 V = subf (F := Ideal) (φ := .f32) (r_v289 V) (r_v291 V) := (Ssa.binary r_hW V 369 rfl (by decide +kernel) (by decide +kernel) (by decide +kernel) :)
def r_cst_42 : (⟨S_, .f32⟩ : BufTy).Contents (Elt Ideal) := after rL V (Proc.devRef .tc main_cst_42)
theorem r_cst_42_eq : r_cst_42 V = constant (F := Ideal) S_ .f32 0x00000000#32 := (Ssa.nullary r_hW V 370 rfl (by decide +kernel) :)
def r_v293 : (⟨S2x2000, .f32⟩ : BufTy).Contents (Elt Ideal) := after rL V (Proc.devRef .tc main_v293)
theorem r_v293_eq : r_v293 V = broadcastInDim S2x2000 ![] bcast_S_S2x2000 (r_cst_42 V) := (Ssa.unary r_hW V 371 rfl (by decide +kernel) (by decide +kernel) :)
def r_v294 : (⟨S2x2000, .f32⟩ : BufTy).Contents (Elt Ideal) := after rL V (Proc.devRef .tc main_v294)
theorem r_v294_eq : r_v294 V = maximumf (F := Ideal) (φ := .f32) (r_v292 V) (r_v293 V) := (Ssa.binary r_hW V 372 rfl (by decide +kernel) (by decide +kernel) (by decide +kernel) :)
def r_v295 : (⟨S2x2000x1, .f32⟩ : BufTy).Contents (Elt Ideal) := after rL V (Proc.devRef .tc main_v295)
theorem r_v295_eq : r_v295 V = extractStridedSlice S2x2000x1 ![0, 0, 3] (r_v258 V) slices_S2x2000x4_S2x2000x1_0_0_3 := (Ssa.unary r_hW V 373 rfl (by decide +kernel) (by decide +kernel) :)
def r_v296 : (⟨S2x2000, .f32⟩ : BufTy).Contents (Elt Ideal) := after rL V (Proc.devRef .tc main_v296)
theorem r_v296_eq : r_v296 V = shapeCast S2x2000 (r_v295 V) shapeCasts_S2x2000x1_S2x2000 := (Ssa.reshape r_hW V 374 rfl (by decide +kernel) (by decide +kernel) :)
def r_v297 : (⟨S2x2000x1, .f32⟩ : BufTy).Contents (Elt Ideal) := after rL V (Proc.devRef .tc main_v297)
theorem r_v297_eq : r_v297 V = extractStridedSlice S2x2000x1 ![0, 0, 1] (r_v258 V) slices_S2x2000x4_S2x2000x1_0_0_1 := (Ssa.unary r_hW V 375 rfl (by decide +kernel) (by decide +kernel) :)
def r_v298 : (⟨S2x2000, .f32⟩ : BufTy).Contents (Elt Ideal) := after rL V (Proc.devRef .tc main_v298)
theorem r_v298_eq : r_v298 V = shapeCast S2x2000 (r_v297 V) shapeCasts_S2x2000x1_S2x2000 := (Ssa.reshape r_hW V 376 rfl (by decide +kernel) (by decide +kernel) :)
def r_v299 : (⟨S2x2000, .f32⟩ : BufTy).Contents (Elt Ideal) := after rL V (Proc.devRef .tc main_v299)
theorem r_v299_eq : r_v299 V = subf (F := Ideal) (φ := .f32) (r_v296 V) (r_v298 V) := (Ssa.binary r_hW V 377 rfl (by decide +kernel) (by decide +kernel) (by decide +kernel) :)
def r_cst_43 : (⟨S_, .f32⟩ : BufTy).Contents (Elt Ideal) := after rL V (Proc.devRef .tc main_cst_43)
theorem r_cst_43_eq : r_cst_43 V = constant (F := Ideal) S_ .f32 0x00000000#32 := (Ssa.nullary r_hW V 378 rfl (by decide +kernel) :)
def r_v300 : (⟨S2x2000, .f32⟩ : BufTy).Contents (Elt Ideal) := after rL V (Proc.devRef .tc main_v300)
theorem r_v300_eq : r_v300 V = broadcastInDim S2x2000 ![] bcast_S_S2x2000 (r_cst_43 V) := (Ssa.unary r_hW V 379 rfl (by decide +kernel) (by decide +kernel) :)
def r_v301 : (⟨S2x2000, .f32⟩ : BufTy).Contents (Elt Ideal) := after rL V (Proc.devRef .tc main_v301)
theorem r_v301_eq : r_v301 V = maximumf (F := Ideal) (φ := .f32) (r_v299 V) (r_v300 V) := (Ssa.binary r_hW V 380 rfl (by decide +kernel) (by decide +kernel) (by decide +kernel) :)
def r_v302 : (⟨S2x2000, .f32⟩ : BufTy).Contents (Elt Ideal) := after rL V (Proc.devRef .tc main_v302)
theorem r_v302_eq : r_v302 V = mulf (F := Ideal) (φ := .f32) (r_v294 V) (r_v301 V) := (Ssa.binary r_hW V 381 rfl (by decide +kernel) (by decide +kernel) (by decide +kernel) :)
def r_v303 : (⟨S2x2000x2, .f32⟩ : BufTy).Contents (Elt Ideal) := after rL V (Proc.devRef .tc main_v303)
theorem r_v303_eq : r_v303 V = extractStridedSlice S2x2000x2 ![0, 0, 0] (r_v258 V) slices_S2x2000x4_S2x2000x2_0_0_0 := (Ssa.unary r_hW V 382 rfl (by decide +kernel) (by decide +kernel) :)
def r_v304 : (⟨S2x2000x1x2, .f32⟩ : BufTy).Contents (Elt Ideal) := after rL V (Proc.devRef .tc main_v304)
theorem r_v304_eq : r_v304 V = broadcastInDim S2x2000x1x2 ![0, 1, 3] bcast_S2x2000x2_S2x2000x1x2_0_1_3 (r_v303 V) := (Ssa.unary r_hW V 383 rfl (by decide +kernel) (by decide +kernel) :)
def r_v305 : (⟨S2x2000x2, .f32⟩ : BufTy).Contents (Elt Ideal) := after rL V (Proc.devRef .tc main_v305)
theorem r_v305_eq : r_v305 V = extractStridedSlice S2x2000x2 ![0, 0, 0] (r_v258 V) slices_S2x2000x4_S2x2000x2_0_0_0 := (Ssa.unary r_hW V 384 rfl (by decide +kernel) (by decide +kernel) :)
def r_v306 : (⟨S2x1x2000x2, .f32⟩ : BufTy).Contents (Elt Ideal) := after rL V (Proc.devRef .tc main_v306)
theorem r_v306_eq : r_v306 V = broadcastInDim S2x1x2000x2 ![0, 2, 3] bcast_S2x2000x2_S2x1x2000x2_0_2_3 (r_v305 V) := (Ssa.unary r_hW V 385 rfl (by decide +kernel) (by decide +kernel) :)
def r_v307 : (⟨S2x2000x2000x2, .f32⟩ : BufTy).Contents (Elt Ideal) := after rL V (Proc.devRef .tc main_v307)
theorem r_v307_eq : r_v307 V = broadcastInDim S2x2000x2000x2 ![0, 1, 2, 3] bcast_S2x2000x1x2_S2x2000x2000x2_0_1_2_3 (r_v304 V) := (Ssa.unary r_hW V 386 rfl (by decide +kernel) (by decide +kernel) :)
def r_v308 : (⟨S2x2000x2000x2, .f32⟩ : BufTy).Contents (Elt Ideal) := after rL V (Proc.devRef .tc main_v308)
theorem r_v308_eq : r_v308 V = broadcastInDim S2x2000x2000x2 ![0, 1, 2, 3] bcast_S2x1x2000x2_S2x2000x2000x2_0_1_2_3 (r_v306 V) := (Ssa.unary r_hW V 387 rfl (by decide +kernel) (by decide +kernel) :)
def r_v309 : (⟨S2x2000x2000x2, .f32⟩ : BufTy).Contents (Elt Ideal) := after rL V (Proc.devRef .tc main_v309)
theorem r_v309_eq : r_v309 V = maximumf (F := Ideal) (φ := .f32) (r_v307 V) (r_v308 V) := (Ssa.binary r_hW V 388 rfl (by decide +kernel) (by decide +kernel) (by decide +kernel) :)
def r_v310 : (⟨S2x2000x2, .f32⟩ : BufTy).Contents (Elt Ideal) := after rL V (Proc.devRef .tc main_v310)
theorem r_v310_eq : r_v310 V = extractStridedSlice S2x2000x2 ![0, 0, 2] (r_v258 V) slices_S2x2000x4_S2x2000x2_0_0_2 := (Ssa.unary r_hW V 389 rfl (by decide +kernel) (by decide +kernel) :)
def r_v311 : (⟨S2x2000x1x2, .f32⟩ : BufTy).Contents (Elt Ideal) := after rL V (Proc.devRef .tc main_v311)
theorem r_v311_eq : r_v311 V = broadcastInDim S2x2000x1x2 ![0, 1, 3] bcast_S2x2000x2_S2x2000x1x2_0_1_3 (r_v310 V) := (Ssa.unary r_hW V 390 rfl (by decide +kernel) (by decide +kernel) :)
def r_v312 : (⟨S2x2000x2, .f32⟩ : BufTy).Contents (Elt Ideal) := after rL V (Proc.devRef .tc main_v312)
theorem r_v312_eq : r_v312 V = extractStridedSlice S2x2000x2 ![0, 0, 2] (r_v258 V) slices_S2x2000x4_S2x2000x2_0_0_2 := (Ssa.unary r_hW V 391 rfl (by decide +kernel) (by decide +kernel) :)
def r_v313 : (⟨S2x1x2000x2, .f32⟩ : BufTy).Contents (Elt Ideal) := after rL V (Proc.devRef .tc main_v313)
theorem r_v313_eq : r_v313 V = broadcastInDim S2x1x2000x2 ![0, 2, 3] bcast_S2x2000x2_S2x1x2000x2_0_2_3 (r_v312 V) := (Ssa.unary r_hW V 392 rfl (by decide +kernel) (by decide +kernel) :)
def r_v314 : (⟨S2x2000x2000x2, .f32⟩ : BufTy).Contents (Elt Ideal) := after rL V (Proc.devRef .tc main_v314)
theorem r_v314_eq : r_v314 V = broadcastInDim S2x2000x2000x2 ![0, 1, 2, 3] bcast_S2x2000x1x2_S2x2000x2000x2_0_1_2_3 (r_v311 V) := (Ssa.unary r_hW V 393 rfl (by decide +kernel) (by decide +kernel) :)
def r_v315 : (⟨S2x2000x2000x2, .f32⟩ : BufTy).Contents (Elt Ideal) := after rL V (Proc.devRef .tc main_v315)
theorem r_v315_eq : r_v315 V = broadcastInDim S2x2000x2000x2 ![0, 1, 2, 3] bcast_S2x1x2000x2_S2x2000x2000x2_0_1_2_3 (r_v313 V) := (Ssa.unary r_hW V 394 rfl (by decide +kernel) (by decide +kernel) :)
def r_v316 : (⟨S2x2000x2000x2, .f32⟩ : BufTy).Contents (Elt Ideal) := after rL V (Proc.devRef .tc main_v316)
theorem r_v316_eq : r_v316 V = minimumf (F := Ideal) (φ := .f32) (r_v314 V) (r_v315 V) := (Ssa.binary r_hW V 395 rfl (by decide +kernel) (by decide +kernel) (by decide +kernel) :)
def r_v317 : (⟨S2x2000x2000x2, .f32⟩ : BufTy).Contents (Elt Ideal) := after rL V (Proc.devRef .tc main_v317)
theorem r_v317_eq : r_v317 V = subf (F := Ideal) (φ := .f32) (r_v316 V) (r_v309 V) := (Ssa.binary r_hW V 396 rfl (by decide +kernel) (by decide +kernel) (by decide +kernel) :)
def r_cst_44 : (⟨S_, .f32⟩ : BufTy).Contents (Elt Ideal) := after rL V (Proc.devRef .tc main_cst_44)
theorem r_cst_44_eq : r_cst_44 V = constant (F := Ideal) S_ .f32 0x00000000#32 := (Ssa.nullary r_hW V 397 rfl (by decide +kernel) :)
def r_v318 : (⟨S2x2000x2000x2, .f32⟩ : BufTy).Contents (Elt Ideal) := after rL V (Proc.devRef .tc main_v318)
theorem r_v318_eq : r_v318 V = broadcastInDim S2x2000x2000x2 ![] bcast_S_S2x2000x2000x2 (r_cst_44 V) := (Ssa.unary r_hW V 398 rfl (by decide +kernel) (by decide +kernel) :)
def r_v319 : (⟨S2x2000x2000x2, .f32⟩ : BufTy).Contents (Elt Ideal) := after rL V (Proc.devRef .tc main_v319)
theorem r_v319_eq : r_v319 V = maximumf (F := Ideal) (φ := .f32) (r_v317 V) (r_v318 V) := (Ssa.binary r_hW V 399 rfl (by decide +kernel) (by decide +kernel) (by decide +kernel) :)
def r_v320 : (⟨S2x2000x2000x1, .f32⟩ : BufTy).Contents (Elt Ideal) := after rL V (Proc.devRef .tc main_v320)
theorem r_v320_eq : r_v320 V = extractStridedSlice S2x2000x2000x1 ![0, 0, 0, 0] (r_v319 V) slices_S2x2000x2000x2_S2x2000x2000x1_0_0_0_0 := (Ssa.unary r_hW V 400 rfl (by decide +kernel) (by decide +kernel) :)
def r_v321 : (⟨S2x2000x2000, .f32⟩ : BufTy).Contents (Elt Ideal) := after rL V (Proc.devRef .tc main_v321)
theorem r_v321_eq : r_v321 V = shapeCast S2x2000x2000 (r_v320 V) shapeCasts_S2x2000x2000x1_S2x2000x2000 := (Ssa.reshape r_hW V 401 rfl (by decide +kernel) (by decide +kernel) :)
def r_v322 : (⟨S2x2000x2000x1, .f32⟩ : BufTy).Contents (Elt Ideal) := after rL V (Proc.devRef .tc main_v322)
theorem r_v322_eq : r_v322 V = extractStridedSlice S2x2000x2000x1 ![0, 0, 0, 1] (r_v319 V) slices_S2x2000x2000x2_S2x2000x2000x1_0_0_0_1 := (Ssa.unary r_hW V 402 rfl (by decide +kernel) (by decide +kernel) :)
def r_v323 : (⟨S2x2000x2000, .f32⟩ : BufTy).Contents (Elt Ideal) := after rL V (Proc.devRef .tc main_v323)
theorem r_v323_eq : r_v323 V = shapeCast S2x2000x2000 (r_v322 V) shapeCasts_S2x2000x2000x1_S2x2000x2000 := (Ssa.reshape r_hW V 403 rfl (by decide +kernel) (by decide +kernel) :)
def r_v324 : (⟨S2x2000x2000, .f32⟩ : BufTy).Contents (Elt Ideal) := after rL V (Proc.devRef .tc main_v324)
theorem r_v324_eq : r_v324 V = mulf (F := Ideal) (φ := .f32) (r_v321 V) (r_v323 V) := (Ssa.binary r_hW V 404 rfl (by decide +kernel) (by decide +kernel) (by decide +kernel) :)
def r_v325 : (⟨S2x2000x1, .f32⟩ : BufTy).Contents (Elt Ideal) := after rL V (Proc.devRef .tc main_v325)
theorem r_v325_eq : r_v325 V = broadcastInDim S2x2000x1 ![0, 1] bcast_S2x2000_S2x2000x1_0_1 (r_v287 V) := (Ssa.unary r_hW V 405 rfl (by decide +kernel) (by decide +kernel) :)
def r_v326 : (⟨S2x1x2000, .f32⟩ : BufTy).Contents (Elt Ideal) := after rL V (Proc.devRef .tc main_v326)
theorem r_v326_eq : r_v326 V = broadcastInDim S2x1x2000 ![0, 2] bcast_S2x2000_S2x1x2000_0_2 (r_v302 V) := (Ssa.unary r_hW V 406 rfl (by decide +kernel) (by decide +kernel) :)
def r_v327 : (⟨S2x2000x2000, .f32⟩ : BufTy).Contents (Elt Ideal) := after rL V (Proc.devRef .tc main_v327)
theorem r_v327_eq : r_v327 V = broadcastInDim S2x2000x2000 ![0, 1, 2] bcast_S2x2000x1_S2x2000x2000_0_1_2 (r_v325 V) := (Ssa.unary r_hW V 407 rfl (by decide +kernel) (by decide +kernel) :)
def r_v328 : (⟨S2x2000x2000, .f32⟩ : BufTy).Contents (Elt Ideal) := after rL V (Proc.devRef .tc main_v328)
theorem r_v328_eq : r_v328 V = broadcastInDim S2x2000x2000 ![0, 1, 2] bcast_S2x1x2000_S2x2000x2000_0_1_2 (r_v326 V) := (Ssa.unary r_hW V 408 rfl (by decide +kernel) (by decide +kernel) :)
def r_v329 : (⟨S2x2000x2000, .f32⟩ : BufTy).Contents (Elt Ideal) := after rL V (Proc.devRef .tc main_v329)
theorem r_v329_eq : r_v329 V = addf (F := Ideal) (φ := .f32) (r_v327 V) (r_v328 V) := (Ssa.binary r_hW V 409 rfl (by decide +kernel) (by decide +kernel) (by decide +kernel) :)
def r_v330 : (⟨S2x2000x2000, .f32⟩ : BufTy).Contents (Elt Ideal) := after rL V (Proc.devRef .tc main_v330)
theorem r_v330_eq : r_v330 V = subf (F := Ideal) (φ := .f32) (r_v329 V) (r_v324 V) := (Ssa.binary r_hW V 410 rfl (by decide +kernel) (by decide +kernel) (by decide +kernel) :)
def r_cst_45 : (⟨S_, .f32⟩ : BufTy).Contents (Elt Ideal) := after rL V (Proc.devRef .tc main_cst_45)
theorem r_cst_45_eq : r_cst_45 V = constant (F := Ideal) S_ .f32 0x3089705F#32 := (Ssa.nullary r_hW V 411 rfl (by decide +kernel) :)
def r_v331 : (⟨S2x2000x2000, .f32⟩ : BufTy).Contents (Elt Ideal) := after rL V (Proc.devRef .tc main_v331)
theorem r_v331_eq : r_v331 V = broadcastInDim S2x2000x2000 ![] bcast_S_S2x2000x2000 (r_cst_45 V) := (Ssa.unary r_hW V 412 rfl (by decide +kernel) (by decide +kernel) :)
def r_v332 : (⟨S2x2000x2000, .f32⟩ : BufTy).Contents (Elt Ideal) := after rL V (Proc.devRef .tc main_v332)
theorem r_v332_eq : r_v332 V = maximumf (F := Ideal) (φ := .f32) (r_v330 V) (r_v331 V) := (Ssa.binary r_hW V 413 rfl (by decide +kernel) (by decide +kernel) (by decide +kernel) :)
def r_v333 : (⟨S2x2000x2000, .f32⟩ : BufTy).Contents (Elt Ideal) := after rL V (Proc.devRef .tc main_v333)
theorem r_v333_eq : r_v333 V = Host.divf (F := Ideal) (φ := .f32) (r_v324 V) (r_v332 V) := (Ssa.binary r_hW V 414 rfl (by decide +kernel) (by decide +kernel) (by decide +kernel) :)
def r_v334 : (⟨S2000, .i32⟩ : BufTy).Contents (Elt Ideal) := after rL V (Proc.devRef .tc main_v334)
theorem r_v334_eq : r_v334 V = iotaInDim S2000 32 0 := (Ssa.nullary r_hW V 415 rfl (by decide +kernel) :)
def r_v335 : (⟨S2000, .i32⟩ : BufTy).Contents (Elt Ideal) := after rL V (Proc.devRef .tc main_v335)
theorem r_v335_eq : r_v335 V = iotaInDim S2000 32 0 := (Ssa.nullary r_hW V 416 rfl (by decide +kernel) :)
def r_c_46 : (⟨S_, .i32⟩ : BufTy).Contents (Elt Ideal) := after rL V (Proc.devRef .tc main_c_46)
theorem r_c_46_eq : r_c_46 V = constantI S_ 32 0#32 := (Ssa.nullary r_hW V 417 rfl (by decide +kernel) :)
def r_v336_0 : (⟨S2000, .i32⟩ : BufTy).Contents (Elt Ideal) := after rL V (Proc.devRef .tc main_v336_0)
theorem r_v336_0_eq : r_v336_0 V = r_v335 V := (Ssa.unary r_hW V 418 rfl (by decide +kernel) (by decide +kernel) :)
def r_v336_1 : (⟨S2x2000x2000, .f32⟩ : BufTy).Contents (Elt Ideal) := after rL V (Proc.devRef .tc main_v336_1)
theorem r_v336_1_eq : r_v336_1 V = r_v333 V := (Ssa.unary r_hW V 419 rfl (by decide +kernel) (by decide +kernel) :)
def r_v336_2 : (⟨S2000, .i32⟩ : BufTy).Contents (Elt Ideal) := after rL V (Proc.devRef .tc main_v336_2)
theorem r_v336_2_eq : r_v336_2 V = r_v334 V := (Ssa.unary r_hW V 420 rfl (by decide +kernel) (by decide +kernel) :)
def r_v336_3 : (⟨S_, .i32⟩ : BufTy).Contents (Elt Ideal) := after rL V (Proc.devRef .tc main_v336_3)
theorem r_v336_3_eq : r_v336_3 V = r_c_46 V := (Ssa.unary r_hW V 421 rfl (by decide +kernel) (by decide +kernel) :)
def r_v336_4 : (⟨S2x2000, .i1⟩ : BufTy).Contents (Elt Ideal) := after rL V (Proc.devRef .tc main_v336_4)
theorem r_v336_4_eq : r_v336_4 V = r_v272 V := (Ssa.unary r_hW V 422 rfl (by decide +kernel) (by decide +kernel) :)

end Cert.ReferenceIdeal.Value

end
-- ==== Proof.Decode.lean ====
/- The host operations between the kernel calls that turn regression deltas into boxes, and the choice of the best
   candidates, are the reference's own: given equal scores (`h15`) and equal deltas (`h17`), every buffer of that part
   holds what the reference's buffer holds. One line per operation, by the two operations' equations. -/
module

public import proofs.«01_k».proof.Proof.RefEq3
public import proofs.«01_k».proof.Proof.KerEq

@[expose] public section

set_option maxRecDepth 16384

noncomputable section

namespace Cert.Match

open Idealize.ShloMosaic Idealize.ShloMosaic.TcCoe Idealize.ShloMosaic.StableHlo
open Cert.ReferenceIdeal.Value Cert.KernelIdeal.Host

variable {VP : Valuation KernelIdeal.τ KernelIdeal.sig (Elt Ideal)} {VR : Valuation ReferenceIdeal.τ ReferenceIdeal.sig (Elt Ideal)}
  (h15 : p_v15 VP = r_v80 VR) (h17 : p_v17 VP = r_v83 VR) (hc : p_cst VP = r_cst VR) (hc0 : p_cst_0 VP = r_cst_0 VR)
include h15 h17 hc hc0

theorem m_v86_v152 : p_v86 VP = r_v152 VR := by rw [p_v86_eq, r_v152_eq, h17] <;> rfl
theorem m_v87_v153 : p_v87 VP = r_v153 VR := by rw [p_v87_eq, r_v153_eq, m_v86_v152 h15 h17 hc hc0] <;> rfl
theorem m_v43_v109 : p_v43 VP = r_v109 VR := by rw [p_v43_eq, r_v109_eq] <;> rfl
theorem m_cst_5_cst_8 : p_cst_5 VP = r_cst_8 VR := by rw [p_cst_5_eq, r_cst_8_eq] <;> rfl
theorem m_v44_v110 : p_v44 VP = r_v110 VR := by rw [p_v44_eq, r_v110_eq, m_cst_5_cst_8 h15 h17 hc hc0] <;> rfl
theorem m_v45_v111 : p_v45 VP = r_v111 VR := by rw [p_v45_eq, r_v111_eq, m_v43_v109 h15 h17 hc hc0, m_v44_v110 h15 h17 hc hc0] <;> rfl
theorem m_v50_v116 : p_v50 VP = r_v116 VR := by rw [p_v50_eq, r_v116_eq, m_v45_v111 h15 h17 hc hc0] <;> rfl
theorem m_v51_v117 : p_v51 VP = r_v117 VR := by rw [p_v51_eq, r_v117_eq, m_v50_v116 h15 h17 hc hc0] <;> rfl
theorem m_v55_v121 : p_v55 VP = r_v121 VR := by rw [p_v55_eq, r_v121_eq, m_v51_v117 h15 h17 hc hc0] <;> rfl
theorem m_v46_v112 : p_v46 VP = r_v112 VR := by rw [p_v46_eq, r_v112_eq] <;> rfl
theorem m_cst_6_cst_9 : p_cst_6 VP = r_cst_9 VR := by rw [p_cst_6_eq, r_cst_9_eq] <;> rfl
theorem m_v47_v113 : p_v47 VP = r_v113 VR := by rw [p_v47_eq, r_v113_eq, m_cst_6_cst_9 h15 h17 hc hc0] <;> rfl
theorem m_v48_v114 : p_v48 VP = r_v114 VR := by rw [p_v48_eq, r_v114_eq, m_v46_v112 h15 h17 hc hc0, m_v47_v113 h15 h17 hc hc0] <;> rfl
theorem m_v49_v115 : p_v49 VP = r_v115 VR := by rw [p_v49_eq, r_v115_eq, m_v48_v114 h15 h17 hc hc0] <;> rfl
theorem m_v52_v118 : p_v52 VP = r_v118 VR := by rw [p_v52_eq, r_v118_eq, m_v49_v115 h15 h17 hc hc0] <;> rfl
theorem m_v56_v122 : p_v56 VP = r_v122 VR := by rw [p_v56_eq, r_v122_eq, m_v52_v118 h15 h17 hc hc0] <;> rfl
theorem m_v53_v119 : p_v53 VP = r_v119 VR := by rw [p_v53_eq, r_v119_eq, m_v50_v116 h15 h17 hc hc0] <;> rfl
theorem m_v57_v123 : p_v57 VP = r_v123 VR := by rw [p_v57_eq, r_v123_eq, m_v53_v119 h15 h17 hc hc0] <;> rfl
theorem m_v54_v120 : p_v54 VP = r_v120 VR := by rw [p_v54_eq, r_v120_eq, m_v49_v115 h15 h17 hc hc0] <;> rfl
theorem m_v58_v124 : p_v58 VP = r_v124 VR := by rw [p_v58_eq, r_v124_eq, m_v54_v120 h15 h17 hc hc0] <;> rfl
theorem m_v59_v125 : p_v59 VP = r_v125 VR := by rw [p_v59_eq, r_v125_eq, m_v55_v121 h15 h17 hc hc0, m_v56_v122 h15 h17 hc hc0, m_v57_v123 h15 h17 hc hc0, m_v58_v124 h15 h17 hc hc0] <;> rfl
theorem m_v60_v126 : p_v60 VP = r_v126 VR := by rw [p_v60_eq, r_v126_eq, m_v59_v125 h15 h17 hc hc0] <;> rfl
theorem m_v62_v128 : p_v62 VP = r_v128 VR := by rw [p_v62_eq, r_v128_eq, m_v60_v126 h15 h17 hc hc0] <;> rfl
theorem m_cst_3_cst_6 : p_cst_3 VP = r_cst_6 VR := by rw [p_cst_3_eq, r_cst_6_eq] <;> rfl
theorem m_v19_v85 : p_v19 VP = r_v85 VR := by rw [p_v19_eq, r_v85_eq, m_cst_3_cst_6 h15 h17 hc hc0] <;> rfl
theorem m_v18_v84 : p_v18 VP = r_v84 VR := by rw [p_v18_eq, r_v84_eq, hc0] <;> rfl
theorem m_v20_v86 : p_v20 VP = r_v86 VR := by rw [p_v20_eq, r_v86_eq, m_v19_v85 h15 h17 hc hc0, m_v18_v84 h15 h17 hc hc0] <;> rfl
theorem m_v21_v87 : p_v21 VP = r_v87 VR := by rw [p_v21_eq, r_v87_eq, m_v20_v86 h15 h17 hc hc0] <;> rfl
theorem m_v23_v89 : p_v23 VP = r_v89 VR := by rw [p_v23_eq, r_v89_eq, m_v21_v87 h15 h17 hc hc0] <;> rfl
theorem m_v22_v88 : p_v22 VP = r_v88 VR := by rw [p_v22_eq, r_v88_eq, hc] <;> rfl
theorem m_v24_v90 : p_v24 VP = r_v90 VR := by rw [p_v24_eq, r_v90_eq, m_v22_v88 h15 h17 hc hc0] <;> rfl
theorem m_v25_v91 : p_v25 VP = r_v91 VR := by rw [p_v25_eq, r_v91_eq, m_v23_v89 h15 h17 hc hc0, m_v24_v90 h15 h17 hc hc0] <;> rfl
theorem m_v26_v92 : p_v26 VP = r_v92 VR := by rw [p_v26_eq, r_v92_eq, m_v25_v91 h15 h17 hc hc0] <;> rfl
theorem m_v33_v99 : p_v33 VP = r_v99 VR := by rw [p_v33_eq, r_v99_eq, m_v26_v92 h15 h17 hc hc0] <;> rfl
theorem m_v35_v101 : p_v35 VP = r_v101 VR := by rw [p_v35_eq, r_v101_eq, m_v33_v99 h15 h17 hc hc0] <;> rfl
theorem m_v27_v93 : p_v27 VP = r_v93 VR := by rw [p_v27_eq, r_v93_eq, m_v18_v84 h15 h17 hc hc0] <;> rfl
theorem m_v29_v95 : p_v29 VP = r_v95 VR := by rw [p_v29_eq, r_v95_eq, m_v27_v93 h15 h17 hc hc0] <;> rfl
theorem m_v28_v94 : p_v28 VP = r_v94 VR := by rw [p_v28_eq, r_v94_eq, hc] <;> rfl
theorem m_v30_v96 : p_v30 VP = r_v96 VR := by rw [p_v30_eq, r_v96_eq, m_v28_v94 h15 h17 hc hc0] <;> rfl
theorem m_v31_v97 : p_v31 VP = r_v97 VR := by rw [p_v31_eq, r_v97_eq, m_v29_v95 h15 h17 hc hc0, m_v30_v96 h15 h17 hc hc0] <;> rfl
theorem m_v32_v98 : p_v32 VP = r_v98 VR := by rw [p_v32_eq, r_v98_eq, m_v31_v97 h15 h17 hc hc0] <;> rfl
theorem m_v34_v100 : p_v34 VP = r_v100 VR := by rw [p_v34_eq, r_v100_eq, m_v32_v98 h15 h17 hc hc0] <;> rfl
theorem m_v36_v102 : p_v36 VP = r_v102 VR := by rw [p_v36_eq, r_v102_eq, m_v34_v100 h15 h17 hc hc0] <;> rfl
theorem m_v37_v103 : p_v37 VP = r_v103 VR := by rw [p_v37_eq, r_v103_eq, m_v26_v92 h15 h17 hc hc0] <;> rfl
theorem m_v38_v104 : p_v38 VP = r_v104 VR := by rw [p_v38_eq, r_v104_eq, m_v32_v98 h15 h17 hc hc0] <;> rfl
theorem m_v39_v105 : p_v39 VP = r_v105 VR := by rw [p_v39_eq, r_v105_eq, m_v35_v101 h15 h17 hc hc0, m_v36_v102 h15 h17 hc hc0, m_v37_v103 h15 h17 hc hc0, m_v38_v104 h15 h17 hc hc0] <;> rfl
theorem m_cst_4_cst_7 : p_cst_4 VP = r_cst_7 VR := by rw [p_cst_4_eq, r_cst_7_eq] <;> rfl
theorem m_v40_v106 : p_v40 VP = r_v106 VR := by rw [p_v40_eq, r_v106_eq, m_cst_4_cst_7 h15 h17 hc hc0] <;> rfl
theorem m_v41_v107 : p_v41 VP = r_v107 VR := by rw [p_v41_eq, r_v107_eq, m_v39_v105 h15 h17 hc hc0, m_v40_v106 h15 h17 hc hc0] <;> rfl
theorem m_v42_v108 : p_v42 VP = r_v108 VR := by rw [p_v42_eq, r_v108_eq, m_v41_v107 h15 h17 hc hc0] <;> rfl
theorem m_v61_v127 : p_v61 VP = r_v127 VR := by rw [p_v61_eq, r_v127_eq, m_v42_v108 h15 h17 hc hc0] <;> rfl
theorem m_v63_v129 : p_v63 VP = r_v129 VR := by rw [p_v63_eq, r_v129_eq, m_v61_v127 h15 h17 hc hc0] <;> rfl
theorem m_v64_v130 : p_v64 VP = r_v130 VR := by rw [p_v64_eq, r_v130_eq, m_v62_v128 h15 h17 hc hc0, m_v63_v129 h15 h17 hc hc0] <;> rfl
theorem m_v65_v131 : p_v65 VP = r_v131 VR := by rw [p_v65_eq, r_v131_eq, m_v64_v130 h15 h17 hc hc0] <;> rfl
theorem m_v66_v132 : p_v66 VP = r_v132 VR := by rw [p_v66_eq, r_v132_eq, m_v65_v131 h15 h17 hc hc0] <;> rfl
theorem m_v67_v133 : p_v67 VP = r_v133 VR := by rw [p_v67_eq, r_v133_eq, m_v66_v132 h15 h17 hc hc0] <;> rfl
theorem m_v68_v134 : p_v68 VP = r_v134 VR := by rw [p_v68_eq, r_v134_eq, m_v65_v131 h15 h17 hc hc0] <;> rfl
theorem m_v69_v135 : p_v69 VP = r_v135 VR := by rw [p_v69_eq, r_v135_eq, m_v68_v134 h15 h17 hc hc0] <;> rfl
theorem m_v70_v136 : p_v70 VP = r_v136 VR := by rw [p_v70_eq, r_v136_eq, m_v67_v133 h15 h17 hc hc0, m_v69_v135 h15 h17 hc hc0] <;> rfl
theorem m_v98_v164 : p_v98 VP = r_v164 VR := by rw [p_v98_eq, r_v164_eq, m_v70_v136 h15 h17 hc hc0] <;> rfl
theorem m_v99_v165 : p_v99 VP = r_v165 VR := by rw [p_v99_eq, r_v165_eq, m_v98_v164 h15 h17 hc hc0] <;> rfl
theorem m_v100_v166 : p_v100 VP = r_v166 VR := by rw [p_v100_eq, r_v166_eq, m_v87_v153 h15 h17 hc hc0, m_v99_v165 h15 h17 hc hc0] <;> rfl
theorem m_v76_v142 : p_v76 VP = r_v142 VR := by rw [p_v76_eq, r_v142_eq, m_v65_v131 h15 h17 hc hc0] <;> rfl
theorem m_v77_v143 : p_v77 VP = r_v143 VR := by rw [p_v77_eq, r_v143_eq, m_v76_v142 h15 h17 hc hc0] <;> rfl
theorem m_cst_7_cst_10 : p_cst_7 VP = r_cst_10 VR := by rw [p_cst_7_eq, r_cst_10_eq] <;> rfl
theorem m_v78_v144 : p_v78 VP = r_v144 VR := by rw [p_v78_eq, r_v144_eq, m_cst_7_cst_10 h15 h17 hc hc0] <;> rfl
theorem m_v79_v145 : p_v79 VP = r_v145 VR := by rw [p_v79_eq, r_v145_eq, m_v78_v144 h15 h17 hc hc0, m_v70_v136 h15 h17 hc hc0] <;> rfl
theorem m_v80_v146 : p_v80 VP = r_v146 VR := by rw [p_v80_eq, r_v146_eq, m_v77_v143 h15 h17 hc hc0, m_v79_v145 h15 h17 hc hc0] <;> rfl
theorem m_v101_v167 : p_v101 VP = r_v167 VR := by rw [p_v101_eq, r_v167_eq, m_v80_v146 h15 h17 hc hc0] <;> rfl
theorem m_v102_v168 : p_v102 VP = r_v168 VR := by rw [p_v102_eq, r_v168_eq, m_v101_v167 h15 h17 hc hc0] <;> rfl
theorem m_v103_v169 : p_v103 VP = r_v169 VR := by rw [p_v103_eq, r_v169_eq, m_v100_v166 h15 h17 hc hc0, m_v102_v168 h15 h17 hc hc0] <;> rfl
theorem m_cst_11_cst_14 : p_cst_11 VP = r_cst_14 VR := by rw [p_cst_11_eq, r_cst_14_eq] <;> rfl
theorem m_v118_v184 : p_v118 VP = r_v184 VR := by rw [p_v118_eq, r_v184_eq, m_cst_11_cst_14 h15 h17 hc hc0] <;> rfl
theorem m_v90_v156 : p_v90 VP = r_v156 VR := by rw [p_v90_eq, r_v156_eq, h17] <;> rfl
theorem m_v91_v157 : p_v91 VP = r_v157 VR := by rw [p_v91_eq, r_v157_eq, m_v90_v156 h15 h17 hc hc0] <;> rfl
theorem m_cst_9_cst_12 : p_cst_9 VP = r_cst_12 VR := by rw [p_cst_9_eq, r_cst_12_eq] <;> rfl
theorem m_v92_v158 : p_v92 VP = r_v158 VR := by rw [p_v92_eq, r_v158_eq, m_cst_9_cst_12 h15 h17 hc hc0] <;> rfl
theorem m_v93_v159 : p_v93 VP = r_v159 VR := by rw [p_v93_eq, r_v159_eq, m_v91_v157 h15 h17 hc hc0, m_v92_v158 h15 h17 hc hc0] <;> rfl
theorem m_v110_v176 : p_v110 VP = r_v176 VR := by rw [p_v110_eq, r_v176_eq, m_v93_v159 h15 h17 hc hc0] <;> rfl
theorem m_v111_v177 : p_v111 VP = r_v177 VR := by rw [p_v111_eq, r_v177_eq, m_v70_v136 h15 h17 hc hc0] <;> rfl
theorem m_v112_v178 : p_v112 VP = r_v178 VR := by rw [p_v112_eq, r_v178_eq, m_v111_v177 h15 h17 hc hc0] <;> rfl
theorem m_v113_v179 : p_v113 VP = r_v179 VR := by rw [p_v113_eq, r_v179_eq, m_v110_v176 h15 h17 hc hc0, m_v112_v178 h15 h17 hc hc0] <;> rfl
theorem m_v119_v185 : p_v119 VP = r_v185 VR := by rw [p_v119_eq, r_v185_eq, m_v118_v184 h15 h17 hc hc0, m_v113_v179 h15 h17 hc hc0] <;> rfl
theorem m_v120_v186 : p_v120 VP = r_v186 VR := by rw [p_v120_eq, r_v186_eq, m_v103_v169 h15 h17 hc hc0, m_v119_v185 h15 h17 hc hc0] <;> rfl
theorem m_v130_v196 : p_v130 VP = r_v196 VR := by rw [p_v130_eq, r_v196_eq, m_v120_v186 h15 h17 hc hc0] <;> rfl
theorem m_v88_v154 : p_v88 VP = r_v154 VR := by rw [p_v88_eq, r_v154_eq, h17] <;> rfl
theorem m_v89_v155 : p_v89 VP = r_v155 VR := by rw [p_v89_eq, r_v155_eq, m_v88_v154 h15 h17 hc hc0] <;> rfl
theorem m_v71_v137 : p_v71 VP = r_v137 VR := by rw [p_v71_eq, r_v137_eq, m_v65_v131 h15 h17 hc hc0] <;> rfl
theorem m_v72_v138 : p_v72 VP = r_v138 VR := by rw [p_v72_eq, r_v138_eq, m_v71_v137 h15 h17 hc hc0] <;> rfl
theorem m_v73_v139 : p_v73 VP = r_v139 VR := by rw [p_v73_eq, r_v139_eq, m_v65_v131 h15 h17 hc hc0] <;> rfl
theorem m_v74_v140 : p_v74 VP = r_v140 VR := by rw [p_v74_eq, r_v140_eq, m_v73_v139 h15 h17 hc hc0] <;> rfl
theorem m_v75_v141 : p_v75 VP = r_v141 VR := by rw [p_v75_eq, r_v141_eq, m_v72_v138 h15 h17 hc hc0, m_v74_v140 h15 h17 hc hc0] <;> rfl
theorem m_v104_v170 : p_v104 VP = r_v170 VR := by rw [p_v104_eq, r_v170_eq, m_v75_v141 h15 h17 hc hc0] <;> rfl
theorem m_v105_v171 : p_v105 VP = r_v171 VR := by rw [p_v105_eq, r_v171_eq, m_v104_v170 h15 h17 hc hc0] <;> rfl
theorem m_v106_v172 : p_v106 VP = r_v172 VR := by rw [p_v106_eq, r_v172_eq, m_v89_v155 h15 h17 hc hc0, m_v105_v171 h15 h17 hc hc0] <;> rfl
theorem m_v81_v147 : p_v81 VP = r_v147 VR := by rw [p_v81_eq, r_v147_eq, m_v65_v131 h15 h17 hc hc0] <;> rfl
theorem m_v82_v148 : p_v82 VP = r_v148 VR := by rw [p_v82_eq, r_v148_eq, m_v81_v147 h15 h17 hc hc0] <;> rfl
theorem m_cst_8_cst_11 : p_cst_8 VP = r_cst_11 VR := by rw [p_cst_8_eq, r_cst_11_eq] <;> rfl
theorem m_v83_v149 : p_v83 VP = r_v149 VR := by rw [p_v83_eq, r_v149_eq, m_cst_8_cst_11 h15 h17 hc hc0] <;> rfl
theorem m_v84_v150 : p_v84 VP = r_v150 VR := by rw [p_v84_eq, r_v150_eq, m_v83_v149 h15 h17 hc hc0, m_v75_v141 h15 h17 hc hc0] <;> rfl
theorem m_v85_v151 : p_v85 VP = r_v151 VR := by rw [p_v85_eq, r_v151_eq, m_v82_v148 h15 h17 hc hc0, m_v84_v150 h15 h17 hc hc0] <;> rfl
theorem m_v107_v173 : p_v107 VP = r_v173 VR := by rw [p_v107_eq, r_v173_eq, m_v85_v151 h15 h17 hc hc0] <;> rfl
theorem m_v108_v174 : p_v108 VP = r_v174 VR := by rw [p_v108_eq, r_v174_eq, m_v107_v173 h15 h17 hc hc0] <;> rfl
theorem m_v109_v175 : p_v109 VP = r_v175 VR := by rw [p_v109_eq, r_v175_eq, m_v106_v172 h15 h17 hc hc0, m_v108_v174 h15 h17 hc hc0] <;> rfl
theorem m_cst_12_cst_15 : p_cst_12 VP = r_cst_15 VR := by rw [p_cst_12_eq, r_cst_15_eq] <;> rfl
theorem m_v121_v187 : p_v121 VP = r_v187 VR := by rw [p_v121_eq, r_v187_eq, m_cst_12_cst_15 h15 h17 hc hc0] <;> rfl
theorem m_v94_v160 : p_v94 VP = r_v160 VR := by rw [p_v94_eq, r_v160_eq, h17] <;> rfl
theorem m_v95_v161 : p_v95 VP = r_v161 VR := by rw [p_v95_eq, r_v161_eq, m_v94_v160 h15 h17 hc hc0] <;> rfl
theorem m_cst_10_cst_13 : p_cst_10 VP = r_cst_13 VR := by rw [p_cst_10_eq, r_cst_13_eq] <;> rfl
theorem m_v96_v162 : p_v96 VP = r_v162 VR := by rw [p_v96_eq, r_v162_eq, m_cst_10_cst_13 h15 h17 hc hc0] <;> rfl
theorem m_v97_v163 : p_v97 VP = r_v163 VR := by rw [p_v97_eq, r_v163_eq, m_v95_v161 h15 h17 hc hc0, m_v96_v162 h15 h17 hc hc0] <;> rfl
theorem m_v114_v180 : p_v114 VP = r_v180 VR := by rw [p_v114_eq, r_v180_eq, m_v97_v163 h15 h17 hc hc0] <;> rfl
theorem m_v115_v181 : p_v115 VP = r_v181 VR := by rw [p_v115_eq, r_v181_eq, m_v75_v141 h15 h17 hc hc0] <;> rfl
theorem m_v116_v182 : p_v116 VP = r_v182 VR := by rw [p_v116_eq, r_v182_eq, m_v115_v181 h15 h17 hc hc0] <;> rfl
theorem m_v117_v183 : p_v117 VP = r_v183 VR := by rw [p_v117_eq, r_v183_eq, m_v114_v180 h15 h17 hc hc0, m_v116_v182 h15 h17 hc hc0] <;> rfl
theorem m_v122_v188 : p_v122 VP = r_v188 VR := by rw [p_v122_eq, r_v188_eq, m_v121_v187 h15 h17 hc hc0, m_v117_v183 h15 h17 hc hc0] <;> rfl
theorem m_v123_v189 : p_v123 VP = r_v189 VR := by rw [p_v123_eq, r_v189_eq, m_v109_v175 h15 h17 hc hc0, m_v122_v188 h15 h17 hc hc0] <;> rfl
theorem m_v131_v197 : p_v131 VP = r_v197 VR := by rw [p_v131_eq, r_v197_eq, m_v123_v189 h15 h17 hc hc0] <;> rfl
theorem m_cst_13_cst_16 : p_cst_13 VP = r_cst_16 VR := by rw [p_cst_13_eq, r_cst_16_eq] <;> rfl
theorem m_v124_v190 : p_v124 VP = r_v190 VR := by rw [p_v124_eq, r_v190_eq, m_cst_13_cst_16 h15 h17 hc hc0] <;> rfl
theorem m_v125_v191 : p_v125 VP = r_v191 VR := by rw [p_v125_eq, r_v191_eq, m_v124_v190 h15 h17 hc hc0, m_v113_v179 h15 h17 hc hc0] <;> rfl
theorem m_v126_v192 : p_v126 VP = r_v192 VR := by rw [p_v126_eq, r_v192_eq, m_v103_v169 h15 h17 hc hc0, m_v125_v191 h15 h17 hc hc0] <;> rfl
theorem m_v132_v198 : p_v132 VP = r_v198 VR := by rw [p_v132_eq, r_v198_eq, m_v126_v192 h15 h17 hc hc0] <;> rfl
theorem m_cst_14_cst_17 : p_cst_14 VP = r_cst_17 VR := by rw [p_cst_14_eq, r_cst_17_eq] <;> rfl
theorem m_v127_v193 : p_v127 VP = r_v193 VR := by rw [p_v127_eq, r_v193_eq, m_cst_14_cst_17 h15 h17 hc hc0] <;> rfl
theorem m_v128_v194 : p_v128 VP = r_v194 VR := by rw [p_v128_eq, r_v194_eq, m_v127_v193 h15 h17 hc hc0, m_v117_v183 h15 h17 hc hc0] <;> rfl
theorem m_v129_v195 : p_v129 VP = r_v195 VR := by rw [p_v129_eq, r_v195_eq, m_v109_v175 h15 h17 hc hc0, m_v128_v194 h15 h17 hc hc0] <;> rfl
theorem m_v133_v199 : p_v133 VP = r_v199 VR := by rw [p_v133_eq, r_v199_eq, m_v129_v195 h15 h17 hc hc0] <;> rfl
theorem m_v134_v200 : p_v134 VP = r_v200 VR := by rw [p_v134_eq, r_v200_eq, m_v130_v196 h15 h17 hc hc0, m_v131_v197 h15 h17 hc hc0, m_v132_v198 h15 h17 hc hc0, m_v133_v199 h15 h17 hc hc0] <;> rfl
theorem m_values_values : p_values VP = r_values VR := by rw [p_values_eq, r_values_eq, h15] <;> rfl
theorem m_indices_indices : p_indices VP = r_indices VR := by rw [p_indices_eq, r_indices_eq, h15] <;> rfl

end Cert.Match

end
-- ==== Proof.NmsCore.lean ====
/- Suppression of overlapping boxes, in plain mathematics: the scan, its outcome as a recursion, the same scan in another
   order of the candidates, and the place of every candidate in the final order. -/
module

public import Idealize.ShloMosaic.PureOps.Ideal
public import Idealize.ShloMosaic.Lib.SortPrefix
public import Mathlib.Order.Interval.Finset.Fin

@[expose] public section

noncomputable section

namespace Cert.Nms

section Scan
variable {n : ℕ} (ov : Fin n → Fin n → Prop) (S₀ : Fin n → Prop)

/-- One trip: candidate `k`, if it is still in, removes the later ones it overlaps. -/
def step (k : ℕ) (S : Fin n → Prop) : Fin n → Prop := fun j => S j ∧ ¬ ∃ i : Fin n, i.val = k ∧ ov i j ∧ i < j ∧ S i

/-- The candidates still in after `k` trips. -/
def run : ℕ → Fin n → Prop
  | 0 => S₀
  | k + 1 => step ov k (run k)

theorem run_diag {k : ℕ} (i : Fin n) (h : i.val ≤ k) : run ov S₀ k i ↔ run ov S₀ i.val i := by
  induction k, h using Nat.le_induction with
  | base => exact Iff.rfl
  | succ k hk ih =>
    rw [← ih]
    refine ⟨fun h => h.1, fun h => ⟨h, ?_⟩⟩
    rintro ⟨i', h1, _, h3, _⟩
    have : i'.val < i.val := h3
    omega

theorem run_iff₀ (k : ℕ) (j : Fin n) :
    run ov S₀ k j ↔ S₀ j ∧ ¬ ∃ i : Fin n, i.val < k ∧ i < j ∧ run ov S₀ i.val i ∧ ov i j := by
  induction k with
  | zero => simp [run]
  | succ k ih =>
    show (run ov S₀ k j ∧ _) ↔ _
    rw [ih]
    constructor
    · rintro ⟨⟨h0, h1⟩, h2⟩
      refine ⟨h0, ?_⟩
      rintro ⟨i, hi, hij, hr, ho⟩
      rcases Nat.lt_succ_iff_lt_or_eq.mp hi with h | h
      · exact h1 ⟨i, h, hij, hr, ho⟩
      · exact h2 ⟨i, h, ho, hij, by rw [← h]; exact hr⟩
    · rintro ⟨h0, h1⟩
      refine ⟨⟨h0, ?_⟩, ?_⟩
      · rintro ⟨i, hi, h⟩
        exact h1 ⟨i, by omega, h⟩
      · rintro ⟨i, hi, ho, hij, hr⟩
        exact h1 ⟨i, by omega, hij, by rw [hi]; exact hr, ho⟩

/-- The outcome of the scan as a recursion: in is who starts in and is overlapped by no earlier one that is in. -/
theorem run_iff (k : ℕ) (j : Fin n) :
    run ov S₀ k j ↔ S₀ j ∧ ¬ ∃ i : Fin n, i.val < k ∧ i < j ∧ run ov S₀ k i ∧ ov i j := by
  rw [run_iff₀]
  refine and_congr_right fun _ => not_congr (exists_congr fun i => and_congr_right fun hi => ?_)
  rw [run_diag ov S₀ i hi.le]

end Scan

section Order
open Classical
variable {m n : ℕ} (hmn : m ≤ n) (valid : Fin n → Prop) (ov : Fin n → Fin n → Prop) (s : Fin m → EReal)
  (π : Fin m → Fin m)

/-- The score of a valid candidate, minus one for the others. -/
def masked (i : Fin m) : EReal := if valid (Fin.castLE hmn i) then s i else -1

/-- Who is kept when the scan goes by index. -/
def kept : Fin n → Prop := run ov valid m

/-- Who is kept when the scan goes in the order `π`. -/
def keptIn : Fin m → Prop :=
  run (fun a b => ov (Fin.castLE hmn (π a)) (Fin.castLE hmn (π b))) (fun a => valid (Fin.castLE hmn (π a))) m

variable (hs : ∀ i j : Fin m, i ≤ j → s j ≤ s i) (hs0 : ∀ i, 0 ≤ s i) (hπs : Function.Surjective π)
  (hπ : ∀ a b : Fin m, a < b → masked hmn valid s (π b) < masked hmn valid s (π a) ∨
    (masked hmn valid s (π b) = masked hmn valid s (π a) ∧ π a < π b))

include hs hπ in
theorem pi_lt {a b : Fin m} (ha : valid (Fin.castLE hmn (π a))) (hb : valid (Fin.castLE hmn (π b))) (h : a < b) :
    π a < π b := by
  rcases hπ a b h with h | h
  · simp only [masked, if_pos ha, if_pos hb] at h
    by_contra hc
    exact absurd (hs _ _ (not_lt.mp hc)) (not_le.mpr h)
  · exact h.2

include hs hπ in
theorem lt_of_pi {a b : Fin m} (ha : valid (Fin.castLE hmn (π a))) (hb : valid (Fin.castLE hmn (π b))) (h : π a < π b) :
    a < b := by
  rcases lt_trichotomy a b with h' | h' | h'
  · exact h'
  · subst h'; exact absurd h (lt_irrefl _)
  · exact absurd (pi_lt hmn valid s π hs hπ hb ha h') (not_lt.mpr h.le)

include hs hπ hπs in
/-- The two scans keep the same candidates. -/
theorem keptIn_iff (hpad : ∀ j : Fin n, m ≤ j.val → ¬ valid j) (a : Fin m) :
    keptIn hmn valid ov π a ↔ kept (m := m) valid ov (Fin.castLE hmn (π a)) := by
  induction a using WellFoundedLT.induction with
  | ind a ih =>
    unfold keptIn kept
    rw [run_iff, run_iff]
    refine and_congr_right fun hv => not_congr ⟨?_, ?_⟩
    · rintro ⟨b, _, hba, hr, ho⟩
      have hvb : valid (Fin.castLE hmn (π b)) := ((run_iff _ _ _ _).mp hr).1
      exact ⟨Fin.castLE hmn (π b), (π b).isLt, pi_lt hmn valid s π hs hπ hvb hv hba, (ih b hba).mp hr, ho⟩
    · rintro ⟨i, him, hij, hr, ho⟩
      obtain ⟨b, hb⟩ := hπs ⟨i.val, him⟩
      have hi : Fin.castLE hmn (π b) = i := by rw [hb]; rfl
      have hvb : valid (Fin.castLE hmn (π b)) := by rw [hi]; exact ((run_iff _ _ _ _).mp hr).1
      have hlt : π b < π a := by rw [hb]; exact hij
      have hba := lt_of_pi hmn valid s π hs hπ hvb hv hlt
      exact ⟨b, b.isLt, hba, (ih b hba).mpr (by rw [hi]; exact hr), by rw [hi]; exact ho⟩

/-- The class of a candidate: kept, suppressed, invalid. -/
def cls (K : Fin n → Prop) (i : Fin n) : ℕ := if K i then 0 else if valid i then 1 else 2

/-- The final order: by class, then by index. -/
def before (K : Fin n → Prop) (i j : Fin n) : Prop :=
  cls valid K i < cls valid K j ∨ (cls valid K i = cls valid K j ∧ i < j)

/-- How many come before. -/
def rank (K : Fin n → Prop) (j : Fin n) : ℕ := (Finset.univ.filter fun i => before valid K i j).card

theorem before_trans {K : Fin n → Prop} {i j k : Fin n} (h : before valid K i j) (h' : before valid K j k) :
    before valid K i k := by
  unfold before at *
  rcases h with h | ⟨h, h1⟩ <;> rcases h' with h' | ⟨h', h2⟩
  · left; omega
  · left; omega
  · left; omega
  · right; exact ⟨by omega, lt_trans h1 h2⟩

theorem before_irrefl {K : Fin n → Prop} (i : Fin n) : ¬ before valid K i i := by
  rintro (h | h)
  · exact lt_irrefl _ h
  · exact lt_irrefl _ h.2

theorem before_total {K : Fin n → Prop} {i j : Fin n} (h : i ≠ j) : before valid K i j ∨ before valid K j i := by
  unfold before
  rcases lt_trichotomy (cls valid K i) (cls valid K j) with h1 | h1 | h1
  · exact .inl (.inl h1)
  · rcases lt_or_gt_of_ne h with h2 | h2
    · exact .inl (.inr ⟨h1, h2⟩)
    · exact .inr (.inr ⟨h1.symm, h2⟩)
  · exact .inr (.inl h1)

theorem rank_lt {K : Fin n → Prop} {i j : Fin n} (h : before valid K i j) : rank valid K i < rank valid K j := by
  refine Finset.card_lt_card ⟨fun k hk => ?_, fun hc => ?_⟩
  · simp only [Finset.mem_filter, Finset.mem_univ, true_and] at hk ⊢
    exact before_trans valid hk h
  · have := hc (show i ∈ _ by simpa using h)
    simp only [Finset.mem_filter, Finset.mem_univ, true_and] at this
    exact before_irrefl valid i this

/-- No two candidates have the same place. -/
theorem rank_injective (K : Fin n → Prop) : Function.Injective (rank valid K) := by
  intro i j h
  by_contra hne
  rcases before_total (K := K) valid hne with h' | h'
  · exact absurd h (rank_lt valid h').ne
  · exact absurd h (rank_lt valid h').ne'

/-- The key of the last sort: the masked score of who is kept, minus one for the others. -/
def final (a : Fin m) : EReal := if keptIn hmn valid ov π a then masked hmn valid s (π a) else -1

include hs hs0 hπ hπs in
theorem before_of_final (hpad : ∀ j : Fin n, m ≤ j.val → ¬ valid j) {a b : Fin m}
    (h : final hmn valid ov s π b < final hmn valid ov s π a ∨
      (final hmn valid ov s π b = final hmn valid ov s π a ∧ a < b)) :
    before valid (kept (m := m) valid ov) (Fin.castLE hmn (π a)) (Fin.castLE hmn (π b)) := by
  have hv : ∀ c, keptIn hmn valid ov π c → valid (Fin.castLE hmn (π c)) := fun c hc => ((run_iff _ _ _ _).mp hc).1
  have key : ∀ c, keptIn hmn valid ov π c → final hmn valid ov s π c = s (π c) := fun c hc => by
    simp only [final, masked, if_pos hc, if_pos (hv c hc)]
  have key' : ∀ c, ¬ keptIn hmn valid ov π c → final hmn valid ov s π c = -1 := fun c hc => by
    simp only [final, if_neg hc]
  have hneg : ∀ c, (-1 : EReal) < s c := fun c => lt_of_lt_of_le (by
    rw [show (-1 : EReal) = ((-1 : ℝ) : EReal) by simp, ← EReal.coe_zero, EReal.coe_lt_coe_iff]; norm_num) (hs0 c)
  have hk := keptIn_iff hmn valid ov s π hs hπs hπ hpad
  by_cases ha : keptIn hmn valid ov π a <;> by_cases hb : keptIn hmn valid ov π b
  · refine .inr ⟨by simp only [cls, if_pos ((hk a).mp ha), if_pos ((hk b).mp hb)], ?_⟩
    rw [key a ha, key b hb] at h
    rcases h with h | h
    · show π a < π b
      by_contra hc
      exact absurd (hs _ _ (not_lt.mp hc)) (not_le.mpr h)
    · exact pi_lt hmn valid s π hs hπ (hv a ha) (hv b hb) h.2
  · left
    simp only [cls, if_pos ((hk a).mp ha), if_neg (fun h => hb ((hk b).mpr h))]
    split <;> omega
  · rw [key' a ha, key b hb] at h
    rcases h with h | h
    · exact absurd h (not_lt.mpr (hneg _).le)
    · exact absurd h.1 (hneg _).ne'
  · rw [key' a ha, key' b hb] at h
    have hab : a < b := by
      rcases h with h | h
      · exact absurd h (lt_irrefl _)
      · exact h.2
    have hna := fun h => ha ((hk a).mpr h)
    have hnb := fun h => hb ((hk b).mpr h)
    by_cases hva : valid (Fin.castLE hmn (π a)) <;> by_cases hvb : valid (Fin.castLE hmn (π b))
    · exact .inr ⟨by simp only [cls, if_neg hna, if_neg hnb, if_pos hva, if_pos hvb],
        pi_lt hmn valid s π hs hπ hva hvb hab⟩
    · left; simp only [cls, if_neg hna, if_neg hnb, if_pos hva, if_neg hvb]; omega
    · exfalso
      rcases hπ a b hab with h | h
      · simp only [masked, if_neg hva, if_pos hvb] at h
        exact absurd h (not_lt.mpr (hneg _).le)
      · simp only [masked, if_neg hva, if_pos hvb] at h
        exact absurd h.1 (hneg _).ne'
    · refine .inr ⟨by simp only [cls, if_neg hna, if_neg hnb, if_neg hva, if_neg hvb], ?_⟩
      rcases hπ a b hab with h | h
      · simp only [masked, if_neg hva, if_neg hvb] at h
        exact absurd h (lt_irrefl _)
      · exact h.2

include hs hs0 hπ hπs in
/-- The candidate the last sort puts in place `a` is the one with `a` before it. -/
theorem rank_sorted (hpad : ∀ j : Fin n, m ≤ j.val → ¬ valid j) (hπi : Function.Injective π) (σ : Fin m → Fin m)
    (hσi : Function.Injective σ) (hσ : ∀ a b : Fin m, a < b →
      final hmn valid ov s π (σ b) < final hmn valid ov s π (σ a) ∨
      (final hmn valid ov s π (σ b) = final hmn valid ov s π (σ a) ∧ σ a < σ b)) (a : Fin m) :
    rank valid (kept (m := m) valid ov) (Fin.castLE hmn (π (σ a))) = a.val := by
  have hb : ∀ {a b : Fin m}, a < b → before valid (kept (m := m) valid ov) (Fin.castLE hmn (π (σ a)))
      (Fin.castLE hmn (π (σ b))) := fun h => before_of_final hmn valid ov s π hs hs0 hπs hπ hpad (hσ _ _ h)
  have hσs : Function.Surjective σ := Finite.surjective_of_injective hσi
  have hset : (Finset.univ.filter fun i => before valid (kept (m := m) valid ov) i (Fin.castLE hmn (π (σ a))))
      = (Finset.univ.filter fun b : Fin m => b < a).map
          ⟨fun b => Fin.castLE hmn (π (σ b)), fun b c h => hσi (hπi (Fin.castLE_injective hmn h))⟩ := by
    ext i
    simp only [Finset.mem_filter, Finset.mem_univ, true_and, Finset.mem_map, Function.Embedding.coeFn_mk]
    constructor
    · intro h
      have him : i.val < m := by
        by_contra hc
        have hvi := hpad i (by omega)
        have hK : ¬ kept (m := m) valid ov i := fun h => hvi ((run_iff _ _ _ _).mp h).1
        rcases h with h | h
        · simp only [cls, if_neg hK, if_neg hvi] at h
          split at h <;> [skip; split at h] <;> omega
        · have h2 : i.val < (π (σ a)).val := h.2
          have := (π (σ a)).isLt
          omega
      obtain ⟨c, hc⟩ := hπs ⟨i.val, him⟩
      obtain ⟨b, rfl⟩ := hσs c
      have hi : Fin.castLE hmn (π (σ b)) = i := by rw [hc]; rfl
      refine ⟨b, ?_, hi⟩
      rw [← hi] at h
      rcases lt_trichotomy b a with h' | h' | h'
      · exact h'
      · subst h'; exact absurd h (before_irrefl valid _)
      · exact absurd (before_trans valid h (hb h')) (before_irrefl valid _)
    · rintro ⟨b, hba, rfl⟩
      exact hb hba
  unfold rank
  rw [hset, Finset.card_map, show (Finset.univ.filter fun b : Fin m => b < a) = Finset.Iio a by ext b; simp, Fin.card_Iio]

/-- The place counted by running counts of the three classes. -/
theorem rank_kept {K : Fin n → Prop} {j : Fin n} (h : K j) :
    rank valid K j + 1 = (Finset.univ.filter fun i => i ≤ j ∧ K i).card := by
  have : (Finset.univ.filter fun i => i ≤ j ∧ K i) = insert j (Finset.univ.filter fun i => before valid K i j) := by
    ext i
    simp only [Finset.mem_filter, Finset.mem_univ, true_and, Finset.mem_insert, before, cls, if_pos h]
    constructor
    · rintro ⟨h1, h2⟩
      rcases h1.lt_or_eq with h3 | h3
      · right; right; simp [h2, h3]
      · exact .inl h3
    · rintro (rfl | h1 | h1)
      · exact ⟨le_rfl, h⟩
      · omega
      · refine ⟨h1.2.le, ?_⟩
        by_contra hc
        have := h1.1
        rw [if_neg hc] at this
        split at this <;> omega
  rw [this, Finset.card_insert_of_notMem (by simp [before_irrefl])]
  rfl

theorem rank_suppressed {K : Fin n → Prop} {j : Fin n} (hj : ¬ K j) (hv : valid j) :
    rank valid K j + 1 = (Finset.univ.filter K).card + (Finset.univ.filter fun i => i ≤ j ∧ (valid i ∧ ¬ K i)).card := by
  rw [← Finset.card_union_of_disjoint (Finset.disjoint_left.mpr fun i => by
    simp only [Finset.mem_filter, Finset.mem_univ, true_and]; tauto)]
  have : (Finset.univ.filter K ∪ Finset.univ.filter fun i => i ≤ j ∧ (valid i ∧ ¬ K i))
      = insert j (Finset.univ.filter fun i => before valid K i j) := by
    ext i
    simp only [Finset.mem_filter, Finset.mem_univ, true_and, Finset.mem_insert, Finset.mem_union, before, cls, if_neg hj,
      if_pos hv]
    by_cases hK : K i
    · simp [hK]
    · by_cases hvi : valid i
      · simp only [hK, hvi, if_true, if_false, false_or, and_self, and_true, not_false_eq_true, lt_irrefl, true_and]
        exact le_iff_eq_or_lt
      · simp only [hK, hvi, if_false]
        constructor
        · tauto
        · rintro (rfl | h | h)
          · exact absurd hv hvi
          · omega
          · omega
  rw [this, Finset.card_insert_of_notMem (by simp [before_irrefl])]
  rfl

theorem rank_invalid {K : Fin n → Prop} (hKv : ∀ i, K i → valid i) {j : Fin n} (hv : ¬ valid j) :
    rank valid K j + 1 = (Finset.univ.filter K).card + (Finset.univ.filter fun i => valid i ∧ ¬ K i).card
      + (Finset.univ.filter fun i => i ≤ j ∧ ¬ valid i).card := by
  have hj : ¬ K j := fun h => hv (hKv j h)
  rw [← Finset.card_union_of_disjoint (Finset.disjoint_left.mpr fun i => by
    simp only [Finset.mem_filter, Finset.mem_univ, true_and]; tauto),
    ← Finset.card_union_of_disjoint (Finset.disjoint_left.mpr fun i => by
    simp only [Finset.mem_filter, Finset.mem_univ, true_and, Finset.mem_union]; have := hKv i; tauto)]
  have : ((Finset.univ.filter K ∪ Finset.univ.filter fun i => valid i ∧ ¬ K i) ∪
      Finset.univ.filter fun i => i ≤ j ∧ ¬ valid i) = insert j (Finset.univ.filter fun i => before valid K i j) := by
    ext i
    simp only [Finset.mem_filter, Finset.mem_univ, true_and, Finset.mem_insert, Finset.mem_union, before, cls, if_neg hj,
      if_neg hv]
    by_cases hK : K i
    · simp [hK]
    · by_cases hvi : valid i
      · simp [hK, hvi]
      · simp only [hK, hvi, if_false, false_or, and_true, not_false_eq_true, lt_irrefl, true_and, false_and]
        exact le_iff_eq_or_lt
  rw [this, Finset.card_insert_of_notMem (by simp [before_irrefl])]
  rfl

end Order

end Cert.Nms
-- ==== Proof.NmsBody.lean ====
/- The suppression kernel's block at an index: row `r` holds the box whose rank is `r`. -/
module

public import proofs.«01_k».proof.Proof.Region1
public import proofs.«01_k».proof.Proof.NmsCore

@[expose] public section

set_option maxRecDepth 16384

noncomputable section

namespace Cert.KernelIdeal.Nms

open Idealize.ShloMosaic Idealize.ShloMosaic.TcCoe
open Cert.KernelIdeal.Gen Cert.Nms
open scoped Classical

section Payloads

theorem pay2_at1 (v : Vec Ideal S1x1x2048 .f32) (j : Fin 2048) : k1_pay2 v (ix1 j) = min (Ideal.ofBits .f32 1140850688#32) (max 0 (v (ix3 0 0 j))) := by
  pointwise [k1_pay2]
theorem pay3_at1 (v : Vec Ideal S1x1x2048 .f32) (j : Fin 2048) : k1_pay3 v (ix1 j) = min (Ideal.ofBits .f32 1140850688#32) (max 0 (v (ix3 0 0 j))) := by
  pointwise [k1_pay3]
theorem pay4_at1 (v : Vec Ideal S1x1x2048 .f32) (j : Fin 2048) : k1_pay4 v (ix1 j) = min (Ideal.ofBits .f32 1140850688#32) (max 0 (v (ix3 0 0 j))) := by
  pointwise [k1_pay4]
theorem pay5_at1 (v : Vec Ideal S1x1x2048 .f32) (j : Fin 2048) : k1_pay5 v (ix1 j) = min (Ideal.ofBits .f32 1140850688#32) (max 0 (v (ix3 0 0 j))) := by
  pointwise [k1_pay5]
theorem pay6_at1 (v : Vec Ideal S1x1x2048 .f32) (j : Fin 2048) : k1_pay6 v (ix1 j) = Ideal.logistic (v (ix3 0 0 j)) := by
  pointwise [k1_pay6]

/-- The side lengths pass the least size. -/
theorem pay7_at1 (x y z w : Vec Ideal S1x1x2048 .f32) (j : Fin 2048) : k1_pay7 x y z w (ix1 j)
    = IntOp.andi (BitVec.ofBool (decide (Ideal.ofBits .f32 0x3A83126F#32 ≤ k1_pay4 z (ix1 j) - k1_pay2 x (ix1 j))))
        (BitVec.ofBool (decide (Ideal.ofBits .f32 0x3A83126F#32 ≤ k1_pay5 w (ix1 j) - k1_pay3 y (ix1 j)))) := by
  pointwise [k1_pay7, k1_pay2, k1_pay3, k1_pay4, k1_pay5]

theorem pay8_at1 (x : FVec Ideal S2048 .f32) (m : IVec S2048 1) (j : Fin 2048) :
    k1_pay8 x m (ix1 j) = IntOp.andi (m (ix1 j)) (BitVec.ofBool (decide (0 ≤ x (ix1 j)))) := by
  pointwise [k1_pay8]

theorem pay9_at1 (x y z w : FVec Ideal S2048 .f32) (i j : Fin 2048) : k1_pay9 x y z w (ix2 i j)
    = Ideal.div (max (min (z (ix1 i)) (z (ix1 j)) - max (x (ix1 i)) (x (ix1 j))) 0 * max (min (w (ix1 i)) (w (ix1 j)) - max (y (ix1 i)) (y (ix1 j))) 0)
        (max (max (z (ix1 i) - x (ix1 i)) 0 * max (w (ix1 i) - y (ix1 i)) 0 + max (z (ix1 j) - x (ix1 j)) 0 * max (w (ix1 j) - y (ix1 j)) 0
          - max (min (z (ix1 i)) (z (ix1 j)) - max (x (ix1 i)) (x (ix1 j))) 0 * max (min (w (ix1 i)) (w (ix1 j)) - max (y (ix1 i)) (y (ix1 j))) 0)
          (Ideal.ofBits .f32 814313567#32)) := by
  pointwise [k1_pay9]

theorem pay11_at1 (m : IVec S2048 1) (j : Fin 2048) : k1_pay11 (F := Ideal) m (ix1 j) = Scalar.select (m (ix1 j)) 1 0 := by
  pointwise [k1_pay11]

theorem pay12_at1 (k : Fin k1_t1_loop.trips) (a : FVec Ideal S2048 .f32) (v : Vec Ideal S1x2048 .f32) (j : Fin 2048) :
    k1_pay12 k1_pay10 k a v (ix1 j)
      = Scalar.select (IntOp.andi (IntOp.andi (BitVec.ofBool (decide (Ideal.ofBits .f32 1060320051#32 < v (ix2 0 j))))
          (IntOp.cmpi .sgt (BitVec.ofNat 32 j.val) (Scf.iv 0#32 1#32 k.val)))
          (BitVec.ofBool (decide (0 < ∑ x : Fin 2048, Scalar.select (IntOp.cmpi .eq (BitVec.ofNat 32 x.val) (Scf.iv 0#32 1#32 k.val)) (a (ix1 x)) 0))))
          0 (a (ix1 j)) := by
  pointwise [k1_pay12, k1_pay10]

theorem pay15_at1 (a : FVec Ideal S2048 .f32) : k1_pay15 a = ∑ x : Fin 2048, a (ix1 x) := by
  pointwise [k1_pay15]
theorem pay13_at1 (m : IVec S2048 1) (j : Fin 2048) : k1_pay13 (F := Ideal) m (ix1 j) = Scalar.select (m (ix1 j)) 1 0 := by
  pointwise [k1_pay13]
theorem pay16_at1 (m : IVec S2048 1) (a : FVec Ideal S2048 .f32) : k1_pay16 m a = ∑ x : Fin 2048, k1_pay13 m (ix1 x) * (1 - a (ix1 x)) := by
  pointwise [k1_pay16, k1_pay14]

theorem pay17_at0 (m : IVec S2048 1) (a : FVec Ideal S2048 .f32) (j : Fin 2048) : k1_pay17 m k1_pay10 a (ix2 j 0)
    = ∑ x : Fin 2048, Scalar.select (IntOp.cmpi .sge (BitVec.ofNat 32 j.val) (BitVec.ofNat 32 x.val)) (a (ix1 x)) 0 := by
  pointwise [k1_pay17, k1_pay10, k1_pay14]
theorem pay17_at2 (m : IVec S2048 1) (a : FVec Ideal S2048 .f32) (j : Fin 2048) : k1_pay17 m k1_pay10 a (ix2 j 2)
    = ∑ x : Fin 2048, Scalar.select (IntOp.cmpi .sge (BitVec.ofNat 32 j.val) (BitVec.ofNat 32 x.val)) (1 - k1_pay13 m (ix1 x)) 0 := by
  pointwise [k1_pay17, k1_pay10, k1_pay14]
theorem pay18_at1 (a : FVec Ideal S2048 .f32) (j : Fin 2048) : k1_pay18 a (ix1 j) = BitVec.ofBool (decide (0 < a (ix1 j))) := by
  pointwise [k1_pay18]
theorem pay19_at1 (m : IVec S2048 1) (a : FVec Ideal S2048 .f32) (j : Fin 2048) : k1_pay19 m k1_pay10 a (ix1 j) = k1_pay17 m k1_pay10 a (ix2 j 0) - 1 := by
  pointwise [k1_pay19]
theorem pay20_at1 (m : IVec S2048 1) (a : FVec Ideal S2048 .f32) (j : Fin 2048) : k1_pay20 m k1_pay10 a (ix2 j 0)
    = ∑ x : Fin 2048, Scalar.select (IntOp.cmpi .sge (BitVec.ofNat 32 j.val) (BitVec.ofNat 32 x.val)) (k1_pay13 m (ix1 x) * (1 - a (ix1 x))) 0 := by
  pointwise [k1_pay20, k1_pay17, k1_pay10, k1_pay14]

/-- The value a column of the output block carries for candidate `x`. -/
def pick (a b c d s K : FVec Ideal S2048 .f32) (k : Fin 128) (x : Fin 2048) : EReal :=
  if k.val = 0 then a (ix1 x) else if k.val = 1 then b (ix1 x) else if k.val = 2 then c (ix1 x)
  else if k.val = 3 then d (ix1 x) else if k.val = 4 then (if 0 < K (ix1 x) then s (ix1 x) else Ideal.ofBits .f32 3212836864#32) else 0

set_option maxHeartbeats 1000000 in
theorem pay1_at1 (v5 v11 v17 v23 v26 : FVec Ideal S2048 .f32) (v36 : IVec S2048 1) (v89 : FVec Ideal S2048 .f32) (v101 v105 : EReal)
    (v119 : FVec Ideal S2048x128 .f32) (v121 : IVec S2048 1) (v125 : FVec Ideal S2048 .f32) (v126 : FVec Ideal S2048x1 .f32)
    (r : Fin 1024) (k : Fin 128) :
    k1_pay1 (F := Ideal) v5 v11 v17 v23 v26 v36 v89 v101 v105 v119 v121 v125 v126 (ix3 0 r k)
      = ∑ x : Fin 2048, (if (FloatOps.sitofp (F := Ideal) .f32 (BitVec.ofNat 32 r.val) : EReal)
          = Scalar.select (v121 (ix1 x)) (v125 (ix1 x)) (Scalar.select (v36 (ix1 x)) (v101 + v126 (ix2 x 0) - 1) (v101 + v105 + v119 (ix2 x 2) - 1))
          then (1 : EReal) else 0) * pick v5 v11 v17 v23 v26 v89 k x := by
  pointwise [k1_pay1]
  refine Finset.sum_congr rfl fun x _ => ?_
  congr 1
  unfold pick
  split_ifs <;> first | rfl | omega

end Payloads

end Cert.KernelIdeal.Nms
-- ==== Proof.NmsRank.lean ====
/- The suppression kernel's loop is the scan, and its row of the output is the rank. -/
module

public import proofs.«01_k».proof.Proof.NmsBody
public import Idealize.ShloMosaic.Lib.WordArith.Masks

@[expose] public section

set_option maxRecDepth 16384

noncomputable section

namespace Cert.Words

open Idealize.ShloMosaic
open scoped Classical

theorem ofBool_one (b : Bool) : BitVec.ofBool b = 1#1 ↔ b = true := by cases b <;> decide

theorem andi_one (a b : BitVec 1) : IntOp.andi a b = 1#1 ↔ a = 1#1 ∧ b = 1#1 := by
  unfold IntOp.andi
  revert a b
  decide

theorem select_iff {α : Type} {c : BitVec 1} {p : Prop} [Decidable p] (h : c = 1#1 ↔ p) (a b : α) :
    Scalar.select c a b = if p then a else b := by
  unfold Scalar.select
  by_cases hp : p
  · rw [if_pos hp]; exact if_pos (h.mpr hp)
  · rw [if_neg hp]; exact if_neg (fun e => hp (h.mp e))

theorem toInt_ofNat (j : ℕ) (h : j < 2 ^ 31) : (BitVec.ofNat 32 j).toInt = (j : ℤ) := by
  rw [BitVec.toInt_eq_toNat_of_lt (by rw [BitVec.toNat_ofNat, Nat.mod_eq_of_lt (by omega)]; omega), BitVec.toNat_ofNat,
    Nat.mod_eq_of_lt (by omega)]

theorem toNat_ofNat (j : ℕ) (h : j < 2 ^ 32) : (BitVec.ofNat 32 j).toNat = j := by
  rw [BitVec.toNat_ofNat]; exact Nat.mod_eq_of_lt h

theorem cmpi_eq_one (i j : ℕ) (hi : i < 2 ^ 31) (hj : j < 2 ^ 31) :
    IntOp.cmpi .eq (BitVec.ofNat 32 i) (BitVec.ofNat 32 j) = 1#1 ↔ i = j := by
  unfold IntOp.cmpi
  rw [ofBool_one, beq_iff_eq]
  constructor
  · intro h
    have := congrArg BitVec.toNat h
    rwa [toNat_ofNat _ (by omega), toNat_ofNat _ (by omega)] at this
  · rintro rfl; rfl

theorem cmpi_slt_one (i j : ℕ) (hi : i < 2 ^ 31) (hj : j < 2 ^ 31) :
    IntOp.cmpi .slt (BitVec.ofNat 32 i) (BitVec.ofNat 32 j) = 1#1 ↔ i < j := by
  unfold IntOp.cmpi
  rw [ofBool_one]
  dsimp only
  rw [BitVec.slt_iff_toInt_lt, toInt_ofNat _ hi, toInt_ofNat _ hj]
  omega

theorem cmpi_sgt_one (i j : ℕ) (hi : i < 2 ^ 31) (hj : j < 2 ^ 31) :
    IntOp.cmpi .sgt (BitVec.ofNat 32 i) (BitVec.ofNat 32 j) = 1#1 ↔ j < i := by
  unfold IntOp.cmpi
  rw [ofBool_one]
  dsimp only
  rw [BitVec.slt_iff_toInt_lt, toInt_ofNat _ hi, toInt_ofNat _ hj]
  omega

theorem cmpi_sge_one (i j : ℕ) (hi : i < 2 ^ 31) (hj : j < 2 ^ 31) :
    IntOp.cmpi .sge (BitVec.ofNat 32 i) (BitVec.ofNat 32 j) = 1#1 ↔ j ≤ i := by
  unfold IntOp.cmpi
  rw [ofBool_one]
  dsimp only
  rw [BitVec.sle_iff_toInt_le, toInt_ofNat _ hi, toInt_ofNat _ hj]
  omega

theorem cmpi_sle_one (i j : ℕ) (hi : i < 2 ^ 31) (hj : j < 2 ^ 31) :
    IntOp.cmpi .sle (BitVec.ofNat 32 i) (BitVec.ofNat 32 j) = 1#1 ↔ i ≤ j := by
  unfold IntOp.cmpi
  rw [ofBool_one]
  dsimp only
  rw [BitVec.sle_iff_toInt_le, toInt_ofNat _ hi, toInt_ofNat _ hj]
  omega

theorem ofBits_minus_one : Ideal.ofBits .f32 3212836864#32 = (-1 : EReal) := by
  have e : (-1 : EReal) = ((-(1 : ℝ) : ℝ) : EReal) := by rw [EReal.coe_neg, EReal.coe_one]
  rw [e]
  simp [Ideal.ofBits, Ideal.ieee, -EReal.coe_mul, -EReal.coe_neg]
  norm_num

theorem iv_eq (k : ℕ) (hk : k < 2 ^ 32) : Scf.iv 0#32 1#32 k = BitVec.ofNat 32 k :=
  BitVec.eq_of_toNat_eq (by rw [WordArith.toNat_iv_zero_one k hk, toNat_ofNat k hk])

end Cert.Words

namespace Cert.KernelIdeal.Nms

open Idealize.ShloMosaic Idealize.ShloMosaic.TcCoe
open Cert.KernelIdeal.Gen Cert.Nms Cert.Words
open scoped Classical

section Scan

variable (x0 : Vec Ideal S1x4x2048 .f32) (x1 : Vec Ideal S1x1x2048 .f32)

/-- Candidate `j` passes the least size and score. -/
def validP (j : Fin 2048) : Prop := vld x0 x1 (ix1 j) = 1#1

/-- The overlap of candidates `i` and `j` is above the limit. -/
def ovP (i j : Fin 2048) : Prop := Ideal.ofBits .f32 1060320051#32 < ovl x0 (ix2 i j)

/-- Candidate `j` is kept. -/
def keptP : Fin 2048 → Prop := kept (m := 2000) (validP x0 x1) (ovP x0)

/-- After `n` trips the state is one at who is still in and zero elsewhere. -/
theorem keepSt_at (n : ℕ) (hn : n ≤ 2000) (j : Fin 2048) :
    keepSt x0 x1 n (ix1 j) = if run (ovP x0) (validP x0 x1) n j then (1 : EReal) else 0 := by
  induction n generalizing j with
  | zero => rw [keepSt, pay11_at1]; exact select_iff (p := run (ovP x0) (validP x0 x1) 0 j) Iff.rfl _ _
  | succ k ih =>
    have hk : k < k1_t1_loop.trips := by rw [trips_eq]; omega
    rw [keepSt, dif_pos hk, pay12_at1]
    simp only [ih (by omega)]
    rw [iv_eq k (by omega)]
    have hsum : (∑ x : Fin 2048, Scalar.select (IntOp.cmpi .eq (BitVec.ofNat 32 x.val) (BitVec.ofNat 32 k))
        (if run (ovP x0) (validP x0 x1) k x then (1 : EReal) else 0) 0)
        = if run (ovP x0) (validP x0 x1) k ⟨k, by omega⟩ then (1 : EReal) else 0 := by
      rw [Finset.sum_eq_single (⟨k, by omega⟩ : Fin 2048)]
      · rw [select_iff (cmpi_eq_one _ _ (by omega) (by omega)), if_pos rfl]
      · intro x _ hx
        rw [select_iff (cmpi_eq_one _ _ (by omega) (by omega)), if_neg]
        exact fun h => hx (Fin.ext h)
      · intro h; exact absurd (Finset.mem_univ _) h
    have hov : ovlRow x0 ⟨k, hk⟩ (ix2 0 j) = ovl x0 (ix2 ⟨k, by omega⟩ j) := rfl
    rw [hsum, hov, select_iff (p := ((Ideal.ofBits .f32 1060320051#32 < ovl x0 (ix2 ⟨k, by omega⟩ j) ∧ k < j.val) ∧
          (0 : EReal) < if run (ovP x0) (validP x0 x1) k ⟨k, by omega⟩ then (1 : EReal) else 0)) (by
      rw [andi_one, andi_one, ofBool_one, ofBool_one, decide_eq_true_iff, decide_eq_true_iff, cmpi_sgt_one _ _ (by omega) (by omega)])]
    have hiff : run (ovP x0) (validP x0 x1) (k + 1) j ↔ run (ovP x0) (validP x0 x1) k j ∧
        ¬ ((Ideal.ofBits .f32 1060320051#32 < ovl x0 (ix2 ⟨k, by omega⟩ j) ∧ k < j.val) ∧
          (0 : EReal) < if run (ovP x0) (validP x0 x1) k ⟨k, by omega⟩ then (1 : EReal) else 0) := by
      have hpos : ((0 : EReal) < if run (ovP x0) (validP x0 x1) k ⟨k, by omega⟩ then (1 : EReal) else 0)
          ↔ run (ovP x0) (validP x0 x1) k ⟨k, by omega⟩ := by
        split_ifs with h
        · simp [h]
        · simp [h]
      rw [hpos]
      show (run (ovP x0) (validP x0 x1) k j ∧ ¬ ∃ i : Fin 2048, i.val = k ∧ ovP x0 i j ∧ i < j ∧ run (ovP x0) (validP x0 x1) k i) ↔ _
      refine and_congr_right fun _ => not_congr ⟨?_, ?_⟩
      · rintro ⟨i, rfl, h1, h2, h3⟩
        exact ⟨⟨h1, h2⟩, h3⟩
      · rintro ⟨⟨h1, h2⟩, h3⟩
        exact ⟨⟨k, by omega⟩, rfl, h1, h2, h3⟩
    by_cases hc : ((Ideal.ofBits .f32 1060320051#32 < ovl x0 (ix2 ⟨k, by omega⟩ j) ∧ k < j.val) ∧
          (0 : EReal) < if run (ovP x0) (validP x0 x1) k ⟨k, by omega⟩ then (1 : EReal) else 0)
    · rw [if_pos hc, if_neg (fun h => (hiff.mp h).2 hc)]
    · rw [if_neg hc]
      by_cases hr : run (ovP x0) (validP x0 x1) k j
      · rw [if_pos hr, if_pos (hiff.mpr ⟨hr, hc⟩)]
      · rw [if_neg hr, if_neg (fun h => hr (hiff.mp h).1)]

theorem keep_at (j : Fin 2048) : keepSt x0 x1 k1_t1_loop.trips (ix1 j) = if keptP x0 x1 j then (1 : EReal) else 0 := by
  rw [trips_eq]
  exact keepSt_at x0 x1 2000 le_rfl j

theorem kept_valid (j : Fin 2048) (h : keptP x0 x1 j) : validP x0 x1 j :=
  ((run_iff _ _ _ _).mp h).1

end Scan

section Rank

theorem sub_one_cast (r N : ℕ) (h : r + 1 = N) : ((N : ℕ) : EReal) - 1 = ((r : ℕ) : EReal) := by
  subst h
  have e1 : ((r + 1 : ℕ) : EReal) = (((r : ℝ) + 1 : ℝ) : EReal) := by push_cast; rfl
  have e2 : ((r : ℕ) : EReal) = ((r : ℝ) : EReal) := rfl
  rw [e1, e2, ← EReal.coe_one, ← EReal.coe_sub]
  congr 1
  ring

theorem sitofp_cast (r : ℕ) (h : r < 2 ^ 31) :
    (FloatOps.sitofp (F := Ideal) .f32 (BitVec.ofNat 32 r) : EReal) = ((r : ℕ) : EReal) := by
  show (((BitVec.ofNat 32 r).toInt : ℝ) : EReal) = _
  rw [toInt_ofNat r h]
  rfl

theorem sum_pred (p : Fin 2048 → Prop) [DecidablePred p] (f : Fin 2048 → EReal) (hf : ∀ x, f x = if p x then 1 else 0) :
    ∑ x, f x = ((Finset.univ.filter p).card : EReal) := by
  rw [Finset.sum_congr rfl fun x _ => hf x, Finset.sum_boole]

theorem one_sub_ite (p : Prop) : (1 : EReal) - (if p then 1 else 0) = if p then 0 else 1 := by
  split_ifs
  · rw [← EReal.coe_one, ← EReal.coe_sub, sub_self, EReal.coe_zero]
  · exact sub_zero _

variable (x0 : Vec Ideal S1x4x2048 .f32) (x1 : Vec Ideal S1x1x2048 .f32)

theorem pay13_v (x : Fin 2048) : k1_pay13 (F := Ideal) (vld x0 x1) (ix1 x) = if validP x0 x1 x then (1 : EReal) else 0 := by
  rw [pay13_at1]; exact select_iff (p := validP x0 x1 x) Iff.rfl _ _

/-- The place of a candidate out of counts of zeros and ones. -/
theorem place_abs (V K : Fin 2048 → Prop) (hKV : ∀ y, K y → V y) (a p : Fin 2048 → EReal) (ha : ∀ y, a y = if K y then 1 else 0)
    (hp : ∀ y, p y = if V y then 1 else 0) (v : BitVec 1) (x : Fin 2048) (hv : v = 1#1 ↔ V x) :
    Scalar.select (BitVec.ofBool (decide (0 < a x)))
      ((∑ y : Fin 2048, Scalar.select (IntOp.cmpi .sge (BitVec.ofNat 32 x.val) (BitVec.ofNat 32 y.val)) (a y) 0) - 1)
      (Scalar.select v
        ((∑ y : Fin 2048, a y) + (∑ y : Fin 2048, Scalar.select (IntOp.cmpi .sge (BitVec.ofNat 32 x.val) (BitVec.ofNat 32 y.val)) (p y * (1 - a y)) 0) - 1)
        ((∑ y : Fin 2048, a y) + (∑ y : Fin 2048, p y * (1 - a y))
          + (∑ y : Fin 2048, Scalar.select (IntOp.cmpi .sge (BitVec.ofNat 32 x.val) (BitVec.ofNat 32 y.val)) (1 - p y) 0) - 1))
      = ((rank V K x : ℕ) : EReal) := by
  have hge : ∀ y : Fin 2048, IntOp.cmpi .sge (BitVec.ofNat 32 x.val) (BitVec.ofNat 32 y.val) = 1#1 ↔ y ≤ x := fun y => by
    rw [cmpi_sge_one _ _ (by omega) (by omega)]; rfl
  have c0 : (∑ y : Fin 2048, a y) = ((Finset.univ.filter K).card : EReal) := sum_pred _ _ ha
  have c1 : (∑ y : Fin 2048, p y * (1 - a y)) = ((Finset.univ.filter fun y => V y ∧ ¬ K y).card : EReal) :=
    sum_pred _ (fun y => _) fun y => by
      rw [ha, hp, one_sub_ite]
      by_cases h1 : V y <;> by_cases h2 : K y <;> simp [h1, h2]
  have c2 : (∑ y : Fin 2048, Scalar.select (IntOp.cmpi .sge (BitVec.ofNat 32 x.val) (BitVec.ofNat 32 y.val)) (a y) 0)
      = ((Finset.univ.filter fun y => y ≤ x ∧ K y).card : EReal) :=
    sum_pred _ (fun y => _) fun y => by
      rw [select_iff (hge y), ha]
      by_cases h1 : y ≤ x <;> by_cases h2 : K y <;> simp [h1, h2]
  have c3 : (∑ y : Fin 2048, Scalar.select (IntOp.cmpi .sge (BitVec.ofNat 32 x.val) (BitVec.ofNat 32 y.val)) (p y * (1 - a y)) 0)
      = ((Finset.univ.filter fun y => y ≤ x ∧ (V y ∧ ¬ K y)).card : EReal) :=
    sum_pred _ (fun y => _) fun y => by
      rw [select_iff (hge y), ha, hp, one_sub_ite]
      by_cases h1 : y ≤ x <;> by_cases h2 : K y <;> by_cases h3 : V y <;> simp [h1, h2, h3]
  have c4 : (∑ y : Fin 2048, Scalar.select (IntOp.cmpi .sge (BitVec.ofNat 32 x.val) (BitVec.ofNat 32 y.val)) (1 - p y) 0)
      = ((Finset.univ.filter fun y => y ≤ x ∧ ¬ V y).card : EReal) :=
    sum_pred _ (fun y => _) fun y => by
      rw [select_iff (hge y), hp, one_sub_ite]
      by_cases h1 : y ≤ x <;> by_cases h3 : V y <;> simp [h1, h3]
  have hpos : BitVec.ofBool (decide (0 < a x)) = 1#1 ↔ K x := by
    rw [ofBool_one, decide_eq_true_iff, ha]
    split_ifs with h
    · simp [h]
    · simp [h]
  rw [c0, c1, c2, c3, c4, select_iff hpos, select_iff hv]
  by_cases hk : K x
  · rw [if_pos hk]
    exact sub_one_cast _ _ (rank_kept _ hk)
  · rw [if_neg hk]
    by_cases hv : V x
    · rw [if_pos hv, ← Nat.cast_add]
      exact sub_one_cast _ _ (rank_suppressed _ hk hv)
    · rw [if_neg hv, ← Nat.cast_add, ← Nat.cast_add]
      exact sub_one_cast _ _ (rank_invalid _ hKV hv)

/-- The number a candidate carries is its place. -/
theorem place_at (x : Fin 2048) :
    Scalar.select (k1_pay18 (keepSt x0 x1 k1_t1_loop.trips) (ix1 x)) (k1_pay19 (vld x0 x1) k1_pay10 (keepSt x0 x1 k1_t1_loop.trips) (ix1 x))
      (Scalar.select (vld x0 x1 (ix1 x))
        ((k1_pay15 (keepSt x0 x1 k1_t1_loop.trips) : EReal) + k1_pay20 (vld x0 x1) k1_pay10 (keepSt x0 x1 k1_t1_loop.trips) (ix2 x 0) - 1)
        ((k1_pay15 (keepSt x0 x1 k1_t1_loop.trips) : EReal) + (k1_pay16 (vld x0 x1) (keepSt x0 x1 k1_t1_loop.trips) : EReal)
          + k1_pay17 (vld x0 x1) k1_pay10 (keepSt x0 x1 k1_t1_loop.trips) (ix2 x 2) - 1))
      = ((rank (validP x0 x1) (keptP x0 x1) x : ℕ) : EReal) := by
  rw [pay18_at1, pay19_at1, pay15_at1, pay20_at1, pay16_at1, pay17_at0, pay17_at2]
  exact place_abs (validP x0 x1) (keptP x0 x1) (kept_valid x0 x1) (fun y => keepSt x0 x1 k1_t1_loop.trips (ix1 y))
    (fun y => k1_pay13 (F := Ideal) (vld x0 x1) (ix1 y)) (keep_at x0 x1) (pay13_v x0 x1) _ x Iff.rfl

/-- Row `r` of the block carries the candidate whose place is `r`. -/
theorem block_at (r : Fin 1024) (k : Fin 128) (x : Fin 2048) (h : rank (validP x0 x1) (keptP x0 x1) x = r.val) :
    block x0 x1 (ix3 0 r k) = pick (cx1 x0) (cy1 x0) (cx2 x0) (cy2 x0) (k1_pay6 x1) (keepSt x0 x1 k1_t1_loop.trips) k x := by
  unfold block
  rw [pay1_at1]
  simp only [place_at x0 x1]
  rw [sitofp_cast _ (by omega), Finset.sum_eq_single x]
  · rw [h, if_pos rfl, one_mul]
  · intro y _ hy
    rw [if_neg, zero_mul]
    intro e
    refine hy (rank_injective (validP x0 x1) (keptP x0 x1) ?_)
    rw [h]
    exact (Nat.cast_injective (R := EReal) e).symm
  · intro hx; exact absurd (Finset.mem_univ _) hx

theorem block_box (r : Fin 1024) (x : Fin 2048) (h : rank (validP x0 x1) (keptP x0 x1) x = r.val) :
    block x0 x1 (ix3 0 r 0) = cx1 x0 (ix1 x) ∧ block x0 x1 (ix3 0 r 1) = cy1 x0 (ix1 x)
      ∧ block x0 x1 (ix3 0 r 2) = cx2 x0 (ix1 x) ∧ block x0 x1 (ix3 0 r 3) = cy2 x0 (ix1 x) := by
  refine ⟨?_, ?_, ?_, ?_⟩ <;> rw [block_at x0 x1 r _ x h] <;> rfl

theorem block_score (r : Fin 1024) (x : Fin 2048) (h : rank (validP x0 x1) (keptP x0 x1) x = r.val) :
    block x0 x1 (ix3 0 r 4) = if keptP x0 x1 x then k1_pay6 x1 (ix1 x) else (-1 : EReal) := by
  rw [block_at x0 x1 r _ x h]
  show (if (0 : EReal) < keepSt x0 x1 k1_t1_loop.trips (ix1 x) then k1_pay6 x1 (ix1 x) else Ideal.ofBits .f32 3212836864#32) = _
  rw [keep_at]
  have hm : Ideal.ofBits .f32 3212836864#32 = (-1 : EReal) := ofBits_minus_one
  by_cases hk : keptP x0 x1 x
  · simp [hk]
  · simp [hk, hm]

end Rank

end Cert.KernelIdeal.Nms
-- ==== Proof.SortPos.lean ====
/- The stable sort of positions by a key, greatest first: of two places the later one holds a smaller key, or the same
   key at a later position. Read for the top-k and the two-operand sort of rows of a matrix. -/
module

public import Idealize.ShloMosaic.PureOps.Ideal
public import Idealize.ShloMosaic.Lib.SortPrefix

@[expose] public section

noncomputable section

namespace Cert.SortPos

open Idealize.ShloMosaic

theorem mem_insertBefore {ι : Type} (B : ι → ι → Bool) (a b : ι) (l : List ι) :
    b ∈ insertBefore B a l ↔ b = a ∨ b ∈ l := by
  rw [(perm_insertBefore B a l).mem_iff, List.mem_cons]

theorem stableSort_eq {ι : Type} (R R' : ι → ι → Bool) (l : List ι) (h : l.Pairwise fun a b => R b a = R' b a) :
    stableSort R l = stableSort R' l := by
  induction l with
  | nil => rfl
  | cons a l ih =>
    rw [List.pairwise_cons] at h
    show insertBefore R a (stableSort R l) = insertBefore R' a (stableSort R' l)
    rw [ih h.2]
    exact insertBefore_congr R R' a _ fun b hb => h.1 b ((perm_stableSort R' l).mem_iff.mp hb)

variable {n : ℕ} (key : Fin n → EReal) (B : Fin n → Fin n → Bool)

/-- Greater key first, then the smaller position. -/
def refined (a b : Fin n) : Bool := decide (key b < key a) || (decide (key a = key b) && decide (a < b))

theorem refined_total : StrictTotalBefore (refined key) :=
  StrictTotalBefore.of_key_then_position (fun x y : EReal => decide (y < x)) key (by simp)
    (by simp only [decide_eq_true_eq]; exact fun a b c h h' => lt_trans h' h)
    (by simp only [decide_eq_true_eq]; intro a b; rcases lt_trichotomy a b with h | h | h <;> tauto)

theorem sorted (hB : ∀ a b, B a b = decide (key b < key a)) {a b : Fin n} (h : a < b) :
    key (sortedFrom B b) < key (sortedFrom B a) ∨
      (key (sortedFrom B b) = key (sortedFrom B a) ∧ sortedFrom B a < sortedFrom B b) := by
  have e : sortedFrom B = sortedFrom (refined key) := by
    have : sortPositions n B = sortPositions n (refined key) := by
      refine stableSort_eq B (refined key) _ ?_
      refine (List.pairwise_lt_finRange n).imp fun {x y} hxy => ?_
      rw [hB]
      simp only [refined, not_lt_of_gt hxy, decide_false, Bool.and_false, Bool.or_false]
    funext k
    exact List.get_of_eq this _
  have hT := refined_total key
  have hinv := sortedFrom_noInversion (refined key) (refined key) (fun _ _ h => hT.asymm _ _ h) (fun _ _ h => h)
    hT.negTrans a b h
  rw [← e] at hinv
  have hne : sortedFrom B a ≠ sortedFrom B b := fun h' => h.ne (sortedFrom_injective B h')
  simp only [refined, Bool.or_eq_false_iff, decide_eq_false_iff_not, Bool.and_eq_false_iff, not_lt] at hinv
  rcases hinv.1.lt_or_eq with h1 | h1
  · exact .inl h1
  · refine .inr ⟨h1, ?_⟩
    rcases hinv.2 with h2 | h2
    · exact absurd h1 h2
    · exact lt_of_le_of_ne h2 hne

theorem beq_decide (p : Prop) [Decidable p] (v : BitVec 1) (h : v = (if p then 1#1 else 0#1)) :
    (v == 1#1) = decide p := by
  subst h; split <;> simp_all

end Cert.SortPos
-- ==== Proof.RefEqPost.lean ====
/- Host equations: the reference after its loop. `q_x V` is what buffer `x` holds at the end of the line from the contents `V`; each operation gives the equation of its result. -/
module

public import Idealize.ShloMosaic.PureOps.Ideal
public import proofs.«01_k».proof.Proof.Ssa
public import proofs.«01_k».proof.Proof.Gen.ReferenceIdeal.Run

@[expose] public section

set_option maxRecDepth 16384

noncomputable section

namespace Cert.ReferenceIdeal.Value

open Idealize.ShloMosaic Idealize.ShloMosaic.TcCoe Idealize.ShloMosaic.StableHlo
open Cert.ReferenceIdeal.Gen

variable (V : Valuation τ sig (Elt Ideal))

attribute [local irreducible] after

/-- The operations of the reference after its loop, in one line. -/
abbrev qL : List (HloOp τ sig (Elt Ideal)) := (postI (F := Ideal)).flatten
/-- What each writes. -/
abbrev q_W : List (Ref sig .tc) := [main_cst_47, main_call14_v0, main_call14_v1, main_call14_v2, main_v337, main_values_48, main_indices_49, main_c_50, main_v338, main_v339, main_c_51, main_v340, main_v341, main_v342, main_v343, main_v344]
theorem q_hW : Ssa.Writes qL q_W := rfl

def q_cst_47 : (⟨S_, .f32⟩ : BufTy).Contents (Elt Ideal) := after qL V (Proc.devRef .tc main_cst_47)
theorem q_cst_47_eq : q_cst_47 V = constant (F := Ideal) S_ .f32 0xBF800000#32 := (Ssa.nullary q_hW V 0 rfl (by decide +kernel) :)
def q_call14_v0 : (⟨S_, .f32⟩ : BufTy).Contents (Elt Ideal) := after qL V (Proc.devRef .tc main_call14_v0)
theorem q_call14_v0_eq : q_call14_v0 V = q_cst_47 V := (Ssa.unary q_hW V 1 rfl (by decide +kernel) (by decide +kernel) :)
def q_call14_v1 : (⟨S2000, .f32⟩ : BufTy).Contents (Elt Ideal) := after qL V (Proc.devRef .tc main_call14_v1)
theorem q_call14_v1_eq : q_call14_v1 V = broadcastInDim S2000 ![] bcast_S_S2000 (q_call14_v0 V) := (Ssa.unary q_hW V 2 rfl (by decide +kernel) (by decide +kernel) :)
def q_call14_v2 : (⟨S2x2000, .f32⟩ : BufTy).Contents (Elt Ideal) := after qL V (Proc.devRef .tc main_call14_v2)
theorem q_call14_v2_eq : q_call14_v2 V = broadcastInDim S2x2000 ![1] bcast_S2000_S2x2000_1 (q_call14_v1 V) := (Ssa.unary q_hW V 3 rfl (by decide +kernel) (by decide +kernel) :)
def q_v336_4 : (⟨S2x2000, .i1⟩ : BufTy).Contents (Elt Ideal) := after qL V (Proc.devRef .tc main_v336_4)
theorem q_v336_4_in : q_v336_4 V = V (Proc.devRef .tc main_v336_4) := Ssa.input q_hW V (by decide +kernel)
def q_v265 : (⟨S2x2000, .f32⟩ : BufTy).Contents (Elt Ideal) := after qL V (Proc.devRef .tc main_v265)
theorem q_v265_in : q_v265 V = V (Proc.devRef .tc main_v265) := Ssa.input q_hW V (by decide +kernel)
def q_v337 : (⟨S2x2000, .f32⟩ : BufTy).Contents (Elt Ideal) := after qL V (Proc.devRef .tc main_v337)
theorem q_v337_eq : q_v337 V = select (q_v336_4 V) (q_v265 V) (q_call14_v2 V) := (Ssa.ternary q_hW V 4 rfl (by decide +kernel) (by decide +kernel) (by decide +kernel) (by decide +kernel) :)
def q_values_48 : (⟨S2x1000, .f32⟩ : BufTy).Contents (Elt Ideal) := after qL V (Proc.devRef .tc main_values_48)
theorem q_values_48_eq : q_values_48 V = (Host.topK S2x1000 1 (FloatOps.cmpfTotal (F := Ideal) (φ := .f32) .gt) (q_v337 V) sliceFits_S2x2000_S2x1000).1 := (Ssa.unary q_hW V 5 rfl (by decide +kernel) (by decide +kernel) :)
def q_indices_49 : (⟨S2x1000, .i32⟩ : BufTy).Contents (Elt Ideal) := after qL V (Proc.devRef .tc main_indices_49)
theorem q_indices_49_eq : q_indices_49 V = (Host.topK S2x1000 1 (FloatOps.cmpfTotal (F := Ideal) (φ := .f32) .gt) (q_v337 V) sliceFits_S2x2000_S2x1000).2 := (Ssa.unary q_hW V 6 rfl (by decide +kernel) (by decide +kernel) :)
def q_c_50 : (⟨S_, .i32⟩ : BufTy).Contents (Elt Ideal) := after qL V (Proc.devRef .tc main_c_50)
theorem q_c_50_eq : q_c_50 V = constantI S_ 32 0#32 := (Ssa.nullary q_hW V 7 rfl (by decide +kernel) :)
def q_v338 : (⟨S2x1000, .i32⟩ : BufTy).Contents (Elt Ideal) := after qL V (Proc.devRef .tc main_v338)
theorem q_v338_eq : q_v338 V = broadcastInDim S2x1000 ![] bcast_S_S2x1000 (q_c_50 V) := (Ssa.unary q_hW V 8 rfl (by decide +kernel) (by decide +kernel) :)
def q_v339 : (⟨S2x1000, .i1⟩ : BufTy).Contents (Elt Ideal) := after qL V (Proc.devRef .tc main_v339)
theorem q_v339_eq : q_v339 V = cmpi .slt (q_indices_49 V) (q_v338 V) := (Ssa.binary q_hW V 9 rfl (by decide +kernel) (by decide +kernel) (by decide +kernel) :)
def q_c_51 : (⟨S_, .i32⟩ : BufTy).Contents (Elt Ideal) := after qL V (Proc.devRef .tc main_c_51)
theorem q_c_51_eq : q_c_51 V = constantI S_ 32 2000#32 := (Ssa.nullary q_hW V 10 rfl (by decide +kernel) :)
def q_v340 : (⟨S2x1000, .i32⟩ : BufTy).Contents (Elt Ideal) := after qL V (Proc.devRef .tc main_v340)
theorem q_v340_eq : q_v340 V = broadcastInDim S2x1000 ![] bcast_S_S2x1000 (q_c_51 V) := (Ssa.unary q_hW V 11 rfl (by decide +kernel) (by decide +kernel) :)
def q_v341 : (⟨S2x1000, .i32⟩ : BufTy).Contents (Elt Ideal) := after qL V (Proc.devRef .tc main_v341)
theorem q_v341_eq : q_v341 V = addi (q_indices_49 V) (q_v340 V) := (Ssa.binary q_hW V 12 rfl (by decide +kernel) (by decide +kernel) (by decide +kernel) :)
def q_v342 : (⟨S2x1000, .i32⟩ : BufTy).Contents (Elt Ideal) := after qL V (Proc.devRef .tc main_v342)
theorem q_v342_eq : q_v342 V = select (q_v339 V) (q_v341 V) (q_indices_49 V) := (Ssa.ternary q_hW V 13 rfl (by decide +kernel) (by decide +kernel) (by decide +kernel) (by decide +kernel) :)
def q_v343 : (⟨S2x1000x1, .i32⟩ : BufTy).Contents (Elt Ideal) := after qL V (Proc.devRef .tc main_v343)
theorem q_v343_eq : q_v343 V = broadcastInDim S2x1000x1 ![0, 1] bcast_S2x1000_S2x1000x1_0_1 (q_v342 V) := (Ssa.unary q_hW V 14 rfl (by decide +kernel) (by decide +kernel) :)
def q_v258 : (⟨S2x2000x4, .f32⟩ : BufTy).Contents (Elt Ideal) := after qL V (Proc.devRef .tc main_v258)
theorem q_v258_in : q_v258 V = V (Proc.devRef .tc main_v258) := Ssa.input q_hW V (by decide +kernel)
def q_v344 : (⟨S2x1000x4, .f32⟩ : BufTy).Contents (Elt Ideal) := after qL V (Proc.devRef .tc main_v344)
theorem q_v344_eq : q_v344 V = Host.gather gather_S2x2000x4_S2x1000x1_S2x1000x4_2_1_0_0_1_2_114 (q_v258 V) (q_v343 V) := (Ssa.binary q_hW V 15 rfl (by decide +kernel) (by decide +kernel) (by decide +kernel) :)

end Cert.ReferenceIdeal.Value

end
-- ==== Proof.Sel.lean ====
/- The indexed reads and the sorts of the two programs at an index. -/
module

public import proofs.«01_k».proof.Proof.NmsRank
public import proofs.«01_k».proof.Proof.SortPos
public import proofs.«01_k».proof.Proof.RefEqPost
public import Idealize.ShloMosaic.Lib.Pointwise

@[expose] public section

set_option maxRecDepth 65536

noncomputable section

namespace Cert.Sel

open Idealize.ShloMosaic Cert.ReferenceIdeal Cert.ReferenceIdeal.Gen Cert.Words
open scoped Classical

section Gather

theorem g36_si (b : Fin 2) (a : Fin 2000) (k : Fin 4) :
    gather_S2x36864x4_S2x2000x1_S2x2000x4_2_1_0_0_1_2_114.siIdx (ix3 b a k) ⟨0, by decide⟩ = ix3 b a 0 := by
  funext i
  match i with
  | 0 => rfl
  | 1 => rfl
  | 2 => rfl

/-- The rows the wide indexed read takes. -/
theorem gather36 {α : Type} (x : S2x36864x4.Idx → α) (idx : IVec S2x2000x1 32) (b : Fin 2) (a : Fin 2000) (k : Fin 4) (n : Fin 36864)
    (h : idx (ix3 b a 0) = BitVec.ofNat 32 n.val) :
    Host.gather gather_S2x36864x4_S2x2000x1_S2x2000x4_2_1_0_0_1_2_114 x idx (ix3 b a k) = x (ix3 b n k) := by
  unfold Host.gather
  congr 1
  have hs : gather_S2x36864x4_S2x2000x1_S2x2000x4_2_1_0_0_1_2_114.start (ix3 b a k) idx 1 = n.val := by
    unfold GatherDims.start
    rw [dif_pos (show (1 : Fin 3) ∈ gather_S2x36864x4_S2x2000x1_S2x2000x4_2_1_0_0_1_2_114.startIndexMap by decide)]
    show min (idx (gather_S2x36864x4_S2x2000x1_S2x2000x4_2_1_0_0_1_2_114.siIdx (ix3 b a k) ⟨0, by decide⟩)).toInt.toNat (36864 - 1) = _
    rw [g36_si, h, toInt_ofNat _ (by omega)]
    omega
  funext i
  refine Fin.ext ?_
  match i with
  | 0 =>
    show 0 + b.val + 0 = b.val
    omega
  | 1 =>
    show gather_S2x36864x4_S2x2000x1_S2x2000x4_2_1_0_0_1_2_114.start (ix3 b a k) idx 1 + 0 + 0 = n.val
    omega
  | 2 =>
    show 0 + 0 + k.val = k.val
    omega

theorem g20_si (b : Fin 2) (a : Fin 2000) (k : Fin 4) :
    gather_S2x2000x4_S2x2000x1_S2x2000x4_2_1_0_0_1_2_114.siIdx (ix3 b a k) ⟨0, by decide⟩ = ix3 b a 0 := by
  funext i
  match i with
  | 0 => rfl
  | 1 => rfl
  | 2 => rfl

/-- The rows the reordering read takes. -/
theorem gather20 {α : Type} (x : S2x2000x4.Idx → α) (idx : IVec S2x2000x1 32) (b : Fin 2) (a : Fin 2000) (k : Fin 4) (n : Fin 2000)
    (h : idx (ix3 b a 0) = BitVec.ofNat 32 n.val) :
    Host.gather gather_S2x2000x4_S2x2000x1_S2x2000x4_2_1_0_0_1_2_114 x idx (ix3 b a k) = x (ix3 b n k) := by
  unfold Host.gather
  congr 1
  have hs : gather_S2x2000x4_S2x2000x1_S2x2000x4_2_1_0_0_1_2_114.start (ix3 b a k) idx 1 = n.val := by
    unfold GatherDims.start
    rw [dif_pos (show (1 : Fin 3) ∈ gather_S2x2000x4_S2x2000x1_S2x2000x4_2_1_0_0_1_2_114.startIndexMap by decide)]
    show min (idx (gather_S2x2000x4_S2x2000x1_S2x2000x4_2_1_0_0_1_2_114.siIdx (ix3 b a k) ⟨0, by decide⟩)).toInt.toNat (2000 - 1) = _
    rw [g20_si, h, toInt_ofNat _ (by omega)]
    omega
  funext i
  refine Fin.ext ?_
  match i with
  | 0 =>
    show 0 + b.val + 0 = b.val
    omega
  | 1 =>
    show gather_S2x2000x4_S2x2000x1_S2x2000x4_2_1_0_0_1_2_114.start (ix3 b a k) idx 1 + 0 + 0 = n.val
    omega
  | 2 =>
    show 0 + 0 + k.val = k.val
    omega

theorem g10_si (b : Fin 2) (a : Fin 1000) (k : Fin 4) :
    gather_S2x2000x4_S2x1000x1_S2x1000x4_2_1_0_0_1_2_114.siIdx (ix3 b a k) ⟨0, by decide⟩ = ix3 b a 0 := by
  funext i
  match i with
  | 0 => rfl
  | 1 => rfl
  | 2 => rfl

/-- The rows the last indexed read takes. -/
theorem gather10 {α : Type} (x : S2x2000x4.Idx → α) (idx : IVec S2x1000x1 32) (b : Fin 2) (a : Fin 1000) (k : Fin 4) (n : Fin 2000)
    (h : idx (ix3 b a 0) = BitVec.ofNat 32 n.val) :
    Host.gather gather_S2x2000x4_S2x1000x1_S2x1000x4_2_1_0_0_1_2_114 x idx (ix3 b a k) = x (ix3 b n k) := by
  unfold Host.gather
  congr 1
  have hs : gather_S2x2000x4_S2x1000x1_S2x1000x4_2_1_0_0_1_2_114.start (ix3 b a k) idx 1 = n.val := by
    unfold GatherDims.start
    rw [dif_pos (show (1 : Fin 3) ∈ gather_S2x2000x4_S2x1000x1_S2x1000x4_2_1_0_0_1_2_114.startIndexMap by decide)]
    show min (idx (gather_S2x2000x4_S2x1000x1_S2x1000x4_2_1_0_0_1_2_114.siIdx (ix3 b a k) ⟨0, by decide⟩)).toInt.toNat (2000 - 1) = _
    rw [g10_si, h, toInt_ofNat _ (by omega)]
    omega
  funext i
  refine Fin.ext ?_
  match i with
  | 0 =>
    show 0 + b.val + 0 = b.val
    omega
  | 1 =>
    show gather_S2x2000x4_S2x1000x1_S2x1000x4_2_1_0_0_1_2_114.start (ix3 b a k) idx 1 + 0 + 0 = n.val
    omega
  | 2 =>
    show 0 + 0 + k.val = k.val
    omega

theorem g1_si (b : Fin 2) (a : Fin 2000) :
    gather_S2x2000_S2x2000x1_S2x2000_n_1_0_0_1_2_11.siIdx (ix2 b a) ⟨0, by decide⟩ = ix3 b a 0 := by
  funext i
  match i with
  | 0 => rfl
  | 1 => rfl
  | 2 => rfl

/-- The entries the reordering read takes. -/
theorem gather1 {α : Type} (x : S2x2000.Idx → α) (idx : IVec S2x2000x1 32) (b : Fin 2) (a : Fin 2000) (n : Fin 2000)
    (h : idx (ix3 b a 0) = BitVec.ofNat 32 n.val) :
    Host.gather gather_S2x2000_S2x2000x1_S2x2000_n_1_0_0_1_2_11 x idx (ix2 b a) = x (ix2 b n) := by
  unfold Host.gather
  congr 1
  have hs : gather_S2x2000_S2x2000x1_S2x2000_n_1_0_0_1_2_11.start (ix2 b a) idx 1 = n.val := by
    unfold GatherDims.start
    rw [dif_pos (show (1 : Fin 2) ∈ gather_S2x2000_S2x2000x1_S2x2000_n_1_0_0_1_2_11.startIndexMap by decide)]
    show min (idx (gather_S2x2000_S2x2000x1_S2x2000_n_1_0_0_1_2_11.siIdx (ix2 b a) ⟨0, by decide⟩)).toInt.toNat (2000 - 1) = _
    rw [g1_si, h, toInt_ofNat _ (by omega)]
    omega
  funext i
  refine Fin.ext ?_
  match i with
  | 0 =>
    show 0 + b.val + 0 = b.val
    omega
  | 1 =>
    show gather_S2x2000_S2x2000x1_S2x2000_n_1_0_0_1_2_11.start (ix2 b a) idx 1 + 0 + 0 = n.val
    omega

end Gather

section Sorts

/-- A total order's `greater` on extended reals. -/
theorem gt_one (x y : EReal) : (FloatOps.cmpfTotal (F := Ideal) (φ := .f32) .gt x y == 1#1) = decide (y < x) :=
  SortPos.beq_decide _ _ (by
    show BitVec.ofBool (decide (y < x)) = _
    by_cases h : y < x <;> simp [h])

/-- The place `k` of row `b`. -/
def al {m n : ℕ} (b : Fin m) (a k : Fin n) : Shape.Idx ⟨2, ![m, n]⟩ := Shape.Idx.along (s := ⟨2, ![m, n]⟩) (ix2 b a) 1 k

theorem al_eq {m n : ℕ} (b : Fin m) (a k : Fin n) : al b a k = ix2 b k := by
  funext i
  match i with
  | 0 => rfl
  | 1 => rfl

/-- The order of a row by its entries, greatest first. -/
def perm {n : ℕ} (key : Fin n → EReal) : Fin n → Fin n := sortedFrom fun a b => decide (key b < key a)

theorem perm_sorted {n : ℕ} (key : Fin n → EReal) {a b : Fin n} (h : a < b) :
    key (perm key b) < key (perm key a) ∨ (key (perm key b) = key (perm key a) ∧ perm key a < perm key b) :=
  SortPos.sorted key _ (fun _ _ => rfl) h

theorem perm_injective {n : ℕ} (key : Fin n → EReal) : Function.Injective (perm key) := sortedFrom_injective _

theorem perm_along {m n : ℕ} (x : FVec Ideal ⟨2, ![m, n]⟩ .f32) (b : Fin m) (a : Fin n) :
    sortedFrom (fun k k' : Fin n => FloatOps.cmpfTotal (F := Ideal) (φ := .f32) .gt
        (x (al b a k)) (x (al b a k')) == 1#1)
      = perm fun p => x (ix2 b p) := by
  unfold perm
  congr 1
  funext k k'
  rw [al_eq, al_eq]
  exact gt_one _ _

variable {m n n' : ℕ} (x : FVec Ideal ⟨2, ![m, n]⟩ .f32) (h : Shape.Slices ⟨2, ![m, n]⟩ (fun _ => 0) ⟨2, ![m, n']⟩) (hn : n' ≤ n)
  (b : Fin m) (a : Fin n')

omit x in
theorem slice_at {α : Type} (y : Shape.Idx ⟨2, ![m, n]⟩ → α) :
    extractStridedSlice ⟨2, ![m, n']⟩ (fun _ => 0) y h (ix2 b a) = y (ix2 b ⟨a.val, by omega⟩) := by
  unfold extractStridedSlice
  congr 1
  funext i
  refine Fin.ext ?_
  match i with
  | 0 => exact Nat.zero_add _
  | 1 => exact Nat.zero_add _

/-- The greatest entries of a row. -/
theorem topK_vals : (Host.topK ⟨2, ![m, n']⟩ 1 (FloatOps.cmpfTotal (F := Ideal) (φ := .f32) .gt) x h).1 (ix2 b a)
      = x (ix2 b (perm (fun p => x (ix2 b p)) ⟨a.val, by omega⟩)) := by
  unfold Host.topK
  dsimp only
  rw [slice_at h hn]
  show x (al b ⟨a.val, by omega⟩ (sortedFrom (fun k k' : Fin n => FloatOps.cmpfTotal (F := Ideal) (φ := .f32) .gt
        (x (al b ⟨a.val, by omega⟩ k)) (x (al b ⟨a.val, by omega⟩ k')) == 1#1) ⟨a.val, by omega⟩)) = _
  rw [perm_along, al_eq]

/-- Where they stand. -/
theorem topK_idx : (Host.topK ⟨2, ![m, n']⟩ 1 (FloatOps.cmpfTotal (F := Ideal) (φ := .f32) .gt) x h).2 (ix2 b a)
      = BitVec.ofNat 32 (perm (fun p => x (ix2 b p)) ⟨a.val, by omega⟩).val := by
  unfold Host.topK
  dsimp only
  rw [slice_at h hn]
  show BitVec.ofNat 32 (al b ⟨a.val, by omega⟩ (sortedFrom (fun k k' : Fin n => FloatOps.cmpfTotal (F := Ideal) (φ := .f32) .gt
        (x (al b ⟨a.val, by omega⟩ k)) (x (al b ⟨a.val, by omega⟩ k')) == 1#1) ⟨a.val, by omega⟩) 1).val = _
  rw [perm_along, al_eq]
  rfl

/-- The comparator of the score sort, on extended reals. -/
theorem comparator_one (l r : EReal × BitVec 32) :
    (comparator_f32_i32_d1 (F := Ideal) l r == 1#1) = decide (l.1 < r.1) := by
  have c : ∀ v : EReal, Scalar.select (FloatOps.cmpf (F := Ideal) (φ := .f32) .une v v) (FloatOps.ofBits (F := Ideal) .f32 0x7FC00000#32 : EReal)
      (Scalar.select (FloatOps.cmpf (F := Ideal) (φ := .f32) .oeq v (FloatOps.ofBits (F := Ideal) .f32 0x00000000#32 : EReal)) (FloatOps.ofBits (F := Ideal) .f32 0x00000000#32 : EReal) v) = v := by
    intro v
    have h0 : (FloatOps.ofBits (F := Ideal) .f32 0x00000000#32 : EReal) = 0 := Ideal.ofBits_zero_f32
    rw [h0, select_iff (p := False) (by
      show BitVec.ofBool (decide (v ≠ v)) = 1#1 ↔ False
      simp), if_neg not_false, select_iff (p := v = 0) (by
      show BitVec.ofBool (decide (v = 0)) = 1#1 ↔ v = 0
      rw [ofBool_one, decide_eq_true_iff])]
    split_ifs with h
    · exact h.symm
    · rfl
  refine SortPos.beq_decide _ _ ?_
  have e : comparator_f32_i32_d1 (F := Ideal) l r = FloatOps.cmpfTotal (F := Ideal) (φ := .f32) .lt l.1 r.1 := by
    unfold comparator_f32_i32_d1
    dsimp only
    rw [c, c]
  rw [e]
  show BitVec.ofBool (decide (l.1 < r.1)) = _
  by_cases h : l.1 < r.1 <;> simp [h]

/-- The positions the score sort puts in order: by the negated key, least first. -/
theorem sort2_idx (y : FVec Ideal S2x2000 .f32) (z : IVec S2x2000 32) (b : Fin 2) (a : Fin 2000)
    (hz : ∀ p : Fin 2000, z (ix2 b p) = BitVec.ofNat 32 p.val) (key : Fin 2000 → EReal) (hy : ∀ p, y (ix2 b p) = - key p) :
    (Host.sort2 S2x2000 1 (comparator_f32_i32_d1 (F := Ideal)) y z).2 (ix2 b a) = BitVec.ofNat 32 (perm key a).val := by
  show z (al b a (sortedFrom (fun k k' : Fin 2000 => comparator_f32_i32_d1 (F := Ideal)
    (y (al b a k), z (al b a k))
    (y (al b a k'), z (al b a k')) == 1#1) a)) = _
  have e : (fun k k' : Fin 2000 => comparator_f32_i32_d1 (F := Ideal)
    (y (al b a k), z (al b a k))
    (y (al b a k'), z (al b a k')) == 1#1)
      = fun k k' => decide (key k' < key k) := by
    funext k k'
    rw [comparator_one]
    rw [al_eq, al_eq, hy, hy]
    exact decide_eq_decide.mpr EReal.neg_lt_neg_iff
  rw [e]
  rw [al_eq, hz]
  rfl

end Sorts

end Cert.Sel
-- ==== Proof.Between.lean ====
/- What the suppression kernel is given: the chosen candidates' boxes, coordinate by coordinate, and their scores, both
   padded to 2048 places. -/
module

public import proofs.«01_k».proof.Proof.KerEq
public import proofs.«01_k».proof.Proof.Sel
public import Idealize.ShloMosaic.Lib.ReduceAll
public import Idealize.ShloMosaic.Lib.Tactic.CleanTypes

@[expose] public section

set_option maxRecDepth 16384

noncomputable section

namespace Cert.Between

open Idealize.ShloMosaic Idealize.ShloMosaic.TcCoe Idealize.ShloMosaic.StableHlo
open Cert.KernelIdeal Cert.KernelIdeal.Gen Cert.KernelIdeal.Host Cert.Sel Cert.Words

variable (V : Valuation KernelIdeal.τ KernelIdeal.sig (Elt Ideal))

/-- The anchor the `a`-th greatest score of image `b` stands at. -/
def anchor (b : Fin 2) (a : Fin 2000) : Fin 36864 := perm (fun p : Fin 36864 => p_v15 V (ix2 b p)) ⟨a.val, by omega⟩

theorem values_at (b : Fin 2) (a : Fin 2000) : p_values V (ix2 b a) = p_v15 V (ix2 b (anchor V b a)) := by
  rw [p_values_eq]
  exact topK_vals (m := 2) (n := 36864) (n' := 2000) (p_v15 V) sliceFits_S2x36864_S2x2000 (by omega) b a

theorem indices_at (b : Fin 2) (a : Fin 2000) : p_indices V (ix2 b a) = BitVec.ofNat 32 (anchor V b a).val := by
  rw [p_indices_eq]
  exact topK_idx (m := 2) (n := 36864) (n' := 2000) (p_v15 V) sliceFits_S2x36864_S2x2000 (by omega) b a

theorem v135_at (b : Fin 2) (a : Fin 2000) : p_v135 V (ix3 b a 0) = BitVec.ofNat 32 (anchor V b a).val := by
  rw [← indices_at, p_v135_eq]
  generalize p_indices V = X
  clean_types
  pointwise

theorem v4_at (b : Fin 2) (a : Fin 2000) : p_call4_v4 V (ix3 b a 0) = BitVec.ofNat 32 (anchor V b a).val := by
  rw [← v135_at]
  have e : p_call4_v4 V (ix3 b a 0) = Scalar.select (IntOp.cmpi .slt (p_v135 V (ix3 b a 0)) 0#32) (IntOp.addi (p_v135 V (ix3 b a 0)) 36864#32) (p_v135 V (ix3 b a 0)) := by
    rw [p_call4_v4_eq, p_call4_v1_eq, p_call4_v3_eq, p_call4_v0_eq, p_call4_v2_eq, p_call4_c_eq, p_call4_c_0_eq]
    generalize p_v135 V = X
    clean_types
    pointwise
  rw [e, v135_at, select_iff (p := False) (by
    rw [show (0#32 : BitVec 32) = BitVec.ofNat 32 0 from rfl, cmpi_slt_one _ _ (by omega) (by omega)]; simp), if_neg not_false]

theorem v10_at (b : Fin 2) (a : Fin 2000) : p_call4_v10 V (ix3 b a 0) = 1#1 := by
  have e : p_call4_v10 V (ix3 b a 0) = IntOp.andi (IntOp.cmpi .sge (p_call4_v4 V (ix3 b a 0)) 0#32) (IntOp.cmpi .sle (p_call4_v4 V (ix3 b a 0)) 36863#32) := by
    rw [p_call4_v10_eq, p_call4_v6_eq, p_call4_v9_eq, p_call4_v8_eq, p_call4_v7_eq, p_call4_v5_eq, p_call4_c_1_eq, p_call4_c_2_eq]
    generalize p_call4_v4 V = X
    clean_types
    pointwise
  rw [e, v4_at, andi_one]
  have := (anchor V b a).isLt
  exact ⟨(cmpi_sge_one _ 0 (by omega) (by omega)).mpr (by omega), (cmpi_sle_one _ 36863 (by omega) (by omega)).mpr (by omega)⟩

theorem v11_at (b : Fin 2) (a : Fin 2000) : p_call4_v11 V (ix2 b a) = 1#1 := by
  rw [p_call4_v11_eq]
  refine Host.reduce_andi_one _ _ _ _ _ ?_ ?_
  · rw [p_call4_c_3_eq]; rfl
  · intro i
    have hi : i = ix3 (i 0) (i 1) 0 := by
      rw [eq_ix3 i]
      congr 1
      exact Subsingleton.elim (α := Fin 1) _ _
    rw [hi]
    exact v10_at V (i 0) (i 1)

theorem v136_at (b : Fin 2) (a : Fin 2000) (k : Fin 4) : p_v136 V (ix3 b a k) = p_v134 V (ix3 b (anchor V b a) k) := by
  have e : p_v136 V (ix3 b a k) = Scalar.select (p_call4_v11 V (ix2 b a)) (p_call4_v12 V (ix3 b a k)) (p_call4_v14 V (ix3 b a k)) := by
    rw [p_v136_eq, p_call4_v13_eq]
    generalize p_call4_v11 V = X
    generalize p_call4_v12 V = Y
    generalize p_call4_v14 V = Z
    clean_types
    pointwise
  rw [e, select_iff (p := True) (by simp [v11_at]), if_pos trivial, p_call4_v12_eq]
  exact gather36 (p_v134 V) (p_call4_v4 V) b a k (anchor V b a) (v4_at V b a)

theorem v138_at (b : Fin 2) (k : Fin 4) (j : Fin 2048) :
    p_v138 V (ix3 b k j) = if h : j.val < 2000 then p_v136 V (ix3 b ⟨j.val, h⟩ k) else (0 : EReal) := by
  rw [p_v138_eq, p_v137_eq, p_call5_v0_eq, p_c_15_eq]
  generalize p_v136 V = X
  clean_types
  have h0 : (FloatOps.sitofp (F := Ideal) .f32 (0#32) : EReal) = 0 := by
    show (((0#32 : BitVec 32).toInt : ℝ) : EReal) = 0
    simp
  pointwise
  rw [h0]

theorem v140_at (b : Fin 2) (j : Fin 2048) :
    p_v140 V (ix3 b 0 j) = if h : j.val < 2000 then p_values V (ix2 b ⟨j.val, h⟩) else Ideal.ofBits .f32 0xF149F2CA#32 := by
  rw [p_v140_eq, p_v139_eq, p_call6_v0_eq, p_cst_16_eq]
  generalize p_values V = X
  clean_types
  pointwise

end Cert.Between
-- ==== Proof.RefIou.lean ====
/- The reference's overlaps at an index. -/
module

public import proofs.«01_k».proof.Proof.RefEq3
public import Idealize.ShloMosaic.Lib.Pointwise
public import Idealize.ShloMosaic.Lib.Tactic.CleanTypes

@[expose] public section

set_option maxRecDepth 16384

noncomputable section

namespace Cert.RefTail

open Idealize.ShloMosaic Idealize.ShloMosaic.TcCoe Idealize.ShloMosaic.StableHlo
open Cert.ReferenceIdeal Cert.ReferenceIdeal.Gen Cert.ReferenceIdeal.Value

variable (V : Valuation ReferenceIdeal.τ ReferenceIdeal.sig (Elt Ideal))

theorem v287_at (b : Fin 2) (i : Fin 2000) : r_v287 V (ix2 b i)
    = max (r_v258 V (ix3 b i 2) - r_v258 V (ix3 b i 0)) 0 * max (r_v258 V (ix3 b i 3) - r_v258 V (ix3 b i 1)) 0 := by
  rw [r_v287_eq, r_v286_eq, r_v285_eq, r_v284_eq, r_v283_eq, r_v282_eq, r_v281_eq, r_v280_eq, r_v279_eq, r_v278_eq, r_v277_eq, r_v276_eq, r_v275_eq,
    r_v274_eq, r_v273_eq, r_cst_40_eq, r_cst_41_eq]
  generalize r_v258 V = X
  clean_types
  pointwise

theorem v302_at (b : Fin 2) (i : Fin 2000) : r_v302 V (ix2 b i)
    = max (r_v258 V (ix3 b i 2) - r_v258 V (ix3 b i 0)) 0 * max (r_v258 V (ix3 b i 3) - r_v258 V (ix3 b i 1)) 0 := by
  rw [r_v302_eq, r_v301_eq, r_v300_eq, r_v299_eq, r_v298_eq, r_v297_eq, r_v296_eq, r_v295_eq, r_v294_eq, r_v293_eq, r_v292_eq, r_v291_eq, r_v290_eq,
    r_v289_eq, r_v288_eq, r_cst_42_eq, r_cst_43_eq]
  generalize r_v258 V = X
  clean_types
  pointwise

theorem v309_at (b : Fin 2) (i j : Fin 2000) (k : Fin 2) : r_v309 V (ix4 b i j k)
    = max (r_v303 V (ix3 b i k)) (r_v305 V (ix3 b j k)) := by
  rw [r_v309_eq, r_v308_eq, r_v307_eq, r_v306_eq, r_v304_eq]
  generalize r_v303 V = X
  generalize r_v305 V = Y
  clean_types
  pointwise

theorem v316_at (b : Fin 2) (i j : Fin 2000) (k : Fin 2) : r_v316 V (ix4 b i j k)
    = min (r_v310 V (ix3 b i k)) (r_v312 V (ix3 b j k)) := by
  rw [r_v316_eq, r_v315_eq, r_v314_eq, r_v313_eq, r_v311_eq]
  generalize r_v310 V = X
  generalize r_v312 V = Y
  clean_types
  pointwise

theorem v319_at (b : Fin 2) (i j : Fin 2000) (k : Fin 2) : r_v319 V (ix4 b i j k)
    = max (r_v316 V (ix4 b i j k) - r_v309 V (ix4 b i j k)) 0 := by
  rw [r_v319_eq, r_v318_eq, r_v317_eq, r_cst_44_eq]
  generalize r_v316 V = X
  generalize r_v309 V = Y
  clean_types
  pointwise

theorem v303_at (b : Fin 2) (i : Fin 2000) : r_v303 V (ix3 b i 0) = r_v258 V (ix3 b i 0) ∧ r_v303 V (ix3 b i 1) = r_v258 V (ix3 b i 1) := by
  rw [r_v303_eq]
  generalize r_v258 V = X
  clean_types
  constructor <;> pointwise

theorem v305_at (b : Fin 2) (i : Fin 2000) : r_v305 V (ix3 b i 0) = r_v258 V (ix3 b i 0) ∧ r_v305 V (ix3 b i 1) = r_v258 V (ix3 b i 1) := by
  rw [r_v305_eq]
  generalize r_v258 V = X
  clean_types
  constructor <;> pointwise

theorem v310_at (b : Fin 2) (i : Fin 2000) : r_v310 V (ix3 b i 0) = r_v258 V (ix3 b i 2) ∧ r_v310 V (ix3 b i 1) = r_v258 V (ix3 b i 3) := by
  rw [r_v310_eq]
  generalize r_v258 V = X
  clean_types
  constructor <;> pointwise

theorem v312_at (b : Fin 2) (i : Fin 2000) : r_v312 V (ix3 b i 0) = r_v258 V (ix3 b i 2) ∧ r_v312 V (ix3 b i 1) = r_v258 V (ix3 b i 3) := by
  rw [r_v312_eq]
  generalize r_v258 V = X
  clean_types
  constructor <;> pointwise

theorem v321_at (b : Fin 2) (i j : Fin 2000) : r_v321 V (ix3 b i j) = r_v319 V (ix4 b i j 0) := by
  rw [r_v321_eq, r_v320_eq]
  generalize r_v319 V = X
  clean_types
  pointwise

theorem v323_at (b : Fin 2) (i j : Fin 2000) : r_v323 V (ix3 b i j) = r_v319 V (ix4 b i j 1) := by
  rw [r_v323_eq, r_v322_eq]
  generalize r_v319 V = X
  clean_types
  pointwise

/-- A product at an index. -/
theorem mul_at (X Y : FVec Ideal S2x2000x2000 .f32) (j : S2x2000x2000.Idx) : mulf X Y j = (X j : EReal) * Y j := rfl

theorem v324_mul (b : Fin 2) (i j : Fin 2000) : r_v324 V (ix3 b i j) = r_v321 V (ix3 b i j) * r_v323 V (ix3 b i j) :=
  (congrFun (r_v324_eq V) (ix3 b i j)).trans (mul_at (r_v321 V) (r_v323 V) (ix3 b i j))

theorem v324_at (b : Fin 2) (i j : Fin 2000) : r_v324 V (ix3 b i j)
    = max (min (r_v258 V (ix3 b i 2)) (r_v258 V (ix3 b j 2)) - max (r_v258 V (ix3 b i 0)) (r_v258 V (ix3 b j 0))) 0
      * max (min (r_v258 V (ix3 b i 3)) (r_v258 V (ix3 b j 3)) - max (r_v258 V (ix3 b i 1)) (r_v258 V (ix3 b j 1))) 0 := by
  rw [v324_mul, v321_at, v323_at, v319_at, v319_at, v316_at, v316_at, v309_at, v309_at, (v303_at V b i).1, (v303_at V b i).2, (v305_at V b j).1,
    (v305_at V b j).2, (v310_at V b i).1, (v310_at V b i).2, (v312_at V b j).1, (v312_at V b j).2]

theorem v333_at (b : Fin 2) (i j : Fin 2000) : r_v333 V (ix3 b i j)
    = Ideal.div (r_v324 V (ix3 b i j)) (max (r_v287 V (ix2 b i) + r_v302 V (ix2 b j) - r_v324 V (ix3 b i j)) (Ideal.ofBits .f32 814313567#32)) := by
  rw [r_v333_eq, r_v332_eq, r_v331_eq, r_v330_eq, r_v329_eq, r_v328_eq, r_v327_eq, r_v326_eq, r_v325_eq, r_cst_45_eq]
  generalize r_v324 V = X
  generalize r_v287 V = Y
  generalize r_v302 V = Z
  clean_types
  pointwise

end Cert.RefTail
-- ==== Proof.RefTail.lean ====
/- The reference from the best candidates on, at an index: the clipped boxes, scores and masks, their order, and the
   overlaps. -/
module

public import proofs.«01_k».proof.Proof.RefEq3
public import proofs.«01_k».proof.Proof.Sel
public import Idealize.ShloMosaic.Lib.Tactic.CleanTypes

@[expose] public section

set_option maxRecDepth 16384

noncomputable section

namespace Cert.RefTail

open Idealize.ShloMosaic Idealize.ShloMosaic.TcCoe Idealize.ShloMosaic.StableHlo
open Cert.ReferenceIdeal Cert.ReferenceIdeal.Gen Cert.ReferenceIdeal.Value Cert.Sel Cert.Words
open scoped Classical

variable (V : Valuation ReferenceIdeal.τ ReferenceIdeal.sig (Elt Ideal))

/-- The anchor the `a`-th greatest score of image `b` stands at. -/
def anchor (b : Fin 2) (a : Fin 2000) : Fin 36864 := perm (fun p : Fin 36864 => r_v80 V (ix2 b p)) ⟨a.val, by omega⟩

theorem values_at (b : Fin 2) (a : Fin 2000) : r_values V (ix2 b a) = r_v80 V (ix2 b (anchor V b a)) := by
  rw [r_values_eq]
  exact topK_vals (m := 2) (n := 36864) (n' := 2000) (r_v80 V) sliceFits_S2x36864_S2x2000 (by omega) b a

theorem indices_at (b : Fin 2) (a : Fin 2000) : r_indices V (ix2 b a) = BitVec.ofNat 32 (anchor V b a).val := by
  rw [r_indices_eq]
  exact topK_idx (m := 2) (n := 36864) (n' := 2000) (r_v80 V) sliceFits_S2x36864_S2x2000 (by omega) b a

/-- An index that is not negative is not moved. -/
theorem wrap (n : ℕ) (hn : n < 2 ^ 31) (y : BitVec 32) :
    Scalar.select (IntOp.cmpi .slt (BitVec.ofNat 32 n) 0#32) y (BitVec.ofNat 32 n) = BitVec.ofNat 32 n := by
  rw [select_iff (p := False) (by
    rw [show (0#32 : BitVec 32) = BitVec.ofNat 32 0 from rfl, cmpi_slt_one _ _ hn (by omega)]; simp), if_neg not_false]

theorem v206_at (b : Fin 2) (a : Fin 2000) : r_v206 V (ix3 b a 0) = BitVec.ofNat 32 (anchor V b a).val := by
  have e : r_v206 V (ix3 b a 0) = Scalar.select (IntOp.cmpi .slt (r_indices V (ix2 b a)) 0#32) (IntOp.addi (r_indices V (ix2 b a)) 36864#32) (r_indices V (ix2 b a)) := by
    rw [r_v206_eq, r_v205_eq, r_v204_eq, r_v203_eq, r_v202_eq, r_v201_eq, r_c_18_eq, r_c_19_eq]
    generalize r_indices V = X
    clean_types
    pointwise
  rw [e, indices_at, wrap _ (by omega)]

theorem v207_at (b : Fin 2) (a : Fin 2000) (k : Fin 4) : r_v207 V (ix3 b a k) = r_v200 V (ix3 b (anchor V b a) k) := by
  rw [r_v207_eq]
  exact gather36 (r_v200 V) (r_v206 V) b a k (anchor V b a) (v206_at V b a)

theorem v224_at (b : Fin 2) (a : Fin 2000) (k : Fin 4) :
    r_v224 V (ix3 b a k) = min (Ideal.ofBits .f32 1140850688#32) (max 0 (r_v207 V (ix3 b a k))) := by
  rw [r_v224_eq, r_v223_eq, r_v222_eq, r_v221_eq, r_v220_eq, r_v219_eq, r_v216_eq, r_v213_eq, r_v210_eq, r_call8_v4_eq, r_call7_v4_eq,
    r_call6_v4_eq, r_call5_v4_eq, r_call8_v3_eq, r_call7_v3_eq, r_call6_v3_eq, r_call5_v3_eq, r_call8_v2_eq, r_call7_v2_eq, r_call6_v2_eq,
    r_call5_v2_eq, r_call8_v1_eq, r_call7_v1_eq, r_call6_v1_eq, r_call5_v1_eq, r_call8_v0_eq, r_call7_v0_eq, r_call6_v0_eq, r_call5_v0_eq,
    r_v218_eq, r_v217_eq, r_v215_eq, r_v214_eq, r_v212_eq, r_v211_eq, r_v209_eq, r_v208_eq, r_cst_20_eq, r_cst_21_eq, r_cst_22_eq, r_cst_23_eq,
    r_cst_24_eq, r_cst_25_eq, r_cst_26_eq, r_cst_27_eq]
  generalize r_v207 V = X
  clean_types
  fin_cases k <;> (dsimp only; pointwise)

theorem v230_at (b : Fin 2) (a : Fin 2000) : r_v230 V (ix2 b a) = Ideal.logistic (r_values V (ix2 b a)) := by
  rw [r_v230_eq, r_v229_eq, r_v228_eq, r_v227_eq, r_v226_eq, r_v225_eq, r_cst_28_eq, r_cst_29_eq]
  generalize r_values V = X
  clean_types
  pointwise
  rfl

theorem v248_at (b : Fin 2) (a : Fin 2000) : r_v248 V (ix2 b a)
    = IntOp.andi (IntOp.andi (BitVec.ofBool (decide (Ideal.ofBits .f32 0x3A83126F#32 ≤ r_v224 V (ix3 b a 2) - r_v224 V (ix3 b a 0))))
        (BitVec.ofBool (decide (Ideal.ofBits .f32 0x3A83126F#32 ≤ r_v224 V (ix3 b a 3) - r_v224 V (ix3 b a 1)))))
        (BitVec.ofBool (decide (0 ≤ r_v230 V (ix2 b a)))) := by
  rw [r_v248_eq, r_v247_eq, r_v246_eq, r_v245_eq, r_v244_eq, r_v243_eq, r_v242_eq, r_v241_eq, r_v240_eq, r_v239_eq, r_v238_eq, r_v237_eq, r_v236_eq,
    r_v235_eq, r_v234_eq, r_v233_eq, r_v232_eq, r_v231_eq, r_cst_30_eq, r_cst_31_eq, r_cst_32_eq]
  generalize r_v224 V = X
  generalize r_v230 V = Y
  clean_types
  pointwise

theorem v249_at (b : Fin 2) (a : Fin 2000) : r_v249 V (ix2 b a) = if r_v248 V (ix2 b a) = 1#1 then r_v230 V (ix2 b a) else (-1 : EReal) := by
  have e : r_v249 V (ix2 b a) = Scalar.select (r_v248 V (ix2 b a)) (r_v230 V (ix2 b a)) (Ideal.ofBits .f32 3212836864#32) := by
    rw [r_v249_eq, r_call9_v2_eq, r_call9_v1_eq, r_call9_v0_eq, r_cst_33_eq]
    generalize r_v248 V = X
    generalize r_v230 V = Y
    clean_types
    pointwise
  rw [e, ofBits_minus_one]
  exact select_iff (p := r_v248 V (ix2 b a) = 1#1) Iff.rfl _ _

/-- The order of the candidates by masked score. -/
def ord (b : Fin 2) : Fin 2000 → Fin 2000 := perm fun p => r_v249 V (ix2 b p)

theorem v251_at (b : Fin 2) (a : Fin 2000) : r_v251 V (ix2 b a) = BitVec.ofNat 32 (ord V b a).val := by
  rw [r_v251_eq]
  refine sort2_idx _ _ b a ?_ _ ?_
  · intro p
    rw [r_call10_v1_eq, r_call10_v0_eq]
    clean_types
    pointwise
  · intro p
    rw [r_v250_eq]
    rfl

theorem v257_at (b : Fin 2) (a : Fin 2000) : r_v257 V (ix3 b a 0) = BitVec.ofNat 32 (ord V b a).val := by
  have e : r_v257 V (ix3 b a 0) = Scalar.select (IntOp.cmpi .slt (r_v251 V (ix2 b a)) 0#32) (IntOp.addi (r_v251 V (ix2 b a)) 2000#32) (r_v251 V (ix2 b a)) := by
    rw [r_v257_eq, r_v256_eq, r_v255_eq, r_v254_eq, r_v253_eq, r_v252_eq, r_c_34_eq, r_c_35_eq]
    generalize r_v251 V = X
    clean_types
    pointwise
  rw [e, v251_at, wrap _ (by omega)]

theorem v264_at (b : Fin 2) (a : Fin 2000) : r_v264 V (ix3 b a 0) = BitVec.ofNat 32 (ord V b a).val := by
  have e : r_v264 V (ix3 b a 0) = Scalar.select (IntOp.cmpi .slt (r_v251 V (ix2 b a)) 0#32) (IntOp.addi (r_v251 V (ix2 b a)) 2000#32) (r_v251 V (ix2 b a)) := by
    rw [r_v264_eq, r_v263_eq, r_v262_eq, r_v261_eq, r_v260_eq, r_v259_eq, r_c_36_eq, r_c_37_eq]
    generalize r_v251 V = X
    clean_types
    pointwise
  rw [e, v251_at, wrap _ (by omega)]

theorem v271_at (b : Fin 2) (a : Fin 2000) : r_v271 V (ix3 b a 0) = BitVec.ofNat 32 (ord V b a).val := by
  have e : r_v271 V (ix3 b a 0) = Scalar.select (IntOp.cmpi .slt (r_v251 V (ix2 b a)) 0#32) (IntOp.addi (r_v251 V (ix2 b a)) 2000#32) (r_v251 V (ix2 b a)) := by
    rw [r_v271_eq, r_v270_eq, r_v269_eq, r_v268_eq, r_v267_eq, r_v266_eq, r_c_38_eq, r_c_39_eq]
    generalize r_v251 V = X
    clean_types
    pointwise
  rw [e, v251_at, wrap _ (by omega)]

theorem v258_at (b : Fin 2) (a : Fin 2000) (k : Fin 4) : r_v258 V (ix3 b a k) = r_v224 V (ix3 b (ord V b a) k) := by
  rw [r_v258_eq]
  exact gather20 (r_v224 V) (r_v257 V) b a k (ord V b a) (v257_at V b a)

theorem v265_at (b : Fin 2) (a : Fin 2000) : r_v265 V (ix2 b a) = r_v249 V (ix2 b (ord V b a)) := by
  rw [r_v265_eq]
  exact gather1 (r_v249 V) (r_v264 V) b a (ord V b a) (v264_at V b a)

theorem v272_at (b : Fin 2) (a : Fin 2000) : r_v272 V (ix2 b a) = r_v248 V (ix2 b (ord V b a)) := by
  rw [r_v272_eq]
  exact gather1 (r_v248 V) (r_v271 V) b a (ord V b a) (v271_at V b a)

end Cert.RefTail
-- ==== Proof.MatchData.lean ====
/- The candidates of the suppression kernel and of the reference are the same: corners, scores, validity, overlaps. -/
module

public import proofs.«01_k».proof.Proof.Arrays
public import proofs.«01_k».proof.Proof.Between
public import proofs.«01_k».proof.Proof.RefIou
public import proofs.«01_k».proof.Proof.RefTail

@[expose] public section

set_option maxRecDepth 16384

noncomputable section

namespace Cert.Match

open Idealize.ShloMosaic Idealize.ShloMosaic.TcCoe Idealize.ShloMosaic.StableHlo
open Cert.KernelIdeal Cert.KernelIdeal.Gen Cert.KernelIdeal.Nms Cert.KernelIdeal.Host Cert.ReferenceIdeal.Value Cert.Sel Cert.Words

variable (VP : Valuation KernelIdeal.τ KernelIdeal.sig (Elt Ideal)) (VR : Valuation ReferenceIdeal.τ ReferenceIdeal.sig (Elt Ideal))

/-- The block of box coordinates the kernel has for image `b`. -/
abbrev bx (b : Fin 2) : Vec Ideal S1x4x2048 .f32 := boxesOf (F := Ideal) (p_v138 VP) b
/-- The block of scores the kernel has for image `b`. -/
abbrev sc (b : Fin 2) : Vec Ideal S1x1x2048 .f32 := scoresOf (F := Ideal) (p_v140 VP) b
/-- The lane of a candidate. -/
abbrev up (a : Fin 2000) : Fin 2048 := Fin.castLE (by omega) a

section Same
variable {VP VR} (h15 : p_v15 VP = r_v80 VR) (h134 : p_v134 VP = r_v200 VR) (b : Fin 2) (a : Fin 2000)

include h15 in
theorem anchor_eq : Between.anchor VP b a = RefTail.anchor VR b a := by
  unfold Between.anchor RefTail.anchor
  rw [h15]

include h15 h134 in
theorem box_eq (k : Fin 4) : p_v138 VP (ix3 b k (up a)) = r_v207 VR (ix3 b a k) := by
  rw [Between.v138_at, dif_pos (show (up a).val < 2000 from a.isLt), RefTail.v207_at, ← anchor_eq h15, ← h134]
  exact Between.v136_at VP b a k

include h15 in
theorem score_eq : p_v140 VP (ix3 b 0 (up a)) = r_values VR (ix2 b a) := by
  rw [Between.v140_at, dif_pos (show (up a).val < 2000 from a.isLt), RefTail.values_at, ← anchor_eq h15, ← h15]
  exact Between.values_at VP b a

include h15 h134 in
theorem cx1_eq : cx1 (bx VP b) (ix1 (up a)) = r_v224 VR (ix3 b a 0) := by
  rw [RefTail.v224_at, ← box_eq h15 h134]; exact pay2_at1 _ _
include h15 h134 in
theorem cy1_eq : cy1 (bx VP b) (ix1 (up a)) = r_v224 VR (ix3 b a 1) := by
  rw [RefTail.v224_at, ← box_eq h15 h134]; exact pay3_at1 _ _
include h15 h134 in
theorem cx2_eq : cx2 (bx VP b) (ix1 (up a)) = r_v224 VR (ix3 b a 2) := by
  rw [RefTail.v224_at, ← box_eq h15 h134]; exact pay4_at1 _ _
include h15 h134 in
theorem cy2_eq : cy2 (bx VP b) (ix1 (up a)) = r_v224 VR (ix3 b a 3) := by
  rw [RefTail.v224_at, ← box_eq h15 h134]; exact pay5_at1 _ _

include h15 in
theorem prob_eq : k1_pay6 (sc VP b) (ix1 (up a)) = r_v230 VR (ix2 b a) := by
  rw [RefTail.v230_at, ← score_eq h15]; exact pay6_at1 _ _

theorem vld_at (x0 : Vec Ideal S1x4x2048 .f32) (x1 : Vec Ideal S1x1x2048 .f32) (j : Fin 2048) : vld x0 x1 (ix1 j)
    = IntOp.andi (IntOp.andi (BitVec.ofBool (decide (Ideal.ofBits .f32 0x3A83126F#32 ≤ cx2 x0 (ix1 j) - cx1 x0 (ix1 j))))
        (BitVec.ofBool (decide (Ideal.ofBits .f32 0x3A83126F#32 ≤ cy2 x0 (ix1 j) - cy1 x0 (ix1 j)))))
      (BitVec.ofBool (decide (0 ≤ k1_pay6 x1 (ix1 j)))) := by
  unfold vld
  rw [pay8_at1, pay7_at1]
  rfl

include h15 h134 in
theorem valid_iff : validP (bx VP b) (sc VP b) (up a) ↔ r_v248 VR (ix2 b a) = 1#1 := by
  unfold validP
  rw [vld_at, cx1_eq h15 h134, cy1_eq h15 h134, cx2_eq h15 h134, cy2_eq h15 h134, prob_eq h15, RefTail.v248_at]

include h15 h134 in
theorem over_iff (i j : Fin 2000) : ovP (bx VP b) (up (RefTail.ord VR b i)) (up (RefTail.ord VR b j))
    ↔ Ideal.ofBits .f32 1060320051#32 < r_v333 VR (ix3 b i j) := by
  unfold ovP ovl
  rw [pay9_at1]
  simp only [cx1_eq h15 h134, cy1_eq h15 h134, cx2_eq h15 h134, cy2_eq h15 h134]
  rw [RefTail.v333_at, RefTail.v287_at, RefTail.v302_at, RefTail.v324_at]
  simp only [RefTail.v258_at]

end Same

/-- The least side length is positive. -/
theorem least_pos : (0 : EReal) < Ideal.ofBits .f32 0x3A83126F#32 := by
  have : ∃ r : ℝ, 0 < r ∧ Ideal.ofBits .f32 0x3A83126F#32 = (r : EReal) := by
    refine ⟨_, ?_, by simp [Ideal.ofBits, Ideal.ieee, -EReal.coe_mul, -EReal.coe_neg]; rfl⟩
    norm_num
  obtain ⟨r, hr, e⟩ := this
  rw [e, ← EReal.coe_zero, EReal.coe_lt_coe_iff]; exact hr

theorem side_nonneg : (0 : EReal) ≤ Ideal.ofBits .f32 1140850688#32 := by
  have : ∃ r : ℝ, 0 ≤ r ∧ Ideal.ofBits .f32 1140850688#32 = (r : EReal) := by
    refine ⟨_, ?_, by simp [Ideal.ofBits, Ideal.ieee, -EReal.coe_mul, -EReal.coe_neg]; rfl⟩
    norm_num
  obtain ⟨r, hr, e⟩ := this
  rw [e, ← EReal.coe_zero, EReal.coe_le_coe_iff]; exact hr

/-- A padding lane is not valid: its box is empty. -/
theorem pad_invalid (b : Fin 2) (j : Fin 2048) (h : 2000 ≤ j.val) : ¬ validP (bx VP b) (sc VP b) j := by
  unfold validP
  have e1 : cx1 (bx VP b) (ix1 j) = 0 := by
    refine (pay2_at1 _ _).trans ?_
    rw [show rowOf (bx VP b) 0 (ix3 0 0 j) = p_v138 VP (ix3 b 0 j) from rfl, Between.v138_at, dif_neg (by omega), max_self, min_eq_right side_nonneg]
  have e2 : cx2 (bx VP b) (ix1 j) = 0 := by
    refine (pay4_at1 _ _).trans ?_
    rw [show rowOf (bx VP b) 2 (ix3 0 0 j) = p_v138 VP (ix3 b 2 j) from rfl, Between.v138_at, dif_neg (by omega), max_self, min_eq_right side_nonneg]
  rw [vld_at, e1, e2, andi_one, andi_one, ofBool_one, decide_eq_true_iff, sub_zero]
  exact fun h => absurd h.1.1 (not_le.mpr least_pos)

theorem logistic_nonneg (x : EReal) : 0 ≤ Ideal.logistic x := by
  induction x with
  | bot => simp
  | top => simp
  | coe r =>
    rw [Ideal.logistic_coe, ← EReal.coe_zero, EReal.coe_le_coe_iff]
    positivity

theorem logistic_mono {x y : EReal} (h : x ≤ y) : Ideal.logistic x ≤ Ideal.logistic y := by
  induction x with
  | bot => rw [Ideal.logistic_bot]; exact logistic_nonneg y
  | top => rw [top_le_iff.mp h]
  | coe r =>
    induction y with
    | bot => exact absurd h (not_le.mpr (EReal.bot_lt_coe r))
    | top =>
      rw [Ideal.logistic_coe, Ideal.logistic_top, ← EReal.coe_one, EReal.coe_le_coe_iff]
      have := Real.exp_pos (-r)
      exact inv_le_one_of_one_le₀ (by linarith)
    | coe s =>
      have hrs : r ≤ s := EReal.coe_le_coe_iff.mp h
      rw [Ideal.logistic_coe, Ideal.logistic_coe, EReal.coe_le_coe_iff]
      have h1 := Real.exp_pos (-s)
      have h2 : Real.exp (-s) ≤ Real.exp (-r) := Real.exp_le_exp.mpr (by linarith)
      exact inv_anti₀ (by linarith) (by linarith)

/-- The scores go down. -/
theorem prob_sorted (b : Fin 2) (i j : Fin 2000) (h : i ≤ j) : r_v230 VR (ix2 b j) ≤ r_v230 VR (ix2 b i) := by
  rw [RefTail.v230_at, RefTail.v230_at]
  refine logistic_mono ?_
  rw [RefTail.values_at, RefTail.values_at]
  rcases h.eq_or_lt with rfl | h
  · exact le_rfl
  · rcases perm_sorted (fun p : Fin 36864 => r_v80 VR (ix2 b p)) (a := ⟨i.val, by omega⟩) (b := ⟨j.val, by omega⟩) h with h | h
    · exact h.le
    · exact h.1.le

theorem prob_nonneg (b : Fin 2) (i : Fin 2000) : 0 ≤ r_v230 VR (ix2 b i) := by
  rw [RefTail.v230_at]; exact logistic_nonneg _

end Cert.Match
-- ==== Proof.RefLoop.lean ====
/- The reference's loop: one trip at an index, and who is kept after all trips. -/
module

public import proofs.«01_k».proof.Proof.RefTail
public import proofs.«01_k».proof.Proof.NmsCore
public import Idealize.ShloMosaic.Lib.Tactic.CleanTypes

@[expose] public section

set_option maxRecDepth 16384

noncomputable section

namespace Cert.RefTail

open Idealize.ShloMosaic Idealize.ShloMosaic.TcCoe Idealize.ShloMosaic.StableHlo
open Cert.ReferenceIdeal Cert.ReferenceIdeal.Gen Cert.ReferenceIdeal.Value Cert.Sel Cert.Words

section Slices
variable {α : Type} (k : Fin 2000)

theorem dyn3 (x : S2x2000x2000.Idx → α) (st : Fin 3 → ℤ) (h : S2x2000x2000.Slices (fun _ => 0) S2x1x2000) (h0 : st 0 = 0)
    (h1 : st 1 = (k.val : ℤ)) (h2 : st 2 = 0) (b : Fin 2) (a : Fin 2000) :
    Host.dynamicSlice S2x1x2000 x st h (ix3 b 0 a) = x (ix3 b k a) := by
  unfold Host.dynamicSlice extractStridedSlice
  congr 1
  funext i
  refine Fin.ext ?_
  match i with
  | 0 =>
    show (min (max (st 0) 0) ((2 - 2 : ℕ) : ℤ)).toNat + b.val = b.val
    rw [h0]; omega
  | 1 =>
    show (min (max (st 1) 0) ((2000 - 1 : ℕ) : ℤ)).toNat + 0 = k.val
    rw [h1]; omega
  | 2 =>
    show (min (max (st 2) 0) ((2000 - 2000 : ℕ) : ℤ)).toNat + a.val = a.val
    rw [h2]; omega

theorem dyn2 (x : S2x2000.Idx → α) (st : Fin 2 → ℤ) (h : S2x2000.Slices (fun _ => 0) S2x1) (h0 : st 0 = 0)
    (h1 : st 1 = (k.val : ℤ)) (b : Fin 2) : Host.dynamicSlice S2x1 x st h (ix2 b 0) = x (ix2 b k) := by
  unfold Host.dynamicSlice extractStridedSlice
  congr 1
  funext i
  refine Fin.ext ?_
  match i with
  | 0 =>
    show (min (max (st 0) 0) ((2 - 2 : ℕ) : ℤ)).toNat + b.val = b.val
    rw [h0]; omega
  | 1 =>
    show (min (max (st 1) 0) ((2000 - 1 : ℕ) : ℤ)).toNat + 0 = k.val
    rw [h1]; omega

theorem dyn1 (x : S2000.Idx → α) (st : Fin 1 → ℤ) (h : S2000.Slices (fun _ => 0) S1) (h0 : st 0 = (k.val : ℤ)) (j : S1.Idx) :
    Host.dynamicSlice S1 x st h j = x (ix1 k) := by
  unfold Host.dynamicSlice extractStridedSlice
  congr 1
  funext i
  refine Fin.ext ?_
  match i with
  | 0 =>
    show (min (max (st 0) 0) ((2000 - 1 : ℕ) : ℤ)).toNat + (j 0).val = k.val
    have : (j 0).val < 1 := (j 0).isLt
    rw [h0]; omega

end Slices

theorem noti_one (x : BitVec 1) : ~~~x = 1#1 ↔ ¬ x = 1#1 := by
  revert x; decide

/-- The trip's new mask out of its parts. -/
theorem mask_at (K : IVec S2x2000 1) (X3 : FVec Ideal S2x1x2000 .f32) (A : IVec S2000 32) (J : IVec S_ 32) (X2 : IVec S2x1 1)
    (b : Fin 2) (a : Fin 2000) (k : Fin 2000) (hJ : ∀ i, J i = BitVec.ofNat 32 k.val) (hA : A (ix1 a) = BitVec.ofNat 32 a.val) :
    andi K (noti (andi (andi (cmpf .ogt (shapeCast S2x2000 X3 shapeCasts_S2x1x2000_S2x2000) (broadcastInDim S2x2000 ![] bcast_S_S2x2000 (constant S_ .f32 0x3F333333#32)))
      (broadcastInDim S2x2000 ![0, 1] bcast_S1x2000_S2x2000_0_1 (broadcastInDim S1x2000 ![1] bcast_S2000_S1x2000_1 (cmpi .sgt A (broadcastInDim S2000 ![] bcast_S_S2000 J)))))
      (broadcastInDim S2x2000 ![0, 1] bcast_S2x1_S2x2000_0_1 X2))) (ix2 b a) = 1#1
    ↔ K (ix2 b a) = 1#1 ∧ ¬ ((Ideal.ofBits .f32 1060320051#32 < X3 (ix3 b 0 a) ∧ k < a) ∧ X2 (ix2 b 0) = 1#1) := by
  have e : andi K (noti (andi (andi (cmpf .ogt (shapeCast S2x2000 X3 shapeCasts_S2x1x2000_S2x2000) (broadcastInDim S2x2000 ![] bcast_S_S2x2000 (constant S_ .f32 0x3F333333#32)))
      (broadcastInDim S2x2000 ![0, 1] bcast_S1x2000_S2x2000_0_1 (broadcastInDim S1x2000 ![1] bcast_S2000_S1x2000_1 (cmpi .sgt A (broadcastInDim S2000 ![] bcast_S_S2000 J)))))
      (broadcastInDim S2x2000 ![0, 1] bcast_S2x1_S2x2000_0_1 X2))) (ix2 b a)
      = IntOp.andi (K (ix2 b a)) (~~~(IntOp.andi (IntOp.andi (BitVec.ofBool (decide (Ideal.ofBits .f32 1060320051#32 < X3 (ix3 b 0 a))))
        (IntOp.cmpi .sgt (A (ix1 a)) (BitVec.ofNat 32 k.val))) (X2 (ix2 b 0)))) := by
    rw [show J = fun _ => BitVec.ofNat 32 k.val from funext hJ]
    clean_types
    pointwise
  rw [e, andi_one, noti_one, andi_one, andi_one, ofBool_one, decide_eq_true_iff, hA, cmpi_sgt_one _ _ (by omega) (by omega)]
  rfl

variable (V0 : Valuation ReferenceIdeal.τ ReferenceIdeal.sig (Elt Ideal)) (k : Fin 2000)
  (hctr : V0 (Proc.devRef .tc main_v336_3) = (fun _ => BitVec.ofNat 32 k.val : IVec S_ 32))
  (hio : ∀ a : Fin 2000, (V0 (Proc.devRef .tc main_v336_0) : IVec S2000 32) (ix1 a) = BitVec.ofNat 32 a.val)
  (har : ∀ a : Fin 2000, (V0 (Proc.devRef .tc main_v336_2) : IVec S2000 32) (ix1 a) = BitVec.ofNat 32 a.val)

include hctr hio in
theorem trip_idx (i : S_.Idx) : (res_main_while0b_v345 V0 : IVec S_ 32) i = BitVec.ofNat 32 k.val := by
  unfold res_main_while0b_v345
  show Host.dynamicSlice S1 (V0 (Proc.devRef .tc main_v336_0) : IVec S2000 32) _ sliceFits_S2000_S1 _ = _
  rw [dyn1 k _ _ _ (by
    show ((V0 (Proc.devRef .tc main_v336_3) : IVec S_ 32) (Shape.Idx.first h_S_)).toInt = _
    rw [hctr, toInt_ofNat _ (by omega)])]
  exact hio k

include hctr hio har in
/-- One trip: a candidate stays in unless the current one, still in and before it, overlaps it above the limit. -/
theorem trip_at (b : Fin 2) (a : Fin 2000) : (step_main_v336_4 V0 : IVec S2x2000 1) (ix2 b a) = 1#1
    ↔ (V0 (Proc.devRef .tc main_v336_4) : IVec S2x2000 1) (ix2 b a) = 1#1
      ∧ ¬ ((Ideal.ofBits .f32 1060320051#32 < (V0 (Proc.devRef .tc main_v336_1) : FVec Ideal S2x2000x2000 .f32) (ix3 b k a) ∧ k < a)
        ∧ (V0 (Proc.devRef .tc main_v336_4) : IVec S2x2000 1) (ix2 b k) = 1#1) := by
  have hJ := trip_idx V0 k hctr hio
  have hw : ∀ i : S_.Idx, select (cmpi .slt (res_main_while0b_v345 V0 : IVec S_ 32) (constantI S_ 32 0#32)) (addi (res_main_while0b_v345 V0 : IVec S_ 32) (constantI S_ 32 2000#32)) (res_main_while0b_v345 V0) i
      = BitVec.ofNat 32 k.val := fun i => by
    show Scalar.select (IntOp.cmpi .slt ((res_main_while0b_v345 V0 : IVec S_ 32) i) 0#32) _ ((res_main_while0b_v345 V0 : IVec S_ 32) i) = _
    rw [hJ, wrap _ (by omega)]
  unfold step_main_v336_4
  refine (mask_at _ _ _ _ _ b a k hJ (har a)).trans ?_
  rw [dyn3 k _ _ _ rfl (by
      show (select (cmpi .slt (res_main_while0b_v345 V0 : IVec S_ 32) (constantI S_ 32 0#32)) (addi (res_main_while0b_v345 V0 : IVec S_ 32) (constantI S_ 32 2000#32)) (res_main_while0b_v345 V0) (Shape.Idx.first h_S_)).toInt = _
      rw [hw, toInt_ofNat _ (by omega)]) rfl,
    dyn2 k _ _ _ rfl (by
      show (select (cmpi .slt (res_main_while0b_v345 V0 : IVec S_ 32) (constantI S_ 32 0#32)) (addi (res_main_while0b_v345 V0 : IVec S_ 32) (constantI S_ 32 2000#32)) (res_main_while0b_v345 V0) (Shape.Idx.first h_S_)).toInt = _
      rw [hw, toInt_ofNat _ (by omega)])]

end Cert.RefTail
-- ==== Proof.ReferenceRun.lean ====
/- The run of the reference program: stretches of host operations, one counted host loop, more stretches. The generated
   module gives the operation lists, the trip's values and the condition's specification; this module runs the segments
   once more with the semaphore counters in the postcondition, and reads off the frame. -/
module

public import proofs.«01_k».proof.Proof.Gen.ReferenceIdeal.Run

@[expose] public section

set_option maxRecDepth 16384

noncomputable section

namespace Cert.ReferenceIdeal.Value

open Idealize.ShloMosaic Idealize.ShloMosaic.TcCoe Idealize.ShloMosaic.StableHlo Idealize.ShloMosaic.Pipeline
open Idealize.SL Idealize.SL.RA Idealize.SL.BI Idealize.SL.Sem
open scoped Idealize.SL.BI
open Idealize.SL.BI.BIBase Idealize.SL.BI.Laws Idealize.SL.ProofMode Idealize.SL.Sem
open Cert.ReferenceIdeal.Gen

variable {F : FTy → Type} [FloatOps F]

local notation "𝕄" => MT nD τ sig Unit (Elt F) ℕ (Option PUnit) ℕ

/-- Nothing is admitted: the program has no kernel region. -/
abbrev rAdm : (p : Fin 0) → (pcfgs (F := F) p).Adm := fun p => p.elim0
/-- No ticket is used. -/
abbrev rTk : Fin 0 → Ticket (Ix := Unit) (Name := ℕ) (U := Option PUnit) (Lvl := ℕ) (nD := nD) (τ := τ) (pcfgs (F := F)) rAdm := fun j => j.elim0
abbrev runL : GSem nD τ sig → Finset Unit := fun _ => ∅
abbrev runLv : GSem nD τ sig → Unit → ℕ := fun _ _ => 0
/-- What is carried beside the buffers. -/
abbrev rRest (c : Dev nD) : sProp 𝕄 := iprop(∃ W, owes (c : Thread nD τ) (0 : CellTallies nD τ sig Unit) W)

theorem rCell_inj : Function.Injective (Pipeline.cellOf (nD := nD) (τ := τ) (Pipeline.pin (pcfgs (F := F)) rAdm)) :=
  fun k => k.1.elim0

variable (m : (ℓ : Loc nD τ sig) → Buf (Elt F) ℓ) (ρ : Dev nD → PrngReg)

/-- The loop's condition, with the rest framed through. -/
theorem rLoopCond : LoopCond (pcfgs (F := F)) defs₀ Variants.none loops rRest (main_while0_cond (F := F)) condOps bodyI (entryContents preI m) 2000 := fun k hk c bd => by
  have hc := cond_spec m k hk c bd
  have hpost : ∀ v : Elt F .i1,
      iprop(iprop(⌜v = 1#1 ↔ k < 2000⌝ ∗ boundary (c : Thread nD τ) ∗ held (c : Thread nD τ) (ucRefs τ sig) (after condOps (atK m k c))) ∗ rRest (F := F) c)
        ⊢ iprop(⌜v = 1#1 ↔ k < 2000⌝ ∗ boundary (c : Thread nD τ) ∗ held (c : Thread nD τ) (ucRefs τ sig) (after condOps (atK m k c)) ∗ rRest (F := F) c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- The program's segments. -/
def rSegs : List (CSeg (pcfgs (F := F)) rAdm defs₀ Variants.none runL runLv loops rTk) :=
  segsOf _ _ _ _ _ _ _ _ rRest preI hpre (launchContents m)
    ++ loopSeg _ _ _ _ _ _ _ _ 0 main_while0_cond main_while0_body rfl condOps bodyI hbodyI (by rw [while0_body_chain]; rfl) 2000 (entryContents preI m) rRest (rLoopCond m)
      :: segsOf _ _ _ _ _ _ _ _ rRest postI hpost (fun c => after condOps (atK m 2000 c))

theorem rSegs_prog : (rSegs m).map CSeg.prog
      = ((preI (F := F)).map fun ops => (seq ops : Prog _ PUnit)) ++ HostLoop.enter 0 :: (postI (F := F)).map fun ops => (seq ops : Prog _ PUnit) := by
  unfold rSegs
  rw [List.map_append, List.map_cons, segsOf_prog, segsOf_prog]
  rfl

/-- Every buffer's contents at the end. -/
abbrev finalV (c : Dev nD) : Valuation τ sig (Elt F) := finalContents condOps preI bodyI postI 2000 m c

theorem rSegs_chains :
    CSeg.Chains (fun c => iprop(held (c : Thread nD τ) (ucRefs τ sig) (launchContents m c) ∗ rRest c)) (rSegs m)
      (fun c => iprop(iprop(held (c : Thread nD τ) (ucRefs τ sig) (finalV m c)) ∗ ∃ W, owes (c : Thread nD τ) (0 : CellTallies nD τ sig Unit) W)) := by
  unfold rSegs
  exact CSeg.Chains.append (segsOf_chains _ _ _ _ _ _ _ _ rRest preI hpre _) ⟨fun _ => .rfl, segsOf_chains _ _ _ _ _ _ _ _ rRest postI hpost _⟩

/-- The program is its stretches with the loop between them. -/
theorem rMain_chain (c : Dev nD) : main (F := F) c = Pipeline.chain (((preI (F := F)).map fun ops => (seq ops : Prog _ PUnit)) ++ HostLoop.enter 0 :: (postI (F := F)).map fun ops => (seq ops : Prog _ PUnit)) := by
  rw [main_chain]; rfl

/-- The TensorCore has no unscoped semaphore. -/
theorem rNo_unscoped : ∀ sm : SemLoc sig, sm.isScoped .tc = true := by decide

/-- Every weakly fair execution of the reference terminates with each buffer at the fold and every counter at zero. -/
theorem run_sems : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalV m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) rAdm rCell_inj defs₀ Variants.none runL runLv loops rTk m ρ main (rSegs m)
    (fun c Q => by
      rewrite [show main (F := F) c = Pipeline.chain ((rSegs m).map CSeg.prog) from (rMain_chain c).trans (congrArg Pipeline.chain (rSegs_prog m).symm)]
      exact BIBase.Entails.rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ rRest c))
    (Tₙ := fun c => iprop(held (c : Thread nD τ) (ucRefs τ sig) (finalV m c)))
    (hch := rSegs_chains m)
    (hinit := by
      refine Pipeline.initEach runL runLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalV m c b)
    (hfin := fun c s' => by
      unfold held
      iintro ⟨Hh, HSI⟩
      ihave Hr := (pointsTo_read_all (ucRefs τ sig) (fun b => ((c : Dev nD), b)) (fun b => finalV m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (rNo_unscoped g.2))⟩)

end Cert.ReferenceIdeal.Value

end
-- ==== Proof.RefScan.lean ====
/- The reference's loop from its entry to its exit: the mask it leaves, and the buffers it does not touch. -/
module

public import proofs.«01_k».proof.Proof.RefLoop
public import proofs.«01_k».proof.Proof.ReferenceRun
public import proofs.«01_k».proof.Proof.RefEqPost

@[expose] public section

set_option maxRecDepth 16384

noncomputable section

namespace Cert.RefTail

open Idealize.ShloMosaic Idealize.ShloMosaic.TcCoe Idealize.ShloMosaic.StableHlo
open Cert.ReferenceIdeal Cert.ReferenceIdeal.Gen Cert.ReferenceIdeal.Value Cert.Sel Cert.Words

variable (m : (ℓ : Loc nD τ sig) → Buf (Elt Ideal) ℓ) (c : Dev nD)

attribute [local irreducible] after

/-- The contents at the launch, and at the loop's entry. -/
abbrev startV : Valuation τ sig (Elt Ideal) := launchContents m c
theorem entry_eq : entryContents preI m c = after rL (startV m c) := afterL_eq_after_flatten _ _

/-- The contents when the loop has ended. -/
abbrev exitV : Valuation τ sig (Elt Ideal) := after condOps (atK m 2000 c)
theorem finalV_eq : finalV m c = after qL (exitV m c) := afterL_eq_after_flatten _ _

section Keeps
variable {b : Ref sig .tc} (h : b ∉ condOps_W ++ (while0Ops0_W ++ (while0Ops0_1_W ++ (while0Ops0_2_W ++ while0Ops0_3_W))))
include h

theorem trip_keeps (X : Valuation τ sig (Elt Ideal)) :
    afterL bodyI (after condOps X) (Proc.devRef .tc b) = X (Proc.devRef .tc b) := by
  simp only [List.mem_append, not_or] at h
  obtain ⟨h0, h1, h2, h3, h4⟩ := h
  show after while0Ops0_3 (after while0Ops0_2 (after while0Ops0_1 (after while0Ops0 (after condOps X)))) (Proc.devRef .tc b) = _
  rw [after_of_writes_sub _ _ while0Ops0_3_writes h4, after_of_writes_sub _ _ while0Ops0_2_writes h3,
    after_of_writes_sub _ _ while0Ops0_1_writes h2, after_of_writes_sub _ _ while0Ops0_writes h1, after_of_writes_sub _ _ condOps_writes h0]

theorem atK_keeps (k : ℕ) : atK m k c (Proc.devRef .tc b) = entryContents preI m c (Proc.devRef .tc b) := by
  induction k with
  | zero => rfl
  | succ k ih => exact (trip_keeps h _).trans ih

/-- A buffer the loop does not write holds at the exit what it held at the entry. -/
theorem exit_keeps : exitV m c (Proc.devRef .tc b) = after rL (startV m c) (Proc.devRef .tc b) := by
  have h0 : b ∉ condOps_W := fun hb => h (List.mem_append_left _ hb)
  refine (after_of_writes_sub _ _ condOps_writes h0).trans ?_
  rw [atK_keeps m c h, entry_eq]

end Keeps

/-- The carried buffers after `k` trips. -/
abbrev carr (k : ℕ) : Valuation τ sig (Elt Ideal) := STEP^[k] (entryContents preI m c)
theorem carr_succ (k : ℕ) : carr m c (k + 1) = STEP (carr m c k) := Function.iterate_succ_apply' _ _ _

theorem carr_0 (k : ℕ) : carr m c k (Proc.devRef .tc main_v336_0) = r_v336_0 (startV m c) := by
  induction k with
  | zero => exact congrFun (entry_eq m c) _
  | succ k ih => rw [carr_succ, STEP_main_v336_0, ih]
theorem carr_1 (k : ℕ) : carr m c k (Proc.devRef .tc main_v336_1) = r_v336_1 (startV m c) := by
  induction k with
  | zero => exact congrFun (entry_eq m c) _
  | succ k ih => rw [carr_succ, STEP_main_v336_1, ih]
theorem carr_2 (k : ℕ) : carr m c k (Proc.devRef .tc main_v336_2) = r_v336_2 (startV m c) := by
  induction k with
  | zero => exact congrFun (entry_eq m c) _
  | succ k ih => rw [carr_succ, STEP_main_v336_2, ih]
theorem carr_3 (k : ℕ) (hk : k ≤ 2000) : carr m c k (Proc.devRef .tc main_v336_3) = (fun _ => BitVec.ofNat 32 k : IVec S_ 32) := by
  refine ((atK_agree m c k) main_v336_3 (by decide)).symm.trans ((atK_ctr m c k).trans ?_)
  rw [iv_eq k (by omega)]
  rfl

theorem iota_at (a : Fin 2000) : (iotaInDim S2000 32 0 : IVec S2000 32) (ix1 a) = BitVec.ofNat 32 a.val := rfl

/-- After `k` trips the mask holds exactly the candidates that the first `k` have left in. -/
theorem carr_mask (k : ℕ) (hk : k ≤ 2000) (b : Fin 2) (a : Fin 2000) :
    (carr m c k (Proc.devRef .tc main_v336_4) : IVec S2x2000 1) (ix2 b a) = 1#1
      ↔ Nms.run (fun i j : Fin 2000 => Ideal.ofBits .f32 1060320051#32 < r_v333 (startV m c) (ix3 b i j))
          (fun a => r_v272 (startV m c) (ix2 b a) = 1#1) k a := by
  induction k generalizing a with
  | zero =>
    have e : carr m c 0 (Proc.devRef .tc main_v336_4) = r_v272 (startV m c) :=
      (congrFun (entry_eq m c) _).trans (r_v336_4_eq (startV m c))
    rw [e]; exact Iff.rfl
  | succ k ih =>
    have hio : ∀ a : Fin 2000, (carr m c k (Proc.devRef .tc main_v336_0) : IVec S2000 32) (ix1 a) = BitVec.ofNat 32 a.val := fun a => by
      rw [carr_0, r_v336_0_eq, r_v335_eq]; exact iota_at a
    have har : ∀ a : Fin 2000, (carr m c k (Proc.devRef .tc main_v336_2) : IVec S2000 32) (ix1 a) = BitVec.ofNat 32 a.val := fun a => by
      rw [carr_2, r_v336_2_eq, r_v334_eq]; exact iota_at a
    rw [carr_succ, STEP_main_v336_4]
    refine (trip_at (carr m c k) ⟨k, by omega⟩ (carr_3 m c k (by omega)) hio har b a).trans ?_
    rw [ih (by omega), ih (by omega), carr_1, r_v336_1_eq]
    refine and_congr_right fun _ => not_congr ⟨fun h => ⟨⟨k, by omega⟩, rfl, h.1.1, h.1.2, h.2⟩, ?_⟩
    rintro ⟨i, hi, h1, h2, h3⟩
    have e : i = ⟨k, by omega⟩ := Fin.ext hi
    rw [e] at h1 h2 h3
    exact ⟨⟨h1, h2⟩, h3⟩

/-- The mask at the exit. -/
theorem exit_mask (b : Fin 2) (a : Fin 2000) :
    (exitV m c (Proc.devRef .tc main_v336_4) : IVec S2x2000 1) (ix2 b a) = 1#1
      ↔ Nms.run (fun i j : Fin 2000 => Ideal.ofBits .f32 1060320051#32 < r_v333 (startV m c) (ix3 b i j))
          (fun a => r_v272 (startV m c) (ix2 b a) = 1#1) 2000 a := by
  have e : exitV m c (Proc.devRef .tc main_v336_4) = carr m c 2000 (Proc.devRef .tc main_v336_4) :=
    (cond_keeps (atK m 2000 c) main_v336_4 (by decide)).trans (atK_agree m c 2000 main_v336_4 (by decide))
  rw [e]
  exact carr_mask m c 2000 le_rfl b a

end Cert.RefTail
-- ==== Proof.RefPost.lean ====
/- The reference after its loop: the last sort and the results, at an index. -/
module

public import proofs.«01_k».proof.Proof.RefTail

@[expose] public section

set_option maxRecDepth 16384

noncomputable section

namespace Cert.RefPost

open Idealize.ShloMosaic Idealize.ShloMosaic.TcCoe Idealize.ShloMosaic.StableHlo
open Cert.ReferenceIdeal Cert.ReferenceIdeal.Gen Cert.ReferenceIdeal.Value Cert.Sel Cert.Words

variable (V : Valuation ReferenceIdeal.τ ReferenceIdeal.sig (Elt Ideal))

/-- The final score of a candidate: its score if it is still in, and -1 otherwise. -/
theorem v337_at (b : Fin 2) (a : Fin 2000) :
    q_v337 V (ix2 b a) = if q_v336_4 V (ix2 b a) = 1#1 then q_v265 V (ix2 b a) else (-1 : EReal) := by
  have e : q_v337 V (ix2 b a) = Scalar.select (q_v336_4 V (ix2 b a)) (q_v265 V (ix2 b a)) (Ideal.ofBits .f32 3212836864#32) := by
    rw [q_v337_eq, q_call14_v2_eq, q_call14_v1_eq, q_call14_v0_eq, q_cst_47_eq]
    generalize q_v336_4 V = X
    generalize q_v265 V = Y
    clean_types
    pointwise
  rw [e, select_iff (p := q_v336_4 V (ix2 b a) = 1#1) Iff.rfl, ofBits_minus_one]

/-- The place of result row `r` in the sorted candidates. -/
def last (b : Fin 2) : Fin 2000 → Fin 2000 := perm fun p => q_v337 V (ix2 b p)

theorem values_at (b : Fin 2) (r : Fin 1000) : q_values_48 V (ix2 b r) = q_v337 V (ix2 b (last V b (Fin.castLE (by omega) r))) := by
  rw [q_values_48_eq]
  exact topK_vals (m := 2) (n := 2000) (n' := 1000) (q_v337 V) sliceFits_S2x2000_S2x1000 (by omega) b r

theorem indices_at (b : Fin 2) (r : Fin 1000) : q_indices_49 V (ix2 b r) = BitVec.ofNat 32 (last V b (Fin.castLE (by omega) r)).val := by
  rw [q_indices_49_eq]
  exact topK_idx (m := 2) (n := 2000) (n' := 1000) (q_v337 V) sliceFits_S2x2000_S2x1000 (by omega) b r

theorem v343_at (b : Fin 2) (r : Fin 1000) : q_v343 V (ix3 b r 0) = BitVec.ofNat 32 (last V b (Fin.castLE (by omega) r)).val := by
  have e : q_v343 V (ix3 b r 0) = Scalar.select (IntOp.cmpi .slt (q_indices_49 V (ix2 b r)) 0#32) (IntOp.addi (q_indices_49 V (ix2 b r)) 2000#32) (q_indices_49 V (ix2 b r)) := by
    rw [q_v343_eq, q_v342_eq, q_v341_eq, q_v340_eq, q_v339_eq, q_v338_eq, q_c_50_eq, q_c_51_eq]
    generalize q_indices_49 V = X
    clean_types
    pointwise
  rw [e, indices_at, RefTail.wrap _ (by omega)]

theorem v344_at (b : Fin 2) (r : Fin 1000) (k : Fin 4) :
    q_v344 V (ix3 b r k) = q_v258 V (ix3 b (last V b (Fin.castLE (by omega) r)) k) := by
  rw [q_v344_eq]
  exact gather10 (q_v258 V) (q_v343 V) b r k _ (v343_at V b r)

end Cert.RefPost
-- ==== Proof.MatchOut.lean ====
/- The kernel's row `r` of the suppression is the reference's result row `r`. -/
module

public import proofs.«01_k».proof.Proof.MatchData
public import proofs.«01_k».proof.Proof.RefScan
public import proofs.«01_k».proof.Proof.RefPost

@[expose] public section

set_option maxRecDepth 16384

noncomputable section

namespace Cert.Match

open Idealize.ShloMosaic Idealize.ShloMosaic.TcCoe Idealize.ShloMosaic.StableHlo
open Cert.KernelIdeal Cert.KernelIdeal.Gen Cert.KernelIdeal.Nms Cert.KernelIdeal.Host Cert.ReferenceIdeal.Value Cert.Sel Cert.Words
open scoped Classical

variable {VP : Valuation KernelIdeal.τ KernelIdeal.sig (Elt Ideal)}
  (m : (ℓ : Loc ReferenceIdeal.nD ReferenceIdeal.τ ReferenceIdeal.sig) → Buf (Elt Ideal) ℓ) (c : Dev ReferenceIdeal.nD)
  (h15 : p_v15 VP = r_v80 (RefTail.startV m c)) (h134 : p_v134 VP = r_v200 (RefTail.startV m c)) (b : Fin 2)

/-- The scores the reference ranks by. -/
abbrev prob (a : Fin 2000) : EReal := r_v230 (RefTail.startV m c) (ix2 b a)
/-- The reference's first order of the candidates. -/
abbrev fst' : Fin 2000 → Fin 2000 := RefTail.ord (RefTail.startV m c) b

theorem hmn : 2000 ≤ 2048 := by omega

include h15 h134 in
theorem masked_eq (i : Fin 2000) : Cert.Nms.masked hmn (validP (bx VP b) (sc VP b)) (prob m c b) i
    = r_v249 (RefTail.startV m c) (ix2 b i) := by
  rw [RefTail.v249_at]
  unfold Cert.Nms.masked
  have h := valid_iff h15 h134 b i
  by_cases hv : r_v248 (RefTail.startV m c) (ix2 b i) = 1#1
  · rw [if_pos hv]; exact if_pos (h.mpr hv)
  · rw [if_neg hv]; exact if_neg (fun h' => hv (h.mp h'))

include h15 h134 in
theorem first_sorted (i j : Fin 2000) (h : i < j) :
    Cert.Nms.masked hmn (validP (bx VP b) (sc VP b)) (prob m c b) (fst' m c b j) < Cert.Nms.masked hmn (validP (bx VP b) (sc VP b)) (prob m c b) (fst' m c b i)
    ∨ (Cert.Nms.masked hmn (validP (bx VP b) (sc VP b)) (prob m c b) (fst' m c b j) = Cert.Nms.masked hmn (validP (bx VP b) (sc VP b)) (prob m c b) (fst' m c b i)
      ∧ fst' m c b i < fst' m c b j) := by
  rw [masked_eq m c h15 h134, masked_eq m c h15 h134]
  exact perm_sorted (fun p : Fin 2000 => r_v249 (RefTail.startV m c) (ix2 b p)) h

theorem first_injective : Function.Injective (fst' m c b) := perm_injective _
theorem first_surjective : Function.Surjective (fst' m c b) := Finite.surjective_of_injective (first_injective m c b)

include h15 h134 in
/-- The mask the reference's loop leaves is the scan in the first order. -/
theorem mask_iff (a : Fin 2000) : q_v336_4 (RefTail.exitV m c) (ix2 b a) = 1#1
    ↔ Cert.Nms.keptIn hmn (validP (bx VP b) (sc VP b)) (ovP (bx VP b)) (fst' m c b) a := by
  rw [q_v336_4_in]
  refine (RefTail.exit_mask m c b a).trans ?_
  unfold Cert.Nms.keptIn
  have e1 : (fun i j : Fin 2000 => Ideal.ofBits .f32 1060320051#32 < r_v333 (RefTail.startV m c) (ix3 b i j))
      = fun i j => ovP (bx VP b) (Fin.castLE hmn (fst' m c b i)) (Fin.castLE hmn (fst' m c b j)) := by
    funext i j; exact propext (over_iff h15 h134 b i j).symm
  have e2 : (fun a : Fin 2000 => r_v272 (RefTail.startV m c) (ix2 b a) = 1#1)
      = fun a => validP (bx VP b) (sc VP b) (Fin.castLE hmn (fst' m c b a)) := by
    funext a; rw [RefTail.v272_at]; exact propext (valid_iff h15 h134 b _).symm
  rw [e1, e2]

include h15 h134 in
/-- The key of the reference's last sort. -/
theorem final_eq (a : Fin 2000) : q_v337 (RefTail.exitV m c) (ix2 b a)
    = Cert.Nms.final hmn (validP (bx VP b) (sc VP b)) (ovP (bx VP b)) (prob m c b) (fst' m c b) a := by
  rw [RefPost.v337_at]
  unfold Cert.Nms.final
  have h := mask_iff m c h15 h134 b a
  have hk : q_v265 (RefTail.exitV m c) (ix2 b a) = Cert.Nms.masked hmn (validP (bx VP b) (sc VP b)) (prob m c b) (fst' m c b a) := by
    rw [masked_eq m c h15 h134, q_v265_in, ← RefTail.v265_at]
    exact congrFun (RefTail.exit_keeps m c (b := ReferenceIdeal.main_v265) (by decide +kernel)) (ix2 b a)
  by_cases hv : q_v336_4 (RefTail.exitV m c) (ix2 b a) = 1#1
  · rw [if_pos hv, hk]; exact (if_pos (h.mp hv)).symm
  · rw [if_neg hv]; exact (if_neg (fun h' => hv (h.mpr h'))).symm

/-- The candidate of result row `r`. -/
abbrev cand (r : Fin 1000) : Fin 2000 := fst' m c b (RefPost.last (RefTail.exitV m c) b (Fin.castLE (by omega) r))

include h15 h134 in
/-- The candidate of result row `r` has `r` before it in the kernel's order. -/
theorem rank_cand (r : Fin 1000) :
    Cert.Nms.rank (validP (bx VP b) (sc VP b)) (keptP (bx VP b) (sc VP b)) (up (cand m c b r)) = r.val :=
  Cert.Nms.rank_sorted hmn (validP (bx VP b) (sc VP b)) (ovP (bx VP b)) (prob m c b) (fst' m c b)
    (fun i j h => prob_sorted _ b i j h) (fun i => prob_nonneg _ b i) (first_surjective m c b)
    (first_sorted m c h15 h134 b) (pad_invalid VP b) (first_injective m c b)
    (RefPost.last (RefTail.exitV m c) b) (perm_injective _) (fun x y h => by
      rw [← final_eq m c h15 h134, ← final_eq m c h15 h134]
      exact perm_sorted (fun p : Fin 2000 => q_v337 (RefTail.exitV m c) (ix2 b p)) h)
    (Fin.castLE (by omega) r)

include h15 h134 in
/-- The score of result row `r`. -/
theorem row_score (r : Fin 1000) :
    block (bx VP b) (sc VP b) (ix3 0 (Fin.castLE (by omega) r) 4) = q_values_48 (RefTail.exitV m c) (ix2 b r) := by
  rw [block_score _ _ _ _ (rank_cand m c h15 h134 b r), RefPost.values_at, final_eq m c h15 h134, prob_eq h15]
  unfold Cert.Nms.final
  have hk := Cert.Nms.keptIn_iff hmn (validP (bx VP b) (sc VP b)) (ovP (bx VP b)) (prob m c b) (fst' m c b)
    (fun i j h => prob_sorted _ b i j h) (first_surjective m c b) (first_sorted m c h15 h134 b) (pad_invalid VP b)
    (RefPost.last (RefTail.exitV m c) b (Fin.castLE (by omega) r))
  by_cases h : Cert.Nms.keptIn hmn (validP (bx VP b) (sc VP b)) (ovP (bx VP b)) (fst' m c b) (RefPost.last (RefTail.exitV m c) b (Fin.castLE (by omega) r))
  · refine (if_pos (hk.mp h)).trans (((if_pos h).trans ?_).symm)
    exact if_pos (kept_valid _ _ _ (hk.mp h))
  · exact (if_neg (fun h' => h (hk.mpr h'))).trans (if_neg h).symm

include h15 h134 in
/-- The corners of result row `r`. -/
theorem row_box (r : Fin 1000) (k : Fin 4) :
    block (bx VP b) (sc VP b) (ix3 0 (Fin.castLE (by omega) r) ⟨k.val, by omega⟩) = q_v344 (RefTail.exitV m c) (ix3 b r k) := by
  have e : q_v344 (RefTail.exitV m c) (ix3 b r k) = r_v224 (RefTail.startV m c) (ix3 b (cand m c b r) k) := by
    rw [RefPost.v344_at, q_v258_in, ← RefTail.v258_at]
    exact congrFun (RefTail.exit_keeps m c (b := ReferenceIdeal.main_v258) (by decide +kernel)) _
  obtain ⟨h0, h1, h2, h3⟩ := block_box (bx VP b) (sc VP b) (Fin.castLE (by omega) r) (up (cand m c b r)) (rank_cand m c h15 h134 b r)
  have g0 := h0.trans (cx1_eq h15 h134 b _)
  have g1 := h1.trans (cy1_eq h15 h134 b _)
  have g2 := h2.trans (cx2_eq h15 h134 b _)
  have g3 := h3.trans (cy2_eq h15 h134 b _)
  rw [e]
  clear e h0 h1 h2 h3
  generalize block (bx VP b) (sc VP b) = B at g0 g1 g2 g3 ⊢
  rcases (by decide : ∀ k : Fin 4, k = 0 ∨ k = 1 ∨ k = 2 ∨ k = 3) k with rfl | rfl | rfl | rfl
  · exact g0
  · exact g1
  · exact g2
  · exact g3

end Cert.Match
-- ==== Proof.KerOut.lean ====
/- What a run of the kernel leaves in its results, against the reference's results. -/
module

public import proofs.«01_k».proof.Proof.KernelRun
public import proofs.«01_k».proof.Proof.HeadEq
public import proofs.«01_k».proof.Proof.Decode
public import proofs.«01_k».proof.Proof.MatchOut

@[expose] public section

set_option maxRecDepth 16384

noncomputable section

namespace Cert.KerOut

open Idealize.ShloMosaic Idealize.ShloMosaic.TcCoe Idealize.ShloMosaic.StableHlo
open Cert.KernelIdeal Cert.KernelIdeal.Gen Cert.KernelIdeal.Nms Cert.KernelIdeal.Host Cert.ReferenceIdeal.Value

attribute [local irreducible] after

section First
variable (m : (ℓ : Loc nD τ sig) → Buf (Elt Ideal) ℓ) (ρ : Dev nD → PrngReg) (c : Dev nD)

/-- The head's output, image by image. -/
theorem v13_at (b : Fin 2) (p : Fin 4096) (o : Fin 128) : p_v13 (W8 m ρ c) (ix3 b p o)
    = out0_5 (F := Ideal) (imageOf (F := Ideal) (k_v1 (W0 m ρ c)) b) (k_v3 (W0 m ρ c)) (k_v11 (W0 m ρ c)) (k_v8 (W0 m ρ c)) (k_v12 (W0 m ρ c)) (ix3 0 p o) := by
  have e : p_v13 (W8 m ρ c) = arr0 (V7 m ρ) c := (p_v13_in _).trans ((W8_arr m ρ c 5).trans (final0 (V7 m ρ) c))
  have e1 : V7 m ρ c main_v1 = k_v1 (W0 m ρ c) := congrFun (W7_eq m ρ c) _
  have e2 : V7 m ρ c main_v3 = k_v3 (W0 m ρ c) := congrFun (W7_eq m ρ c) _
  have e3 : V7 m ρ c main_v11 = k_v11 (W0 m ρ c) := congrFun (W7_eq m ρ c) _
  have e4 : V7 m ρ c main_v8 = k_v8 (W0 m ρ c) := congrFun (W7_eq m ρ c) _
  have e5 : V7 m ρ c main_v12 = k_v12 (W0 m ρ c) := congrFun (W7_eq m ρ c) _
  rw [e]
  unfold arr0
  rw [e1, e2, e3, e4, e5]
  rfl

theorem cst_eq : p_cst (W8 m ρ c) = k_cst (W0 m ρ c) :=
  (p_cst_in _).trans ((W8_of_ne m ρ c main_cst (by decide)).trans (congrFun (W7_eq m ρ c) _))
theorem cst_0_eq : p_cst_0 (W8 m ρ c) = k_cst_0 (W0 m ρ c) :=
  (p_cst_0_in _).trans ((W8_of_ne m ρ c main_cst_0 (by decide)).trans (congrFun (W7_eq m ρ c) _))

/-- The suppression's output, image by image. -/
theorem v141_at (b : Fin 2) (r : Fin 1024) (k : Fin 128) : t_v141 (W18 m ρ c) (ix3 b r k)
    = block (Match.bx (W8 m ρ c) b) (Match.sc (W8 m ρ c) b) (ix3 0 r k) := by
  have e : t_v141 (W18 m ρ c) = arr1 (V17 m ρ) c := (t_v141_in _).trans ((W18_arr m ρ c 2).trans (final1 (V17 m ρ) c))
  have e1 : V17 m ρ c main_v138 = p_v138 (W8 m ρ c) := congrFun (W17_eq m ρ c) _
  have e2 : V17 m ρ c main_v140 = p_v140 (W8 m ρ c) := congrFun (W17_eq m ρ c) _
  rw [e]
  unfold arr1
  rw [e1, e2]
  rfl

theorem v142_at (b : Fin 2) (r : Fin 1000) (k : Fin 4) : t_v142 (W18 m ρ c) (ix3 b r k)
    = block (Match.bx (W8 m ρ c) b) (Match.sc (W8 m ρ c) b) (ix3 0 (Fin.castLE (by omega) r) ⟨k.val, by omega⟩) := by
  rw [← v141_at, t_v142_eq]
  generalize t_v141 (W18 m ρ c) = X
  clean_types
  pointwise
  try rfl

theorem v144_at (b : Fin 2) (r : Fin 1000) : t_v144 (W18 m ρ c) (ix2 b r)
    = block (Match.bx (W8 m ρ c) b) (Match.sc (W8 m ρ c) b) (ix3 0 (Fin.castLE (by omega) r) 4) := by
  rw [← v141_at, t_v144_eq, t_v143_eq]
  generalize t_v141 (W18 m ρ c) = X
  clean_types
  pointwise
  try rfl

end First

theorem lit0_eq : KernelIdeal.lit0 = ReferenceIdeal.lit0 := by funext i; fin_cases i <;> rfl
theorem lit1_eq : KernelIdeal.lit1 = ReferenceIdeal.lit1 := by funext i; fin_cases i <;> rfl

theorem cst_same (VK : Valuation KernelIdeal.τ KernelIdeal.sig (Elt Ideal)) (VR : Valuation ReferenceIdeal.τ ReferenceIdeal.sig (Elt Ideal)) :
    k_cst VK = r_cst VR := by
  rw [k_cst_eq, r_cst_eq, lit0_eq]
theorem cst_0_same (VK : Valuation KernelIdeal.τ KernelIdeal.sig (Elt Ideal)) (VR : Valuation ReferenceIdeal.τ ReferenceIdeal.sig (Elt Ideal)) :
    k_cst_0 VK = r_cst_0 VR := by
  rw [k_cst_0_eq, r_cst_0_eq, lit1_eq]

variable (m : (ℓ : Loc nD τ sig) → Buf (Elt Ideal) ℓ) (ρ : Dev nD → PrngReg) (c : Dev nD)
  (m' : (ℓ : Loc ReferenceIdeal.nD ReferenceIdeal.τ ReferenceIdeal.sig) → Buf (Elt Ideal) ℓ)
  (h1 : k_arg1 (W0 m ρ c) = r_arg1 (RefTail.startV m' c)) (h2 : k_arg2 (W0 m ρ c) = r_arg2 (RefTail.startV m' c))
  (h3 : k_arg3 (W0 m ρ c) = r_arg3 (RefTail.startV m' c)) (h4 : k_arg4 (W0 m ρ c) = r_arg4 (RefTail.startV m' c))
  (h5 : k_arg5 (W0 m ρ c) = r_arg5 (RefTail.startV m' c)) (h6 : k_arg6 (W0 m ρ c) = r_arg6 (RefTail.startV m' c))
  (h7 : k_arg7 (W0 m ρ c) = r_arg7 (RefTail.startV m' c))
include h1 h2 h3 h4 h5 h6 h7

/-- The scores before the first selection are the reference's. -/
theorem scores : p_v15 (W8 m ρ c) = r_v80 (RefTail.startV m' c) :=
  Head.scores_eq (v13_at m ρ c) h1 h2 h3 h4 h5 h6 h7

/-- The decoded boxes are the reference's. -/
theorem boxes : p_v134 (W8 m ρ c) = r_v200 (RefTail.startV m' c) :=
  Match.m_v134_v200 (scores m ρ c m' h1 h2 h3 h4 h5 h6 h7) (Head.deltas_eq (v13_at m ρ c) h1 h2 h3 h4 h5 h6 h7)
    ((cst_eq m ρ c).trans (cst_same _ _)) ((cst_0_eq m ρ c).trans (cst_0_same _ _))

/-- The first result. -/
theorem result_boxes : W19 m ρ c (Proc.devRef .tc main_v142) = finalV m' c (Proc.devRef .tc ReferenceIdeal.main_v344) := by
  have e : t_v142 (W18 m ρ c) = q_v344 (RefTail.exitV m' c) := by
    funext i
    obtain ⟨b, r, k, rfl⟩ : ∃ (b : Fin 2) (r : Fin 1000) (k : Fin 4), i = ix3 b r k := ⟨i 0, i 1, i 2, eq_ix3 i⟩
    rw [v142_at]
    exact Match.row_box m' c (scores m ρ c m' h1 h2 h3 h4 h5 h6 h7) (boxes m ρ c m' h1 h2 h3 h4 h5 h6 h7) b r k
  exact (congrFun (W19_eq m ρ c) _).trans (e.trans (congrFun (RefTail.finalV_eq m' c) _).symm)

/-- The second result. -/
theorem result_scores : W19 m ρ c (Proc.devRef .tc main_v144) = finalV m' c (Proc.devRef .tc ReferenceIdeal.main_values_48) := by
  have e : t_v144 (W18 m ρ c) = q_values_48 (RefTail.exitV m' c) := by
    funext i
    obtain ⟨b, r, rfl⟩ : ∃ (b : Fin 2) (r : Fin 1000), i = ix2 b r := ⟨i 0, i 1, eq_ix2 i⟩
    rw [v144_at]
    exact Match.row_score m' c (scores m ρ c m' h1 h2 h3 h4 h5 h6 h7) (boxes m ρ c m' h1 h2 h3 h4 h5 h6 h7) b r
  exact (congrFun (W19_eq m ρ c) _).trans (e.trans (congrFun (RefTail.finalV_eq m' c) _).symm)

end Cert.KerOut
-- ==== Proof.RefFrame.lean ====
/- What a run of the reference leaves: the arguments as they were, the results at the last operations' contents. -/
module

public import proofs.«01_k».proof.Proof.RefScan
public import proofs.«01_k».proof.Proof.RefEq3

@[expose] public section

set_option maxRecDepth 16384

noncomputable section

namespace Cert.RefTail

open Idealize.ShloMosaic Idealize.ShloMosaic.TcCoe Idealize.ShloMosaic.StableHlo
open Cert.ReferenceIdeal Cert.ReferenceIdeal.Gen Cert.ReferenceIdeal.Value

variable (m : (ℓ : Loc nD τ sig) → Buf (Elt Ideal) ℓ) (c : Dev nD)

attribute [local irreducible] after

/-- A buffer no operation writes ends as it was. -/
theorem final_arg {b : Ref sig .tc} (h : b ∉ r_W) (h' : b ∉ condOps_W ++ (while0Ops0_W ++ (while0Ops0_1_W ++ (while0Ops0_2_W ++ while0Ops0_3_W))))
    (h'' : b ∉ q_W) : finalV m c (Proc.devRef .tc b) = m (c, Proc.devRef .tc b) := by
  rw [finalV_eq, Ssa.input q_hW _ h'']
  exact (exit_keeps m c h').trans (Ssa.input r_hW _ h)

end Cert.RefTail
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KerOut
public import proofs.«01_k».proof.Proof.RefFrame
public import Idealize.ShloMosaic.Adequacy
public import Idealize.ShloMosaic.Init

@[expose] public section

noncomputable section

namespace Cert.Proof

open Idealize.ShloMosaic Idealize.ShloMosaic.TcCoe Idealize.SL.Sem
open Cert.KernelIdeal.Host Cert.ReferenceIdeal.Value

/-- A run of the reference leaves every buffer at the fold, the arguments as they were and the counters at zero. -/
theorem reference_frame : Cert.quiescent_ReferenceIdeal (hReferenceIdeal := Cert.ReferenceIdeal.Gen.facts) := fun m g _ =>
  (θ_run _ _ _).mono (fun r ⟨h, hz⟩ => ⟨fun c => ⟨(h c ReferenceIdeal.main_arg0 rfl).trans (RefTail.final_arg m c (by decide +kernel) (by decide +kernel) (by decide +kernel)),
      (h c ReferenceIdeal.main_arg1 rfl).trans (RefTail.final_arg m c (by decide +kernel) (by decide +kernel) (by decide +kernel)),
      (h c ReferenceIdeal.main_arg2 rfl).trans (RefTail.final_arg m c (by decide +kernel) (by decide +kernel) (by decide +kernel)),
      (h c ReferenceIdeal.main_arg3 rfl).trans (RefTail.final_arg m c (by decide +kernel) (by decide +kernel) (by decide +kernel)),
      (h c ReferenceIdeal.main_arg4 rfl).trans (RefTail.final_arg m c (by decide +kernel) (by decide +kernel) (by decide +kernel)),
      (h c ReferenceIdeal.main_arg5 rfl).trans (RefTail.final_arg m c (by decide +kernel) (by decide +kernel) (by decide +kernel)),
      (h c ReferenceIdeal.main_arg6 rfl).trans (RefTail.final_arg m c (by decide +kernel) (by decide +kernel) (by decide +kernel)),
      (h c ReferenceIdeal.main_arg7 rfl).trans (RefTail.final_arg m c (by decide +kernel) (by decide +kernel) (by decide +kernel))⟩, hz⟩) (run_sems m g)

/-- The kernel and the reference end with equal results. -/
theorem equal_results : Cert.algebraic_KernelIdeal_ReferenceIdeal (hKernelIdeal := Cert.KernelIdeal.Gen.facts)
    (hReferenceIdeal := Cert.ReferenceIdeal.Gen.facts) := by
  intro m g m' g' _ hargs
  have h1 : ∀ c, k_arg1 (KernelIdeal.Gen.W0 m g c) = r_arg1 (RefTail.startV m' c) := fun c =>
    (k_arg1_in (KernelIdeal.Gen.W0 m g c)).trans ((hargs c).2.1.symm.trans (r_arg1_in (RefTail.startV m' c)).symm)
  have h2 : ∀ c, k_arg2 (KernelIdeal.Gen.W0 m g c) = r_arg2 (RefTail.startV m' c) := fun c =>
    (k_arg2_in (KernelIdeal.Gen.W0 m g c)).trans ((hargs c).2.2.1.symm.trans (r_arg2_in (RefTail.startV m' c)).symm)
  have h3 : ∀ c, k_arg3 (KernelIdeal.Gen.W0 m g c) = r_arg3 (RefTail.startV m' c) := fun c =>
    (k_arg3_in (KernelIdeal.Gen.W0 m g c)).trans ((hargs c).2.2.2.1.symm.trans (r_arg3_in (RefTail.startV m' c)).symm)
  have h4 : ∀ c, k_arg4 (KernelIdeal.Gen.W0 m g c) = r_arg4 (RefTail.startV m' c) := fun c =>
    (k_arg4_in (KernelIdeal.Gen.W0 m g c)).trans ((hargs c).2.2.2.2.1.symm.trans (r_arg4_in (RefTail.startV m' c)).symm)
  have h5 : ∀ c, k_arg5 (KernelIdeal.Gen.W0 m g c) = r_arg5 (RefTail.startV m' c) := fun c =>
    (k_arg5_in (KernelIdeal.Gen.W0 m g c)).trans ((hargs c).2.2.2.2.2.1.symm.trans (r_arg5_in (RefTail.startV m' c)).symm)
  have h6 : ∀ c, k_arg6 (KernelIdeal.Gen.W0 m g c) = r_arg6 (RefTail.startV m' c) := fun c =>
    (k_arg6_in (KernelIdeal.Gen.W0 m g c)).trans ((hargs c).2.2.2.2.2.2.1.symm.trans (r_arg6_in (RefTail.startV m' c)).symm)
  have h7 : ∀ c, k_arg7 (KernelIdeal.Gen.W0 m g c) = r_arg7 (RefTail.startV m' c) := fun c =>
    (k_arg7_in (KernelIdeal.Gen.W0 m g c)).trans ((hargs c).2.2.2.2.2.2.2.symm.trans (r_arg7_in (RefTail.startV m' c)).symm)
  refine ⟨fun c => KernelIdeal.Gen.W19 m g c (Proc.devRef .tc KernelIdeal.main_v142), fun c => KernelIdeal.Gen.W19 m g c (Proc.devRef .tc KernelIdeal.main_v144), ?_, ?_⟩
  · exact (θ_run _ _ _).mono (fun r h c => ⟨h c KernelIdeal.main_v142 rfl, h c KernelIdeal.main_v144 rfl,
        (h c KernelIdeal.main_arg0 rfl).trans (KernelIdeal.Gen.W19_main_arg0 m g c),
        (h c KernelIdeal.main_arg1 rfl).trans (KernelIdeal.Gen.W19_main_arg1 m g c),
        (h c KernelIdeal.main_arg2 rfl).trans (KernelIdeal.Gen.W19_main_arg2 m g c),
        (h c KernelIdeal.main_arg3 rfl).trans (KernelIdeal.Gen.W19_main_arg3 m g c),
        (h c KernelIdeal.main_arg4 rfl).trans (KernelIdeal.Gen.W19_main_arg4 m g c),
        (h c KernelIdeal.main_arg5 rfl).trans (KernelIdeal.Gen.W19_main_arg5 m g c),
        (h c KernelIdeal.main_arg6 rfl).trans (KernelIdeal.Gen.W19_main_arg6 m g c),
        (h c KernelIdeal.main_arg7 rfl).trans (KernelIdeal.Gen.W19_main_arg7 m g c)⟩) (run_contents m g)
  · exact (θ_run _ _ _).mono (fun r ⟨h, _⟩ c => ⟨
        (h c ReferenceIdeal.main_v344 rfl).trans (KerOut.result_boxes m g c m' (h1 c) (h2 c) (h3 c) (h4 c) (h5 c) (h6 c) (h7 c)).symm,
        (h c ReferenceIdeal.main_values_48 rfl).trans (KerOut.result_scores m g c m' (h1 c) (h2 c) (h3 c) (h4 c) (h5 c) (h6 c) (h7 c)).symm,
        (h c ReferenceIdeal.main_arg0 rfl).trans (RefTail.final_arg m' c (by decide +kernel) (by decide +kernel) (by decide +kernel)),
        (h c ReferenceIdeal.main_arg1 rfl).trans (RefTail.final_arg m' c (by decide +kernel) (by decide +kernel) (by decide +kernel)),
        (h c ReferenceIdeal.main_arg2 rfl).trans (RefTail.final_arg m' c (by decide +kernel) (by decide +kernel) (by decide +kernel)),
        (h c ReferenceIdeal.main_arg3 rfl).trans (RefTail.final_arg m' c (by decide +kernel) (by decide +kernel) (by decide +kernel)),
        (h c ReferenceIdeal.main_arg4 rfl).trans (RefTail.final_arg m' c (by decide +kernel) (by decide +kernel) (by decide +kernel)),
        (h c ReferenceIdeal.main_arg5 rfl).trans (RefTail.final_arg m' c (by decide +kernel) (by decide +kernel) (by decide +kernel)),
        (h c ReferenceIdeal.main_arg6 rfl).trans (RefTail.final_arg m' c (by decide +kernel) (by decide +kernel) (by decide +kernel)),
        (h c ReferenceIdeal.main_arg7 rfl).trans (RefTail.final_arg m' c (by decide +kernel) (by decide +kernel) (by decide +kernel))⟩) (run_sems m' g')

/-- Everything that is claimed. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, equal_results⟩

end Cert.Proof

end
